-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def Pre_Second (m : (ℓ : Loc Cert.Second.nD Cert.Second.τ Cert.Second.sig) → Buf (Elt Bits) ℓ) : Prop :=
  True

def Pre_SecondIdeal (m : (ℓ : Loc Cert.SecondIdeal.nD Cert.SecondIdeal.τ Cert.SecondIdeal.sig) → Buf (Elt Ideal) ℓ) : Prop :=
  True

def Pre_SecondIdeal_finite [hPre_finite : Cert.Pre_finite.Facts] (m : (ℓ : Loc Cert.SecondIdeal.nD Cert.SecondIdeal.τ Cert.SecondIdeal.sig) → Buf (Elt Ideal) ℓ) : Prop :=
  ∀ c : Dev Cert.SecondIdeal.nD,
    (Cert.Pre_finite.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6))).1 = (fun _ => 1#1)
    ∧ (Cert.Pre_finite.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6))).2.1 = (fun _ => 1#1)
    ∧ (Cert.Pre_finite.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6))).2.2.1 = (fun _ => 1#1)
    ∧ (Cert.Pre_finite.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6))).2.2.2 = (fun _ => 1#1)

def Pre_SecondRefIdeal (m : (ℓ : Loc Cert.SecondRefIdeal.nD Cert.SecondRefIdeal.τ Cert.SecondRefIdeal.sig) → Buf (Elt Ideal) ℓ) : Prop :=
  True

def Pre_SecondRefIdeal_finite [hPre_finite : Cert.Pre_finite.Facts] (m : (ℓ : Loc Cert.SecondRefIdeal.nD Cert.SecondRefIdeal.τ Cert.SecondRefIdeal.sig) → Buf (Elt Ideal) ℓ) : Prop :=
  ∀ c : Dev Cert.SecondRefIdeal.nD,
    (Cert.Pre_finite.fn (F := Ideal) (m ((c.tc : Thread Cert.SecondRefIdeal.nD Cert.SecondRefIdeal.τ).loc Cert.SecondRefIdeal.main_arg0)) (m ((c.tc : Thread Cert.SecondRefIdeal.nD Cert.SecondRefIdeal.τ).loc Cert.SecondRefIdeal.main_arg1)) (m ((c.tc : Thread Cert.SecondRefIdeal.nD Cert.SecondRefIdeal.τ).loc Cert.SecondRefIdeal.main_arg2)) (m ((c.tc : Thread Cert.SecondRefIdeal.nD Cert.SecondRefIdeal.τ).loc Cert.SecondRefIdeal.main_arg3)) (m ((c.tc : Thread Cert.SecondRefIdeal.nD Cert.SecondRefIdeal.τ).loc Cert.SecondRefIdeal.main_arg4)) (m ((c.tc : Thread Cert.SecondRefIdeal.nD Cert.SecondRefIdeal.τ).loc Cert.SecondRefIdeal.main_arg5)) (m ((c.tc : Thread Cert.SecondRefIdeal.nD Cert.SecondRefIdeal.τ).loc Cert.SecondRefIdeal.main_arg6))).1 = (fun _ => 1#1)
    ∧ (Cert.Pre_finite.fn (F := Ideal) (m ((c.tc : Thread Cert.SecondRefIdeal.nD Cert.SecondRefIdeal.τ).loc Cert.SecondRefIdeal.main_arg0)) (m ((c.tc : Thread Cert.SecondRefIdeal.nD Cert.SecondRefIdeal.τ).loc Cert.SecondRefIdeal.main_arg1)) (m ((c.tc : Thread Cert.SecondRefIdeal.nD Cert.SecondRefIdeal.τ).loc Cert.SecondRefIdeal.main_arg2)) (m ((c.tc : Thread Cert.SecondRefIdeal.nD Cert.SecondRefIdeal.τ).loc Cert.SecondRefIdeal.main_arg3)) (m ((c.tc : Thread Cert.SecondRefIdeal.nD Cert.SecondRefIdeal.τ).loc Cert.SecondRefIdeal.main_arg4)) (m ((c.tc : Thread Cert.SecondRefIdeal.nD Cert.SecondRefIdeal.τ).loc Cert.SecondRefIdeal.main_arg5)) (m ((c.tc : Thread Cert.SecondRefIdeal.nD Cert.SecondRefIdeal.τ).loc Cert.SecondRefIdeal.main_arg6))).2.1 = (fun _ => 1#1)
    ∧ (Cert.Pre_finite.fn (F := Ideal) (m ((c.tc : Thread Cert.SecondRefIdeal.nD Cert.SecondRefIdeal.τ).loc Cert.SecondRefIdeal.main_arg0)) (m ((c.tc : Thread Cert.SecondRefIdeal.nD Cert.SecondRefIdeal.τ).loc Cert.SecondRefIdeal.main_arg1)) (m ((c.tc : Thread Cert.SecondRefIdeal.nD Cert.SecondRefIdeal.τ).loc Cert.SecondRefIdeal.main_arg2)) (m ((c.tc : Thread Cert.SecondRefIdeal.nD Cert.SecondRefIdeal.τ).loc Cert.SecondRefIdeal.main_arg3)) (m ((c.tc : Thread Cert.SecondRefIdeal.nD Cert.SecondRefIdeal.τ).loc Cert.SecondRefIdeal.main_arg4)) (m ((c.tc : Thread Cert.SecondRefIdeal.nD Cert.SecondRefIdeal.τ).loc Cert.SecondRefIdeal.main_arg5)) (m ((c.tc : Thread Cert.SecondRefIdeal.nD Cert.SecondRefIdeal.τ).loc Cert.SecondRefIdeal.main_arg6))).2.2.1 = (fun _ => 1#1)
    ∧ (Cert.Pre_finite.fn (F := Ideal) (m ((c.tc : Thread Cert.SecondRefIdeal.nD Cert.SecondRefIdeal.τ).loc Cert.SecondRefIdeal.main_arg0)) (m ((c.tc : Thread Cert.SecondRefIdeal.nD Cert.SecondRefIdeal.τ).loc Cert.SecondRefIdeal.main_arg1)) (m ((c.tc : Thread Cert.SecondRefIdeal.nD Cert.SecondRefIdeal.τ).loc Cert.SecondRefIdeal.main_arg2)) (m ((c.tc : Thread Cert.SecondRefIdeal.nD Cert.SecondRefIdeal.τ).loc Cert.SecondRefIdeal.main_arg3)) (m ((c.tc : Thread Cert.SecondRefIdeal.nD Cert.SecondRefIdeal.τ).loc Cert.SecondRefIdeal.main_arg4)) (m ((c.tc : Thread Cert.SecondRefIdeal.nD Cert.SecondRefIdeal.τ).loc Cert.SecondRefIdeal.main_arg5)) (m ((c.tc : Thread Cert.SecondRefIdeal.nD Cert.SecondRefIdeal.τ).loc Cert.SecondRefIdeal.main_arg6))).2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_WGuA (m : (ℓ : Loc Cert.WGuA.nD Cert.WGuA.τ Cert.WGuA.sig) → Buf (Elt Bits) ℓ) : Prop :=
  True

def Pre_WGuAIdeal (m : (ℓ : Loc Cert.WGuAIdeal.nD Cert.WGuAIdeal.τ Cert.WGuAIdeal.sig) → Buf (Elt Ideal) ℓ) : Prop :=
  True

def Pre_WGuARefIdeal (m : (ℓ : Loc Cert.WGuARefIdeal.nD Cert.WGuARefIdeal.τ Cert.WGuARefIdeal.sig) → Buf (Elt Ideal) ℓ) : Prop :=
  True

def Pre_WGuB (m : (ℓ : Loc Cert.WGuB.nD Cert.WGuB.τ Cert.WGuB.sig) → Buf (Elt Bits) ℓ) : Prop :=
  True

def Pre_WGuBIdeal (m : (ℓ : Loc Cert.WGuBIdeal.nD Cert.WGuBIdeal.τ Cert.WGuBIdeal.sig) → Buf (Elt Ideal) ℓ) : Prop :=
  True

def Pre_WGuBRefIdeal (m : (ℓ : Loc Cert.WGuBRefIdeal.nD Cert.WGuBRefIdeal.τ Cert.WGuBRefIdeal.sig) → Buf (Elt Ideal) ℓ) : Prop :=
  True

def Pre_WDown (m : (ℓ : Loc Cert.WDown.nD Cert.WDown.τ Cert.WDown.sig) → Buf (Elt Bits) ℓ) : Prop :=
  True

def Pre_WDownIdeal (m : (ℓ : Loc Cert.WDownIdeal.nD Cert.WDownIdeal.τ Cert.WDownIdeal.sig) → Buf (Elt Ideal) ℓ) : Prop :=
  True

def Pre_WDownRefIdeal (m : (ℓ : Loc Cert.WDownRefIdeal.nD Cert.WDownRefIdeal.τ Cert.WDownRefIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInRefIdeal (m : (ℓ : Loc Cert.WInRefIdeal.nD Cert.WInRefIdeal.τ Cert.WInRefIdeal.sig) → Buf (Elt Ideal) ℓ) : Prop :=
  True

def Pre_WProj (m : (ℓ : Loc Cert.WProj.nD Cert.WProj.τ Cert.WProj.sig) → Buf (Elt Bits) ℓ) : Prop :=
  True

def Pre_WProjIdeal (m : (ℓ : Loc Cert.WProjIdeal.nD Cert.WProjIdeal.τ Cert.WProjIdeal.sig) → Buf (Elt Ideal) ℓ) : Prop :=
  True

def Pre_WProjRefIdeal (m : (ℓ : Loc Cert.WProjRefIdeal.nD Cert.WProjRefIdeal.τ Cert.WProjRefIdeal.sig) → Buf (Elt Ideal) ℓ) : Prop :=
  True

def Pre_WGates (m : (ℓ : Loc Cert.WGates.nD Cert.WGates.τ Cert.WGates.sig) → Buf (Elt Bits) ℓ) : Prop :=
  True

def Pre_WGatesIdeal (m : (ℓ : Loc Cert.WGatesIdeal.nD Cert.WGatesIdeal.τ Cert.WGatesIdeal.sig) → Buf (Elt Ideal) ℓ) : Prop :=
  True

def Pre_WGatesRefIdeal (m : (ℓ : Loc Cert.WGatesRefIdeal.nD Cert.WGatesRefIdeal.τ Cert.WGatesRefIdeal.sig) → Buf (Elt Ideal) ℓ) : Prop :=
  True

def Pre_UDown [hPre_device : Cert.Pre_device.Facts] (m : (ℓ : Loc Cert.UDown.nD Cert.UDown.τ Cert.UDown.sig) → Buf (Elt Bits) ℓ) : Prop :=
  ∀ c : Dev Cert.UDown.nD,
    (Cert.Pre_device.fn (F := Bits) (m ((c.tc : Thread Cert.UDown.nD Cert.UDown.τ).loc Cert.UDown.main_arg0)) (m ((c.tc : Thread Cert.UDown.nD Cert.UDown.τ).loc Cert.UDown.main_arg1)) (m ((c.tc : Thread Cert.UDown.nD Cert.UDown.τ).loc Cert.UDown.main_arg2)) (m ((c.tc : Thread Cert.UDown.nD Cert.UDown.τ).loc Cert.UDown.main_arg3)) (m ((c.tc : Thread Cert.UDown.nD Cert.UDown.τ).loc Cert.UDown.main_arg4)) (m ((c.tc : Thread Cert.UDown.nD Cert.UDown.τ).loc Cert.UDown.main_arg5)) (m ((c.tc : Thread Cert.UDown.nD Cert.UDown.τ).loc Cert.UDown.main_arg6))).1 = (fun _ => 1#1)
    ∧ (Cert.Pre_device.fn (F := Bits) (m ((c.tc : Thread Cert.UDown.nD Cert.UDown.τ).loc Cert.UDown.main_arg0)) (m ((c.tc : Thread Cert.UDown.nD Cert.UDown.τ).loc Cert.UDown.main_arg1)) (m ((c.tc : Thread Cert.UDown.nD Cert.UDown.τ).loc Cert.UDown.main_arg2)) (m ((c.tc : Thread Cert.UDown.nD Cert.UDown.τ).loc Cert.UDown.main_arg3)) (m ((c.tc : Thread Cert.UDown.nD Cert.UDown.τ).loc Cert.UDown.main_arg4)) (m ((c.tc : Thread Cert.UDown.nD Cert.UDown.τ).loc Cert.UDown.main_arg5)) (m ((c.tc : Thread Cert.UDown.nD Cert.UDown.τ).loc Cert.UDown.main_arg6))).2 = (fun _ => 1#1)

def Pre_UDownIdeal [hPre_device : Cert.Pre_device.Facts] (m : (ℓ : Loc Cert.UDownIdeal.nD Cert.UDownIdeal.τ Cert.UDownIdeal.sig) → Buf (Elt Ideal) ℓ) : Prop :=
  ∀ c : Dev Cert.UDownIdeal.nD,
    (Cert.Pre_device.fn (F := Ideal) (m ((c.tc : Thread Cert.UDownIdeal.nD Cert.UDownIdeal.τ).loc Cert.UDownIdeal.main_arg0)) (m ((c.tc : Thread Cert.UDownIdeal.nD Cert.UDownIdeal.τ).loc Cert.UDownIdeal.main_arg1)) (m ((c.tc : Thread Cert.UDownIdeal.nD Cert.UDownIdeal.τ).loc Cert.UDownIdeal.main_arg2)) (m ((c.tc : Thread Cert.UDownIdeal.nD Cert.UDownIdeal.τ).loc Cert.UDownIdeal.main_arg3)) (m ((c.tc : Thread Cert.UDownIdeal.nD Cert.UDownIdeal.τ).loc Cert.UDownIdeal.main_arg4)) (m ((c.tc : Thread Cert.UDownIdeal.nD Cert.UDownIdeal.τ).loc Cert.UDownIdeal.main_arg5)) (m ((c.tc : Thread Cert.UDownIdeal.nD Cert.UDownIdeal.τ).loc Cert.UDownIdeal.main_arg6))).1 = (fun _ => 1#1)
    ∧ (Cert.Pre_device.fn (F := Ideal) (m ((c.tc : Thread Cert.UDownIdeal.nD Cert.UDownIdeal.τ).loc Cert.UDownIdeal.main_arg0)) (m ((c.tc : Thread Cert.UDownIdeal.nD Cert.UDownIdeal.τ).loc Cert.UDownIdeal.main_arg1)) (m ((c.tc : Thread Cert.UDownIdeal.nD Cert.UDownIdeal.τ).loc Cert.UDownIdeal.main_arg2)) (m ((c.tc : Thread Cert.UDownIdeal.nD Cert.UDownIdeal.τ).loc Cert.UDownIdeal.main_arg3)) (m ((c.tc : Thread Cert.UDownIdeal.nD Cert.UDownIdeal.τ).loc Cert.UDownIdeal.main_arg4)) (m ((c.tc : Thread Cert.UDownIdeal.nD Cert.UDownIdeal.τ).loc Cert.UDownIdeal.main_arg5)) (m ((c.tc : Thread Cert.UDownIdeal.nD Cert.UDownIdeal.τ).loc Cert.UDownIdeal.main_arg6))).2 = (fun _ => 1#1)

def Pre_UDownRefIdeal (m : (ℓ : Loc Cert.UDownRefIdeal.nD Cert.UDownRefIdeal.τ Cert.UDownRefIdeal.sig) → Buf (Elt Ideal) ℓ) : Prop :=
  True

def Pre_UDownRefIdeal_device [hPre_device : Cert.Pre_device.Facts] (m : (ℓ : Loc Cert.UDownRefIdeal.nD Cert.UDownRefIdeal.τ Cert.UDownRefIdeal.sig) → Buf (Elt Ideal) ℓ) : Prop :=
  ∀ c : Dev Cert.UDownRefIdeal.nD,
    (Cert.Pre_device.fn (F := Ideal) (m ((c.tc : Thread Cert.UDownRefIdeal.nD Cert.UDownRefIdeal.τ).loc Cert.UDownRefIdeal.main_arg0)) (m ((c.tc : Thread Cert.UDownRefIdeal.nD Cert.UDownRefIdeal.τ).loc Cert.UDownRefIdeal.main_arg1)) (m ((c.tc : Thread Cert.UDownRefIdeal.nD Cert.UDownRefIdeal.τ).loc Cert.UDownRefIdeal.main_arg2)) (m ((c.tc : Thread Cert.UDownRefIdeal.nD Cert.UDownRefIdeal.τ).loc Cert.UDownRefIdeal.main_arg3)) (m ((c.tc : Thread Cert.UDownRefIdeal.nD Cert.UDownRefIdeal.τ).loc Cert.UDownRefIdeal.main_arg4)) (m ((c.tc : Thread Cert.UDownRefIdeal.nD Cert.UDownRefIdeal.τ).loc Cert.UDownRefIdeal.main_arg5)) (m ((c.tc : Thread Cert.UDownRefIdeal.nD Cert.UDownRefIdeal.τ).loc Cert.UDownRefIdeal.main_arg6))).1 = (fun _ => 1#1)
    ∧ (Cert.Pre_device.fn (F := Ideal) (m ((c.tc : Thread Cert.UDownRefIdeal.nD Cert.UDownRefIdeal.τ).loc Cert.UDownRefIdeal.main_arg0)) (m ((c.tc : Thread Cert.UDownRefIdeal.nD Cert.UDownRefIdeal.τ).loc Cert.UDownRefIdeal.main_arg1)) (m ((c.tc : Thread Cert.UDownRefIdeal.nD Cert.UDownRefIdeal.τ).loc Cert.UDownRefIdeal.main_arg2)) (m ((c.tc : Thread Cert.UDownRefIdeal.nD Cert.UDownRefIdeal.τ).loc Cert.UDownRefIdeal.main_arg3)) (m ((c.tc : Thread Cert.UDownRefIdeal.nD Cert.UDownRefIdeal.τ).loc Cert.UDownRefIdeal.main_arg4)) (m ((c.tc : Thread Cert.UDownRefIdeal.nD Cert.UDownRefIdeal.τ).loc Cert.UDownRefIdeal.main_arg5)) (m ((c.tc : Thread Cert.UDownRefIdeal.nD Cert.UDownRefIdeal.τ).loc Cert.UDownRefIdeal.main_arg6))).2 = (fun _ => 1#1)

def Pre_UGu [hPre_device_gu : Cert.Pre_device_gu.Facts] (m : (ℓ : Loc Cert.UGu.nD Cert.UGu.τ Cert.UGu.sig) → Buf (Elt Bits) ℓ) : Prop :=
  ∀ c : Dev Cert.UGu.nD,
    (Cert.Pre_device_gu.fn (F := Bits) (m ((c.tc : Thread Cert.UGu.nD Cert.UGu.τ).loc Cert.UGu.main_arg0)) (m ((c.tc : Thread Cert.UGu.nD Cert.UGu.τ).loc Cert.UGu.main_arg1)) (m ((c.tc : Thread Cert.UGu.nD Cert.UGu.τ).loc Cert.UGu.main_arg2)) (m ((c.tc : Thread Cert.UGu.nD Cert.UGu.τ).loc Cert.UGu.main_arg3)) (m ((c.tc : Thread Cert.UGu.nD Cert.UGu.τ).loc Cert.UGu.main_arg4)) (m ((c.tc : Thread Cert.UGu.nD Cert.UGu.τ).loc Cert.UGu.main_arg5)) (m ((c.tc : Thread Cert.UGu.nD Cert.UGu.τ).loc Cert.UGu.main_arg6))).1 = (fun _ => 1#1)
    ∧ (Cert.Pre_device_gu.fn (F := Bits) (m ((c.tc : Thread Cert.UGu.nD Cert.UGu.τ).loc Cert.UGu.main_arg0)) (m ((c.tc : Thread Cert.UGu.nD Cert.UGu.τ).loc Cert.UGu.main_arg1)) (m ((c.tc : Thread Cert.UGu.nD Cert.UGu.τ).loc Cert.UGu.main_arg2)) (m ((c.tc : Thread Cert.UGu.nD Cert.UGu.τ).loc Cert.UGu.main_arg3)) (m ((c.tc : Thread Cert.UGu.nD Cert.UGu.τ).loc Cert.UGu.main_arg4)) (m ((c.tc : Thread Cert.UGu.nD Cert.UGu.τ).loc Cert.UGu.main_arg5)) (m ((c.tc : Thread Cert.UGu.nD Cert.UGu.τ).loc Cert.UGu.main_arg6))).2 = (fun _ => 1#1)

def Pre_UGuIdeal [hPre_device_gu : Cert.Pre_device_gu.Facts] (m : (ℓ : Loc Cert.UGuIdeal.nD Cert.UGuIdeal.τ Cert.UGuIdeal.sig) → Buf (Elt Ideal) ℓ) : Prop :=
  ∀ c : Dev Cert.UGuIdeal.nD,
    (Cert.Pre_device_gu.fn (F := Ideal) (m ((c.tc : Thread Cert.UGuIdeal.nD Cert.UGuIdeal.τ).loc Cert.UGuIdeal.main_arg0)) (m ((c.tc : Thread Cert.UGuIdeal.nD Cert.UGuIdeal.τ).loc Cert.UGuIdeal.main_arg1)) (m ((c.tc : Thread Cert.UGuIdeal.nD Cert.UGuIdeal.τ).loc Cert.UGuIdeal.main_arg2)) (m ((c.tc : Thread Cert.UGuIdeal.nD Cert.UGuIdeal.τ).loc Cert.UGuIdeal.main_arg3)) (m ((c.tc : Thread Cert.UGuIdeal.nD Cert.UGuIdeal.τ).loc Cert.UGuIdeal.main_arg4)) (m ((c.tc : Thread Cert.UGuIdeal.nD Cert.UGuIdeal.τ).loc Cert.UGuIdeal.main_arg5)) (m ((c.tc : Thread Cert.UGuIdeal.nD Cert.UGuIdeal.τ).loc Cert.UGuIdeal.main_arg6))).1 = (fun _ => 1#1)
    ∧ (Cert.Pre_device_gu.fn (F := Ideal) (m ((c.tc : Thread Cert.UGuIdeal.nD Cert.UGuIdeal.τ).loc Cert.UGuIdeal.main_arg0)) (m ((c.tc : Thread Cert.UGuIdeal.nD Cert.UGuIdeal.τ).loc Cert.UGuIdeal.main_arg1)) (m ((c.tc : Thread Cert.UGuIdeal.nD Cert.UGuIdeal.τ).loc Cert.UGuIdeal.main_arg2)) (m ((c.tc : Thread Cert.UGuIdeal.nD Cert.UGuIdeal.τ).loc Cert.UGuIdeal.main_arg3)) (m ((c.tc : Thread Cert.UGuIdeal.nD Cert.UGuIdeal.τ).loc Cert.UGuIdeal.main_arg4)) (m ((c.tc : Thread Cert.UGuIdeal.nD Cert.UGuIdeal.τ).loc Cert.UGuIdeal.main_arg5)) (m ((c.tc : Thread Cert.UGuIdeal.nD Cert.UGuIdeal.τ).loc Cert.UGuIdeal.main_arg6))).2 = (fun _ => 1#1)

def Pre_UGuRefIdeal (m : (ℓ : Loc Cert.UGuRefIdeal.nD Cert.UGuRefIdeal.τ Cert.UGuRefIdeal.sig) → Buf (Elt Ideal) ℓ) : Prop :=
  True

def Pre_UGuRefIdeal_device_gu [hPre_device_gu : Cert.Pre_device_gu.Facts] (m : (ℓ : Loc Cert.UGuRefIdeal.nD Cert.UGuRefIdeal.τ Cert.UGuRefIdeal.sig) → Buf (Elt Ideal) ℓ) : Prop :=
  ∀ c : Dev Cert.UGuRefIdeal.nD,
    (Cert.Pre_device_gu.fn (F := Ideal) (m ((c.tc : Thread Cert.UGuRefIdeal.nD Cert.UGuRefIdeal.τ).loc Cert.UGuRefIdeal.main_arg0)) (m ((c.tc : Thread Cert.UGuRefIdeal.nD Cert.UGuRefIdeal.τ).loc Cert.UGuRefIdeal.main_arg1)) (m ((c.tc : Thread Cert.UGuRefIdeal.nD Cert.UGuRefIdeal.τ).loc Cert.UGuRefIdeal.main_arg2)) (m ((c.tc : Thread Cert.UGuRefIdeal.nD Cert.UGuRefIdeal.τ).loc Cert.UGuRefIdeal.main_arg3)) (m ((c.tc : Thread Cert.UGuRefIdeal.nD Cert.UGuRefIdeal.τ).loc Cert.UGuRefIdeal.main_arg4)) (m ((c.tc : Thread Cert.UGuRefIdeal.nD Cert.UGuRefIdeal.τ).loc Cert.UGuRefIdeal.main_arg5)) (m ((c.tc : Thread Cert.UGuRefIdeal.nD Cert.UGuRefIdeal.τ).loc Cert.UGuRefIdeal.main_arg6))).1 = (fun _ => 1#1)
    ∧ (Cert.Pre_device_gu.fn (F := Ideal) (m ((c.tc : Thread Cert.UGuRefIdeal.nD Cert.UGuRefIdeal.τ).loc Cert.UGuRefIdeal.main_arg0)) (m ((c.tc : Thread Cert.UGuRefIdeal.nD Cert.UGuRefIdeal.τ).loc Cert.UGuRefIdeal.main_arg1)) (m ((c.tc : Thread Cert.UGuRefIdeal.nD Cert.UGuRefIdeal.τ).loc Cert.UGuRefIdeal.main_arg2)) (m ((c.tc : Thread Cert.UGuRefIdeal.nD Cert.UGuRefIdeal.τ).loc Cert.UGuRefIdeal.main_arg3)) (m ((c.tc : Thread Cert.UGuRefIdeal.nD Cert.UGuRefIdeal.τ).loc Cert.UGuRefIdeal.main_arg4)) (m ((c.tc : Thread Cert.UGuRefIdeal.nD Cert.UGuRefIdeal.τ).loc Cert.UGuRefIdeal.main_arg5)) (m ((c.tc : Thread Cert.UGuRefIdeal.nD Cert.UGuRefIdeal.τ).loc Cert.UGuRefIdeal.main_arg6))).2 = (fun _ => 1#1)

def Pre_UIn [hPre_device_in : Cert.Pre_device_in.Facts] (m : (ℓ : Loc Cert.UIn.nD Cert.UIn.τ Cert.UIn.sig) → Buf (Elt Bits) ℓ) : Prop :=
  ∀ c : Dev Cert.UIn.nD,
    (Cert.Pre_device_in.fn (F := Bits) (m ((c.tc : Thread Cert.UIn.nD Cert.UIn.τ).loc Cert.UIn.main_arg0)) (m ((c.tc : Thread Cert.UIn.nD Cert.UIn.τ).loc Cert.UIn.main_arg1)) (m ((c.tc : Thread Cert.UIn.nD Cert.UIn.τ).loc Cert.UIn.main_arg2)) (m ((c.tc : Thread Cert.UIn.nD Cert.UIn.τ).loc Cert.UIn.main_arg3)) (m ((c.tc : Thread Cert.UIn.nD Cert.UIn.τ).loc Cert.UIn.main_arg4)) (m ((c.tc : Thread Cert.UIn.nD Cert.UIn.τ).loc Cert.UIn.main_arg5)) (m ((c.tc : Thread Cert.UIn.nD Cert.UIn.τ).loc Cert.UIn.main_arg6))).1 = (fun _ => 1#1)
    ∧ (Cert.Pre_device_in.fn (F := Bits) (m ((c.tc : Thread Cert.UIn.nD Cert.UIn.τ).loc Cert.UIn.main_arg0)) (m ((c.tc : Thread Cert.UIn.nD Cert.UIn.τ).loc Cert.UIn.main_arg1)) (m ((c.tc : Thread Cert.UIn.nD Cert.UIn.τ).loc Cert.UIn.main_arg2)) (m ((c.tc : Thread Cert.UIn.nD Cert.UIn.τ).loc Cert.UIn.main_arg3)) (m ((c.tc : Thread Cert.UIn.nD Cert.UIn.τ).loc Cert.UIn.main_arg4)) (m ((c.tc : Thread Cert.UIn.nD Cert.UIn.τ).loc Cert.UIn.main_arg5)) (m ((c.tc : Thread Cert.UIn.nD Cert.UIn.τ).loc Cert.UIn.main_arg6))).2 = (fun _ => 1#1)

def Pre_UInIdeal [hPre_device_in : Cert.Pre_device_in.Facts] (m : (ℓ : Loc Cert.UInIdeal.nD Cert.UInIdeal.τ Cert.UInIdeal.sig) → Buf (Elt Ideal) ℓ) : Prop :=
  ∀ c : Dev Cert.UInIdeal.nD,
    (Cert.Pre_device_in.fn (F := Ideal) (m ((c.tc : Thread Cert.UInIdeal.nD Cert.UInIdeal.τ).loc Cert.UInIdeal.main_arg0)) (m ((c.tc : Thread Cert.UInIdeal.nD Cert.UInIdeal.τ).loc Cert.UInIdeal.main_arg1)) (m ((c.tc : Thread Cert.UInIdeal.nD Cert.UInIdeal.τ).loc Cert.UInIdeal.main_arg2)) (m ((c.tc : Thread Cert.UInIdeal.nD Cert.UInIdeal.τ).loc Cert.UInIdeal.main_arg3)) (m ((c.tc : Thread Cert.UInIdeal.nD Cert.UInIdeal.τ).loc Cert.UInIdeal.main_arg4)) (m ((c.tc : Thread Cert.UInIdeal.nD Cert.UInIdeal.τ).loc Cert.UInIdeal.main_arg5)) (m ((c.tc : Thread Cert.UInIdeal.nD Cert.UInIdeal.τ).loc Cert.UInIdeal.main_arg6))).1 = (fun _ => 1#1)
    ∧ (Cert.Pre_device_in.fn (F := Ideal) (m ((c.tc : Thread Cert.UInIdeal.nD Cert.UInIdeal.τ).loc Cert.UInIdeal.main_arg0)) (m ((c.tc : Thread Cert.UInIdeal.nD Cert.UInIdeal.τ).loc Cert.UInIdeal.main_arg1)) (m ((c.tc : Thread Cert.UInIdeal.nD Cert.UInIdeal.τ).loc Cert.UInIdeal.main_arg2)) (m ((c.tc : Thread Cert.UInIdeal.nD Cert.UInIdeal.τ).loc Cert.UInIdeal.main_arg3)) (m ((c.tc : Thread Cert.UInIdeal.nD Cert.UInIdeal.τ).loc Cert.UInIdeal.main_arg4)) (m ((c.tc : Thread Cert.UInIdeal.nD Cert.UInIdeal.τ).loc Cert.UInIdeal.main_arg5)) (m ((c.tc : Thread Cert.UInIdeal.nD Cert.UInIdeal.τ).loc Cert.UInIdeal.main_arg6))).2 = (fun _ => 1#1)

def Pre_UInRefIdeal (m : (ℓ : Loc Cert.UInRefIdeal.nD Cert.UInRefIdeal.τ Cert.UInRefIdeal.sig) → Buf (Elt Ideal) ℓ) : Prop :=
  True

def Pre_UInRefIdeal_device_in [hPre_device_in : Cert.Pre_device_in.Facts] (m : (ℓ : Loc Cert.UInRefIdeal.nD Cert.UInRefIdeal.τ Cert.UInRefIdeal.sig) → Buf (Elt Ideal) ℓ) : Prop :=
  ∀ c : Dev Cert.UInRefIdeal.nD,
    (Cert.Pre_device_in.fn (F := Ideal) (m ((c.tc : Thread Cert.UInRefIdeal.nD Cert.UInRefIdeal.τ).loc Cert.UInRefIdeal.main_arg0)) (m ((c.tc : Thread Cert.UInRefIdeal.nD Cert.UInRefIdeal.τ).loc Cert.UInRefIdeal.main_arg1)) (m ((c.tc : Thread Cert.UInRefIdeal.nD Cert.UInRefIdeal.τ).loc Cert.UInRefIdeal.main_arg2)) (m ((c.tc : Thread Cert.UInRefIdeal.nD Cert.UInRefIdeal.τ).loc Cert.UInRefIdeal.main_arg3)) (m ((c.tc : Thread Cert.UInRefIdeal.nD Cert.UInRefIdeal.τ).loc Cert.UInRefIdeal.main_arg4)) (m ((c.tc : Thread Cert.UInRefIdeal.nD Cert.UInRefIdeal.τ).loc Cert.UInRefIdeal.main_arg5)) (m ((c.tc : Thread Cert.UInRefIdeal.nD Cert.UInRefIdeal.τ).loc Cert.UInRefIdeal.main_arg6))).1 = (fun _ => 1#1)
    ∧ (Cert.Pre_device_in.fn (F := Ideal) (m ((c.tc : Thread Cert.UInRefIdeal.nD Cert.UInRefIdeal.τ).loc Cert.UInRefIdeal.main_arg0)) (m ((c.tc : Thread Cert.UInRefIdeal.nD Cert.UInRefIdeal.τ).loc Cert.UInRefIdeal.main_arg1)) (m ((c.tc : Thread Cert.UInRefIdeal.nD Cert.UInRefIdeal.τ).loc Cert.UInRefIdeal.main_arg2)) (m ((c.tc : Thread Cert.UInRefIdeal.nD Cert.UInRefIdeal.τ).loc Cert.UInRefIdeal.main_arg3)) (m ((c.tc : Thread Cert.UInRefIdeal.nD Cert.UInRefIdeal.τ).loc Cert.UInRefIdeal.main_arg4)) (m ((c.tc : Thread Cert.UInRefIdeal.nD Cert.UInRefIdeal.τ).loc Cert.UInRefIdeal.main_arg5)) (m ((c.tc : Thread Cert.UInRefIdeal.nD Cert.UInRefIdeal.τ).loc Cert.UInRefIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Second [hSecond : Cert.Second.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1)
      ∧ r.2.mem ((c.tc : Thread Cert.Second.nD Cert.Second.τ).loc Cert.Second.main_arg2) = m ((c.tc : Thread Cert.Second.nD Cert.Second.τ).loc Cert.Second.main_arg2)
      ∧ r.2.mem ((c.tc : Thread Cert.Second.nD Cert.Second.τ).loc Cert.Second.main_arg3) = m ((c.tc : Thread Cert.Second.nD Cert.Second.τ).loc Cert.Second.main_arg3)
      ∧ r.2.mem ((c.tc : Thread Cert.Second.nD Cert.Second.τ).loc Cert.Second.main_arg4) = m ((c.tc : Thread Cert.Second.nD Cert.Second.τ).loc Cert.Second.main_arg4)
      ∧ r.2.mem ((c.tc : Thread Cert.Second.nD Cert.Second.τ).loc Cert.Second.main_arg5) = m ((c.tc : Thread Cert.Second.nD Cert.Second.τ).loc Cert.Second.main_arg5)
      ∧ r.2.mem ((c.tc : Thread Cert.Second.nD Cert.Second.τ).loc Cert.Second.main_arg6) = m ((c.tc : Thread Cert.Second.nD Cert.Second.τ).loc Cert.Second.main_arg6))
      ∧ r.2.sem = fun _ => 0)

def quiescent_SecondIdeal [hSecondIdeal : Cert.SecondIdeal.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
      ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
      ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6))
      ∧ r.2.sem = fun _ => 0)

def quiescent_SecondIdeal_pre_finite [hSecondIdeal : Cert.SecondIdeal.Facts] [hPre_finite : Cert.Pre_finite.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal_finite m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
      ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
      ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6))
      ∧ r.2.sem = fun _ => 0)

def quiescent_SecondRefIdeal [hSecondRefIdeal : Cert.SecondRefIdeal.Facts] : Prop :=
  ∀ (m : (ℓ : Loc Cert.SecondRefIdeal.nD Cert.SecondRefIdeal.τ Cert.SecondRefIdeal.sig) → Buf (Elt Ideal) ℓ) (g : Dev Cert.SecondRefIdeal.nD → PrngReg), Pre_SecondRefIdeal m →
    θ_run (Cert.SecondRefIdeal.defs (F := Ideal)) (onTc (τ := Cert.SecondRefIdeal.τ) (Cert.SecondRefIdeal.main (F := Ideal))) ⟨m, fun _ => 0, g⟩ (fun r => (∀ c : Dev Cert.SecondRefIdeal.nD,
      r.2.mem ((c.tc : Thread Cert.SecondRefIdeal.nD Cert.SecondRefIdeal.τ).loc Cert.SecondRefIdeal.main_arg0) = m ((c.tc : Thread Cert.SecondRefIdeal.nD Cert.SecondRefIdeal.τ).loc Cert.SecondRefIdeal.main_arg0)
      ∧ r.2.mem ((c.tc : Thread Cert.SecondRefIdeal.nD Cert.SecondRefIdeal.τ).loc Cert.SecondRefIdeal.main_arg1) = m ((c.tc : Thread Cert.SecondRefIdeal.nD Cert.SecondRefIdeal.τ).loc Cert.SecondRefIdeal.main_arg1)
      ∧ r.2.mem ((c.tc : Thread Cert.SecondRefIdeal.nD Cert.SecondRefIdeal.τ).loc Cert.SecondRefIdeal.main_arg2) = m ((c.tc : Thread Cert.SecondRefIdeal.nD Cert.SecondRefIdeal.τ).loc Cert.SecondRefIdeal.main_arg2)
      ∧ r.2.mem ((c.tc : Thread Cert.SecondRefIdeal.nD Cert.SecondRefIdeal.τ).loc Cert.SecondRefIdeal.main_arg3) = m ((c.tc : Thread Cert.SecondRefIdeal.nD Cert.SecondRefIdeal.τ).loc Cert.SecondRefIdeal.main_arg3)
      ∧ r.2.mem ((c.tc : Thread Cert.SecondRefIdeal.nD Cert.SecondRefIdeal.τ).loc Cert.SecondRefIdeal.main_arg4) = m ((c.tc : Thread Cert.SecondRefIdeal.nD Cert.SecondRefIdeal.τ).loc Cert.SecondRefIdeal.main_arg4)
      ∧ r.2.mem ((c.tc : Thread Cert.SecondRefIdeal.nD Cert.SecondRefIdeal.τ).loc Cert.SecondRefIdeal.main_arg5) = m ((c.tc : Thread Cert.SecondRefIdeal.nD Cert.SecondRefIdeal.τ).loc Cert.SecondRefIdeal.main_arg5)
      ∧ r.2.mem ((c.tc : Thread Cert.SecondRefIdeal.nD Cert.SecondRefIdeal.τ).loc Cert.SecondRefIdeal.main_arg6) = m ((c.tc : Thread Cert.SecondRefIdeal.nD Cert.SecondRefIdeal.τ).loc Cert.SecondRefIdeal.main_arg6))
      ∧ r.2.sem = fun _ => 0)

def quiescent_SecondRefIdeal_pre_finite [hSecondRefIdeal : Cert.SecondRefIdeal.Facts] [hPre_finite : Cert.Pre_finite.Facts] : Prop :=
  ∀ (m : (ℓ : Loc Cert.SecondRefIdeal.nD Cert.SecondRefIdeal.τ Cert.SecondRefIdeal.sig) → Buf (Elt Ideal) ℓ) (g : Dev Cert.SecondRefIdeal.nD → PrngReg), Pre_SecondRefIdeal_finite m →
    θ_run (Cert.SecondRefIdeal.defs (F := Ideal)) (onTc (τ := Cert.SecondRefIdeal.τ) (Cert.SecondRefIdeal.main (F := Ideal))) ⟨m, fun _ => 0, g⟩ (fun r => (∀ c : Dev Cert.SecondRefIdeal.nD,
      r.2.mem ((c.tc : Thread Cert.SecondRefIdeal.nD Cert.SecondRefIdeal.τ).loc Cert.SecondRefIdeal.main_arg0) = m ((c.tc : Thread Cert.SecondRefIdeal.nD Cert.SecondRefIdeal.τ).loc Cert.SecondRefIdeal.main_arg0)
      ∧ r.2.mem ((c.tc : Thread Cert.SecondRefIdeal.nD Cert.SecondRefIdeal.τ).loc Cert.SecondRefIdeal.main_arg1) = m ((c.tc : Thread Cert.SecondRefIdeal.nD Cert.SecondRefIdeal.τ).loc Cert.SecondRefIdeal.main_arg1)
      ∧ r.2.mem ((c.tc : Thread Cert.SecondRefIdeal.nD Cert.SecondRefIdeal.τ).loc Cert.SecondRefIdeal.main_arg2) = m ((c.tc : Thread Cert.SecondRefIdeal.nD Cert.SecondRefIdeal.τ).loc Cert.SecondRefIdeal.main_arg2)
      ∧ r.2.mem ((c.tc : Thread Cert.SecondRefIdeal.nD Cert.SecondRefIdeal.τ).loc Cert.SecondRefIdeal.main_arg3) = m ((c.tc : Thread Cert.SecondRefIdeal.nD Cert.SecondRefIdeal.τ).loc Cert.SecondRefIdeal.main_arg3)
      ∧ r.2.mem ((c.tc : Thread Cert.SecondRefIdeal.nD Cert.SecondRefIdeal.τ).loc Cert.SecondRefIdeal.main_arg4) = m ((c.tc : Thread Cert.SecondRefIdeal.nD Cert.SecondRefIdeal.τ).loc Cert.SecondRefIdeal.main_arg4)
      ∧ r.2.mem ((c.tc : Thread Cert.SecondRefIdeal.nD Cert.SecondRefIdeal.τ).loc Cert.SecondRefIdeal.main_arg5) = m ((c.tc : Thread Cert.SecondRefIdeal.nD Cert.SecondRefIdeal.τ).loc Cert.SecondRefIdeal.main_arg5)
      ∧ r.2.mem ((c.tc : Thread Cert.SecondRefIdeal.nD Cert.SecondRefIdeal.τ).loc Cert.SecondRefIdeal.main_arg6) = m ((c.tc : Thread Cert.SecondRefIdeal.nD Cert.SecondRefIdeal.τ).loc Cert.SecondRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_WGuA [hWGuA : Cert.WGuA.Facts] : Prop :=
  ∀ (m : (ℓ : Loc Cert.WGuA.nD Cert.WGuA.τ Cert.WGuA.sig) → Buf (Elt Bits) ℓ) (g : Dev Cert.WGuA.nD → PrngReg), Pre_WGuA m →
    θ_run (Cert.WGuA.defs (F := Bits)) (onTc (τ := Cert.WGuA.τ) (Cert.WGuA.main (F := Bits))) ⟨m, fun _ => 0, g⟩ (fun r => (∀ c : Dev Cert.WGuA.nD,
      r.2.mem ((c.tc : Thread Cert.WGuA.nD Cert.WGuA.τ).loc Cert.WGuA.main_arg0) = m ((c.tc : Thread Cert.WGuA.nD Cert.WGuA.τ).loc Cert.WGuA.main_arg0)
      ∧ r.2.mem ((c.tc : Thread Cert.WGuA.nD Cert.WGuA.τ).loc Cert.WGuA.main_arg1) = m ((c.tc : Thread Cert.WGuA.nD Cert.WGuA.τ).loc Cert.WGuA.main_arg1)
      ∧ r.2.mem ((c.tc : Thread Cert.WGuA.nD Cert.WGuA.τ).loc Cert.WGuA.main_arg2) = m ((c.tc : Thread Cert.WGuA.nD Cert.WGuA.τ).loc Cert.WGuA.main_arg2)
      ∧ r.2.mem ((c.tc : Thread Cert.WGuA.nD Cert.WGuA.τ).loc Cert.WGuA.main_arg3) = m ((c.tc : Thread Cert.WGuA.nD Cert.WGuA.τ).loc Cert.WGuA.main_arg3))
      ∧ r.2.sem = fun _ => 0)

def quiescent_WGuAIdeal [hWGuAIdeal : Cert.WGuAIdeal.Facts] : Prop :=
  ∀ (m : (ℓ : Loc Cert.WGuAIdeal.nD Cert.WGuAIdeal.τ Cert.WGuAIdeal.sig) → Buf (Elt Ideal) ℓ) (g : Dev Cert.WGuAIdeal.nD → PrngReg), Pre_WGuAIdeal m →
    θ_run (Cert.WGuAIdeal.defs (F := Ideal)) (onTc (τ := Cert.WGuAIdeal.τ) (Cert.WGuAIdeal.main (F := Ideal))) ⟨m, fun _ => 0, g⟩ (fun r => (∀ c : Dev Cert.WGuAIdeal.nD,
      r.2.mem ((c.tc : Thread Cert.WGuAIdeal.nD Cert.WGuAIdeal.τ).loc Cert.WGuAIdeal.main_arg0) = m ((c.tc : Thread Cert.WGuAIdeal.nD Cert.WGuAIdeal.τ).loc Cert.WGuAIdeal.main_arg0)
      ∧ r.2.mem ((c.tc : Thread Cert.WGuAIdeal.nD Cert.WGuAIdeal.τ).loc Cert.WGuAIdeal.main_arg1) = m ((c.tc : Thread Cert.WGuAIdeal.nD Cert.WGuAIdeal.τ).loc Cert.WGuAIdeal.main_arg1)
      ∧ r.2.mem ((c.tc : Thread Cert.WGuAIdeal.nD Cert.WGuAIdeal.τ).loc Cert.WGuAIdeal.main_arg2) = m ((c.tc : Thread Cert.WGuAIdeal.nD Cert.WGuAIdeal.τ).loc Cert.WGuAIdeal.main_arg2)
      ∧ r.2.mem ((c.tc : Thread Cert.WGuAIdeal.nD Cert.WGuAIdeal.τ).loc Cert.WGuAIdeal.main_arg3) = m ((c.tc : Thread Cert.WGuAIdeal.nD Cert.WGuAIdeal.τ).loc Cert.WGuAIdeal.main_arg3))
      ∧ r.2.sem = fun _ => 0)

def quiescent_WGuARefIdeal [hWGuARefIdeal : Cert.WGuARefIdeal.Facts] : Prop :=
  ∀ (m : (ℓ : Loc Cert.WGuARefIdeal.nD Cert.WGuARefIdeal.τ Cert.WGuARefIdeal.sig) → Buf (Elt Ideal) ℓ) (g : Dev Cert.WGuARefIdeal.nD → PrngReg), Pre_WGuARefIdeal m →
    θ_run (Cert.WGuARefIdeal.defs (F := Ideal)) (onTc (τ := Cert.WGuARefIdeal.τ) (Cert.WGuARefIdeal.main (F := Ideal))) ⟨m, fun _ => 0, g⟩ (fun r => (∀ c : Dev Cert.WGuARefIdeal.nD,
      r.2.mem ((c.tc : Thread Cert.WGuARefIdeal.nD Cert.WGuARefIdeal.τ).loc Cert.WGuARefIdeal.main_arg0) = m ((c.tc : Thread Cert.WGuARefIdeal.nD Cert.WGuARefIdeal.τ).loc Cert.WGuARefIdeal.main_arg0)
      ∧ r.2.mem ((c.tc : Thread Cert.WGuARefIdeal.nD Cert.WGuARefIdeal.τ).loc Cert.WGuARefIdeal.main_arg1) = m ((c.tc : Thread Cert.WGuARefIdeal.nD Cert.WGuARefIdeal.τ).loc Cert.WGuARefIdeal.main_arg1)
      ∧ r.2.mem ((c.tc : Thread Cert.WGuARefIdeal.nD Cert.WGuARefIdeal.τ).loc Cert.WGuARefIdeal.main_arg2) = m ((c.tc : Thread Cert.WGuARefIdeal.nD Cert.WGuARefIdeal.τ).loc Cert.WGuARefIdeal.main_arg2)
      ∧ r.2.mem ((c.tc : Thread Cert.WGuARefIdeal.nD Cert.WGuARefIdeal.τ).loc Cert.WGuARefIdeal.main_arg3) = m ((c.tc : Thread Cert.WGuARefIdeal.nD Cert.WGuARefIdeal.τ).loc Cert.WGuARefIdeal.main_arg3))
      ∧ r.2.sem = fun _ => 0)

def quiescent_WGuB [hWGuB : Cert.WGuB.Facts] : Prop :=
  ∀ (m : (ℓ : Loc Cert.WGuB.nD Cert.WGuB.τ Cert.WGuB.sig) → Buf (Elt Bits) ℓ) (g : Dev Cert.WGuB.nD → PrngReg), Pre_WGuB m →
    θ_run (Cert.WGuB.defs (F := Bits)) (onTc (τ := Cert.WGuB.τ) (Cert.WGuB.main (F := Bits))) ⟨m, fun _ => 0, g⟩ (fun r => (∀ c : Dev Cert.WGuB.nD,
      r.2.mem ((c.tc : Thread Cert.WGuB.nD Cert.WGuB.τ).loc Cert.WGuB.main_arg0) = m ((c.tc : Thread Cert.WGuB.nD Cert.WGuB.τ).loc Cert.WGuB.main_arg0)
      ∧ r.2.mem ((c.tc : Thread Cert.WGuB.nD Cert.WGuB.τ).loc Cert.WGuB.main_arg1) = m ((c.tc : Thread Cert.WGuB.nD Cert.WGuB.τ).loc Cert.WGuB.main_arg1)
      ∧ r.2.mem ((c.tc : Thread Cert.WGuB.nD Cert.WGuB.τ).loc Cert.WGuB.main_arg2) = m ((c.tc : Thread Cert.WGuB.nD Cert.WGuB.τ).loc Cert.WGuB.main_arg2))
      ∧ r.2.sem = fun _ => 0)

def quiescent_WGuBIdeal [hWGuBIdeal : Cert.WGuBIdeal.Facts] : Prop :=
  ∀ (m : (ℓ : Loc Cert.WGuBIdeal.nD Cert.WGuBIdeal.τ Cert.WGuBIdeal.sig) → Buf (Elt Ideal) ℓ) (g : Dev Cert.WGuBIdeal.nD → PrngReg), Pre_WGuBIdeal m →
    θ_run (Cert.WGuBIdeal.defs (F := Ideal)) (onTc (τ := Cert.WGuBIdeal.τ) (Cert.WGuBIdeal.main (F := Ideal))) ⟨m, fun _ => 0, g⟩ (fun r => (∀ c : Dev Cert.WGuBIdeal.nD,
      r.2.mem ((c.tc : Thread Cert.WGuBIdeal.nD Cert.WGuBIdeal.τ).loc Cert.WGuBIdeal.main_arg0) = m ((c.tc : Thread Cert.WGuBIdeal.nD Cert.WGuBIdeal.τ).loc Cert.WGuBIdeal.main_arg0)
      ∧ r.2.mem ((c.tc : Thread Cert.WGuBIdeal.nD Cert.WGuBIdeal.τ).loc Cert.WGuBIdeal.main_arg1) = m ((c.tc : Thread Cert.WGuBIdeal.nD Cert.WGuBIdeal.τ).loc Cert.WGuBIdeal.main_arg1)
      ∧ r.2.mem ((c.tc : Thread Cert.WGuBIdeal.nD Cert.WGuBIdeal.τ).loc Cert.WGuBIdeal.main_arg2) = m ((c.tc : Thread Cert.WGuBIdeal.nD Cert.WGuBIdeal.τ).loc Cert.WGuBIdeal.main_arg2))
      ∧ r.2.sem = fun _ => 0)

def quiescent_WGuBRefIdeal [hWGuBRefIdeal : Cert.WGuBRefIdeal.Facts] : Prop :=
  ∀ (m : (ℓ : Loc Cert.WGuBRefIdeal.nD Cert.WGuBRefIdeal.τ Cert.WGuBRefIdeal.sig) → Buf (Elt Ideal) ℓ) (g : Dev Cert.WGuBRefIdeal.nD → PrngReg), Pre_WGuBRefIdeal m →
    θ_run (Cert.WGuBRefIdeal.defs (F := Ideal)) (onTc (τ := Cert.WGuBRefIdeal.τ) (Cert.WGuBRefIdeal.main (F := Ideal))) ⟨m, fun _ => 0, g⟩ (fun r => (∀ c : Dev Cert.WGuBRefIdeal.nD,
      r.2.mem ((c.tc : Thread Cert.WGuBRefIdeal.nD Cert.WGuBRefIdeal.τ).loc Cert.WGuBRefIdeal.main_arg0) = m ((c.tc : Thread Cert.WGuBRefIdeal.nD Cert.WGuBRefIdeal.τ).loc Cert.WGuBRefIdeal.main_arg0)
      ∧ r.2.mem ((c.tc : Thread Cert.WGuBRefIdeal.nD Cert.WGuBRefIdeal.τ).loc Cert.WGuBRefIdeal.main_arg1) = m ((c.tc : Thread Cert.WGuBRefIdeal.nD Cert.WGuBRefIdeal.τ).loc Cert.WGuBRefIdeal.main_arg1)
      ∧ r.2.mem ((c.tc : Thread Cert.WGuBRefIdeal.nD Cert.WGuBRefIdeal.τ).loc Cert.WGuBRefIdeal.main_arg2) = m ((c.tc : Thread Cert.WGuBRefIdeal.nD Cert.WGuBRefIdeal.τ).loc Cert.WGuBRefIdeal.main_arg2))
      ∧ r.2.sem = fun _ => 0)

def quiescent_WDown [hWDown : Cert.WDown.Facts] : Prop :=
  ∀ (m : (ℓ : Loc Cert.WDown.nD Cert.WDown.τ Cert.WDown.sig) → Buf (Elt Bits) ℓ) (g : Dev Cert.WDown.nD → PrngReg), Pre_WDown m →
    θ_run (Cert.WDown.defs (F := Bits)) (onTc (τ := Cert.WDown.τ) (Cert.WDown.main (F := Bits))) ⟨m, fun _ => 0, g⟩ (fun r => (∀ c : Dev Cert.WDown.nD,
      r.2.mem ((c.tc : Thread Cert.WDown.nD Cert.WDown.τ).loc Cert.WDown.main_arg0) = m ((c.tc : Thread Cert.WDown.nD Cert.WDown.τ).loc Cert.WDown.main_arg0)
      ∧ r.2.mem ((c.tc : Thread Cert.WDown.nD Cert.WDown.τ).loc Cert.WDown.main_arg1) = m ((c.tc : Thread Cert.WDown.nD Cert.WDown.τ).loc Cert.WDown.main_arg1))
      ∧ r.2.sem = fun _ => 0)

def quiescent_WDownIdeal [hWDownIdeal : Cert.WDownIdeal.Facts] : Prop :=
  ∀ (m : (ℓ : Loc Cert.WDownIdeal.nD Cert.WDownIdeal.τ Cert.WDownIdeal.sig) → Buf (Elt Ideal) ℓ) (g : Dev Cert.WDownIdeal.nD → PrngReg), Pre_WDownIdeal m →
    θ_run (Cert.WDownIdeal.defs (F := Ideal)) (onTc (τ := Cert.WDownIdeal.τ) (Cert.WDownIdeal.main (F := Ideal))) ⟨m, fun _ => 0, g⟩ (fun r => (∀ c : Dev Cert.WDownIdeal.nD,
      r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
      ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ r.2.sem = fun _ => 0)

def quiescent_WDownRefIdeal [hWDownRefIdeal : Cert.WDownRefIdeal.Facts] : Prop :=
  ∀ (m : (ℓ : Loc Cert.WDownRefIdeal.nD Cert.WDownRefIdeal.τ Cert.WDownRefIdeal.sig) → Buf (Elt Ideal) ℓ) (g : Dev Cert.WDownRefIdeal.nD → PrngReg), Pre_WDownRefIdeal m →
    θ_run (Cert.WDownRefIdeal.defs (F := Ideal)) (onTc (τ := Cert.WDownRefIdeal.τ) (Cert.WDownRefIdeal.main (F := Ideal))) ⟨m, fun _ => 0, g⟩ (fun r => (∀ c : Dev Cert.WDownRefIdeal.nD,
      r.2.mem ((c.tc : Thread Cert.WDownRefIdeal.nD Cert.WDownRefIdeal.τ).loc Cert.WDownRefIdeal.main_arg0) = m ((c.tc : Thread Cert.WDownRefIdeal.nD Cert.WDownRefIdeal.τ).loc Cert.WDownRefIdeal.main_arg0)
      ∧ r.2.mem ((c.tc : Thread Cert.WDownRefIdeal.nD Cert.WDownRefIdeal.τ).loc Cert.WDownRefIdeal.main_arg1) = m ((c.tc : Thread Cert.WDownRefIdeal.nD Cert.WDownRefIdeal.τ).loc Cert.WDownRefIdeal.main_arg1))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1)
      ∧ r.2.mem ((c.tc : Thread Cert.WIn.nD Cert.WIn.τ).loc Cert.WIn.main_arg2) = m ((c.tc : Thread Cert.WIn.nD Cert.WIn.τ).loc Cert.WIn.main_arg2)
      ∧ r.2.mem ((c.tc : Thread Cert.WIn.nD Cert.WIn.τ).loc Cert.WIn.main_arg3) = m ((c.tc : Thread Cert.WIn.nD Cert.WIn.τ).loc Cert.WIn.main_arg3))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1)
      ∧ r.2.mem ((c.tc : Thread Cert.WInIdeal.nD Cert.WInIdeal.τ).loc Cert.WInIdeal.main_arg2) = m ((c.tc : Thread Cert.WInIdeal.nD Cert.WInIdeal.τ).loc Cert.WInIdeal.main_arg2)
      ∧ r.2.mem ((c.tc : Thread Cert.WInIdeal.nD Cert.WInIdeal.τ).loc Cert.WInIdeal.main_arg3) = m ((c.tc : Thread Cert.WInIdeal.nD Cert.WInIdeal.τ).loc Cert.WInIdeal.main_arg3))
      ∧ r.2.sem = fun _ => 0)

def quiescent_WInRefIdeal [hWInRefIdeal : Cert.WInRefIdeal.Facts] : Prop :=
  ∀ (m : (ℓ : Loc Cert.WInRefIdeal.nD Cert.WInRefIdeal.τ Cert.WInRefIdeal.sig) → Buf (Elt Ideal) ℓ) (g : Dev Cert.WInRefIdeal.nD → PrngReg), Pre_WInRefIdeal m →
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0)
      ∧ r.2.mem ((c.tc : Thread Cert.WInRefIdeal.nD Cert.WInRefIdeal.τ).loc Cert.WInRefIdeal.main_arg1) = m ((c.tc : Thread Cert.WInRefIdeal.nD Cert.WInRefIdeal.τ).loc Cert.WInRefIdeal.main_arg1)
      ∧ r.2.mem ((c.tc : Thread Cert.WInRefIdeal.nD Cert.WInRefIdeal.τ).loc Cert.WInRefIdeal.main_arg2) = m ((c.tc : Thread Cert.WInRefIdeal.nD Cert.WInRefIdeal.τ).loc Cert.WInRefIdeal.main_arg2)
      ∧ r.2.mem ((c.tc : Thread Cert.WInRefIdeal.nD Cert.WInRefIdeal.τ).loc Cert.WInRefIdeal.main_arg3) = m ((c.tc : Thread Cert.WInRefIdeal.nD Cert.WInRefIdeal.τ).loc Cert.WInRefIdeal.main_arg3))
      ∧ r.2.sem = fun _ => 0)

def quiescent_WProj [hWProj : Cert.WProj.Facts] : Prop :=
  ∀ (m : (ℓ : Loc Cert.WProj.nD Cert.WProj.τ Cert.WProj.sig) → Buf (Elt Bits) ℓ) (g : Dev Cert.WProj.nD → PrngReg), Pre_WProj m →
    θ_run (Cert.WProj.defs (F := Bits)) (onTc (τ := Cert.WProj.τ) (Cert.WProj.main (F := Bits))) ⟨m, fun _ => 0, g⟩ (fun r => (∀ c : Dev Cert.WProj.nD,
      r.2.mem ((c.tc : Thread Cert.WProj.nD Cert.WProj.τ).loc Cert.WProj.main_arg0) = m ((c.tc : Thread Cert.WProj.nD Cert.WProj.τ).loc Cert.WProj.main_arg0)
      ∧ r.2.mem ((c.tc : Thread Cert.WProj.nD Cert.WProj.τ).loc Cert.WProj.main_arg1) = m ((c.tc : Thread Cert.WProj.nD Cert.WProj.τ).loc Cert.WProj.main_arg1))
      ∧ r.2.sem = fun _ => 0)

def quiescent_WProjIdeal [hWProjIdeal : Cert.WProjIdeal.Facts] : Prop :=
  ∀ (m : (ℓ : Loc Cert.WProjIdeal.nD Cert.WProjIdeal.τ Cert.WProjIdeal.sig) → Buf (Elt Ideal) ℓ) (g : Dev Cert.WProjIdeal.nD → PrngReg), Pre_WProjIdeal m →
    θ_run (Cert.WProjIdeal.defs (F := Ideal)) (onTc (τ := Cert.WProjIdeal.τ) (Cert.WProjIdeal.main (F := Ideal))) ⟨m, fun _ => 0, g⟩ (fun r => (∀ c : Dev Cert.WProjIdeal.nD,
      r.2.mem ((c.tc : Thread Cert.WProjIdeal.nD Cert.WProjIdeal.τ).loc Cert.WProjIdeal.main_arg0) = m ((c.tc : Thread Cert.WProjIdeal.nD Cert.WProjIdeal.τ).loc Cert.WProjIdeal.main_arg0)
      ∧ r.2.mem ((c.tc : Thread Cert.WProjIdeal.nD Cert.WProjIdeal.τ).loc Cert.WProjIdeal.main_arg1) = m ((c.tc : Thread Cert.WProjIdeal.nD Cert.WProjIdeal.τ).loc Cert.WProjIdeal.main_arg1))
      ∧ r.2.sem = fun _ => 0)

def quiescent_WProjRefIdeal [hWProjRefIdeal : Cert.WProjRefIdeal.Facts] : Prop :=
  ∀ (m : (ℓ : Loc Cert.WProjRefIdeal.nD Cert.WProjRefIdeal.τ Cert.WProjRefIdeal.sig) → Buf (Elt Ideal) ℓ) (g : Dev Cert.WProjRefIdeal.nD → PrngReg), Pre_WProjRefIdeal m →
    θ_run (Cert.WProjRefIdeal.defs (F := Ideal)) (onTc (τ := Cert.WProjRefIdeal.τ) (Cert.WProjRefIdeal.main (F := Ideal))) ⟨m, fun _ => 0, g⟩ (fun r => (∀ c : Dev Cert.WProjRefIdeal.nD,
      r.2.mem ((c.tc : Thread Cert.WProjRefIdeal.nD Cert.WProjRefIdeal.τ).loc Cert.WProjRefIdeal.main_arg0) = m ((c.tc : Thread Cert.WProjRefIdeal.nD Cert.WProjRefIdeal.τ).loc Cert.WProjRefIdeal.main_arg0)
      ∧ r.2.mem ((c.tc : Thread Cert.WProjRefIdeal.nD Cert.WProjRefIdeal.τ).loc Cert.WProjRefIdeal.main_arg1) = m ((c.tc : Thread Cert.WProjRefIdeal.nD Cert.WProjRefIdeal.τ).loc Cert.WProjRefIdeal.main_arg1))
      ∧ r.2.sem = fun _ => 0)

def quiescent_WGates [hWGates : Cert.WGates.Facts] : Prop :=
  ∀ (m : (ℓ : Loc Cert.WGates.nD Cert.WGates.τ Cert.WGates.sig) → Buf (Elt Bits) ℓ) (g : Dev Cert.WGates.nD → PrngReg), Pre_WGates m →
    θ_run (Cert.WGates.defs (F := Bits)) (onTc (τ := Cert.WGates.τ) (Cert.WGates.main (F := Bits))) ⟨m, fun _ => 0, g⟩ (fun r => (∀ c : Dev Cert.WGates.nD,
      r.2.mem ((c.tc : Thread Cert.WGates.nD Cert.WGates.τ).loc Cert.WGates.main_arg0) = m ((c.tc : Thread Cert.WGates.nD Cert.WGates.τ).loc Cert.WGates.main_arg0)
      ∧ r.2.mem ((c.tc : Thread Cert.WGates.nD Cert.WGates.τ).loc Cert.WGates.main_arg1) = m ((c.tc : Thread Cert.WGates.nD Cert.WGates.τ).loc Cert.WGates.main_arg1))
      ∧ r.2.sem = fun _ => 0)

def quiescent_WGatesIdeal [hWGatesIdeal : Cert.WGatesIdeal.Facts] : Prop :=
  ∀ (m : (ℓ : Loc Cert.WGatesIdeal.nD Cert.WGatesIdeal.τ Cert.WGatesIdeal.sig) → Buf (Elt Ideal) ℓ) (g : Dev Cert.WGatesIdeal.nD → PrngReg), Pre_WGatesIdeal m →
    θ_run (Cert.WGatesIdeal.defs (F := Ideal)) (onTc (τ := Cert.WGatesIdeal.τ) (Cert.WGatesIdeal.main (F := Ideal))) ⟨m, fun _ => 0, g⟩ (fun r => (∀ c : Dev Cert.WGatesIdeal.nD,
      r.2.mem ((c.tc : Thread Cert.WGatesIdeal.nD Cert.WGatesIdeal.τ).loc Cert.WGatesIdeal.main_arg0) = m ((c.tc : Thread Cert.WGatesIdeal.nD Cert.WGatesIdeal.τ).loc Cert.WGatesIdeal.main_arg0)
      ∧ r.2.mem ((c.tc : Thread Cert.WGatesIdeal.nD Cert.WGatesIdeal.τ).loc Cert.WGatesIdeal.main_arg1) = m ((c.tc : Thread Cert.WGatesIdeal.nD Cert.WGatesIdeal.τ).loc Cert.WGatesIdeal.main_arg1))
      ∧ r.2.sem = fun _ => 0)

def quiescent_WGatesRefIdeal [hWGatesRefIdeal : Cert.WGatesRefIdeal.Facts] : Prop :=
  ∀ (m : (ℓ : Loc Cert.WGatesRefIdeal.nD Cert.WGatesRefIdeal.τ Cert.WGatesRefIdeal.sig) → Buf (Elt Ideal) ℓ) (g : Dev Cert.WGatesRefIdeal.nD → PrngReg), Pre_WGatesRefIdeal m →
    θ_run (Cert.WGatesRefIdeal.defs (F := Ideal)) (onTc (τ := Cert.WGatesRefIdeal.τ) (Cert.WGatesRefIdeal.main (F := Ideal))) ⟨m, fun _ => 0, g⟩ (fun r => (∀ c : Dev Cert.WGatesRefIdeal.nD,
      r.2.mem ((c.tc : Thread Cert.WGatesRefIdeal.nD Cert.WGatesRefIdeal.τ).loc Cert.WGatesRefIdeal.main_arg0) = m ((c.tc : Thread Cert.WGatesRefIdeal.nD Cert.WGatesRefIdeal.τ).loc Cert.WGatesRefIdeal.main_arg0)
      ∧ r.2.mem ((c.tc : Thread Cert.WGatesRefIdeal.nD Cert.WGatesRefIdeal.τ).loc Cert.WGatesRefIdeal.main_arg1) = m ((c.tc : Thread Cert.WGatesRefIdeal.nD Cert.WGatesRefIdeal.τ).loc Cert.WGatesRefIdeal.main_arg1))
      ∧ r.2.sem = fun _ => 0)

def quiescent_UDown [hUDown : Cert.UDown.Facts] [hPre_device : Cert.Pre_device.Facts] : Prop :=
  ∀ (m : (ℓ : Loc Cert.UDown.nD Cert.UDown.τ Cert.UDown.sig) → Buf (Elt Bits) ℓ) (g : Dev Cert.UDown.nD → PrngReg), Pre_UDown m →
    θ_run (Cert.UDown.defs (F := Bits)) (onTc (τ := Cert.UDown.τ) (Cert.UDown.main (F := Bits))) ⟨m, fun _ => 0, g⟩ (fun r => (∀ c : Dev Cert.UDown.nD,
      r.2.mem ((c.tc : Thread Cert.UDown.nD Cert.UDown.τ).loc Cert.UDown.main_arg0) = m ((c.tc : Thread Cert.UDown.nD Cert.UDown.τ).loc Cert.UDown.main_arg0)
      ∧ r.2.mem ((c.tc : Thread Cert.UDown.nD Cert.UDown.τ).loc Cert.UDown.main_arg1) = m ((c.tc : Thread Cert.UDown.nD Cert.UDown.τ).loc Cert.UDown.main_arg1)
      ∧ r.2.mem ((c.tc : Thread Cert.UDown.nD Cert.UDown.τ).loc Cert.UDown.main_arg2) = m ((c.tc : Thread Cert.UDown.nD Cert.UDown.τ).loc Cert.UDown.main_arg2)
      ∧ r.2.mem ((c.tc : Thread Cert.UDown.nD Cert.UDown.τ).loc Cert.UDown.main_arg3) = m ((c.tc : Thread Cert.UDown.nD Cert.UDown.τ).loc Cert.UDown.main_arg3)
      ∧ r.2.mem ((c.tc : Thread Cert.UDown.nD Cert.UDown.τ).loc Cert.UDown.main_arg4) = m ((c.tc : Thread Cert.UDown.nD Cert.UDown.τ).loc Cert.UDown.main_arg4)
      ∧ r.2.mem ((c.tc : Thread Cert.UDown.nD Cert.UDown.τ).loc Cert.UDown.main_arg5) = m ((c.tc : Thread Cert.UDown.nD Cert.UDown.τ).loc Cert.UDown.main_arg5)
      ∧ r.2.mem ((c.tc : Thread Cert.UDown.nD Cert.UDown.τ).loc Cert.UDown.main_arg6) = m ((c.tc : Thread Cert.UDown.nD Cert.UDown.τ).loc Cert.UDown.main_arg6))
      ∧ r.2.sem = fun _ => 0)

def quiescent_UDownIdeal [hUDownIdeal : Cert.UDownIdeal.Facts] [hPre_device : Cert.Pre_device.Facts] : Prop :=
  ∀ (m : (ℓ : Loc Cert.UDownIdeal.nD Cert.UDownIdeal.τ Cert.UDownIdeal.sig) → Buf (Elt Ideal) ℓ) (g : Dev Cert.UDownIdeal.nD → PrngReg), Pre_UDownIdeal m →
    θ_run (Cert.UDownIdeal.defs (F := Ideal)) (onTc (τ := Cert.UDownIdeal.τ) (Cert.UDownIdeal.main (F := Ideal))) ⟨m, fun _ => 0, g⟩ (fun r => (∀ c : Dev Cert.UDownIdeal.nD,
      r.2.mem ((c.tc : Thread Cert.UDownIdeal.nD Cert.UDownIdeal.τ).loc Cert.UDownIdeal.main_arg0) = m ((c.tc : Thread Cert.UDownIdeal.nD Cert.UDownIdeal.τ).loc Cert.UDownIdeal.main_arg0)
      ∧ r.2.mem ((c.tc : Thread Cert.UDownIdeal.nD Cert.UDownIdeal.τ).loc Cert.UDownIdeal.main_arg1) = m ((c.tc : Thread Cert.UDownIdeal.nD Cert.UDownIdeal.τ).loc Cert.UDownIdeal.main_arg1)
      ∧ r.2.mem ((c.tc : Thread Cert.UDownIdeal.nD Cert.UDownIdeal.τ).loc Cert.UDownIdeal.main_arg2) = m ((c.tc : Thread Cert.UDownIdeal.nD Cert.UDownIdeal.τ).loc Cert.UDownIdeal.main_arg2)
      ∧ r.2.mem ((c.tc : Thread Cert.UDownIdeal.nD Cert.UDownIdeal.τ).loc Cert.UDownIdeal.main_arg3) = m ((c.tc : Thread Cert.UDownIdeal.nD Cert.UDownIdeal.τ).loc Cert.UDownIdeal.main_arg3)
      ∧ r.2.mem ((c.tc : Thread Cert.UDownIdeal.nD Cert.UDownIdeal.τ).loc Cert.UDownIdeal.main_arg4) = m ((c.tc : Thread Cert.UDownIdeal.nD Cert.UDownIdeal.τ).loc Cert.UDownIdeal.main_arg4)
      ∧ r.2.mem ((c.tc : Thread Cert.UDownIdeal.nD Cert.UDownIdeal.τ).loc Cert.UDownIdeal.main_arg5) = m ((c.tc : Thread Cert.UDownIdeal.nD Cert.UDownIdeal.τ).loc Cert.UDownIdeal.main_arg5)
      ∧ r.2.mem ((c.tc : Thread Cert.UDownIdeal.nD Cert.UDownIdeal.τ).loc Cert.UDownIdeal.main_arg6) = m ((c.tc : Thread Cert.UDownIdeal.nD Cert.UDownIdeal.τ).loc Cert.UDownIdeal.main_arg6))
      ∧ r.2.sem = fun _ => 0)

def quiescent_UDownRefIdeal [hUDownRefIdeal : Cert.UDownRefIdeal.Facts] : Prop :=
  ∀ (m : (ℓ : Loc Cert.UDownRefIdeal.nD Cert.UDownRefIdeal.τ Cert.UDownRefIdeal.sig) → Buf (Elt Ideal) ℓ) (g : Dev Cert.UDownRefIdeal.nD → PrngReg), Pre_UDownRefIdeal m →
    θ_run (Cert.UDownRefIdeal.defs (F := Ideal)) (onTc (τ := Cert.UDownRefIdeal.τ) (Cert.UDownRefIdeal.main (F := Ideal))) ⟨m, fun _ => 0, g⟩ (fun r => (∀ c : Dev Cert.UDownRefIdeal.nD,
      r.2.mem ((c.tc : Thread Cert.UDownRefIdeal.nD Cert.UDownRefIdeal.τ).loc Cert.UDownRefIdeal.main_arg0) = m ((c.tc : Thread Cert.UDownRefIdeal.nD Cert.UDownRefIdeal.τ).loc Cert.UDownRefIdeal.main_arg0)
      ∧ r.2.mem ((c.tc : Thread Cert.UDownRefIdeal.nD Cert.UDownRefIdeal.τ).loc Cert.UDownRefIdeal.main_arg1) = m ((c.tc : Thread Cert.UDownRefIdeal.nD Cert.UDownRefIdeal.τ).loc Cert.UDownRefIdeal.main_arg1)
      ∧ r.2.mem ((c.tc : Thread Cert.UDownRefIdeal.nD Cert.UDownRefIdeal.τ).loc Cert.UDownRefIdeal.main_arg2) = m ((c.tc : Thread Cert.UDownRefIdeal.nD Cert.UDownRefIdeal.τ).loc Cert.UDownRefIdeal.main_arg2)
      ∧ r.2.mem ((c.tc : Thread Cert.UDownRefIdeal.nD Cert.UDownRefIdeal.τ).loc Cert.UDownRefIdeal.main_arg3) = m ((c.tc : Thread Cert.UDownRefIdeal.nD Cert.UDownRefIdeal.τ).loc Cert.UDownRefIdeal.main_arg3)
      ∧ r.2.mem ((c.tc : Thread Cert.UDownRefIdeal.nD Cert.UDownRefIdeal.τ).loc Cert.UDownRefIdeal.main_arg4) = m ((c.tc : Thread Cert.UDownRefIdeal.nD Cert.UDownRefIdeal.τ).loc Cert.UDownRefIdeal.main_arg4)
      ∧ r.2.mem ((c.tc : Thread Cert.UDownRefIdeal.nD Cert.UDownRefIdeal.τ).loc Cert.UDownRefIdeal.main_arg5) = m ((c.tc : Thread Cert.UDownRefIdeal.nD Cert.UDownRefIdeal.τ).loc Cert.UDownRefIdeal.main_arg5)
      ∧ r.2.mem ((c.tc : Thread Cert.UDownRefIdeal.nD Cert.UDownRefIdeal.τ).loc Cert.UDownRefIdeal.main_arg6) = m ((c.tc : Thread Cert.UDownRefIdeal.nD Cert.UDownRefIdeal.τ).loc Cert.UDownRefIdeal.main_arg6))
      ∧ r.2.sem = fun _ => 0)

def quiescent_UDownRefIdeal_pre_device [hUDownRefIdeal : Cert.UDownRefIdeal.Facts] [hPre_device : Cert.Pre_device.Facts] : Prop :=
  ∀ (m : (ℓ : Loc Cert.UDownRefIdeal.nD Cert.UDownRefIdeal.τ Cert.UDownRefIdeal.sig) → Buf (Elt Ideal) ℓ) (g : Dev Cert.UDownRefIdeal.nD → PrngReg), Pre_UDownRefIdeal_device m →
    θ_run (Cert.UDownRefIdeal.defs (F := Ideal)) (onTc (τ := Cert.UDownRefIdeal.τ) (Cert.UDownRefIdeal.main (F := Ideal))) ⟨m, fun _ => 0, g⟩ (fun r => (∀ c : Dev Cert.UDownRefIdeal.nD,
      r.2.mem ((c.tc : Thread Cert.UDownRefIdeal.nD Cert.UDownRefIdeal.τ).loc Cert.UDownRefIdeal.main_arg0) = m ((c.tc : Thread Cert.UDownRefIdeal.nD Cert.UDownRefIdeal.τ).loc Cert.UDownRefIdeal.main_arg0)
      ∧ r.2.mem ((c.tc : Thread Cert.UDownRefIdeal.nD Cert.UDownRefIdeal.τ).loc Cert.UDownRefIdeal.main_arg1) = m ((c.tc : Thread Cert.UDownRefIdeal.nD Cert.UDownRefIdeal.τ).loc Cert.UDownRefIdeal.main_arg1)
      ∧ r.2.mem ((c.tc : Thread Cert.UDownRefIdeal.nD Cert.UDownRefIdeal.τ).loc Cert.UDownRefIdeal.main_arg2) = m ((c.tc : Thread Cert.UDownRefIdeal.nD Cert.UDownRefIdeal.τ).loc Cert.UDownRefIdeal.main_arg2)
      ∧ r.2.mem ((c.tc : Thread Cert.UDownRefIdeal.nD Cert.UDownRefIdeal.τ).loc Cert.UDownRefIdeal.main_arg3) = m ((c.tc : Thread Cert.UDownRefIdeal.nD Cert.UDownRefIdeal.τ).loc Cert.UDownRefIdeal.main_arg3)
      ∧ r.2.mem ((c.tc : Thread Cert.UDownRefIdeal.nD Cert.UDownRefIdeal.τ).loc Cert.UDownRefIdeal.main_arg4) = m ((c.tc : Thread Cert.UDownRefIdeal.nD Cert.UDownRefIdeal.τ).loc Cert.UDownRefIdeal.main_arg4)
      ∧ r.2.mem ((c.tc : Thread Cert.UDownRefIdeal.nD Cert.UDownRefIdeal.τ).loc Cert.UDownRefIdeal.main_arg5) = m ((c.tc : Thread Cert.UDownRefIdeal.nD Cert.UDownRefIdeal.τ).loc Cert.UDownRefIdeal.main_arg5)
      ∧ r.2.mem ((c.tc : Thread Cert.UDownRefIdeal.nD Cert.UDownRefIdeal.τ).loc Cert.UDownRefIdeal.main_arg6) = m ((c.tc : Thread Cert.UDownRefIdeal.nD Cert.UDownRefIdeal.τ).loc Cert.UDownRefIdeal.main_arg6))
      ∧ r.2.sem = fun _ => 0)

def quiescent_UGu [hUGu : Cert.UGu.Facts] [hPre_device_gu : Cert.Pre_device_gu.Facts] : Prop :=
  ∀ (m : (ℓ : Loc Cert.UGu.nD Cert.UGu.τ Cert.UGu.sig) → Buf (Elt Bits) ℓ) (g : Dev Cert.UGu.nD → PrngReg), Pre_UGu m →
    θ_run (Cert.UGu.defs (F := Bits)) (onTc (τ := Cert.UGu.τ) (Cert.UGu.main (F := Bits))) ⟨m, fun _ => 0, g⟩ (fun r => (∀ c : Dev Cert.UGu.nD,
      r.2.mem ((c.tc : Thread Cert.UGu.nD Cert.UGu.τ).loc Cert.UGu.main_arg0) = m ((c.tc : Thread Cert.UGu.nD Cert.UGu.τ).loc Cert.UGu.main_arg0)
      ∧ r.2.mem ((c.tc : Thread Cert.UGu.nD Cert.UGu.τ).loc Cert.UGu.main_arg1) = m ((c.tc : Thread Cert.UGu.nD Cert.UGu.τ).loc Cert.UGu.main_arg1)
      ∧ r.2.mem ((c.tc : Thread Cert.UGu.nD Cert.UGu.τ).loc Cert.UGu.main_arg2) = m ((c.tc : Thread Cert.UGu.nD Cert.UGu.τ).loc Cert.UGu.main_arg2)
      ∧ r.2.mem ((c.tc : Thread Cert.UGu.nD Cert.UGu.τ).loc Cert.UGu.main_arg3) = m ((c.tc : Thread Cert.UGu.nD Cert.UGu.τ).loc Cert.UGu.main_arg3)
      ∧ r.2.mem ((c.tc : Thread Cert.UGu.nD Cert.UGu.τ).loc Cert.UGu.main_arg4) = m ((c.tc : Thread Cert.UGu.nD Cert.UGu.τ).loc Cert.UGu.main_arg4)
      ∧ r.2.mem ((c.tc : Thread Cert.UGu.nD Cert.UGu.τ).loc Cert.UGu.main_arg5) = m ((c.tc : Thread Cert.UGu.nD Cert.UGu.τ).loc Cert.UGu.main_arg5)
      ∧ r.2.mem ((c.tc : Thread Cert.UGu.nD Cert.UGu.τ).loc Cert.UGu.main_arg6) = m ((c.tc : Thread Cert.UGu.nD Cert.UGu.τ).loc Cert.UGu.main_arg6))
      ∧ r.2.sem = fun _ => 0)

def quiescent_UGuIdeal [hUGuIdeal : Cert.UGuIdeal.Facts] [hPre_device_gu : Cert.Pre_device_gu.Facts] : Prop :=
  ∀ (m : (ℓ : Loc Cert.UGuIdeal.nD Cert.UGuIdeal.τ Cert.UGuIdeal.sig) → Buf (Elt Ideal) ℓ) (g : Dev Cert.UGuIdeal.nD → PrngReg), Pre_UGuIdeal m →
    θ_run (Cert.UGuIdeal.defs (F := Ideal)) (onTc (τ := Cert.UGuIdeal.τ) (Cert.UGuIdeal.main (F := Ideal))) ⟨m, fun _ => 0, g⟩ (fun r => (∀ c : Dev Cert.UGuIdeal.nD,
      r.2.mem ((c.tc : Thread Cert.UGuIdeal.nD Cert.UGuIdeal.τ).loc Cert.UGuIdeal.main_arg0) = m ((c.tc : Thread Cert.UGuIdeal.nD Cert.UGuIdeal.τ).loc Cert.UGuIdeal.main_arg0)
      ∧ r.2.mem ((c.tc : Thread Cert.UGuIdeal.nD Cert.UGuIdeal.τ).loc Cert.UGuIdeal.main_arg1) = m ((c.tc : Thread Cert.UGuIdeal.nD Cert.UGuIdeal.τ).loc Cert.UGuIdeal.main_arg1)
      ∧ r.2.mem ((c.tc : Thread Cert.UGuIdeal.nD Cert.UGuIdeal.τ).loc Cert.UGuIdeal.main_arg2) = m ((c.tc : Thread Cert.UGuIdeal.nD Cert.UGuIdeal.τ).loc Cert.UGuIdeal.main_arg2)
      ∧ r.2.mem ((c.tc : Thread Cert.UGuIdeal.nD Cert.UGuIdeal.τ).loc Cert.UGuIdeal.main_arg3) = m ((c.tc : Thread Cert.UGuIdeal.nD Cert.UGuIdeal.τ).loc Cert.UGuIdeal.main_arg3)
      ∧ r.2.mem ((c.tc : Thread Cert.UGuIdeal.nD Cert.UGuIdeal.τ).loc Cert.UGuIdeal.main_arg4) = m ((c.tc : Thread Cert.UGuIdeal.nD Cert.UGuIdeal.τ).loc Cert.UGuIdeal.main_arg4)
      ∧ r.2.mem ((c.tc : Thread Cert.UGuIdeal.nD Cert.UGuIdeal.τ).loc Cert.UGuIdeal.main_arg5) = m ((c.tc : Thread Cert.UGuIdeal.nD Cert.UGuIdeal.τ).loc Cert.UGuIdeal.main_arg5)
      ∧ r.2.mem ((c.tc : Thread Cert.UGuIdeal.nD Cert.UGuIdeal.τ).loc Cert.UGuIdeal.main_arg6) = m ((c.tc : Thread Cert.UGuIdeal.nD Cert.UGuIdeal.τ).loc Cert.UGuIdeal.main_arg6))
      ∧ r.2.sem = fun _ => 0)

def quiescent_UGuRefIdeal [hUGuRefIdeal : Cert.UGuRefIdeal.Facts] : Prop :=
  ∀ (m : (ℓ : Loc Cert.UGuRefIdeal.nD Cert.UGuRefIdeal.τ Cert.UGuRefIdeal.sig) → Buf (Elt Ideal) ℓ) (g : Dev Cert.UGuRefIdeal.nD → PrngReg), Pre_UGuRefIdeal m →
    θ_run (Cert.UGuRefIdeal.defs (F := Ideal)) (onTc (τ := Cert.UGuRefIdeal.τ) (Cert.UGuRefIdeal.main (F := Ideal))) ⟨m, fun _ => 0, g⟩ (fun r => (∀ c : Dev Cert.UGuRefIdeal.nD,
      r.2.mem ((c.tc : Thread Cert.UGuRefIdeal.nD Cert.UGuRefIdeal.τ).loc Cert.UGuRefIdeal.main_arg0) = m ((c.tc : Thread Cert.UGuRefIdeal.nD Cert.UGuRefIdeal.τ).loc Cert.UGuRefIdeal.main_arg0)
      ∧ r.2.mem ((c.tc : Thread Cert.UGuRefIdeal.nD Cert.UGuRefIdeal.τ).loc Cert.UGuRefIdeal.main_arg1) = m ((c.tc : Thread Cert.UGuRefIdeal.nD Cert.UGuRefIdeal.τ).loc Cert.UGuRefIdeal.main_arg1)
      ∧ r.2.mem ((c.tc : Thread Cert.UGuRefIdeal.nD Cert.UGuRefIdeal.τ).loc Cert.UGuRefIdeal.main_arg2) = m ((c.tc : Thread Cert.UGuRefIdeal.nD Cert.UGuRefIdeal.τ).loc Cert.UGuRefIdeal.main_arg2)
      ∧ r.2.mem ((c.tc : Thread Cert.UGuRefIdeal.nD Cert.UGuRefIdeal.τ).loc Cert.UGuRefIdeal.main_arg3) = m ((c.tc : Thread Cert.UGuRefIdeal.nD Cert.UGuRefIdeal.τ).loc Cert.UGuRefIdeal.main_arg3)
      ∧ r.2.mem ((c.tc : Thread Cert.UGuRefIdeal.nD Cert.UGuRefIdeal.τ).loc Cert.UGuRefIdeal.main_arg4) = m ((c.tc : Thread Cert.UGuRefIdeal.nD Cert.UGuRefIdeal.τ).loc Cert.UGuRefIdeal.main_arg4)
      ∧ r.2.mem ((c.tc : Thread Cert.UGuRefIdeal.nD Cert.UGuRefIdeal.τ).loc Cert.UGuRefIdeal.main_arg5) = m ((c.tc : Thread Cert.UGuRefIdeal.nD Cert.UGuRefIdeal.τ).loc Cert.UGuRefIdeal.main_arg5)
      ∧ r.2.mem ((c.tc : Thread Cert.UGuRefIdeal.nD Cert.UGuRefIdeal.τ).loc Cert.UGuRefIdeal.main_arg6) = m ((c.tc : Thread Cert.UGuRefIdeal.nD Cert.UGuRefIdeal.τ).loc Cert.UGuRefIdeal.main_arg6))
      ∧ r.2.sem = fun _ => 0)

def quiescent_UGuRefIdeal_pre_device_gu [hUGuRefIdeal : Cert.UGuRefIdeal.Facts] [hPre_device_gu : Cert.Pre_device_gu.Facts] : Prop :=
  ∀ (m : (ℓ : Loc Cert.UGuRefIdeal.nD Cert.UGuRefIdeal.τ Cert.UGuRefIdeal.sig) → Buf (Elt Ideal) ℓ) (g : Dev Cert.UGuRefIdeal.nD → PrngReg), Pre_UGuRefIdeal_device_gu m →
    θ_run (Cert.UGuRefIdeal.defs (F := Ideal)) (onTc (τ := Cert.UGuRefIdeal.τ) (Cert.UGuRefIdeal.main (F := Ideal))) ⟨m, fun _ => 0, g⟩ (fun r => (∀ c : Dev Cert.UGuRefIdeal.nD,
      r.2.mem ((c.tc : Thread Cert.UGuRefIdeal.nD Cert.UGuRefIdeal.τ).loc Cert.UGuRefIdeal.main_arg0) = m ((c.tc : Thread Cert.UGuRefIdeal.nD Cert.UGuRefIdeal.τ).loc Cert.UGuRefIdeal.main_arg0)
      ∧ r.2.mem ((c.tc : Thread Cert.UGuRefIdeal.nD Cert.UGuRefIdeal.τ).loc Cert.UGuRefIdeal.main_arg1) = m ((c.tc : Thread Cert.UGuRefIdeal.nD Cert.UGuRefIdeal.τ).loc Cert.UGuRefIdeal.main_arg1)
      ∧ r.2.mem ((c.tc : Thread Cert.UGuRefIdeal.nD Cert.UGuRefIdeal.τ).loc Cert.UGuRefIdeal.main_arg2) = m ((c.tc : Thread Cert.UGuRefIdeal.nD Cert.UGuRefIdeal.τ).loc Cert.UGuRefIdeal.main_arg2)
      ∧ r.2.mem ((c.tc : Thread Cert.UGuRefIdeal.nD Cert.UGuRefIdeal.τ).loc Cert.UGuRefIdeal.main_arg3) = m ((c.tc : Thread Cert.UGuRefIdeal.nD Cert.UGuRefIdeal.τ).loc Cert.UGuRefIdeal.main_arg3)
      ∧ r.2.mem ((c.tc : Thread Cert.UGuRefIdeal.nD Cert.UGuRefIdeal.τ).loc Cert.UGuRefIdeal.main_arg4) = m ((c.tc : Thread Cert.UGuRefIdeal.nD Cert.UGuRefIdeal.τ).loc Cert.UGuRefIdeal.main_arg4)
      ∧ r.2.mem ((c.tc : Thread Cert.UGuRefIdeal.nD Cert.UGuRefIdeal.τ).loc Cert.UGuRefIdeal.main_arg5) = m ((c.tc : Thread Cert.UGuRefIdeal.nD Cert.UGuRefIdeal.τ).loc Cert.UGuRefIdeal.main_arg5)
      ∧ r.2.mem ((c.tc : Thread Cert.UGuRefIdeal.nD Cert.UGuRefIdeal.τ).loc Cert.UGuRefIdeal.main_arg6) = m ((c.tc : Thread Cert.UGuRefIdeal.nD Cert.UGuRefIdeal.τ).loc Cert.UGuRefIdeal.main_arg6))
      ∧ r.2.sem = fun _ => 0)

def quiescent_UIn [hUIn : Cert.UIn.Facts] [hPre_device_in : Cert.Pre_device_in.Facts] : Prop :=
  ∀ (m : (ℓ : Loc Cert.UIn.nD Cert.UIn.τ Cert.UIn.sig) → Buf (Elt Bits) ℓ) (g : Dev Cert.UIn.nD → PrngReg), Pre_UIn m →
    θ_run (Cert.UIn.defs (F := Bits)) (onTc (τ := Cert.UIn.τ) (Cert.UIn.main (F := Bits))) ⟨m, fun _ => 0, g⟩ (fun r => (∀ c : Dev Cert.UIn.nD,
      r.2.mem ((c.tc : Thread Cert.UIn.nD Cert.UIn.τ).loc Cert.UIn.main_arg0) = m ((c.tc : Thread Cert.UIn.nD Cert.UIn.τ).loc Cert.UIn.main_arg0)
      ∧ r.2.mem ((c.tc : Thread Cert.UIn.nD Cert.UIn.τ).loc Cert.UIn.main_arg1) = m ((c.tc : Thread Cert.UIn.nD Cert.UIn.τ).loc Cert.UIn.main_arg1)
      ∧ r.2.mem ((c.tc : Thread Cert.UIn.nD Cert.UIn.τ).loc Cert.UIn.main_arg2) = m ((c.tc : Thread Cert.UIn.nD Cert.UIn.τ).loc Cert.UIn.main_arg2)
      ∧ r.2.mem ((c.tc : Thread Cert.UIn.nD Cert.UIn.τ).loc Cert.UIn.main_arg3) = m ((c.tc : Thread Cert.UIn.nD Cert.UIn.τ).loc Cert.UIn.main_arg3)
      ∧ r.2.mem ((c.tc : Thread Cert.UIn.nD Cert.UIn.τ).loc Cert.UIn.main_arg4) = m ((c.tc : Thread Cert.UIn.nD Cert.UIn.τ).loc Cert.UIn.main_arg4)
      ∧ r.2.mem ((c.tc : Thread Cert.UIn.nD Cert.UIn.τ).loc Cert.UIn.main_arg5) = m ((c.tc : Thread Cert.UIn.nD Cert.UIn.τ).loc Cert.UIn.main_arg5)
      ∧ r.2.mem ((c.tc : Thread Cert.UIn.nD Cert.UIn.τ).loc Cert.UIn.main_arg6) = m ((c.tc : Thread Cert.UIn.nD Cert.UIn.τ).loc Cert.UIn.main_arg6))
      ∧ r.2.sem = fun _ => 0)

def quiescent_UInIdeal [hUInIdeal : Cert.UInIdeal.Facts] [hPre_device_in : Cert.Pre_device_in.Facts] : Prop :=
  ∀ (m : (ℓ : Loc Cert.UInIdeal.nD Cert.UInIdeal.τ Cert.UInIdeal.sig) → Buf (Elt Ideal) ℓ) (g : Dev Cert.UInIdeal.nD → PrngReg), Pre_UInIdeal m →
    θ_run (Cert.UInIdeal.defs (F := Ideal)) (onTc (τ := Cert.UInIdeal.τ) (Cert.UInIdeal.main (F := Ideal))) ⟨m, fun _ => 0, g⟩ (fun r => (∀ c : Dev Cert.UInIdeal.nD,
      r.2.mem ((c.tc : Thread Cert.UInIdeal.nD Cert.UInIdeal.τ).loc Cert.UInIdeal.main_arg0) = m ((c.tc : Thread Cert.UInIdeal.nD Cert.UInIdeal.τ).loc Cert.UInIdeal.main_arg0)
      ∧ r.2.mem ((c.tc : Thread Cert.UInIdeal.nD Cert.UInIdeal.τ).loc Cert.UInIdeal.main_arg1) = m ((c.tc : Thread Cert.UInIdeal.nD Cert.UInIdeal.τ).loc Cert.UInIdeal.main_arg1)
      ∧ r.2.mem ((c.tc : Thread Cert.UInIdeal.nD Cert.UInIdeal.τ).loc Cert.UInIdeal.main_arg2) = m ((c.tc : Thread Cert.UInIdeal.nD Cert.UInIdeal.τ).loc Cert.UInIdeal.main_arg2)
      ∧ r.2.mem ((c.tc : Thread Cert.UInIdeal.nD Cert.UInIdeal.τ).loc Cert.UInIdeal.main_arg3) = m ((c.tc : Thread Cert.UInIdeal.nD Cert.UInIdeal.τ).loc Cert.UInIdeal.main_arg3)
      ∧ r.2.mem ((c.tc : Thread Cert.UInIdeal.nD Cert.UInIdeal.τ).loc Cert.UInIdeal.main_arg4) = m ((c.tc : Thread Cert.UInIdeal.nD Cert.UInIdeal.τ).loc Cert.UInIdeal.main_arg4)
      ∧ r.2.mem ((c.tc : Thread Cert.UInIdeal.nD Cert.UInIdeal.τ).loc Cert.UInIdeal.main_arg5) = m ((c.tc : Thread Cert.UInIdeal.nD Cert.UInIdeal.τ).loc Cert.UInIdeal.main_arg5)
      ∧ r.2.mem ((c.tc : Thread Cert.UInIdeal.nD Cert.UInIdeal.τ).loc Cert.UInIdeal.main_arg6) = m ((c.tc : Thread Cert.UInIdeal.nD Cert.UInIdeal.τ).loc Cert.UInIdeal.main_arg6))
      ∧ r.2.sem = fun _ => 0)

def quiescent_UInRefIdeal [hUInRefIdeal : Cert.UInRefIdeal.Facts] : Prop :=
  ∀ (m : (ℓ : Loc Cert.UInRefIdeal.nD Cert.UInRefIdeal.τ Cert.UInRefIdeal.sig) → Buf (Elt Ideal) ℓ) (g : Dev Cert.UInRefIdeal.nD → PrngReg), Pre_UInRefIdeal m →
    θ_run (Cert.UInRefIdeal.defs (F := Ideal)) (onTc (τ := Cert.UInRefIdeal.τ) (Cert.UInRefIdeal.main (F := Ideal))) ⟨m, fun _ => 0, g⟩ (fun r => (∀ c : Dev Cert.UInRefIdeal.nD,
      r.2.mem ((c.tc : Thread Cert.UInRefIdeal.nD Cert.UInRefIdeal.τ).loc Cert.UInRefIdeal.main_arg0) = m ((c.tc : Thread Cert.UInRefIdeal.nD Cert.UInRefIdeal.τ).loc Cert.UInRefIdeal.main_arg0)
      ∧ r.2.mem ((c.tc : Thread Cert.UInRefIdeal.nD Cert.UInRefIdeal.τ).loc Cert.UInRefIdeal.main_arg1) = m ((c.tc : Thread Cert.UInRefIdeal.nD Cert.UInRefIdeal.τ).loc Cert.UInRefIdeal.main_arg1)
      ∧ r.2.mem ((c.tc : Thread Cert.UInRefIdeal.nD Cert.UInRefIdeal.τ).loc Cert.UInRefIdeal.main_arg2) = m ((c.tc : Thread Cert.UInRefIdeal.nD Cert.UInRefIdeal.τ).loc Cert.UInRefIdeal.main_arg2)
      ∧ r.2.mem ((c.tc : Thread Cert.UInRefIdeal.nD Cert.UInRefIdeal.τ).loc Cert.UInRefIdeal.main_arg3) = m ((c.tc : Thread Cert.UInRefIdeal.nD Cert.UInRefIdeal.τ).loc Cert.UInRefIdeal.main_arg3)
      ∧ r.2.mem ((c.tc : Thread Cert.UInRefIdeal.nD Cert.UInRefIdeal.τ).loc Cert.UInRefIdeal.main_arg4) = m ((c.tc : Thread Cert.UInRefIdeal.nD Cert.UInRefIdeal.τ).loc Cert.UInRefIdeal.main_arg4)
      ∧ r.2.mem ((c.tc : Thread Cert.UInRefIdeal.nD Cert.UInRefIdeal.τ).loc Cert.UInRefIdeal.main_arg5) = m ((c.tc : Thread Cert.UInRefIdeal.nD Cert.UInRefIdeal.τ).loc Cert.UInRefIdeal.main_arg5)
      ∧ r.2.mem ((c.tc : Thread Cert.UInRefIdeal.nD Cert.UInRefIdeal.τ).loc Cert.UInRefIdeal.main_arg6) = m ((c.tc : Thread Cert.UInRefIdeal.nD Cert.UInRefIdeal.τ).loc Cert.UInRefIdeal.main_arg6))
      ∧ r.2.sem = fun _ => 0)

def quiescent_UInRefIdeal_pre_device_in [hUInRefIdeal : Cert.UInRefIdeal.Facts] [hPre_device_in : Cert.Pre_device_in.Facts] : Prop :=
  ∀ (m : (ℓ : Loc Cert.UInRefIdeal.nD Cert.UInRefIdeal.τ Cert.UInRefIdeal.sig) → Buf (Elt Ideal) ℓ) (g : Dev Cert.UInRefIdeal.nD → PrngReg), Pre_UInRefIdeal_device_in m →
    θ_run (Cert.UInRefIdeal.defs (F := Ideal)) (onTc (τ := Cert.UInRefIdeal.τ) (Cert.UInRefIdeal.main (F := Ideal))) ⟨m, fun _ => 0, g⟩ (fun r => (∀ c : Dev Cert.UInRefIdeal.nD,
      r.2.mem ((c.tc : Thread Cert.UInRefIdeal.nD Cert.UInRefIdeal.τ).loc Cert.UInRefIdeal.main_arg0) = m ((c.tc : Thread Cert.UInRefIdeal.nD Cert.UInRefIdeal.τ).loc Cert.UInRefIdeal.main_arg0)
      ∧ r.2.mem ((c.tc : Thread Cert.UInRefIdeal.nD Cert.UInRefIdeal.τ).loc Cert.UInRefIdeal.main_arg1) = m ((c.tc : Thread Cert.UInRefIdeal.nD Cert.UInRefIdeal.τ).loc Cert.UInRefIdeal.main_arg1)
      ∧ r.2.mem ((c.tc : Thread Cert.UInRefIdeal.nD Cert.UInRefIdeal.τ).loc Cert.UInRefIdeal.main_arg2) = m ((c.tc : Thread Cert.UInRefIdeal.nD Cert.UInRefIdeal.τ).loc Cert.UInRefIdeal.main_arg2)
      ∧ r.2.mem ((c.tc : Thread Cert.UInRefIdeal.nD Cert.UInRefIdeal.τ).loc Cert.UInRefIdeal.main_arg3) = m ((c.tc : Thread Cert.UInRefIdeal.nD Cert.UInRefIdeal.τ).loc Cert.UInRefIdeal.main_arg3)
      ∧ r.2.mem ((c.tc : Thread Cert.UInRefIdeal.nD Cert.UInRefIdeal.τ).loc Cert.UInRefIdeal.main_arg4) = m ((c.tc : Thread Cert.UInRefIdeal.nD Cert.UInRefIdeal.τ).loc Cert.UInRefIdeal.main_arg4)
      ∧ r.2.mem ((c.tc : Thread Cert.UInRefIdeal.nD Cert.UInRefIdeal.τ).loc Cert.UInRefIdeal.main_arg5) = m ((c.tc : Thread Cert.UInRefIdeal.nD Cert.UInRefIdeal.τ).loc Cert.UInRefIdeal.main_arg5)
      ∧ r.2.mem ((c.tc : Thread Cert.UInRefIdeal.nD Cert.UInRefIdeal.τ).loc Cert.UInRefIdeal.main_arg6) = m ((c.tc : Thread Cert.UInRefIdeal.nD Cert.UInRefIdeal.τ).loc Cert.UInRefIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)) (v3 : (c : Dev Cert.KernelIdeal.nD) → Buf (Elt Ideal) ((c.tc : Thread Cert.KernelIdeal.nD Cert.KernelIdeal.τ).loc Cert.KernelIdeal.main_v22_3)) (v4 : (c : Dev Cert.KernelIdeal.nD) → Buf (Elt Ideal) ((c.tc : Thread Cert.KernelIdeal.nD Cert.KernelIdeal.τ).loc Cert.KernelIdeal.main_v22_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_v22_3) = v3 c
          ∧ r.2.mem ((c.tc : Thread Cert.KernelIdeal.nD Cert.KernelIdeal.τ).loc Cert.KernelIdeal.main_v22_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_v73) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Second_SecondIdeal : Prop :=
  True

def algebraic_SecondIdeal_SecondRefIdeal_pre_finite [hSecondIdeal : Cert.SecondIdeal.Facts] [hSecondRefIdeal : Cert.SecondRefIdeal.Facts] [hPre_finite : Cert.Pre_finite.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.SecondRefIdeal.nD Cert.SecondRefIdeal.τ Cert.SecondRefIdeal.sig) → Buf (Elt Ideal) ℓ) (g' : Dev Cert.SecondRefIdeal.nD → PrngReg), Pre_SecondIdeal_finite m →
    (∀ c : Dev Cert.SecondIdeal.nD,
      m' ((c.tc : Thread Cert.SecondRefIdeal.nD Cert.SecondRefIdeal.τ).loc Cert.SecondRefIdeal.main_arg0) = m ((c.tc : Thread Cert.SecondIdeal.nD Cert.SecondIdeal.τ).loc Cert.SecondIdeal.main_arg0)
      ∧ m' ((c.tc : Thread Cert.SecondRefIdeal.nD Cert.SecondRefIdeal.τ).loc Cert.SecondRefIdeal.main_arg1) = m ((c.tc : Thread Cert.SecondIdeal.nD Cert.SecondIdeal.τ).loc Cert.SecondIdeal.main_arg1)
      ∧ m' ((c.tc : Thread Cert.SecondRefIdeal.nD Cert.SecondRefIdeal.τ).loc Cert.SecondRefIdeal.main_arg2) = m ((c.tc : Thread Cert.SecondIdeal.nD Cert.SecondIdeal.τ).loc Cert.SecondIdeal.main_arg2)
      ∧ m' ((c.tc : Thread Cert.SecondRefIdeal.nD Cert.SecondRefIdeal.τ).loc Cert.SecondRefIdeal.main_arg3) = m ((c.tc : Thread Cert.SecondIdeal.nD Cert.SecondIdeal.τ).loc Cert.SecondIdeal.main_arg3)
      ∧ m' ((c.tc : Thread Cert.SecondRefIdeal.nD Cert.SecondRefIdeal.τ).loc Cert.SecondRefIdeal.main_arg4) = m ((c.tc : Thread Cert.SecondIdeal.nD Cert.SecondIdeal.τ).loc Cert.SecondIdeal.main_arg4)
      ∧ m' ((c.tc : Thread Cert.SecondRefIdeal.nD Cert.SecondRefIdeal.τ).loc Cert.SecondRefIdeal.main_arg5) = m ((c.tc : Thread Cert.SecondIdeal.nD Cert.SecondIdeal.τ).loc Cert.SecondIdeal.main_arg5)
      ∧ m' ((c.tc : Thread Cert.SecondRefIdeal.nD Cert.SecondRefIdeal.τ).loc Cert.SecondRefIdeal.main_arg6) = m ((c.tc : Thread Cert.SecondIdeal.nD Cert.SecondIdeal.τ).loc Cert.SecondIdeal.main_arg6)) →
    ∃ (v0 : (c : Dev Cert.SecondIdeal.nD) → Buf (Elt Ideal) ((c.tc : Thread Cert.SecondIdeal.nD Cert.SecondIdeal.τ).loc Cert.SecondIdeal.main_v22_0)) (v1 : (c : Dev Cert.SecondIdeal.nD) → Buf (Elt Ideal) ((c.tc : Thread Cert.SecondIdeal.nD Cert.SecondIdeal.τ).loc Cert.SecondIdeal.main_v22_1)) (v2 : (c : Dev Cert.SecondIdeal.nD) → Buf (Elt Ideal) ((c.tc : Thread Cert.SecondIdeal.nD Cert.SecondIdeal.τ).loc Cert.SecondIdeal.main_v22_2)) (v3 : (c : Dev Cert.SecondIdeal.nD) → Buf (Elt Ideal) ((c.tc : Thread Cert.SecondIdeal.nD Cert.SecondIdeal.τ).loc Cert.SecondIdeal.main_v22_3)) (v4 : (c : Dev Cert.SecondIdeal.nD) → Buf (Elt Ideal) ((c.tc : Thread Cert.SecondIdeal.nD Cert.SecondIdeal.τ).loc Cert.SecondIdeal.main_v22_4)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v22_0) = v0 c
          ∧ r.2.mem ((c.tc : Thread Cert.SecondIdeal.nD Cert.SecondIdeal.τ).loc Cert.SecondIdeal.main_v22_1) = v1 c
          ∧ r.2.mem ((c.tc : Thread Cert.SecondIdeal.nD Cert.SecondIdeal.τ).loc Cert.SecondIdeal.main_v22_2) = v2 c
          ∧ r.2.mem ((c.tc : Thread Cert.SecondIdeal.nD Cert.SecondIdeal.τ).loc Cert.SecondIdeal.main_v22_3) = v3 c
          ∧ r.2.mem ((c.tc : Thread Cert.SecondIdeal.nD Cert.SecondIdeal.τ).loc Cert.SecondIdeal.main_v22_4) = v4 c
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
          ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
          ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
          ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
          ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
          ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6))
      ∧ θ_run (Cert.SecondRefIdeal.defs (F := Ideal)) (onTc (τ := Cert.SecondRefIdeal.τ) (Cert.SecondRefIdeal.main (F := Ideal))) ⟨m', fun _ => 0, g'⟩ (fun r => ∀ c : Dev Cert.SecondRefIdeal.nD,
          r.2.mem ((c.tc : Thread Cert.SecondRefIdeal.nD Cert.SecondRefIdeal.τ).loc Cert.SecondRefIdeal.main_v62) = v0 c
          ∧ r.2.mem ((c.tc : Thread Cert.SecondRefIdeal.nD Cert.SecondRefIdeal.τ).loc Cert.SecondRefIdeal.main_v66) = v1 c
          ∧ r.2.mem ((c.tc : Thread Cert.SecondRefIdeal.nD Cert.SecondRefIdeal.τ).loc Cert.SecondRefIdeal.main_v67) = v2 c
          ∧ r.2.mem ((c.tc : Thread Cert.SecondRefIdeal.nD Cert.SecondRefIdeal.τ).loc Cert.SecondRefIdeal.main_v70) = v3 c
          ∧ r.2.mem ((c.tc : Thread Cert.SecondRefIdeal.nD Cert.SecondRefIdeal.τ).loc Cert.SecondRefIdeal.main_v74) = v4 c
          ∧ r.2.mem ((c.tc : Thread Cert.SecondRefIdeal.nD Cert.SecondRefIdeal.τ).loc Cert.SecondRefIdeal.main_arg0) = m' ((c.tc : Thread Cert.SecondRefIdeal.nD Cert.SecondRefIdeal.τ).loc Cert.SecondRefIdeal.main_arg0)
          ∧ r.2.mem ((c.tc : Thread Cert.SecondRefIdeal.nD Cert.SecondRefIdeal.τ).loc Cert.SecondRefIdeal.main_arg1) = m' ((c.tc : Thread Cert.SecondRefIdeal.nD Cert.SecondRefIdeal.τ).loc Cert.SecondRefIdeal.main_arg1)
          ∧ r.2.mem ((c.tc : Thread Cert.SecondRefIdeal.nD Cert.SecondRefIdeal.τ).loc Cert.SecondRefIdeal.main_arg2) = m' ((c.tc : Thread Cert.SecondRefIdeal.nD Cert.SecondRefIdeal.τ).loc Cert.SecondRefIdeal.main_arg2)
          ∧ r.2.mem ((c.tc : Thread Cert.SecondRefIdeal.nD Cert.SecondRefIdeal.τ).loc Cert.SecondRefIdeal.main_arg3) = m' ((c.tc : Thread Cert.SecondRefIdeal.nD Cert.SecondRefIdeal.τ).loc Cert.SecondRefIdeal.main_arg3)
          ∧ r.2.mem ((c.tc : Thread Cert.SecondRefIdeal.nD Cert.SecondRefIdeal.τ).loc Cert.SecondRefIdeal.main_arg4) = m' ((c.tc : Thread Cert.SecondRefIdeal.nD Cert.SecondRefIdeal.τ).loc Cert.SecondRefIdeal.main_arg4)
          ∧ r.2.mem ((c.tc : Thread Cert.SecondRefIdeal.nD Cert.SecondRefIdeal.τ).loc Cert.SecondRefIdeal.main_arg5) = m' ((c.tc : Thread Cert.SecondRefIdeal.nD Cert.SecondRefIdeal.τ).loc Cert.SecondRefIdeal.main_arg5)
          ∧ r.2.mem ((c.tc : Thread Cert.SecondRefIdeal.nD Cert.SecondRefIdeal.τ).loc Cert.SecondRefIdeal.main_arg6) = m' ((c.tc : Thread Cert.SecondRefIdeal.nD Cert.SecondRefIdeal.τ).loc Cert.SecondRefIdeal.main_arg6))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)) (v3 : (c : Dev Cert.LossIdeal.nD) → Buf (Elt Ideal) ((c.tc : Thread Cert.LossIdeal.nD Cert.LossIdeal.τ).loc Cert.LossIdeal.main_v3_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_v3_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v77) = v0 c
          ∧ r.2.mem ((c.tc : Thread Cert.LossRefIdeal.nD Cert.LossRefIdeal.τ).loc Cert.LossRefIdeal.main_v85) = v1 c
          ∧ r.2.mem ((c.tc : Thread Cert.LossRefIdeal.nD Cert.LossRefIdeal.τ).loc Cert.LossRefIdeal.main_v86) = v2 c
          ∧ r.2.mem ((c.tc : Thread Cert.LossRefIdeal.nD Cert.LossRefIdeal.τ).loc Cert.LossRefIdeal.main_v81) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_WGuA_WGuAIdeal : Prop :=
  True

def algebraic_WGuAIdeal_WGuARefIdeal [hWGuAIdeal : Cert.WGuAIdeal.Facts] [hWGuARefIdeal : Cert.WGuARefIdeal.Facts] : Prop :=
  ∀ (m : (ℓ : Loc Cert.WGuAIdeal.nD Cert.WGuAIdeal.τ Cert.WGuAIdeal.sig) → Buf (Elt Ideal) ℓ) (g : Dev Cert.WGuAIdeal.nD → PrngReg)
    (m' : (ℓ : Loc Cert.WGuARefIdeal.nD Cert.WGuARefIdeal.τ Cert.WGuARefIdeal.sig) → Buf (Elt Ideal) ℓ) (g' : Dev Cert.WGuARefIdeal.nD → PrngReg), Pre_WGuAIdeal m →
    (∀ c : Dev Cert.WGuAIdeal.nD,
      m' ((c.tc : Thread Cert.WGuARefIdeal.nD Cert.WGuARefIdeal.τ).loc Cert.WGuARefIdeal.main_arg0) = m ((c.tc : Thread Cert.WGuAIdeal.nD Cert.WGuAIdeal.τ).loc Cert.WGuAIdeal.main_arg0)
      ∧ m' ((c.tc : Thread Cert.WGuARefIdeal.nD Cert.WGuARefIdeal.τ).loc Cert.WGuARefIdeal.main_arg1) = m ((c.tc : Thread Cert.WGuAIdeal.nD Cert.WGuAIdeal.τ).loc Cert.WGuAIdeal.main_arg1)
      ∧ m' ((c.tc : Thread Cert.WGuARefIdeal.nD Cert.WGuARefIdeal.τ).loc Cert.WGuARefIdeal.main_arg2) = m ((c.tc : Thread Cert.WGuAIdeal.nD Cert.WGuAIdeal.τ).loc Cert.WGuAIdeal.main_arg2)
      ∧ m' ((c.tc : Thread Cert.WGuARefIdeal.nD Cert.WGuARefIdeal.τ).loc Cert.WGuARefIdeal.main_arg3) = m ((c.tc : Thread Cert.WGuAIdeal.nD Cert.WGuAIdeal.τ).loc Cert.WGuAIdeal.main_arg3)) →
    ∃ (v0 : (c : Dev Cert.WGuAIdeal.nD) → Buf (Elt Ideal) ((c.tc : Thread Cert.WGuAIdeal.nD Cert.WGuAIdeal.τ).loc Cert.WGuAIdeal.main_v14)),
      θ_run (Cert.WGuAIdeal.defs (F := Ideal)) (onTc (τ := Cert.WGuAIdeal.τ) (Cert.WGuAIdeal.main (F := Ideal))) ⟨m, fun _ => 0, g⟩ (fun r => ∀ c : Dev Cert.WGuAIdeal.nD,
          r.2.mem ((c.tc : Thread Cert.WGuAIdeal.nD Cert.WGuAIdeal.τ).loc Cert.WGuAIdeal.main_v14) = v0 c
          ∧ r.2.mem ((c.tc : Thread Cert.WGuAIdeal.nD Cert.WGuAIdeal.τ).loc Cert.WGuAIdeal.main_arg0) = m ((c.tc : Thread Cert.WGuAIdeal.nD Cert.WGuAIdeal.τ).loc Cert.WGuAIdeal.main_arg0)
          ∧ r.2.mem ((c.tc : Thread Cert.WGuAIdeal.nD Cert.WGuAIdeal.τ).loc Cert.WGuAIdeal.main_arg1) = m ((c.tc : Thread Cert.WGuAIdeal.nD Cert.WGuAIdeal.τ).loc Cert.WGuAIdeal.main_arg1)
          ∧ r.2.mem ((c.tc : Thread Cert.WGuAIdeal.nD Cert.WGuAIdeal.τ).loc Cert.WGuAIdeal.main_arg2) = m ((c.tc : Thread Cert.WGuAIdeal.nD Cert.WGuAIdeal.τ).loc Cert.WGuAIdeal.main_arg2)
          ∧ r.2.mem ((c.tc : Thread Cert.WGuAIdeal.nD Cert.WGuAIdeal.τ).loc Cert.WGuAIdeal.main_arg3) = m ((c.tc : Thread Cert.WGuAIdeal.nD Cert.WGuAIdeal.τ).loc Cert.WGuAIdeal.main_arg3))
      ∧ θ_run (Cert.WGuARefIdeal.defs (F := Ideal)) (onTc (τ := Cert.WGuARefIdeal.τ) (Cert.WGuARefIdeal.main (F := Ideal))) ⟨m', fun _ => 0, g'⟩ (fun r => ∀ c : Dev Cert.WGuARefIdeal.nD,
          r.2.mem ((c.tc : Thread Cert.WGuARefIdeal.nD Cert.WGuARefIdeal.τ).loc Cert.WGuARefIdeal.main_v23) = v0 c
          ∧ r.2.mem ((c.tc : Thread Cert.WGuARefIdeal.nD Cert.WGuARefIdeal.τ).loc Cert.WGuARefIdeal.main_arg0) = m' ((c.tc : Thread Cert.WGuARefIdeal.nD Cert.WGuARefIdeal.τ).loc Cert.WGuARefIdeal.main_arg0)
          ∧ r.2.mem ((c.tc : Thread Cert.WGuARefIdeal.nD Cert.WGuARefIdeal.τ).loc Cert.WGuARefIdeal.main_arg1) = m' ((c.tc : Thread Cert.WGuARefIdeal.nD Cert.WGuARefIdeal.τ).loc Cert.WGuARefIdeal.main_arg1)
          ∧ r.2.mem ((c.tc : Thread Cert.WGuARefIdeal.nD Cert.WGuARefIdeal.τ).loc Cert.WGuARefIdeal.main_arg2) = m' ((c.tc : Thread Cert.WGuARefIdeal.nD Cert.WGuARefIdeal.τ).loc Cert.WGuARefIdeal.main_arg2)
          ∧ r.2.mem ((c.tc : Thread Cert.WGuARefIdeal.nD Cert.WGuARefIdeal.τ).loc Cert.WGuARefIdeal.main_arg3) = m' ((c.tc : Thread Cert.WGuARefIdeal.nD Cert.WGuARefIdeal.τ).loc Cert.WGuARefIdeal.main_arg3))

def preserves_WGuB_WGuBIdeal : Prop :=
  True

def algebraic_WGuBIdeal_WGuBRefIdeal [hWGuBIdeal : Cert.WGuBIdeal.Facts] [hWGuBRefIdeal : Cert.WGuBRefIdeal.Facts] : Prop :=
  ∀ (m : (ℓ : Loc Cert.WGuBIdeal.nD Cert.WGuBIdeal.τ Cert.WGuBIdeal.sig) → Buf (Elt Ideal) ℓ) (g : Dev Cert.WGuBIdeal.nD → PrngReg)
    (m' : (ℓ : Loc Cert.WGuBRefIdeal.nD Cert.WGuBRefIdeal.τ Cert.WGuBRefIdeal.sig) → Buf (Elt Ideal) ℓ) (g' : Dev Cert.WGuBRefIdeal.nD → PrngReg), Pre_WGuBIdeal m →
    (∀ c : Dev Cert.WGuBIdeal.nD,
      m' ((c.tc : Thread Cert.WGuBRefIdeal.nD Cert.WGuBRefIdeal.τ).loc Cert.WGuBRefIdeal.main_arg0) = m ((c.tc : Thread Cert.WGuBIdeal.nD Cert.WGuBIdeal.τ).loc Cert.WGuBIdeal.main_arg0)
      ∧ m' ((c.tc : Thread Cert.WGuBRefIdeal.nD Cert.WGuBRefIdeal.τ).loc Cert.WGuBRefIdeal.main_arg1) = m ((c.tc : Thread Cert.WGuBIdeal.nD Cert.WGuBIdeal.τ).loc Cert.WGuBIdeal.main_arg1)
      ∧ m' ((c.tc : Thread Cert.WGuBRefIdeal.nD Cert.WGuBRefIdeal.τ).loc Cert.WGuBRefIdeal.main_arg2) = m ((c.tc : Thread Cert.WGuBIdeal.nD Cert.WGuBIdeal.τ).loc Cert.WGuBIdeal.main_arg2)) →
    ∃ (v0 : (c : Dev Cert.WGuBIdeal.nD) → Buf (Elt Ideal) ((c.tc : Thread Cert.WGuBIdeal.nD Cert.WGuBIdeal.τ).loc Cert.WGuBIdeal.main_v14)),
      θ_run (Cert.WGuBIdeal.defs (F := Ideal)) (onTc (τ := Cert.WGuBIdeal.τ) (Cert.WGuBIdeal.main (F := Ideal))) ⟨m, fun _ => 0, g⟩ (fun r => ∀ c : Dev Cert.WGuBIdeal.nD,
          r.2.mem ((c.tc : Thread Cert.WGuBIdeal.nD Cert.WGuBIdeal.τ).loc Cert.WGuBIdeal.main_v14) = v0 c
          ∧ r.2.mem ((c.tc : Thread Cert.WGuBIdeal.nD Cert.WGuBIdeal.τ).loc Cert.WGuBIdeal.main_arg0) = m ((c.tc : Thread Cert.WGuBIdeal.nD Cert.WGuBIdeal.τ).loc Cert.WGuBIdeal.main_arg0)
          ∧ r.2.mem ((c.tc : Thread Cert.WGuBIdeal.nD Cert.WGuBIdeal.τ).loc Cert.WGuBIdeal.main_arg1) = m ((c.tc : Thread Cert.WGuBIdeal.nD Cert.WGuBIdeal.τ).loc Cert.WGuBIdeal.main_arg1)
          ∧ r.2.mem ((c.tc : Thread Cert.WGuBIdeal.nD Cert.WGuBIdeal.τ).loc Cert.WGuBIdeal.main_arg2) = m ((c.tc : Thread Cert.WGuBIdeal.nD Cert.WGuBIdeal.τ).loc Cert.WGuBIdeal.main_arg2))
      ∧ θ_run (Cert.WGuBRefIdeal.defs (F := Ideal)) (onTc (τ := Cert.WGuBRefIdeal.τ) (Cert.WGuBRefIdeal.main (F := Ideal))) ⟨m', fun _ => 0, g'⟩ (fun r => ∀ c : Dev Cert.WGuBRefIdeal.nD,
          r.2.mem ((c.tc : Thread Cert.WGuBRefIdeal.nD Cert.WGuBRefIdeal.τ).loc Cert.WGuBRefIdeal.main_v23) = v0 c
          ∧ r.2.mem ((c.tc : Thread Cert.WGuBRefIdeal.nD Cert.WGuBRefIdeal.τ).loc Cert.WGuBRefIdeal.main_arg0) = m' ((c.tc : Thread Cert.WGuBRefIdeal.nD Cert.WGuBRefIdeal.τ).loc Cert.WGuBRefIdeal.main_arg0)
          ∧ r.2.mem ((c.tc : Thread Cert.WGuBRefIdeal.nD Cert.WGuBRefIdeal.τ).loc Cert.WGuBRefIdeal.main_arg1) = m' ((c.tc : Thread Cert.WGuBRefIdeal.nD Cert.WGuBRefIdeal.τ).loc Cert.WGuBRefIdeal.main_arg1)
          ∧ r.2.mem ((c.tc : Thread Cert.WGuBRefIdeal.nD Cert.WGuBRefIdeal.τ).loc Cert.WGuBRefIdeal.main_arg2) = m' ((c.tc : Thread Cert.WGuBRefIdeal.nD Cert.WGuBRefIdeal.τ).loc Cert.WGuBRefIdeal.main_arg2))

def preserves_WDown_WDownIdeal : Prop :=
  True

def algebraic_WDownIdeal_WDownRefIdeal [hWDownIdeal : Cert.WDownIdeal.Facts] [hWDownRefIdeal : Cert.WDownRefIdeal.Facts] : Prop :=
  ∀ (m : (ℓ : Loc Cert.WDownIdeal.nD Cert.WDownIdeal.τ Cert.WDownIdeal.sig) → Buf (Elt Ideal) ℓ) (g : Dev Cert.WDownIdeal.nD → PrngReg)
    (m' : (ℓ : Loc Cert.WDownRefIdeal.nD Cert.WDownRefIdeal.τ Cert.WDownRefIdeal.sig) → Buf (Elt Ideal) ℓ) (g' : Dev Cert.WDownRefIdeal.nD → PrngReg), Pre_WDownIdeal m →
    (∀ c : Dev Cert.WDownIdeal.nD,
      m' ((c.tc : Thread Cert.WDownRefIdeal.nD Cert.WDownRefIdeal.τ).loc Cert.WDownRefIdeal.main_arg0) = m ((c.tc : Thread Cert.WDownIdeal.nD Cert.WDownIdeal.τ).loc Cert.WDownIdeal.main_arg0)
      ∧ m' ((c.tc : Thread Cert.WDownRefIdeal.nD Cert.WDownRefIdeal.τ).loc Cert.WDownRefIdeal.main_arg1) = m ((c.tc : Thread Cert.WDownIdeal.nD Cert.WDownIdeal.τ).loc Cert.WDownIdeal.main_arg1)) →
    ∃ (v0 : (c : Dev Cert.WDownIdeal.nD) → Buf (Elt Ideal) ((c.tc : Thread Cert.WDownIdeal.nD Cert.WDownIdeal.τ).loc Cert.WDownIdeal.main_v2)),
      θ_run (Cert.WDownIdeal.defs (F := Ideal)) (onTc (τ := Cert.WDownIdeal.τ) (Cert.WDownIdeal.main (F := Ideal))) ⟨m, fun _ => 0, g⟩ (fun r => ∀ c : Dev Cert.WDownIdeal.nD,
          r.2.mem ((c.tc : Thread Cert.WDownIdeal.nD Cert.WDownIdeal.τ).loc Cert.WDownIdeal.main_v2) = v0 c
          ∧ r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
          ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ θ_run (Cert.WDownRefIdeal.defs (F := Ideal)) (onTc (τ := Cert.WDownRefIdeal.τ) (Cert.WDownRefIdeal.main (F := Ideal))) ⟨m', fun _ => 0, g'⟩ (fun r => ∀ c : Dev Cert.WDownRefIdeal.nD,
          r.2.mem ((c.tc : Thread Cert.WDownRefIdeal.nD Cert.WDownRefIdeal.τ).loc Cert.WDownRefIdeal.main_v5) = v0 c
          ∧ r.2.mem ((c.tc : Thread Cert.WDownRefIdeal.nD Cert.WDownRefIdeal.τ).loc Cert.WDownRefIdeal.main_arg0) = m' ((c.tc : Thread Cert.WDownRefIdeal.nD Cert.WDownRefIdeal.τ).loc Cert.WDownRefIdeal.main_arg0)
          ∧ r.2.mem ((c.tc : Thread Cert.WDownRefIdeal.nD Cert.WDownRefIdeal.τ).loc Cert.WDownRefIdeal.main_arg1) = m' ((c.tc : Thread Cert.WDownRefIdeal.nD Cert.WDownRefIdeal.τ).loc Cert.WDownRefIdeal.main_arg1))

def preserves_WIn_WInIdeal : Prop :=
  True

def algebraic_WInIdeal_WInRefIdeal [hWInIdeal : Cert.WInIdeal.Facts] [hWInRefIdeal : Cert.WInRefIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInRefIdeal.nD Cert.WInRefIdeal.τ Cert.WInRefIdeal.sig) → Buf (Elt Ideal) ℓ) (g' : Dev Cert.WInRefIdeal.nD → PrngReg), Pre_WInIdeal m →
    (∀ c : Dev Cert.WInIdeal.nD,
      m' ((c.tc : Thread Cert.WInRefIdeal.nD Cert.WInRefIdeal.τ).loc Cert.WInRefIdeal.main_arg0) = m ((c.tc : Thread Cert.WInIdeal.nD Cert.WInIdeal.τ).loc Cert.WInIdeal.main_arg0)
      ∧ m' ((c.tc : Thread Cert.WInRefIdeal.nD Cert.WInRefIdeal.τ).loc Cert.WInRefIdeal.main_arg1) = m ((c.tc : Thread Cert.WInIdeal.nD Cert.WInIdeal.τ).loc Cert.WInIdeal.main_arg1)
      ∧ m' ((c.tc : Thread Cert.WInRefIdeal.nD Cert.WInRefIdeal.τ).loc Cert.WInRefIdeal.main_arg2) = m ((c.tc : Thread Cert.WInIdeal.nD Cert.WInIdeal.τ).loc Cert.WInIdeal.main_arg2)
      ∧ m' ((c.tc : Thread Cert.WInRefIdeal.nD Cert.WInRefIdeal.τ).loc Cert.WInRefIdeal.main_arg3) = m ((c.tc : Thread Cert.WInIdeal.nD Cert.WInIdeal.τ).loc Cert.WInIdeal.main_arg3)) →
    ∃ (v0 : (c : Dev Cert.WInIdeal.nD) → Buf (Elt Ideal) ((c.tc : Thread Cert.WInIdeal.nD Cert.WInIdeal.τ).loc Cert.WInIdeal.main_v14)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v14) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1)
          ∧ r.2.mem ((c.tc : Thread Cert.WInIdeal.nD Cert.WInIdeal.τ).loc Cert.WInIdeal.main_arg2) = m ((c.tc : Thread Cert.WInIdeal.nD Cert.WInIdeal.τ).loc Cert.WInIdeal.main_arg2)
          ∧ r.2.mem ((c.tc : Thread Cert.WInIdeal.nD Cert.WInIdeal.τ).loc Cert.WInIdeal.main_arg3) = m ((c.tc : Thread Cert.WInIdeal.nD Cert.WInIdeal.τ).loc Cert.WInIdeal.main_arg3))
      ∧ θ_run (Cert.WInRefIdeal.defs (F := Ideal)) (onTc (τ := Cert.WInRefIdeal.τ) (Cert.WInRefIdeal.main (F := Ideal))) ⟨m', fun _ => 0, g'⟩ (fun r => ∀ c : Dev Cert.WInRefIdeal.nD,
          r.2.mem ((c.tc : Thread Cert.WInRefIdeal.nD Cert.WInRefIdeal.τ).loc Cert.WInRefIdeal.main_v18) = v0 c
          ∧ r.2.mem ((c.tc : Thread Cert.WInRefIdeal.nD Cert.WInRefIdeal.τ).loc Cert.WInRefIdeal.main_arg0) = m' ((c.tc : Thread Cert.WInRefIdeal.nD Cert.WInRefIdeal.τ).loc Cert.WInRefIdeal.main_arg0)
          ∧ r.2.mem ((c.tc : Thread Cert.WInRefIdeal.nD Cert.WInRefIdeal.τ).loc Cert.WInRefIdeal.main_arg1) = m' ((c.tc : Thread Cert.WInRefIdeal.nD Cert.WInRefIdeal.τ).loc Cert.WInRefIdeal.main_arg1)
          ∧ r.2.mem ((c.tc : Thread Cert.WInRefIdeal.nD Cert.WInRefIdeal.τ).loc Cert.WInRefIdeal.main_arg2) = m' ((c.tc : Thread Cert.WInRefIdeal.nD Cert.WInRefIdeal.τ).loc Cert.WInRefIdeal.main_arg2)
          ∧ r.2.mem ((c.tc : Thread Cert.WInRefIdeal.nD Cert.WInRefIdeal.τ).loc Cert.WInRefIdeal.main_arg3) = m' ((c.tc : Thread Cert.WInRefIdeal.nD Cert.WInRefIdeal.τ).loc Cert.WInRefIdeal.main_arg3))

def preserves_WProj_WProjIdeal : Prop :=
  True

def algebraic_WProjIdeal_WProjRefIdeal [hWProjIdeal : Cert.WProjIdeal.Facts] [hWProjRefIdeal : Cert.WProjRefIdeal.Facts] : Prop :=
  ∀ (m : (ℓ : Loc Cert.WProjIdeal.nD Cert.WProjIdeal.τ Cert.WProjIdeal.sig) → Buf (Elt Ideal) ℓ) (g : Dev Cert.WProjIdeal.nD → PrngReg)
    (m' : (ℓ : Loc Cert.WProjRefIdeal.nD Cert.WProjRefIdeal.τ Cert.WProjRefIdeal.sig) → Buf (Elt Ideal) ℓ) (g' : Dev Cert.WProjRefIdeal.nD → PrngReg), Pre_WProjIdeal m →
    (∀ c : Dev Cert.WProjIdeal.nD,
      m' ((c.tc : Thread Cert.WProjRefIdeal.nD Cert.WProjRefIdeal.τ).loc Cert.WProjRefIdeal.main_arg0) = m ((c.tc : Thread Cert.WProjIdeal.nD Cert.WProjIdeal.τ).loc Cert.WProjIdeal.main_arg0)
      ∧ m' ((c.tc : Thread Cert.WProjRefIdeal.nD Cert.WProjRefIdeal.τ).loc Cert.WProjRefIdeal.main_arg1) = m ((c.tc : Thread Cert.WProjIdeal.nD Cert.WProjIdeal.τ).loc Cert.WProjIdeal.main_arg1)) →
    ∃ (v0 : (c : Dev Cert.WProjIdeal.nD) → Buf (Elt Ideal) ((c.tc : Thread Cert.WProjIdeal.nD Cert.WProjIdeal.τ).loc Cert.WProjIdeal.main_v2)),
      θ_run (Cert.WProjIdeal.defs (F := Ideal)) (onTc (τ := Cert.WProjIdeal.τ) (Cert.WProjIdeal.main (F := Ideal))) ⟨m, fun _ => 0, g⟩ (fun r => ∀ c : Dev Cert.WProjIdeal.nD,
          r.2.mem ((c.tc : Thread Cert.WProjIdeal.nD Cert.WProjIdeal.τ).loc Cert.WProjIdeal.main_v2) = v0 c
          ∧ r.2.mem ((c.tc : Thread Cert.WProjIdeal.nD Cert.WProjIdeal.τ).loc Cert.WProjIdeal.main_arg0) = m ((c.tc : Thread Cert.WProjIdeal.nD Cert.WProjIdeal.τ).loc Cert.WProjIdeal.main_arg0)
          ∧ r.2.mem ((c.tc : Thread Cert.WProjIdeal.nD Cert.WProjIdeal.τ).loc Cert.WProjIdeal.main_arg1) = m ((c.tc : Thread Cert.WProjIdeal.nD Cert.WProjIdeal.τ).loc Cert.WProjIdeal.main_arg1))
      ∧ θ_run (Cert.WProjRefIdeal.defs (F := Ideal)) (onTc (τ := Cert.WProjRefIdeal.τ) (Cert.WProjRefIdeal.main (F := Ideal))) ⟨m', fun _ => 0, g'⟩ (fun r => ∀ c : Dev Cert.WProjRefIdeal.nD,
          r.2.mem ((c.tc : Thread Cert.WProjRefIdeal.nD Cert.WProjRefIdeal.τ).loc Cert.WProjRefIdeal.main_v25) = v0 c
          ∧ r.2.mem ((c.tc : Thread Cert.WProjRefIdeal.nD Cert.WProjRefIdeal.τ).loc Cert.WProjRefIdeal.main_arg0) = m' ((c.tc : Thread Cert.WProjRefIdeal.nD Cert.WProjRefIdeal.τ).loc Cert.WProjRefIdeal.main_arg0)
          ∧ r.2.mem ((c.tc : Thread Cert.WProjRefIdeal.nD Cert.WProjRefIdeal.τ).loc Cert.WProjRefIdeal.main_arg1) = m' ((c.tc : Thread Cert.WProjRefIdeal.nD Cert.WProjRefIdeal.τ).loc Cert.WProjRefIdeal.main_arg1))

def preserves_WGates_WGatesIdeal : Prop :=
  True

def algebraic_WGatesIdeal_WGatesRefIdeal [hWGatesIdeal : Cert.WGatesIdeal.Facts] [hWGatesRefIdeal : Cert.WGatesRefIdeal.Facts] : Prop :=
  ∀ (m : (ℓ : Loc Cert.WGatesIdeal.nD Cert.WGatesIdeal.τ Cert.WGatesIdeal.sig) → Buf (Elt Ideal) ℓ) (g : Dev Cert.WGatesIdeal.nD → PrngReg)
    (m' : (ℓ : Loc Cert.WGatesRefIdeal.nD Cert.WGatesRefIdeal.τ Cert.WGatesRefIdeal.sig) → Buf (Elt Ideal) ℓ) (g' : Dev Cert.WGatesRefIdeal.nD → PrngReg), Pre_WGatesIdeal m →
    (∀ c : Dev Cert.WGatesIdeal.nD,
      m' ((c.tc : Thread Cert.WGatesRefIdeal.nD Cert.WGatesRefIdeal.τ).loc Cert.WGatesRefIdeal.main_arg0) = m ((c.tc : Thread Cert.WGatesIdeal.nD Cert.WGatesIdeal.τ).loc Cert.WGatesIdeal.main_arg0)
      ∧ m' ((c.tc : Thread Cert.WGatesRefIdeal.nD Cert.WGatesRefIdeal.τ).loc Cert.WGatesRefIdeal.main_arg1) = m ((c.tc : Thread Cert.WGatesIdeal.nD Cert.WGatesIdeal.τ).loc Cert.WGatesIdeal.main_arg1)) →
    ∃ (v0 : (c : Dev Cert.WGatesIdeal.nD) → Buf (Elt Ideal) ((c.tc : Thread Cert.WGatesIdeal.nD Cert.WGatesIdeal.τ).loc Cert.WGatesIdeal.main_v2)),
      θ_run (Cert.WGatesIdeal.defs (F := Ideal)) (onTc (τ := Cert.WGatesIdeal.τ) (Cert.WGatesIdeal.main (F := Ideal))) ⟨m, fun _ => 0, g⟩ (fun r => ∀ c : Dev Cert.WGatesIdeal.nD,
          r.2.mem ((c.tc : Thread Cert.WGatesIdeal.nD Cert.WGatesIdeal.τ).loc Cert.WGatesIdeal.main_v2) = v0 c
          ∧ r.2.mem ((c.tc : Thread Cert.WGatesIdeal.nD Cert.WGatesIdeal.τ).loc Cert.WGatesIdeal.main_arg0) = m ((c.tc : Thread Cert.WGatesIdeal.nD Cert.WGatesIdeal.τ).loc Cert.WGatesIdeal.main_arg0)
          ∧ r.2.mem ((c.tc : Thread Cert.WGatesIdeal.nD Cert.WGatesIdeal.τ).loc Cert.WGatesIdeal.main_arg1) = m ((c.tc : Thread Cert.WGatesIdeal.nD Cert.WGatesIdeal.τ).loc Cert.WGatesIdeal.main_arg1))
      ∧ θ_run (Cert.WGatesRefIdeal.defs (F := Ideal)) (onTc (τ := Cert.WGatesRefIdeal.τ) (Cert.WGatesRefIdeal.main (F := Ideal))) ⟨m', fun _ => 0, g'⟩ (fun r => ∀ c : Dev Cert.WGatesRefIdeal.nD,
          r.2.mem ((c.tc : Thread Cert.WGatesRefIdeal.nD Cert.WGatesRefIdeal.τ).loc Cert.WGatesRefIdeal.main_v19) = v0 c
          ∧ r.2.mem ((c.tc : Thread Cert.WGatesRefIdeal.nD Cert.WGatesRefIdeal.τ).loc Cert.WGatesRefIdeal.main_arg0) = m' ((c.tc : Thread Cert.WGatesRefIdeal.nD Cert.WGatesRefIdeal.τ).loc Cert.WGatesRefIdeal.main_arg0)
          ∧ r.2.mem ((c.tc : Thread Cert.WGatesRefIdeal.nD Cert.WGatesRefIdeal.τ).loc Cert.WGatesRefIdeal.main_arg1) = m' ((c.tc : Thread Cert.WGatesRefIdeal.nD Cert.WGatesRefIdeal.τ).loc Cert.WGatesRefIdeal.main_arg1))

def preserves_UDown_UDownIdeal : Prop :=
  True

def algebraic_UDownIdeal_UDownRefIdeal [hUDownIdeal : Cert.UDownIdeal.Facts] [hUDownRefIdeal : Cert.UDownRefIdeal.Facts] [hPre_device : Cert.Pre_device.Facts] : Prop :=
  ∀ (m : (ℓ : Loc Cert.UDownIdeal.nD Cert.UDownIdeal.τ Cert.UDownIdeal.sig) → Buf (Elt Ideal) ℓ) (g : Dev Cert.UDownIdeal.nD → PrngReg)
    (m' : (ℓ : Loc Cert.UDownRefIdeal.nD Cert.UDownRefIdeal.τ Cert.UDownRefIdeal.sig) → Buf (Elt Ideal) ℓ) (g' : Dev Cert.UDownRefIdeal.nD → PrngReg), Pre_UDownIdeal m →
    (∀ c : Dev Cert.UDownIdeal.nD,
      m' ((c.tc : Thread Cert.UDownRefIdeal.nD Cert.UDownRefIdeal.τ).loc Cert.UDownRefIdeal.main_arg0) = m ((c.tc : Thread Cert.UDownIdeal.nD Cert.UDownIdeal.τ).loc Cert.UDownIdeal.main_arg0)
      ∧ m' ((c.tc : Thread Cert.UDownRefIdeal.nD Cert.UDownRefIdeal.τ).loc Cert.UDownRefIdeal.main_arg1) = m ((c.tc : Thread Cert.UDownIdeal.nD Cert.UDownIdeal.τ).loc Cert.UDownIdeal.main_arg1)
      ∧ m' ((c.tc : Thread Cert.UDownRefIdeal.nD Cert.UDownRefIdeal.τ).loc Cert.UDownRefIdeal.main_arg2) = m ((c.tc : Thread Cert.UDownIdeal.nD Cert.UDownIdeal.τ).loc Cert.UDownIdeal.main_arg2)
      ∧ m' ((c.tc : Thread Cert.UDownRefIdeal.nD Cert.UDownRefIdeal.τ).loc Cert.UDownRefIdeal.main_arg3) = m ((c.tc : Thread Cert.UDownIdeal.nD Cert.UDownIdeal.τ).loc Cert.UDownIdeal.main_arg3)
      ∧ m' ((c.tc : Thread Cert.UDownRefIdeal.nD Cert.UDownRefIdeal.τ).loc Cert.UDownRefIdeal.main_arg4) = m ((c.tc : Thread Cert.UDownIdeal.nD Cert.UDownIdeal.τ).loc Cert.UDownIdeal.main_arg4)
      ∧ m' ((c.tc : Thread Cert.UDownRefIdeal.nD Cert.UDownRefIdeal.τ).loc Cert.UDownRefIdeal.main_arg5) = m ((c.tc : Thread Cert.UDownIdeal.nD Cert.UDownIdeal.τ).loc Cert.UDownIdeal.main_arg5)
      ∧ m' ((c.tc : Thread Cert.UDownRefIdeal.nD Cert.UDownRefIdeal.τ).loc Cert.UDownRefIdeal.main_arg6) = m ((c.tc : Thread Cert.UDownIdeal.nD Cert.UDownIdeal.τ).loc Cert.UDownIdeal.main_arg6)) →
    ∃ (v0 : (c : Dev Cert.UDownIdeal.nD) → Buf (Elt Ideal) ((c.tc : Thread Cert.UDownIdeal.nD Cert.UDownIdeal.τ).loc Cert.UDownIdeal.main_v2_0)) (v1 : (c : Dev Cert.UDownIdeal.nD) → Buf (Elt Ideal) ((c.tc : Thread Cert.UDownIdeal.nD Cert.UDownIdeal.τ).loc Cert.UDownIdeal.main_v2_1)) (v2 : (c : Dev Cert.UDownIdeal.nD) → Buf (Elt Ideal) ((c.tc : Thread Cert.UDownIdeal.nD Cert.UDownIdeal.τ).loc Cert.UDownIdeal.main_v2_2)) (v3 : (c : Dev Cert.UDownIdeal.nD) → Buf (Elt Ideal) ((c.tc : Thread Cert.UDownIdeal.nD Cert.UDownIdeal.τ).loc Cert.UDownIdeal.main_v2_3)),
      θ_run (Cert.UDownIdeal.defs (F := Ideal)) (onTc (τ := Cert.UDownIdeal.τ) (Cert.UDownIdeal.main (F := Ideal))) ⟨m, fun _ => 0, g⟩ (fun r => ∀ c : Dev Cert.UDownIdeal.nD,
          r.2.mem ((c.tc : Thread Cert.UDownIdeal.nD Cert.UDownIdeal.τ).loc Cert.UDownIdeal.main_v2_0) = v0 c
          ∧ r.2.mem ((c.tc : Thread Cert.UDownIdeal.nD Cert.UDownIdeal.τ).loc Cert.UDownIdeal.main_v2_1) = v1 c
          ∧ r.2.mem ((c.tc : Thread Cert.UDownIdeal.nD Cert.UDownIdeal.τ).loc Cert.UDownIdeal.main_v2_2) = v2 c
          ∧ r.2.mem ((c.tc : Thread Cert.UDownIdeal.nD Cert.UDownIdeal.τ).loc Cert.UDownIdeal.main_v2_3) = v3 c
          ∧ r.2.mem ((c.tc : Thread Cert.UDownIdeal.nD Cert.UDownIdeal.τ).loc Cert.UDownIdeal.main_arg0) = m ((c.tc : Thread Cert.UDownIdeal.nD Cert.UDownIdeal.τ).loc Cert.UDownIdeal.main_arg0)
          ∧ r.2.mem ((c.tc : Thread Cert.UDownIdeal.nD Cert.UDownIdeal.τ).loc Cert.UDownIdeal.main_arg1) = m ((c.tc : Thread Cert.UDownIdeal.nD Cert.UDownIdeal.τ).loc Cert.UDownIdeal.main_arg1)
          ∧ r.2.mem ((c.tc : Thread Cert.UDownIdeal.nD Cert.UDownIdeal.τ).loc Cert.UDownIdeal.main_arg2) = m ((c.tc : Thread Cert.UDownIdeal.nD Cert.UDownIdeal.τ).loc Cert.UDownIdeal.main_arg2)
          ∧ r.2.mem ((c.tc : Thread Cert.UDownIdeal.nD Cert.UDownIdeal.τ).loc Cert.UDownIdeal.main_arg3) = m ((c.tc : Thread Cert.UDownIdeal.nD Cert.UDownIdeal.τ).loc Cert.UDownIdeal.main_arg3)
          ∧ r.2.mem ((c.tc : Thread Cert.UDownIdeal.nD Cert.UDownIdeal.τ).loc Cert.UDownIdeal.main_arg4) = m ((c.tc : Thread Cert.UDownIdeal.nD Cert.UDownIdeal.τ).loc Cert.UDownIdeal.main_arg4)
          ∧ r.2.mem ((c.tc : Thread Cert.UDownIdeal.nD Cert.UDownIdeal.τ).loc Cert.UDownIdeal.main_arg5) = m ((c.tc : Thread Cert.UDownIdeal.nD Cert.UDownIdeal.τ).loc Cert.UDownIdeal.main_arg5)
          ∧ r.2.mem ((c.tc : Thread Cert.UDownIdeal.nD Cert.UDownIdeal.τ).loc Cert.UDownIdeal.main_arg6) = m ((c.tc : Thread Cert.UDownIdeal.nD Cert.UDownIdeal.τ).loc Cert.UDownIdeal.main_arg6))
      ∧ θ_run (Cert.UDownRefIdeal.defs (F := Ideal)) (onTc (τ := Cert.UDownRefIdeal.τ) (Cert.UDownRefIdeal.main (F := Ideal))) ⟨m', fun _ => 0, g'⟩ (fun r => ∀ c : Dev Cert.UDownRefIdeal.nD,
          r.2.mem ((c.tc : Thread Cert.UDownRefIdeal.nD Cert.UDownRefIdeal.τ).loc Cert.UDownRefIdeal.main_v10) = v0 c
          ∧ r.2.mem ((c.tc : Thread Cert.UDownRefIdeal.nD Cert.UDownRefIdeal.τ).loc Cert.UDownRefIdeal.main_v34) = v1 c
          ∧ r.2.mem ((c.tc : Thread Cert.UDownRefIdeal.nD Cert.UDownRefIdeal.τ).loc Cert.UDownRefIdeal.main_v15) = v2 c
          ∧ r.2.mem ((c.tc : Thread Cert.UDownRefIdeal.nD Cert.UDownRefIdeal.τ).loc Cert.UDownRefIdeal.main_v21) = v3 c
          ∧ r.2.mem ((c.tc : Thread Cert.UDownRefIdeal.nD Cert.UDownRefIdeal.τ).loc Cert.UDownRefIdeal.main_arg0) = m' ((c.tc : Thread Cert.UDownRefIdeal.nD Cert.UDownRefIdeal.τ).loc Cert.UDownRefIdeal.main_arg0)
          ∧ r.2.mem ((c.tc : Thread Cert.UDownRefIdeal.nD Cert.UDownRefIdeal.τ).loc Cert.UDownRefIdeal.main_arg1) = m' ((c.tc : Thread Cert.UDownRefIdeal.nD Cert.UDownRefIdeal.τ).loc Cert.UDownRefIdeal.main_arg1)
          ∧ r.2.mem ((c.tc : Thread Cert.UDownRefIdeal.nD Cert.UDownRefIdeal.τ).loc Cert.UDownRefIdeal.main_arg2) = m' ((c.tc : Thread Cert.UDownRefIdeal.nD Cert.UDownRefIdeal.τ).loc Cert.UDownRefIdeal.main_arg2)
          ∧ r.2.mem ((c.tc : Thread Cert.UDownRefIdeal.nD Cert.UDownRefIdeal.τ).loc Cert.UDownRefIdeal.main_arg3) = m' ((c.tc : Thread Cert.UDownRefIdeal.nD Cert.UDownRefIdeal.τ).loc Cert.UDownRefIdeal.main_arg3)
          ∧ r.2.mem ((c.tc : Thread Cert.UDownRefIdeal.nD Cert.UDownRefIdeal.τ).loc Cert.UDownRefIdeal.main_arg4) = m' ((c.tc : Thread Cert.UDownRefIdeal.nD Cert.UDownRefIdeal.τ).loc Cert.UDownRefIdeal.main_arg4)
          ∧ r.2.mem ((c.tc : Thread Cert.UDownRefIdeal.nD Cert.UDownRefIdeal.τ).loc Cert.UDownRefIdeal.main_arg5) = m' ((c.tc : Thread Cert.UDownRefIdeal.nD Cert.UDownRefIdeal.τ).loc Cert.UDownRefIdeal.main_arg5)
          ∧ r.2.mem ((c.tc : Thread Cert.UDownRefIdeal.nD Cert.UDownRefIdeal.τ).loc Cert.UDownRefIdeal.main_arg6) = m' ((c.tc : Thread Cert.UDownRefIdeal.nD Cert.UDownRefIdeal.τ).loc Cert.UDownRefIdeal.main_arg6))

def preserves_UGu_UGuIdeal : Prop :=
  True

def algebraic_UGuIdeal_UGuRefIdeal [hUGuIdeal : Cert.UGuIdeal.Facts] [hUGuRefIdeal : Cert.UGuRefIdeal.Facts] [hPre_device_gu : Cert.Pre_device_gu.Facts] : Prop :=
  ∀ (m : (ℓ : Loc Cert.UGuIdeal.nD Cert.UGuIdeal.τ Cert.UGuIdeal.sig) → Buf (Elt Ideal) ℓ) (g : Dev Cert.UGuIdeal.nD → PrngReg)
    (m' : (ℓ : Loc Cert.UGuRefIdeal.nD Cert.UGuRefIdeal.τ Cert.UGuRefIdeal.sig) → Buf (Elt Ideal) ℓ) (g' : Dev Cert.UGuRefIdeal.nD → PrngReg), Pre_UGuIdeal m →
    (∀ c : Dev Cert.UGuIdeal.nD,
      m' ((c.tc : Thread Cert.UGuRefIdeal.nD Cert.UGuRefIdeal.τ).loc Cert.UGuRefIdeal.main_arg0) = m ((c.tc : Thread Cert.UGuIdeal.nD Cert.UGuIdeal.τ).loc Cert.UGuIdeal.main_arg0)
      ∧ m' ((c.tc : Thread Cert.UGuRefIdeal.nD Cert.UGuRefIdeal.τ).loc Cert.UGuRefIdeal.main_arg1) = m ((c.tc : Thread Cert.UGuIdeal.nD Cert.UGuIdeal.τ).loc Cert.UGuIdeal.main_arg1)
      ∧ m' ((c.tc : Thread Cert.UGuRefIdeal.nD Cert.UGuRefIdeal.τ).loc Cert.UGuRefIdeal.main_arg2) = m ((c.tc : Thread Cert.UGuIdeal.nD Cert.UGuIdeal.τ).loc Cert.UGuIdeal.main_arg2)
      ∧ m' ((c.tc : Thread Cert.UGuRefIdeal.nD Cert.UGuRefIdeal.τ).loc Cert.UGuRefIdeal.main_arg3) = m ((c.tc : Thread Cert.UGuIdeal.nD Cert.UGuIdeal.τ).loc Cert.UGuIdeal.main_arg3)
      ∧ m' ((c.tc : Thread Cert.UGuRefIdeal.nD Cert.UGuRefIdeal.τ).loc Cert.UGuRefIdeal.main_arg4) = m ((c.tc : Thread Cert.UGuIdeal.nD Cert.UGuIdeal.τ).loc Cert.UGuIdeal.main_arg4)
      ∧ m' ((c.tc : Thread Cert.UGuRefIdeal.nD Cert.UGuRefIdeal.τ).loc Cert.UGuRefIdeal.main_arg5) = m ((c.tc : Thread Cert.UGuIdeal.nD Cert.UGuIdeal.τ).loc Cert.UGuIdeal.main_arg5)
      ∧ m' ((c.tc : Thread Cert.UGuRefIdeal.nD Cert.UGuRefIdeal.τ).loc Cert.UGuRefIdeal.main_arg6) = m ((c.tc : Thread Cert.UGuIdeal.nD Cert.UGuIdeal.τ).loc Cert.UGuIdeal.main_arg6)) →
    ∃ (v0 : (c : Dev Cert.UGuIdeal.nD) → Buf (Elt Ideal) ((c.tc : Thread Cert.UGuIdeal.nD Cert.UGuIdeal.τ).loc Cert.UGuIdeal.main_v2_0)) (v1 : (c : Dev Cert.UGuIdeal.nD) → Buf (Elt Ideal) ((c.tc : Thread Cert.UGuIdeal.nD Cert.UGuIdeal.τ).loc Cert.UGuIdeal.main_v2_1)) (v2 : (c : Dev Cert.UGuIdeal.nD) → Buf (Elt Ideal) ((c.tc : Thread Cert.UGuIdeal.nD Cert.UGuIdeal.τ).loc Cert.UGuIdeal.main_v2_2)) (v3 : (c : Dev Cert.UGuIdeal.nD) → Buf (Elt Ideal) ((c.tc : Thread Cert.UGuIdeal.nD Cert.UGuIdeal.τ).loc Cert.UGuIdeal.main_v2_3)),
      θ_run (Cert.UGuIdeal.defs (F := Ideal)) (onTc (τ := Cert.UGuIdeal.τ) (Cert.UGuIdeal.main (F := Ideal))) ⟨m, fun _ => 0, g⟩ (fun r => ∀ c : Dev Cert.UGuIdeal.nD,
          r.2.mem ((c.tc : Thread Cert.UGuIdeal.nD Cert.UGuIdeal.τ).loc Cert.UGuIdeal.main_v2_0) = v0 c
          ∧ r.2.mem ((c.tc : Thread Cert.UGuIdeal.nD Cert.UGuIdeal.τ).loc Cert.UGuIdeal.main_v2_1) = v1 c
          ∧ r.2.mem ((c.tc : Thread Cert.UGuIdeal.nD Cert.UGuIdeal.τ).loc Cert.UGuIdeal.main_v2_2) = v2 c
          ∧ r.2.mem ((c.tc : Thread Cert.UGuIdeal.nD Cert.UGuIdeal.τ).loc Cert.UGuIdeal.main_v2_3) = v3 c
          ∧ r.2.mem ((c.tc : Thread Cert.UGuIdeal.nD Cert.UGuIdeal.τ).loc Cert.UGuIdeal.main_arg0) = m ((c.tc : Thread Cert.UGuIdeal.nD Cert.UGuIdeal.τ).loc Cert.UGuIdeal.main_arg0)
          ∧ r.2.mem ((c.tc : Thread Cert.UGuIdeal.nD Cert.UGuIdeal.τ).loc Cert.UGuIdeal.main_arg1) = m ((c.tc : Thread Cert.UGuIdeal.nD Cert.UGuIdeal.τ).loc Cert.UGuIdeal.main_arg1)
          ∧ r.2.mem ((c.tc : Thread Cert.UGuIdeal.nD Cert.UGuIdeal.τ).loc Cert.UGuIdeal.main_arg2) = m ((c.tc : Thread Cert.UGuIdeal.nD Cert.UGuIdeal.τ).loc Cert.UGuIdeal.main_arg2)
          ∧ r.2.mem ((c.tc : Thread Cert.UGuIdeal.nD Cert.UGuIdeal.τ).loc Cert.UGuIdeal.main_arg3) = m ((c.tc : Thread Cert.UGuIdeal.nD Cert.UGuIdeal.τ).loc Cert.UGuIdeal.main_arg3)
          ∧ r.2.mem ((c.tc : Thread Cert.UGuIdeal.nD Cert.UGuIdeal.τ).loc Cert.UGuIdeal.main_arg4) = m ((c.tc : Thread Cert.UGuIdeal.nD Cert.UGuIdeal.τ).loc Cert.UGuIdeal.main_arg4)
          ∧ r.2.mem ((c.tc : Thread Cert.UGuIdeal.nD Cert.UGuIdeal.τ).loc Cert.UGuIdeal.main_arg5) = m ((c.tc : Thread Cert.UGuIdeal.nD Cert.UGuIdeal.τ).loc Cert.UGuIdeal.main_arg5)
          ∧ r.2.mem ((c.tc : Thread Cert.UGuIdeal.nD Cert.UGuIdeal.τ).loc Cert.UGuIdeal.main_arg6) = m ((c.tc : Thread Cert.UGuIdeal.nD Cert.UGuIdeal.τ).loc Cert.UGuIdeal.main_arg6))
      ∧ θ_run (Cert.UGuRefIdeal.defs (F := Ideal)) (onTc (τ := Cert.UGuRefIdeal.τ) (Cert.UGuRefIdeal.main (F := Ideal))) ⟨m', fun _ => 0, g'⟩ (fun r => ∀ c : Dev Cert.UGuRefIdeal.nD,
          r.2.mem ((c.tc : Thread Cert.UGuRefIdeal.nD Cert.UGuRefIdeal.τ).loc Cert.UGuRefIdeal.main_v10) = v0 c
          ∧ r.2.mem ((c.tc : Thread Cert.UGuRefIdeal.nD Cert.UGuRefIdeal.τ).loc Cert.UGuRefIdeal.main_v34) = v1 c
          ∧ r.2.mem ((c.tc : Thread Cert.UGuRefIdeal.nD Cert.UGuRefIdeal.τ).loc Cert.UGuRefIdeal.main_v15) = v2 c
          ∧ r.2.mem ((c.tc : Thread Cert.UGuRefIdeal.nD Cert.UGuRefIdeal.τ).loc Cert.UGuRefIdeal.main_v21) = v3 c
          ∧ r.2.mem ((c.tc : Thread Cert.UGuRefIdeal.nD Cert.UGuRefIdeal.τ).loc Cert.UGuRefIdeal.main_arg0) = m' ((c.tc : Thread Cert.UGuRefIdeal.nD Cert.UGuRefIdeal.τ).loc Cert.UGuRefIdeal.main_arg0)
          ∧ r.2.mem ((c.tc : Thread Cert.UGuRefIdeal.nD Cert.UGuRefIdeal.τ).loc Cert.UGuRefIdeal.main_arg1) = m' ((c.tc : Thread Cert.UGuRefIdeal.nD Cert.UGuRefIdeal.τ).loc Cert.UGuRefIdeal.main_arg1)
          ∧ r.2.mem ((c.tc : Thread Cert.UGuRefIdeal.nD Cert.UGuRefIdeal.τ).loc Cert.UGuRefIdeal.main_arg2) = m' ((c.tc : Thread Cert.UGuRefIdeal.nD Cert.UGuRefIdeal.τ).loc Cert.UGuRefIdeal.main_arg2)
          ∧ r.2.mem ((c.tc : Thread Cert.UGuRefIdeal.nD Cert.UGuRefIdeal.τ).loc Cert.UGuRefIdeal.main_arg3) = m' ((c.tc : Thread Cert.UGuRefIdeal.nD Cert.UGuRefIdeal.τ).loc Cert.UGuRefIdeal.main_arg3)
          ∧ r.2.mem ((c.tc : Thread Cert.UGuRefIdeal.nD Cert.UGuRefIdeal.τ).loc Cert.UGuRefIdeal.main_arg4) = m' ((c.tc : Thread Cert.UGuRefIdeal.nD Cert.UGuRefIdeal.τ).loc Cert.UGuRefIdeal.main_arg4)
          ∧ r.2.mem ((c.tc : Thread Cert.UGuRefIdeal.nD Cert.UGuRefIdeal.τ).loc Cert.UGuRefIdeal.main_arg5) = m' ((c.tc : Thread Cert.UGuRefIdeal.nD Cert.UGuRefIdeal.τ).loc Cert.UGuRefIdeal.main_arg5)
          ∧ r.2.mem ((c.tc : Thread Cert.UGuRefIdeal.nD Cert.UGuRefIdeal.τ).loc Cert.UGuRefIdeal.main_arg6) = m' ((c.tc : Thread Cert.UGuRefIdeal.nD Cert.UGuRefIdeal.τ).loc Cert.UGuRefIdeal.main_arg6))

def preserves_UIn_UInIdeal : Prop :=
  True

def algebraic_UInIdeal_UInRefIdeal [hUInIdeal : Cert.UInIdeal.Facts] [hUInRefIdeal : Cert.UInRefIdeal.Facts] [hPre_device_in : Cert.Pre_device_in.Facts] : Prop :=
  ∀ (m : (ℓ : Loc Cert.UInIdeal.nD Cert.UInIdeal.τ Cert.UInIdeal.sig) → Buf (Elt Ideal) ℓ) (g : Dev Cert.UInIdeal.nD → PrngReg)
    (m' : (ℓ : Loc Cert.UInRefIdeal.nD Cert.UInRefIdeal.τ Cert.UInRefIdeal.sig) → Buf (Elt Ideal) ℓ) (g' : Dev Cert.UInRefIdeal.nD → PrngReg), Pre_UInIdeal m →
    (∀ c : Dev Cert.UInIdeal.nD,
      m' ((c.tc : Thread Cert.UInRefIdeal.nD Cert.UInRefIdeal.τ).loc Cert.UInRefIdeal.main_arg0) = m ((c.tc : Thread Cert.UInIdeal.nD Cert.UInIdeal.τ).loc Cert.UInIdeal.main_arg0)
      ∧ m' ((c.tc : Thread Cert.UInRefIdeal.nD Cert.UInRefIdeal.τ).loc Cert.UInRefIdeal.main_arg1) = m ((c.tc : Thread Cert.UInIdeal.nD Cert.UInIdeal.τ).loc Cert.UInIdeal.main_arg1)
      ∧ m' ((c.tc : Thread Cert.UInRefIdeal.nD Cert.UInRefIdeal.τ).loc Cert.UInRefIdeal.main_arg2) = m ((c.tc : Thread Cert.UInIdeal.nD Cert.UInIdeal.τ).loc Cert.UInIdeal.main_arg2)
      ∧ m' ((c.tc : Thread Cert.UInRefIdeal.nD Cert.UInRefIdeal.τ).loc Cert.UInRefIdeal.main_arg3) = m ((c.tc : Thread Cert.UInIdeal.nD Cert.UInIdeal.τ).loc Cert.UInIdeal.main_arg3)
      ∧ m' ((c.tc : Thread Cert.UInRefIdeal.nD Cert.UInRefIdeal.τ).loc Cert.UInRefIdeal.main_arg4) = m ((c.tc : Thread Cert.UInIdeal.nD Cert.UInIdeal.τ).loc Cert.UInIdeal.main_arg4)
      ∧ m' ((c.tc : Thread Cert.UInRefIdeal.nD Cert.UInRefIdeal.τ).loc Cert.UInRefIdeal.main_arg5) = m ((c.tc : Thread Cert.UInIdeal.nD Cert.UInIdeal.τ).loc Cert.UInIdeal.main_arg5)
      ∧ m' ((c.tc : Thread Cert.UInRefIdeal.nD Cert.UInRefIdeal.τ).loc Cert.UInRefIdeal.main_arg6) = m ((c.tc : Thread Cert.UInIdeal.nD Cert.UInIdeal.τ).loc Cert.UInIdeal.main_arg6)) →
    ∃ (v0 : (c : Dev Cert.UInIdeal.nD) → Buf (Elt Ideal) ((c.tc : Thread Cert.UInIdeal.nD Cert.UInIdeal.τ).loc Cert.UInIdeal.main_v2_0)) (v1 : (c : Dev Cert.UInIdeal.nD) → Buf (Elt Ideal) ((c.tc : Thread Cert.UInIdeal.nD Cert.UInIdeal.τ).loc Cert.UInIdeal.main_v2_1)) (v2 : (c : Dev Cert.UInIdeal.nD) → Buf (Elt Ideal) ((c.tc : Thread Cert.UInIdeal.nD Cert.UInIdeal.τ).loc Cert.UInIdeal.main_v2_2)) (v3 : (c : Dev Cert.UInIdeal.nD) → Buf (Elt Ideal) ((c.tc : Thread Cert.UInIdeal.nD Cert.UInIdeal.τ).loc Cert.UInIdeal.main_v2_3)),
      θ_run (Cert.UInIdeal.defs (F := Ideal)) (onTc (τ := Cert.UInIdeal.τ) (Cert.UInIdeal.main (F := Ideal))) ⟨m, fun _ => 0, g⟩ (fun r => ∀ c : Dev Cert.UInIdeal.nD,
          r.2.mem ((c.tc : Thread Cert.UInIdeal.nD Cert.UInIdeal.τ).loc Cert.UInIdeal.main_v2_0) = v0 c
          ∧ r.2.mem ((c.tc : Thread Cert.UInIdeal.nD Cert.UInIdeal.τ).loc Cert.UInIdeal.main_v2_1) = v1 c
          ∧ r.2.mem ((c.tc : Thread Cert.UInIdeal.nD Cert.UInIdeal.τ).loc Cert.UInIdeal.main_v2_2) = v2 c
          ∧ r.2.mem ((c.tc : Thread Cert.UInIdeal.nD Cert.UInIdeal.τ).loc Cert.UInIdeal.main_v2_3) = v3 c
          ∧ r.2.mem ((c.tc : Thread Cert.UInIdeal.nD Cert.UInIdeal.τ).loc Cert.UInIdeal.main_arg0) = m ((c.tc : Thread Cert.UInIdeal.nD Cert.UInIdeal.τ).loc Cert.UInIdeal.main_arg0)
          ∧ r.2.mem ((c.tc : Thread Cert.UInIdeal.nD Cert.UInIdeal.τ).loc Cert.UInIdeal.main_arg1) = m ((c.tc : Thread Cert.UInIdeal.nD Cert.UInIdeal.τ).loc Cert.UInIdeal.main_arg1)
          ∧ r.2.mem ((c.tc : Thread Cert.UInIdeal.nD Cert.UInIdeal.τ).loc Cert.UInIdeal.main_arg2) = m ((c.tc : Thread Cert.UInIdeal.nD Cert.UInIdeal.τ).loc Cert.UInIdeal.main_arg2)
          ∧ r.2.mem ((c.tc : Thread Cert.UInIdeal.nD Cert.UInIdeal.τ).loc Cert.UInIdeal.main_arg3) = m ((c.tc : Thread Cert.UInIdeal.nD Cert.UInIdeal.τ).loc Cert.UInIdeal.main_arg3)
          ∧ r.2.mem ((c.tc : Thread Cert.UInIdeal.nD Cert.UInIdeal.τ).loc Cert.UInIdeal.main_arg4) = m ((c.tc : Thread Cert.UInIdeal.nD Cert.UInIdeal.τ).loc Cert.UInIdeal.main_arg4)
          ∧ r.2.mem ((c.tc : Thread Cert.UInIdeal.nD Cert.UInIdeal.τ).loc Cert.UInIdeal.main_arg5) = m ((c.tc : Thread Cert.UInIdeal.nD Cert.UInIdeal.τ).loc Cert.UInIdeal.main_arg5)
          ∧ r.2.mem ((c.tc : Thread Cert.UInIdeal.nD Cert.UInIdeal.τ).loc Cert.UInIdeal.main_arg6) = m ((c.tc : Thread Cert.UInIdeal.nD Cert.UInIdeal.τ).loc Cert.UInIdeal.main_arg6))
      ∧ θ_run (Cert.UInRefIdeal.defs (F := Ideal)) (onTc (τ := Cert.UInRefIdeal.τ) (Cert.UInRefIdeal.main (F := Ideal))) ⟨m', fun _ => 0, g'⟩ (fun r => ∀ c : Dev Cert.UInRefIdeal.nD,
          r.2.mem ((c.tc : Thread Cert.UInRefIdeal.nD Cert.UInRefIdeal.τ).loc Cert.UInRefIdeal.main_v10) = v0 c
          ∧ r.2.mem ((c.tc : Thread Cert.UInRefIdeal.nD Cert.UInRefIdeal.τ).loc Cert.UInRefIdeal.main_v34) = v1 c
          ∧ r.2.mem ((c.tc : Thread Cert.UInRefIdeal.nD Cert.UInRefIdeal.τ).loc Cert.UInRefIdeal.main_v15) = v2 c
          ∧ r.2.mem ((c.tc : Thread Cert.UInRefIdeal.nD Cert.UInRefIdeal.τ).loc Cert.UInRefIdeal.main_v21) = v3 c
          ∧ r.2.mem ((c.tc : Thread Cert.UInRefIdeal.nD Cert.UInRefIdeal.τ).loc Cert.UInRefIdeal.main_arg0) = m' ((c.tc : Thread Cert.UInRefIdeal.nD Cert.UInRefIdeal.τ).loc Cert.UInRefIdeal.main_arg0)
          ∧ r.2.mem ((c.tc : Thread Cert.UInRefIdeal.nD Cert.UInRefIdeal.τ).loc Cert.UInRefIdeal.main_arg1) = m' ((c.tc : Thread Cert.UInRefIdeal.nD Cert.UInRefIdeal.τ).loc Cert.UInRefIdeal.main_arg1)
          ∧ r.2.mem ((c.tc : Thread Cert.UInRefIdeal.nD Cert.UInRefIdeal.τ).loc Cert.UInRefIdeal.main_arg2) = m' ((c.tc : Thread Cert.UInRefIdeal.nD Cert.UInRefIdeal.τ).loc Cert.UInRefIdeal.main_arg2)
          ∧ r.2.mem ((c.tc : Thread Cert.UInRefIdeal.nD Cert.UInRefIdeal.τ).loc Cert.UInRefIdeal.main_arg3) = m' ((c.tc : Thread Cert.UInRefIdeal.nD Cert.UInRefIdeal.τ).loc Cert.UInRefIdeal.main_arg3)
          ∧ r.2.mem ((c.tc : Thread Cert.UInRefIdeal.nD Cert.UInRefIdeal.τ).loc Cert.UInRefIdeal.main_arg4) = m' ((c.tc : Thread Cert.UInRefIdeal.nD Cert.UInRefIdeal.τ).loc Cert.UInRefIdeal.main_arg4)
          ∧ r.2.mem ((c.tc : Thread Cert.UInRefIdeal.nD Cert.UInRefIdeal.τ).loc Cert.UInRefIdeal.main_arg5) = m' ((c.tc : Thread Cert.UInRefIdeal.nD Cert.UInRefIdeal.τ).loc Cert.UInRefIdeal.main_arg5)
          ∧ r.2.mem ((c.tc : Thread Cert.UInRefIdeal.nD Cert.UInRefIdeal.τ).loc Cert.UInRefIdeal.main_arg6) = m' ((c.tc : Thread Cert.UInRefIdeal.nD Cert.UInRefIdeal.τ).loc Cert.UInRefIdeal.main_arg6))

def Claim : Prop :=
  ∃ (hKernel : Cert.Kernel.Facts) (hKernelIdeal : Cert.KernelIdeal.Facts) (hReferenceIdeal : Cert.ReferenceIdeal.Facts) (hSecond : Cert.Second.Facts) (hSecondIdeal : Cert.SecondIdeal.Facts) (hSecondRefIdeal : Cert.SecondRefIdeal.Facts) (hLoss : Cert.Loss.Facts) (hLossIdeal : Cert.LossIdeal.Facts) (hLossRefIdeal : Cert.LossRefIdeal.Facts) (hWGuA : Cert.WGuA.Facts) (hWGuAIdeal : Cert.WGuAIdeal.Facts) (hWGuARefIdeal : Cert.WGuARefIdeal.Facts) (hWGuB : Cert.WGuB.Facts) (hWGuBIdeal : Cert.WGuBIdeal.Facts) (hWGuBRefIdeal : Cert.WGuBRefIdeal.Facts) (hWDown : Cert.WDown.Facts) (hWDownIdeal : Cert.WDownIdeal.Facts) (hWDownRefIdeal : Cert.WDownRefIdeal.Facts) (hWIn : Cert.WIn.Facts) (hWInIdeal : Cert.WInIdeal.Facts) (hWInRefIdeal : Cert.WInRefIdeal.Facts) (hWProj : Cert.WProj.Facts) (hWProjIdeal : Cert.WProjIdeal.Facts) (hWProjRefIdeal : Cert.WProjRefIdeal.Facts) (hWGates : Cert.WGates.Facts) (hWGatesIdeal : Cert.WGatesIdeal.Facts) (hWGatesRefIdeal : Cert.WGatesRefIdeal.Facts) (hUDown : Cert.UDown.Facts) (hUDownIdeal : Cert.UDownIdeal.Facts) (hUDownRefIdeal : Cert.UDownRefIdeal.Facts) (hUGu : Cert.UGu.Facts) (hUGuIdeal : Cert.UGuIdeal.Facts) (hUGuRefIdeal : Cert.UGuRefIdeal.Facts) (hUIn : Cert.UIn.Facts) (hUInIdeal : Cert.UInIdeal.Facts) (hUInRefIdeal : Cert.UInRefIdeal.Facts) (hPre_finite : Cert.Pre_finite.Facts) (hPre_device : Cert.Pre_device.Facts) (hPre_device_gu : Cert.Pre_device_gu.Facts) (hPre_device_in : Cert.Pre_device_in.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Second (hSecond := hSecond)
    ∧ quiescent_SecondIdeal (hSecondIdeal := hSecondIdeal)
    ∧ quiescent_SecondIdeal_pre_finite (hSecondIdeal := hSecondIdeal) (hPre_finite := hPre_finite)
    ∧ quiescent_SecondRefIdeal (hSecondRefIdeal := hSecondRefIdeal)
    ∧ quiescent_SecondRefIdeal_pre_finite (hSecondRefIdeal := hSecondRefIdeal) (hPre_finite := hPre_finite)
    ∧ quiescent_Loss (hLoss := hLoss)
    ∧ quiescent_LossIdeal (hLossIdeal := hLossIdeal)
    ∧ quiescent_LossRefIdeal (hLossRefIdeal := hLossRefIdeal)
    ∧ quiescent_WGuA (hWGuA := hWGuA)
    ∧ quiescent_WGuAIdeal (hWGuAIdeal := hWGuAIdeal)
    ∧ quiescent_WGuARefIdeal (hWGuARefIdeal := hWGuARefIdeal)
    ∧ quiescent_WGuB (hWGuB := hWGuB)
    ∧ quiescent_WGuBIdeal (hWGuBIdeal := hWGuBIdeal)
    ∧ quiescent_WGuBRefIdeal (hWGuBRefIdeal := hWGuBRefIdeal)
    ∧ quiescent_WDown (hWDown := hWDown)
    ∧ quiescent_WDownIdeal (hWDownIdeal := hWDownIdeal)
    ∧ quiescent_WDownRefIdeal (hWDownRefIdeal := hWDownRefIdeal)
    ∧ quiescent_WIn (hWIn := hWIn)
    ∧ quiescent_WInIdeal (hWInIdeal := hWInIdeal)
    ∧ quiescent_WInRefIdeal (hWInRefIdeal := hWInRefIdeal)
    ∧ quiescent_WProj (hWProj := hWProj)
    ∧ quiescent_WProjIdeal (hWProjIdeal := hWProjIdeal)
    ∧ quiescent_WProjRefIdeal (hWProjRefIdeal := hWProjRefIdeal)
    ∧ quiescent_WGates (hWGates := hWGates)
    ∧ quiescent_WGatesIdeal (hWGatesIdeal := hWGatesIdeal)
    ∧ quiescent_WGatesRefIdeal (hWGatesRefIdeal := hWGatesRefIdeal)
    ∧ quiescent_UDown (hUDown := hUDown) (hPre_device := hPre_device)
    ∧ quiescent_UDownIdeal (hUDownIdeal := hUDownIdeal) (hPre_device := hPre_device)
    ∧ quiescent_UDownRefIdeal (hUDownRefIdeal := hUDownRefIdeal)
    ∧ quiescent_UDownRefIdeal_pre_device (hUDownRefIdeal := hUDownRefIdeal) (hPre_device := hPre_device)
    ∧ quiescent_UGu (hUGu := hUGu) (hPre_device_gu := hPre_device_gu)
    ∧ quiescent_UGuIdeal (hUGuIdeal := hUGuIdeal) (hPre_device_gu := hPre_device_gu)
    ∧ quiescent_UGuRefIdeal (hUGuRefIdeal := hUGuRefIdeal)
    ∧ quiescent_UGuRefIdeal_pre_device_gu (hUGuRefIdeal := hUGuRefIdeal) (hPre_device_gu := hPre_device_gu)
    ∧ quiescent_UIn (hUIn := hUIn) (hPre_device_in := hPre_device_in)
    ∧ quiescent_UInIdeal (hUInIdeal := hUInIdeal) (hPre_device_in := hPre_device_in)
    ∧ quiescent_UInRefIdeal (hUInRefIdeal := hUInRefIdeal)
    ∧ quiescent_UInRefIdeal_pre_device_in (hUInRefIdeal := hUInRefIdeal) (hPre_device_in := hPre_device_in)
    ∧ preserves_Kernel_KernelIdeal
    ∧ algebraic_KernelIdeal_ReferenceIdeal_pre_finite (hKernelIdeal := hKernelIdeal) (hReferenceIdeal := hReferenceIdeal) (hPre_finite := hPre_finite)
    ∧ preserves_Second_SecondIdeal
    ∧ algebraic_SecondIdeal_SecondRefIdeal_pre_finite (hSecondIdeal := hSecondIdeal) (hSecondRefIdeal := hSecondRefIdeal) (hPre_finite := hPre_finite)
    ∧ preserves_Loss_LossIdeal
    ∧ algebraic_LossIdeal_LossRefIdeal (hLossIdeal := hLossIdeal) (hLossRefIdeal := hLossRefIdeal)
    ∧ preserves_WGuA_WGuAIdeal
    ∧ algebraic_WGuAIdeal_WGuARefIdeal (hWGuAIdeal := hWGuAIdeal) (hWGuARefIdeal := hWGuARefIdeal)
    ∧ preserves_WGuB_WGuBIdeal
    ∧ algebraic_WGuBIdeal_WGuBRefIdeal (hWGuBIdeal := hWGuBIdeal) (hWGuBRefIdeal := hWGuBRefIdeal)
    ∧ preserves_WDown_WDownIdeal
    ∧ algebraic_WDownIdeal_WDownRefIdeal (hWDownIdeal := hWDownIdeal) (hWDownRefIdeal := hWDownRefIdeal)
    ∧ preserves_WIn_WInIdeal
    ∧ algebraic_WInIdeal_WInRefIdeal (hWInIdeal := hWInIdeal) (hWInRefIdeal := hWInRefIdeal)
    ∧ preserves_WProj_WProjIdeal
    ∧ algebraic_WProjIdeal_WProjRefIdeal (hWProjIdeal := hWProjIdeal) (hWProjRefIdeal := hWProjRefIdeal)
    ∧ preserves_WGates_WGatesIdeal
    ∧ algebraic_WGatesIdeal_WGatesRefIdeal (hWGatesIdeal := hWGatesIdeal) (hWGatesRefIdeal := hWGatesRefIdeal)
    ∧ preserves_UDown_UDownIdeal
    ∧ algebraic_UDownIdeal_UDownRefIdeal (hUDownIdeal := hUDownIdeal) (hUDownRefIdeal := hUDownRefIdeal) (hPre_device := hPre_device)
    ∧ preserves_UGu_UGuIdeal
    ∧ algebraic_UGuIdeal_UGuRefIdeal (hUGuIdeal := hUGuIdeal) (hUGuRefIdeal := hUGuRefIdeal) (hPre_device_gu := hPre_device_gu)
    ∧ preserves_UIn_UInIdeal
    ∧ algebraic_UInIdeal_UInRefIdeal (hUInIdeal := hUInIdeal) (hUInRefIdeal := hUInRefIdeal) (hPre_device_in := hPre_device_in)
-- ==== Pre_device.lean ====
abbrev S8x352x1024 : Shape := ⟨3, ![8, 352, 1024]⟩
abbrev S7x352x1024 : Shape := ⟨3, ![7, 352, 1024]⟩
abbrev S1 : Shape := ⟨1, ![1]⟩
abbrev S1x352x1024 : Shape := ⟨3, ![1, 352, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x352x1024 .f32) (main_arg1 : FVec F S7x352x1024 .f32) (main_arg2 : IVec S1 32) (main_arg3 : FVec F S1x352x1024 .f32) (main_arg4 : FVec F S1x352x1024 .f32) (main_arg5 : FVec F S1x352x1024 .f32) (main_arg6 : FVec F S1x352x1024 .f32) : IVec S1 1 × IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  (main_v1, main_v3)
-- ==== Pre_device_gu.lean ====
abbrev S8x704x1024 : Shape := ⟨3, ![8, 704, 1024]⟩
abbrev S7x704x1024 : Shape := ⟨3, ![7, 704, 1024]⟩
abbrev S1 : Shape := ⟨1, ![1]⟩
abbrev S1x704x1024 : Shape := ⟨3, ![1, 704, 1024]⟩
abbrev S1x352x1024 : Shape := ⟨3, ![1, 352, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x704x1024 .f32) (main_arg1 : FVec F S7x704x1024 .f32) (main_arg2 : IVec S1 32) (main_arg3 : FVec F S1x704x1024 .f32) (main_arg4 : FVec F S1x704x1024 .f32) (main_arg5 : FVec F S1x704x1024 .f32) (main_arg6 : FVec F S1x352x1024 .f32) : IVec S1 1 × IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  (main_v1, main_v3)
-- ==== Pre_device_in.lean ====
abbrev S8x1024x768 : Shape := ⟨3, ![8, 1024, 768]⟩
abbrev S7x1024x768 : Shape := ⟨3, ![7, 1024, 768]⟩
abbrev S1 : Shape := ⟨1, ![1]⟩
abbrev S1x1024x768 : Shape := ⟨3, ![1, 1024, 768]⟩
abbrev S1x704x1024 : Shape := ⟨3, ![1, 704, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1024x768 .f32) (main_arg1 : FVec F S7x1024x768 .f32) (main_arg2 : IVec S1 32) (main_arg3 : FVec F S1x1024x768 .f32) (main_arg4 : FVec F S1x1024x768 .f32) (main_arg5 : FVec F S1x1024x768 .f32) (main_arg6 : FVec F S1x704x1024 .f32) : IVec S1 1 × IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  (main_v1, main_v3)
-- ==== Pre_finite.lean ====
abbrev S4160x1024 : Shape := ⟨2, ![4160, 1024]⟩
abbrev S1x1024 : Shape := ⟨2, ![1, 1024]⟩
abbrev S1024x5632 : Shape := ⟨2, ![1024, 5632]⟩
abbrev S2816x1024 : Shape := ⟨2, ![2816, 1024]⟩
abbrev S8x1024 : Shape := ⟨2, ![8, 1024]⟩
abbrev S8x128 : Shape := ⟨2, ![8, 128]⟩
abbrev S_ : Shape := ⟨0, ![]⟩

class Facts : Prop where
  bcast_S_S4160x1024 : S_.BroadcastsInDim S4160x1024 (![] : Fin 0 → Fin S4160x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4160x1024 .f32) (main_arg1 : FVec F S4160x1024 .f32) (main_arg2 : FVec F S1x1024 .f32) (main_arg3 : FVec F S1024x5632 .f32) (main_arg4 : FVec F S2816x1024 .f32) (main_arg5 : FVec F S8x1024 .f32) (main_arg6 : FVec F S8x128 .f32) : IVec S4160x1024 1 × IVec S1x1024 1 × IVec S1024x5632 1 × IVec S2816x1024 1 :=
  let main_v0 : FVec F S4160x1024 .f32 := Host.absf main_arg0
  let main_cst : FVec F S_ .f32 := constant S_ .f32 0x7F800000#32
  let main_v1 : FVec F S4160x1024 .f32 := broadcastInDim S4160x1024 ![] bcast_S_S4160x1024 main_cst
  let main_v2 : IVec S4160x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x5632 .f32 := Host.absf main_arg3
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg4
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  (main_v2, main_v5, main_v8, main_v11)
-- ==== Kernel.lean ====
abbrev S4160x1024 : Shape := ⟨2, ![4160, 1024]⟩
abbrev S1x1024 : Shape := ⟨2, ![1, 1024]⟩
abbrev S1024x5632 : Shape := ⟨2, ![1024, 5632]⟩
abbrev S2816x1024 : Shape := ⟨2, ![2816, 1024]⟩
abbrev S8x1024 : Shape := ⟨2, ![8, 1024]⟩
abbrev S8x128 : Shape := ⟨2, ![8, 128]⟩
abbrev S_ : Shape := ⟨0, ![]⟩
abbrev S4160 : Shape := ⟨1, ![4160]⟩
abbrev S4160x1 : Shape := ⟨2, ![4160, 1]⟩
abbrev S4160x5632 : Shape := ⟨2, ![4160, 5632]⟩
abbrev S4160x2816 : Shape := ⟨2, ![4160, 2816]⟩
abbrev S1x4160x2816 : Shape := ⟨3, ![1, 4160, 2816]⟩
abbrev S2x4160x2816 : Shape := ⟨3, ![2, 4160, 2816]⟩
abbrev S5632x1024 : Shape := ⟨2, ![5632, 1024]⟩
abbrev S416x1024 : Shape := ⟨2, ![416, 1024]⟩
abbrev S2x416x1408 : Shape := ⟨3, ![2, 416, 1408]⟩
abbrev S416x1408 : Shape := ⟨2, ![416, 1408]⟩
abbrev S2 : Shape := ⟨1, ![2]⟩
abbrev S1 : Shape := ⟨1, ![1]⟩
abbrev S1408x1024 : Shape := ⟨2, ![1408, 1024]⟩
abbrev S1x416x1408 : Shape := ⟨3, ![1, 416, 1408]⟩
abbrev S416 : Shape := ⟨1, ![416]⟩
abbrev S416x1 : Shape := ⟨2, ![416, 1]⟩
abbrev S1024 : Shape := ⟨1, ![1024]⟩

abbrev nBuf : Space → Nat
  | .hbm => 37
  | .vmem => 20
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S8x1024, .f32⟩
  | .hbm, ⟨6, _⟩ => ⟨S8x128, .f32⟩
  | .hbm, ⟨7, _⟩ => ⟨S4160x1024, .f32⟩
  | .hbm, ⟨8, _⟩ => ⟨S_, .f32⟩
  | .hbm, ⟨9, _⟩ => ⟨S4160, .f32⟩
  | .hbm, ⟨10, _⟩ => ⟨S4160x1, .f32⟩
  | .hbm, ⟨11, _⟩ => ⟨S_, .f32⟩
  | .hbm, ⟨12, _⟩ => ⟨S4160x1, .f32⟩
  | .hbm, ⟨13, _⟩ => ⟨S4160x1, .f32⟩
  | .hbm, ⟨14, _⟩ => ⟨S_, .f32⟩
  | .hbm, ⟨15, _⟩ => ⟨S4160x1, .f32⟩
  | .hbm, ⟨16, _⟩ => ⟨S4160x1, .f32⟩
  | .hbm, ⟨17, _⟩ => ⟨S4160x1, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S4160x1024, .f32⟩
  | .hbm, ⟨22, _⟩ => ⟨S4160x5632, .f32⟩
  | .hbm, ⟨23, _⟩ => ⟨S4160x2816, .f32⟩
  | .hbm, ⟨24, _⟩ => ⟨S4160x2816, .f32⟩
  | .hbm, ⟨25, _⟩ => ⟨S1x4160x2816, .f32⟩
  | .hbm, ⟨26, _⟩ => ⟨S1x4160x2816, .f32⟩
  | .hbm, ⟨27, _⟩ => ⟨S2x4160x2816, .f32⟩
  | .hbm, ⟨28, _⟩ => ⟨S2x4160x2816, .bf16⟩
  | .hbm, ⟨29, _⟩ => ⟨S5632x1024, .f32⟩
  | .hbm, ⟨30, _⟩ => ⟨S5632x1024, .bf16⟩
  | .hbm, ⟨31, _⟩ => ⟨S2816x1024, .bf16⟩
  | .hbm, ⟨32, _⟩ => ⟨S4160x1024, .f32⟩
  | .hbm, ⟨33, _⟩ => ⟨S2x4160x2816, .bf16⟩
  | .hbm, ⟨34, _⟩ => ⟨S4160x2816, .bf16⟩
  | .hbm, ⟨35, _⟩ => ⟨S4160x1024, .bf16⟩
  | .hbm, ⟨36, _⟩ => ⟨S8x1024, .f32⟩
  | .local _ .vmem, ⟨0, _⟩ => ⟨S416x1024, .f32⟩
  | .local _ .vmem, ⟨1, _⟩ => ⟨S416x1024, .f32⟩
  | .local _ .vmem, ⟨2, _⟩ => ⟨S416x1024, .f32⟩
  | .local _ .vmem, ⟨3, _⟩ => ⟨S416x1024, .f32⟩
  | .local _ .vmem, ⟨4, _⟩ => ⟨S2x416x1408, .bf16⟩
  | .local _ .vmem, ⟨5, _⟩ => ⟨S2x416x1408, .bf16⟩
  | .local _ .vmem, ⟨6, _⟩ => ⟨S1x1024, .f32⟩
  | .local _ .vmem, ⟨7, _⟩ => ⟨S8x1024, .f32⟩
  | .local _ .vmem, ⟨8, _⟩ => ⟨S416x1024, .f32⟩
  | .local _ .vmem, ⟨9, _⟩ => ⟨S416x1024, .f32⟩
  | .local _ .vmem, ⟨10, _⟩ => ⟨S2x416x1408, .bf16⟩
  | .local _ .vmem, ⟨11, _⟩ => ⟨S2x416x1408, .bf16⟩
  | .local _ .vmem, ⟨12, _⟩ => ⟨S416x1408, .bf16⟩
  | .local _ .vmem, ⟨13, _⟩ => ⟨S416x1408, .bf16⟩
  | .local _ .vmem, ⟨14, _⟩ => ⟨S416x1024, .bf16⟩
  | .local _ .vmem, ⟨15, _⟩ => ⟨S416x1024, .bf16⟩
  | .local _ .vmem, ⟨16, _⟩ => ⟨S8x1024, .f32⟩
  | .local _ .vmem, ⟨17, _⟩ => ⟨S5632x1024, .bf16⟩
  | .local _ .vmem, ⟨18, _⟩ => ⟨S2816x1024, .bf16⟩
  | .local _ .vmem, ⟨19, _⟩ => ⟨S416x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev main_v22_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨2, ![10, 2], ![false, false]⟩

def k0_mult1 (i : grid0.Coords) : BitVec 32 :=
  let arg1 : BitVec 32 := BitVec.ofNat 32 (i 1).val
  let c1408_i32 : BitVec 32 := 1408#32
  let v12 : BitVec 32 := Scalar.muli arg1 c1408_i32
  v12
def k0_off1 (i : grid0.Coords) : Fin 2 → Nat :=
  let arg1 : BitVec 32 := BitVec.ofNat 32 (i 1).val
  let c1408_i32 : BitVec 32 := 1408#32
  let v12 : BitVec 32 := Scalar.muli arg1 c1408_i32
  let v13 : BitVec 32 := v12
  let v14 : Index := Scalar.indexCast v13
  let c0_5 : Index := 0#32
  ![v14.toNat, 0]
def k0_off2 (i : grid0.Coords) : Fin 2 → Nat :=
  let arg1 : BitVec 32 := BitVec.ofNat 32 (i 1).val
  let c1408_i32 : BitVec 32 := 1408#32
  let v12 : BitVec 32 := Scalar.muli arg1 c1408_i32
  let v13 : BitVec 32 := v12
  let v52 : Index := Scalar.indexCast v13
  let c0_27 : Index := 0#32
  ![v52.toNat, 0]
def k0_mult2 (i : grid0.Coords) : BitVec 32 :=
  let c2816_i32 : BitVec 32 := 2816#32
  let arg1 : BitVec 32 := BitVec.ofNat 32 (i 1).val
  let c1408_i32_29 : BitVec 32 := 1408#32
  let v55 : BitVec 32 := Scalar.muli arg1 c1408_i32_29
  let v56 : BitVec 32 := Scalar.addi c2816_i32 v55
  v56
def k0_off3 (i : grid0.Coords) : Fin 2 → Nat :=
  let c2816_i32 : BitVec 32 := 2816#32
  let arg1 : BitVec 32 := BitVec.ofNat 32 (i 1).val
  let c1408_i32_29 : BitVec 32 := 1408#32
  let v55 : BitVec 32 := Scalar.muli arg1 c1408_i32_29
  let v56 : BitVec 32 := Scalar.addi c2816_i32 v55
  let v57 : BitVec 32 := v56
  let v58 : Index := Scalar.indexCast v57
  let c0_30 : Index := 0#32
  ![v58.toNat, 0]
def k0_cond3 (i : grid0.Coords) : BitVec 1 :=
  let arg1 : BitVec 32 := BitVec.ofNat 32 (i 1).val
  let c1_i32 : BitVec 32 := 1#32
  let v66 : BitVec 1 := Scalar.cmpi .eq arg1 c1_i32
  let v67 : BitVec 32 := Scalar.extui v66
  let c0_i32_34 : BitVec 32 := 0#32
  let v68 : BitVec 1 := Scalar.cmpi .ne v67 c0_i32_34
  v68

def k0_cond2 (i : grid0.Coords) : BitVec 1 :=
  let arg1 : BitVec 32 := BitVec.ofNat 32 (i 1).val
  let c0_i32_3 : BitVec 32 := 0#32
  let v9 : BitVec 1 := Scalar.cmpi .eq arg1 c0_i32_3
  let v10 : BitVec 32 := Scalar.extui v9
  let c0_i32_4 : BitVec 32 := 0#32
  let v11 : BitVec 1 := Scalar.cmpi .ne v10 c0_i32_4
  v11

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S416x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x416x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S416x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x416x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S416x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S416x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceIdeal.lean ====
abbrev S4160x1024 : Shape := ⟨2, ![4160, 1024]⟩
abbrev S1x1024 : Shape := ⟨2, ![1, 1024]⟩
abbrev S1024x5632 : Shape := ⟨2, ![1024, 5632]⟩
abbrev S2816x1024 : Shape := ⟨2, ![2816, 1024]⟩
abbrev S8x1024 : Shape := ⟨2, ![8, 1024]⟩
abbrev S8x128 : Shape := ⟨2, ![8, 128]⟩
abbrev S_ : Shape := ⟨0, ![]⟩
abbrev S4160 : Shape := ⟨1, ![4160]⟩
abbrev S4160x1 : Shape := ⟨2, ![4160, 1]⟩
abbrev S4160x5632 : Shape := ⟨2, ![4160, 5632]⟩
abbrev S4160x2816 : Shape := ⟨2, ![4160, 2816]⟩
abbrev S1024 : Shape := ⟨1, ![1024]⟩
abbrev S1x4160x2816 : Shape := ⟨3, ![1, 4160, 2816]⟩
abbrev S2x4160x2816 : Shape := ⟨3, ![2, 4160, 2816]⟩
abbrev S7x1024 : Shape := ⟨2, ![7, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S8x1024, .f32⟩
  | .hbm, ⟨6, _⟩ => ⟨S8x128, .f32⟩
  | .hbm, ⟨7, _⟩ => ⟨S4160x1024, .f32⟩
  | .hbm, ⟨8, _⟩ => ⟨S_, .f32⟩
  | .hbm, ⟨9, _⟩ => ⟨S4160, .f32⟩
  | .hbm, ⟨10, _⟩ => ⟨S4160x1, .f32⟩
  | .hbm, ⟨11, _⟩ => ⟨S_, .f32⟩
  | .hbm, ⟨12, _⟩ => ⟨S4160x1, .f32⟩
  | .hbm, ⟨13, _⟩ => ⟨S4160x1, .f32⟩
  | .hbm, ⟨14, _⟩ => ⟨S_, .f32⟩
  | .hbm, ⟨15, _⟩ => ⟨S4160x1, .f32⟩
  | .hbm, ⟨16, _⟩ => ⟨S4160x1, .f32⟩
  | .hbm, ⟨17, _⟩ => ⟨S4160x1, .f32⟩
  | .hbm, ⟨18, _⟩ => ⟨S4160x1, .f32⟩
  | .hbm, ⟨19, _⟩ => ⟨S_, .f32⟩
  | .hbm, ⟨20, _⟩ => ⟨S4160x1, .f32⟩
  | .hbm, ⟨21, _⟩ => ⟨S4160x1, .f32⟩
  | .hbm, ⟨22, _⟩ => ⟨S4160x1024, .f32⟩
  | .hbm, ⟨23, _⟩ => ⟨S4160x1024, .f32⟩
  | .hbm, ⟨24, _⟩ => ⟨S4160x1024, .f32⟩
  | .hbm, ⟨25, _⟩ => ⟨S4160x1024, .f32⟩
  | .hbm, ⟨26, _⟩ => ⟨S4160x5632, .f32⟩
  | .hbm, ⟨27, _⟩ => ⟨S4160x2816, .f32⟩
  | .hbm, ⟨28, _⟩ => ⟨S4160x2816, .f32⟩
  | .hbm, ⟨29, _⟩ => ⟨S4160x2816, .f32⟩
  | .hbm, ⟨30, _⟩ => ⟨S4160x2816, .f32⟩
  | .hbm, ⟨31, _⟩ => ⟨S_, .f32⟩
  | .hbm, ⟨32, _⟩ => ⟨S4160x2816, .f32⟩
  | .hbm, ⟨33, _⟩ => ⟨S4160x2816, .f32⟩
  | .hbm, ⟨34, _⟩ => ⟨S_, .f32⟩
  | .hbm, ⟨35, _⟩ => ⟨S4160x2816, .f32⟩
  | .hbm, ⟨36, _⟩ => ⟨S4160x2816, .f32⟩
  | .hbm, ⟨37, _⟩ => ⟨S_, .f32⟩
  | .hbm, ⟨38, _⟩ => ⟨S4160x2816, .f32⟩
  | .hbm, ⟨39, _⟩ => ⟨S4160x2816, .f32⟩
  | .hbm, ⟨40, _⟩ => ⟨S4160x2816, .f32⟩
  | .hbm, ⟨41, _⟩ => ⟨S4160x2816, .f32⟩
  | .hbm, ⟨42, _⟩ => ⟨S4160x2816, .f32⟩
  | .hbm, ⟨43, _⟩ => ⟨S4160x1024, .f32⟩
  | .hbm, ⟨44, _⟩ => ⟨S_, .f32⟩
  | .hbm, ⟨45, _⟩ => ⟨S4160x1024, .f32⟩
  | .hbm, ⟨46, _⟩ => ⟨S4160x1024, .f32⟩
  | .hbm, ⟨47, _⟩ => ⟨S_, .f32⟩
  | .hbm, ⟨48, _⟩ => ⟨S4160x1024, .f32⟩
  | .hbm, ⟨49, _⟩ => ⟨S4160x1024, .f32⟩
  | .hbm, ⟨50, _⟩ => ⟨S4160x2816, .f32⟩
  | .hbm, ⟨51, _⟩ => ⟨S4160x2816, .f32⟩
  | .hbm, ⟨52, _⟩ => ⟨S4160x2816, .f32⟩
  | .hbm, ⟨53, _⟩ => ⟨S4160x2816, .f32⟩
  | .hbm, ⟨54, _⟩ => ⟨S4160x2816, .f32⟩
  | .hbm, ⟨55, _⟩ => ⟨S4160x2816, .f32⟩
  | .hbm, ⟨56, _⟩ => ⟨S4160x2816, .f32⟩
  | .hbm, ⟨57, _⟩ => ⟨S4160x5632, .f32⟩
  | .hbm, ⟨58, _⟩ => ⟨S4160x1024, .f32⟩
  | .hbm, ⟨59, _⟩ => ⟨S4160x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4160x1024, .f32⟩
  | .hbm, ⟨64, _⟩ => ⟨S4160x1024, .f32⟩
  | .hbm, ⟨65, _⟩ => ⟨S4160x1024, .f32⟩
  | .hbm, ⟨66, _⟩ => ⟨S_, .f32⟩
  | .hbm, ⟨67, _⟩ => ⟨S4160, .f32⟩
  | .hbm, ⟨68, _⟩ => ⟨S4160x1, .f32⟩
  | .hbm, ⟨69, _⟩ => ⟨S4160x1024, .f32⟩
  | .hbm, ⟨70, _⟩ => ⟨S4160x1024, .f32⟩
  | .hbm, ⟨71, _⟩ => ⟨S4160x1, .f32⟩
  | .hbm, ⟨72, _⟩ => ⟨S_, .f32⟩
  | .hbm, ⟨73, _⟩ => ⟨S4160x1, .f32⟩
  | .hbm, ⟨74, _⟩ => ⟨S4160x1, .f32⟩
  | .hbm, ⟨75, _⟩ => ⟨S_, .f32⟩
  | .hbm, ⟨76, _⟩ => ⟨S4160, .f32⟩
  | .hbm, ⟨77, _⟩ => ⟨S4160x1024, .f32⟩
  | .hbm, ⟨78, _⟩ => ⟨S4160x1024, .f32⟩
  | .hbm, ⟨79, _⟩ => ⟨S4160x1024, .f32⟩
  | .hbm, ⟨80, _⟩ => ⟨S4160x1024, .f32⟩
  | .hbm, ⟨81, _⟩ => ⟨S4160x1024, .f32⟩
  | .hbm, ⟨82, _⟩ => ⟨S4160x1024, .f32⟩
  | .hbm, ⟨83, _⟩ => ⟨S1x4160x2816, .f32⟩
  | .hbm, ⟨84, _⟩ => ⟨S1x4160x2816, .f32⟩
  | .hbm, ⟨85, _⟩ => ⟨S2x4160x2816, .f32⟩
  | .hbm, ⟨86, _⟩ => ⟨S2x4160x2816, .bf16⟩
  | .hbm, ⟨87, _⟩ => ⟨S4160x2816, .bf16⟩
  | .hbm, ⟨88, _⟩ => ⟨S_, .f32⟩
  | .hbm, ⟨89, _⟩ => ⟨S4160x1024, .f32⟩
  | .hbm, ⟨90, _⟩ => ⟨S4160x1024, .f32⟩
  | .hbm, ⟨91, _⟩ => ⟨S4160x1024, .bf16⟩
  | .hbm, ⟨92, _⟩ => ⟨S_, .f32⟩
  | .hbm, ⟨93, _⟩ => ⟨S7x1024, .f32⟩
  | .hbm, ⟨94, _⟩ => ⟨S8x1024, .f32⟩
  | .hbm, ⟨95, _⟩ => ⟨S8x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_12 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_13 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== Second.lean ====
abbrev S4160x1024 : Shape := ⟨2, ![4160, 1024]⟩
abbrev S1x1024 : Shape := ⟨2, ![1, 1024]⟩
abbrev S1024x5632 : Shape := ⟨2, ![1024, 5632]⟩
abbrev S2816x1024 : Shape := ⟨2, ![2816, 1024]⟩
abbrev S8x1024 : Shape := ⟨2, ![8, 1024]⟩
abbrev S8x128 : Shape := ⟨2, ![8, 128]⟩
abbrev S_ : Shape := ⟨0, ![]⟩
abbrev S4160 : Shape := ⟨1, ![4160]⟩
abbrev S4160x1 : Shape := ⟨2, ![4160, 1]⟩
abbrev S4160x5632 : Shape := ⟨2, ![4160, 5632]⟩
abbrev S4160x2816 : Shape := ⟨2, ![4160, 2816]⟩
abbrev S1x4160x2816 : Shape := ⟨3, ![1, 4160, 2816]⟩
abbrev S2x4160x2816 : Shape := ⟨3, ![2, 4160, 2816]⟩
abbrev S5632x1024 : Shape := ⟨2, ![5632, 1024]⟩
abbrev S416x1024 : Shape := ⟨2, ![416, 1024]⟩
abbrev S2x416x1408 : Shape := ⟨3, ![2, 416, 1408]⟩
abbrev S416x1408 : Shape := ⟨2, ![416, 1408]⟩
abbrev S2 : Shape := ⟨1, ![2]⟩
abbrev S1 : Shape := ⟨1, ![1]⟩
abbrev S1408x1024 : Shape := ⟨2, ![1408, 1024]⟩
abbrev S1x416x1408 : Shape := ⟨3, ![1, 416, 1408]⟩
abbrev S416 : Shape := ⟨1, ![416]⟩
abbrev S416x1 : Shape := ⟨2, ![416, 1]⟩
abbrev S1024 : Shape := ⟨1, ![1024]⟩

abbrev nBuf : Space → Nat
  | .hbm => 37
  | .vmem => 20
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S8x1024, .f32⟩
  | .hbm, ⟨6, _⟩ => ⟨S8x128, .f32⟩
  | .hbm, ⟨7, _⟩ => ⟨S4160x1024, .f32⟩
  | .hbm, ⟨8, _⟩ => ⟨S_, .f32⟩
  | .hbm, ⟨9, _⟩ => ⟨S4160, .f32⟩
  | .hbm, ⟨10, _⟩ => ⟨S4160x1, .f32⟩
  | .hbm, ⟨11, _⟩ => ⟨S_, .f32⟩
  | .hbm, ⟨12, _⟩ => ⟨S4160x1, .f32⟩
  | .hbm, ⟨13, _⟩ => ⟨S4160x1, .f32⟩
  | .hbm, ⟨14, _⟩ => ⟨S_, .f32⟩
  | .hbm, ⟨15, _⟩ => ⟨S4160x1, .f32⟩
  | .hbm, ⟨16, _⟩ => ⟨S4160x1, .f32⟩
  | .hbm, ⟨17, _⟩ => ⟨S4160x1, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S4160x1024, .f32⟩
  | .hbm, ⟨22, _⟩ => ⟨S4160x5632, .f32⟩
  | .hbm, ⟨23, _⟩ => ⟨S4160x2816, .f32⟩
  | .hbm, ⟨24, _⟩ => ⟨S4160x2816, .f32⟩
  | .hbm, ⟨25, _⟩ => ⟨S1x4160x2816, .f32⟩
  | .hbm, ⟨26, _⟩ => ⟨S1x4160x2816, .f32⟩
  | .hbm, ⟨27, _⟩ => ⟨S2x4160x2816, .f32⟩
  | .hbm, ⟨28, _⟩ => ⟨S2x4160x2816, .bf16⟩
  | .hbm, ⟨29, _⟩ => ⟨S5632x1024, .f32⟩
  | .hbm, ⟨30, _⟩ => ⟨S5632x1024, .bf16⟩
  | .hbm, ⟨31, _⟩ => ⟨S2816x1024, .bf16⟩
  | .hbm, ⟨32, _⟩ => ⟨S4160x1024, .f32⟩
  | .hbm, ⟨33, _⟩ => ⟨S2x4160x2816, .bf16⟩
  | .hbm, ⟨34, _⟩ => ⟨S4160x2816, .bf16⟩
  | .hbm, ⟨35, _⟩ => ⟨S4160x1024, .bf16⟩
  | .hbm, ⟨36, _⟩ => ⟨S8x1024, .f32⟩
  | .local _ .vmem, ⟨0, _⟩ => ⟨S416x1024, .f32⟩
  | .local _ .vmem, ⟨1, _⟩ => ⟨S416x1024, .f32⟩
  | .local _ .vmem, ⟨2, _⟩ => ⟨S416x1024, .f32⟩
  | .local _ .vmem, ⟨3, _⟩ => ⟨S416x1024, .f32⟩
  | .local _ .vmem, ⟨4, _⟩ => ⟨S2x416x1408, .bf16⟩
  | .local _ .vmem, ⟨5, _⟩ => ⟨S2x416x1408, .bf16⟩
  | .local _ .vmem, ⟨6, _⟩ => ⟨S1x1024, .f32⟩
  | .local _ .vmem, ⟨7, _⟩ => ⟨S8x1024, .f32⟩
  | .local _ .vmem, ⟨8, _⟩ => ⟨S416x1024, .f32⟩
  | .local _ .vmem, ⟨9, _⟩ => ⟨S416x1024, .f32⟩
  | .local _ .vmem, ⟨10, _⟩ => ⟨S2x416x1408, .bf16⟩
  | .local _ .vmem, ⟨11, _⟩ => ⟨S2x416x1408, .bf16⟩
  | .local _ .vmem, ⟨12, _⟩ => ⟨S416x1408, .bf16⟩
  | .local _ .vmem, ⟨13, _⟩ => ⟨S416x1408, .bf16⟩
  | .local _ .vmem, ⟨14, _⟩ => ⟨S416x1024, .bf16⟩
  | .local _ .vmem, ⟨15, _⟩ => ⟨S416x1024, .bf16⟩
  | .local _ .vmem, ⟨16, _⟩ => ⟨S8x1024, .f32⟩
  | .local _ .vmem, ⟨17, _⟩ => ⟨S5632x1024, .bf16⟩
  | .local _ .vmem, ⟨18, _⟩ => ⟨S2816x1024, .bf16⟩
  | .local _ .vmem, ⟨19, _⟩ => ⟨S416x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev main_v22_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨2, ![10, 2], ![false, false]⟩

def k0_mult1 (i : grid0.Coords) : BitVec 32 :=
  let arg1 : BitVec 32 := BitVec.ofNat 32 (i 1).val
  let c1408_i32 : BitVec 32 := 1408#32
  let v12 : BitVec 32 := Scalar.muli arg1 c1408_i32
  v12
def k0_off1 (i : grid0.Coords) : Fin 2 → Nat :=
  let arg1 : BitVec 32 := BitVec.ofNat 32 (i 1).val
  let c1408_i32 : BitVec 32 := 1408#32
  let v12 : BitVec 32 := Scalar.muli arg1 c1408_i32
  let v13 : BitVec 32 := v12
  let v14 : Index := Scalar.indexCast v13
  let c0_5 : Index := 0#32
  ![v14.toNat, 0]
def k0_off2 (i : grid0.Coords) : Fin 2 → Nat :=
  let arg1 : BitVec 32 := BitVec.ofNat 32 (i 1).val
  let c1408_i32 : BitVec 32 := 1408#32
  let v12 : BitVec 32 := Scalar.muli arg1 c1408_i32
  let v13 : BitVec 32 := v12
  let v52 : Index := Scalar.indexCast v13
  let c0_27 : Index := 0#32
  ![v52.toNat, 0]
def k0_mult2 (i : grid0.Coords) : BitVec 32 :=
  let c2816_i32 : BitVec 32 := 2816#32
  let arg1 : BitVec 32 := BitVec.ofNat 32 (i 1).val
  let c1408_i32_29 : BitVec 32 := 1408#32
  let v55 : BitVec 32 := Scalar.muli arg1 c1408_i32_29
  let v56 : BitVec 32 := Scalar.addi c2816_i32 v55
  v56
def k0_off3 (i : grid0.Coords) : Fin 2 → Nat :=
  let c2816_i32 : BitVec 32 := 2816#32
  let arg1 : BitVec 32 := BitVec.ofNat 32 (i 1).val
  let c1408_i32_29 : BitVec 32 := 1408#32
  let v55 : BitVec 32 := Scalar.muli arg1 c1408_i32_29
  let v56 : BitVec 32 := Scalar.addi c2816_i32 v55
  let v57 : BitVec 32 := v56
  let v58 : Index := Scalar.indexCast v57
  let c0_30 : Index := 0#32
  ![v58.toNat, 0]
def k0_cond3 (i : grid0.Coords) : BitVec 1 :=
  let arg1 : BitVec 32 := BitVec.ofNat 32 (i 1).val
  let c1_i32 : BitVec 32 := 1#32
  let v66 : BitVec 1 := Scalar.cmpi .eq arg1 c1_i32
  let v67 : BitVec 32 := Scalar.extui v66
  let c0_i32_34 : BitVec 32 := 0#32
  let v68 : BitVec 1 := Scalar.cmpi .ne v67 c0_i32_34
  v68

def k0_cond2 (i : grid0.Coords) : BitVec 1 :=
  let arg1 : BitVec 32 := BitVec.ofNat 32 (i 1).val
  let c0_i32_3 : BitVec 32 := 0#32
  let v9 : BitVec 1 := Scalar.cmpi .eq arg1 c0_i32_3
  let v10 : BitVec 32 := Scalar.extui v9
  let c0_i32_4 : BitVec 32 := 0#32
  let v11 : BitVec 1 := Scalar.cmpi .ne v10 c0_i32_4
  v11

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S416x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x416x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S416x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x416x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S416x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S416x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== SecondRefIdeal.lean ====
abbrev S4160x1024 : Shape := ⟨2, ![4160, 1024]⟩
abbrev S1x1024 : Shape := ⟨2, ![1, 1024]⟩
abbrev S1024x5632 : Shape := ⟨2, ![1024, 5632]⟩
abbrev S2816x1024 : Shape := ⟨2, ![2816, 1024]⟩
abbrev S8x1024 : Shape := ⟨2, ![8, 1024]⟩
abbrev S8x128 : Shape := ⟨2, ![8, 128]⟩
abbrev S_ : Shape := ⟨0, ![]⟩
abbrev S4160 : Shape := ⟨1, ![4160]⟩
abbrev S4160x1 : Shape := ⟨2, ![4160, 1]⟩
abbrev S4160x5632 : Shape := ⟨2, ![4160, 5632]⟩
abbrev S4160x2816 : Shape := ⟨2, ![4160, 2816]⟩
abbrev S1024 : Shape := ⟨1, ![1024]⟩
abbrev S1x4160x2816 : Shape := ⟨3, ![1, 4160, 2816]⟩
abbrev S2x4160x2816 : Shape := ⟨3, ![2, 4160, 2816]⟩
abbrev S3x1024 : Shape := ⟨2, ![3, 1024]⟩
abbrev S4x1024 : Shape := ⟨2, ![4, 1024]⟩

abbrev nBuf : Space → Nat
  | .hbm => 98
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S8x1024, .f32⟩
  | .hbm, ⟨6, _⟩ => ⟨S8x128, .f32⟩
  | .hbm, ⟨7, _⟩ => ⟨S4160x1024, .f32⟩
  | .hbm, ⟨8, _⟩ => ⟨S_, .f32⟩
  | .hbm, ⟨9, _⟩ => ⟨S4160, .f32⟩
  | .hbm, ⟨10, _⟩ => ⟨S4160x1, .f32⟩
  | .hbm, ⟨11, _⟩ => ⟨S_, .f32⟩
  | .hbm, ⟨12, _⟩ => ⟨S4160x1, .f32⟩
  | .hbm, ⟨13, _⟩ => ⟨S4160x1, .f32⟩
  | .hbm, ⟨14, _⟩ => ⟨S_, .f32⟩
  | .hbm, ⟨15, _⟩ => ⟨S4160x1, .f32⟩
  | .hbm, ⟨16, _⟩ => ⟨S4160x1, .f32⟩
  | .hbm, ⟨17, _⟩ => ⟨S4160x1, .f32⟩
  | .hbm, ⟨18, _⟩ => ⟨S4160x1, .f32⟩
  | .hbm, ⟨19, _⟩ => ⟨S_, .f32⟩
  | .hbm, ⟨20, _⟩ => ⟨S4160x1, .f32⟩
  | .hbm, ⟨21, _⟩ => ⟨S4160x1, .f32⟩
  | .hbm, ⟨22, _⟩ => ⟨S4160x1024, .f32⟩
  | .hbm, ⟨23, _⟩ => ⟨S4160x1024, .f32⟩
  | .hbm, ⟨24, _⟩ => ⟨S4160x1024, .f32⟩
  | .hbm, ⟨25, _⟩ => ⟨S4160x1024, .f32⟩
  | .hbm, ⟨26, _⟩ => ⟨S4160x5632, .f32⟩
  | .hbm, ⟨27, _⟩ => ⟨S4160x2816, .f32⟩
  | .hbm, ⟨28, _⟩ => ⟨S4160x2816, .f32⟩
  | .hbm, ⟨29, _⟩ => ⟨S4160x2816, .f32⟩
  | .hbm, ⟨30, _⟩ => ⟨S4160x2816, .f32⟩
  | .hbm, ⟨31, _⟩ => ⟨S_, .f32⟩
  | .hbm, ⟨32, _⟩ => ⟨S4160x2816, .f32⟩
  | .hbm, ⟨33, _⟩ => ⟨S4160x2816, .f32⟩
  | .hbm, ⟨34, _⟩ => ⟨S_, .f32⟩
  | .hbm, ⟨35, _⟩ => ⟨S4160x2816, .f32⟩
  | .hbm, ⟨36, _⟩ => ⟨S4160x2816, .f32⟩
  | .hbm, ⟨37, _⟩ => ⟨S_, .f32⟩
  | .hbm, ⟨38, _⟩ => ⟨S4160x2816, .f32⟩
  | .hbm, ⟨39, _⟩ => ⟨S4160x2816, .f32⟩
  | .hbm, ⟨40, _⟩ => ⟨S4160x2816, .f32⟩
  | .hbm, ⟨41, _⟩ => ⟨S4160x2816, .f32⟩
  | .hbm, ⟨42, _⟩ => ⟨S4160x2816, .f32⟩
  | .hbm, ⟨43, _⟩ => ⟨S4160x1024, .f32⟩
  | .hbm, ⟨44, _⟩ => ⟨S_, .f32⟩
  | .hbm, ⟨45, _⟩ => ⟨S4160x1024, .f32⟩
  | .hbm, ⟨46, _⟩ => ⟨S4160x1024, .f32⟩
  | .hbm, ⟨47, _⟩ => ⟨S_, .f32⟩
  | .hbm, ⟨48, _⟩ => ⟨S4160x1024, .f32⟩
  | .hbm, ⟨49, _⟩ => ⟨S4160x1024, .f32⟩
  | .hbm, ⟨50, _⟩ => ⟨S4160x2816, .f32⟩
  | .hbm, ⟨51, _⟩ => ⟨S4160x2816, .f32⟩
  | .hbm, ⟨52, _⟩ => ⟨S4160x2816, .f32⟩
  | .hbm, ⟨53, _⟩ => ⟨S4160x2816, .f32⟩
  | .hbm, ⟨54, _⟩ => ⟨S4160x2816, .f32⟩
  | .hbm, ⟨55, _⟩ => ⟨S4160x2816, .f32⟩
  | .hbm, ⟨56, _⟩ => ⟨S4160x2816, .f32⟩
  | .hbm, ⟨57, _⟩ => ⟨S4160x5632, .f32⟩
  | .hbm, ⟨58, _⟩ => ⟨S4160x1024, .f32⟩
  | .hbm, ⟨59, _⟩ => ⟨S4160x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4160x1024, .f32⟩
  | .hbm, ⟨64, _⟩ => ⟨S4160x1024, .f32⟩
  | .hbm, ⟨65, _⟩ => ⟨S4160x1024, .f32⟩
  | .hbm, ⟨66, _⟩ => ⟨S_, .f32⟩
  | .hbm, ⟨67, _⟩ => ⟨S4160, .f32⟩
  | .hbm, ⟨68, _⟩ => ⟨S4160x1, .f32⟩
  | .hbm, ⟨69, _⟩ => ⟨S4160x1024, .f32⟩
  | .hbm, ⟨70, _⟩ => ⟨S4160x1024, .f32⟩
  | .hbm, ⟨71, _⟩ => ⟨S4160x1, .f32⟩
  | .hbm, ⟨72, _⟩ => ⟨S_, .f32⟩
  | .hbm, ⟨73, _⟩ => ⟨S4160x1, .f32⟩
  | .hbm, ⟨74, _⟩ => ⟨S4160x1, .f32⟩
  | .hbm, ⟨75, _⟩ => ⟨S_, .f32⟩
  | .hbm, ⟨76, _⟩ => ⟨S4160, .f32⟩
  | .hbm, ⟨77, _⟩ => ⟨S4160x1024, .f32⟩
  | .hbm, ⟨78, _⟩ => ⟨S4160x1024, .f32⟩
  | .hbm, ⟨79, _⟩ => ⟨S4160x1024, .f32⟩
  | .hbm, ⟨80, _⟩ => ⟨S4160x1024, .f32⟩
  | .hbm, ⟨81, _⟩ => ⟨S4160x1024, .f32⟩
  | .hbm, ⟨82, _⟩ => ⟨S4160x1024, .f32⟩
  | .hbm, ⟨83, _⟩ => ⟨S1x4160x2816, .f32⟩
  | .hbm, ⟨84, _⟩ => ⟨S1x4160x2816, .f32⟩
  | .hbm, ⟨85, _⟩ => ⟨S2x4160x2816, .f32⟩
  | .hbm, ⟨86, _⟩ => ⟨S2x4160x2816, .bf16⟩
  | .hbm, ⟨87, _⟩ => ⟨S4160x2816, .bf16⟩
  | .hbm, ⟨88, _⟩ => ⟨S_, .f32⟩
  | .hbm, ⟨89, _⟩ => ⟨S4160x1024, .f32⟩
  | .hbm, ⟨90, _⟩ => ⟨S4160x1024, .f32⟩
  | .hbm, ⟨91, _⟩ => ⟨S4160x1024, .bf16⟩
  | .hbm, ⟨92, _⟩ => ⟨S_, .f32⟩
  | .hbm, ⟨93, _⟩ => ⟨S3x1024, .f32⟩
  | .hbm, ⟨94, _⟩ => ⟨S_, .f32⟩
  | .hbm, ⟨95, _⟩ => ⟨S4x1024, .f32⟩
  | .hbm, ⟨96, _⟩ => ⟨S8x1024, .f32⟩
  | .hbm, ⟨97, _⟩ => ⟨S8x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_12 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_13 : Ref sig .tc := ⟨.hbm, 92, rfl⟩
abbrev main_v71 : Ref sig .tc := ⟨.hbm, 93, rfl⟩
abbrev main_cst_14 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩

abbrev nD : Nat := 1
abbrev τ : Topo := Topo.v7x

variable {F : FTy → Type} [FloatOps F]
-- ==== Loss.lean ====
abbrev S4160x1024 : Shape := ⟨2, ![4160, 1024]⟩
abbrev S1x1024 : Shape := ⟨2, ![1, 1024]⟩
abbrev S1024x5632 : Shape := ⟨2, ![1024, 5632]⟩
abbrev S2816x1024 : Shape := ⟨2, ![2816, 1024]⟩
abbrev S5632x1024 : Shape := ⟨2, ![5632, 1024]⟩
abbrev S2x4160x2816 : Shape := ⟨3, ![2, 4160, 2816]⟩
abbrev S8x1024 : Shape := ⟨2, ![8, 1024]⟩
abbrev S416x1024 : Shape := ⟨2, ![416, 1024]⟩
abbrev S2x416x2816 : Shape := ⟨3, ![2, 416, 2816]⟩
abbrev S2 : Shape := ⟨1, ![2]⟩
abbrev S1 : Shape := ⟨1, ![1]⟩
abbrev S_ : Shape := ⟨0, ![]⟩
abbrev S416 : Shape := ⟨1, ![416]⟩
abbrev S416x1 : Shape := ⟨2, ![416, 1]⟩
abbrev S416x2816 : Shape := ⟨2, ![416, 2816]⟩
abbrev S1x416x2816 : Shape := ⟨3, ![1, 416, 2816]⟩
abbrev S1x416x1024 : Shape := ⟨3, ![1, 416, 1024]⟩
abbrev S1x1x1 : Shape := ⟨3, ![1, 1, 1]⟩
abbrev S1024 : Shape := ⟨1, ![1024]⟩

abbrev nBuf : Space → Nat
  | .hbm => 13
  | .vmem => 15
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S4160x1024, .f32⟩
  | .hbm, ⟨5, _⟩ => ⟨S1x1024, .f32⟩
  | .hbm, ⟨6, _⟩ => ⟨S5632x1024, .f32⟩
  | .hbm, ⟨7, _⟩ => ⟨S5632x1024, .bf16⟩
  | .hbm, ⟨8, _⟩ => ⟨S2816x1024, .bf16⟩
  | .hbm, ⟨9, _⟩ => ⟨S4160x1024, .f32⟩
  | .hbm, ⟨10, _⟩ => ⟨S2x4160x2816, .bf16⟩
  | .hbm, ⟨11, _⟩ => ⟨S4160x1024, .bf16⟩
  | .hbm, ⟨12, _⟩ => ⟨S8x1024, .f32⟩
  | .local _ .vmem, ⟨0, _⟩ => ⟨S416x1024, .f32⟩
  | .local _ .vmem, ⟨1, _⟩ => ⟨S416x1024, .f32⟩
  | .local _ .vmem, ⟨2, _⟩ => ⟨S1x1024, .f32⟩
  | .local _ .vmem, ⟨3, _⟩ => ⟨S416x1024, .f32⟩
  | .local _ .vmem, ⟨4, _⟩ => ⟨S416x1024, .f32⟩
  | .local _ .vmem, ⟨5, _⟩ => ⟨S1x1024, .f32⟩
  | .local _ .vmem, ⟨6, _⟩ => ⟨S416x1024, .f32⟩
  | .local _ .vmem, ⟨7, _⟩ => ⟨S416x1024, .f32⟩
  | .local _ .vmem, ⟨8, _⟩ => ⟨S2x416x2816, .bf16⟩
  | .local _ .vmem, ⟨9, _⟩ => ⟨S2x416x2816, .bf16⟩
  | .local _ .vmem, ⟨10, _⟩ => ⟨S416x1024, .bf16⟩
  | .local _ .vmem, ⟨11, _⟩ => ⟨S416x1024, .bf16⟩
  | .local _ .vmem, ⟨12, _⟩ => ⟨S8x1024, .f32⟩
  | .local _ .vmem, ⟨13, _⟩ => ⟨S5632x1024, .bf16⟩
  | .local _ .vmem, ⟨14, _⟩ => ⟨S2816x1024, .bf16⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S416x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x416x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S416x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S4160x1024 : Shape := ⟨2, ![4160, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4160 : Shape := ⟨1, ![4160]⟩
abbrev S4160x1 : Shape := ⟨2, ![4160, 1]⟩
abbrev S4160x5632 : Shape := ⟨2, ![4160, 5632]⟩
abbrev S4160x2816 : Shape := ⟨2, ![4160, 2816]⟩
abbrev S4096x1024 : Shape := ⟨2, ![4096, 1024]⟩
abbrev S4096 : Shape := ⟨1, ![4096]⟩
abbrev S1024 : Shape := ⟨1, ![1024]⟩
abbrev S5x1024 : Shape := ⟨2, ![5, 1024]⟩
abbrev S8x1024 : Shape := ⟨2, ![8, 1024]⟩
abbrev S1x4160x2816 : Shape := ⟨3, ![1, 4160, 2816]⟩
abbrev S2x4160x2816 : Shape := ⟨3, ![2, 4160, 2816]⟩

abbrev nBuf : Space → Nat
  | .hbm => 118
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S4160x1024, .f32⟩
  | .hbm, ⟨5, _⟩ => ⟨S1x1024, .f32⟩
  | .hbm, ⟨6, _⟩ => ⟨S4160x1024, .f32⟩
  | .hbm, ⟨7, _⟩ => ⟨S_, .f32⟩
  | .hbm, ⟨8, _⟩ => ⟨S4160, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S_, .f32⟩
  | .hbm, ⟨14, _⟩ => ⟨S4160x1, .f32⟩
  | .hbm, ⟨15, _⟩ => ⟨S4160x1, .f32⟩
  | .hbm, ⟨16, _⟩ => ⟨S4160x1, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S4160x5632, .f32⟩
  | .hbm, ⟨22, _⟩ => ⟨S4160x2816, .f32⟩
  | .hbm, ⟨23, _⟩ => ⟨S4160x2816, .f32⟩
  | .hbm, ⟨24, _⟩ => ⟨S4160x2816, .f32⟩
  | .hbm, ⟨25, _⟩ => ⟨S4160x2816, .f32⟩
  | .hbm, ⟨26, _⟩ => ⟨S_, .f32⟩
  | .hbm, ⟨27, _⟩ => ⟨S4160x2816, .f32⟩
  | .hbm, ⟨28, _⟩ => ⟨S4160x2816, .f32⟩
  | .hbm, ⟨29, _⟩ => ⟨S_, .f32⟩
  | .hbm, ⟨30, _⟩ => ⟨S4160x2816, .f32⟩
  | .hbm, ⟨31, _⟩ => ⟨S4160x2816, .f32⟩
  | .hbm, ⟨32, _⟩ => ⟨S4160x2816, .f32⟩
  | .hbm, ⟨33, _⟩ => ⟨S4160x2816, .f32⟩
  | .hbm, ⟨34, _⟩ => ⟨S4160x1024, .f32⟩
  | .hbm, ⟨35, _⟩ => ⟨S_, .f32⟩
  | .hbm, ⟨36, _⟩ => ⟨S4160x1024, .f32⟩
  | .hbm, ⟨37, _⟩ => ⟨S4160x1024, .f32⟩
  | .hbm, ⟨38, _⟩ => ⟨S4160x1024, .f32⟩
  | .hbm, ⟨39, _⟩ => ⟨S4160x1024, .f32⟩
  | .hbm, ⟨40, _⟩ => ⟨S_, .f32⟩
  | .hbm, ⟨41, _⟩ => ⟨S4160, .f32⟩
  | .hbm, ⟨42, _⟩ => ⟨S4160x1, .f32⟩
  | .hbm, ⟨43, _⟩ => ⟨S_, .f32⟩
  | .hbm, ⟨44, _⟩ => ⟨S4160x1, .f32⟩
  | .hbm, ⟨45, _⟩ => ⟨S4160x1, .f32⟩
  | .hbm, ⟨46, _⟩ => ⟨S_, .f32⟩
  | .hbm, ⟨47, _⟩ => ⟨S4160x1, .f32⟩
  | .hbm, ⟨48, _⟩ => ⟨S4160x1, .f32⟩
  | .hbm, ⟨49, _⟩ => ⟨S4160x1, .f32⟩
  | .hbm, ⟨50, _⟩ => ⟨S4160x1, .f32⟩
  | .hbm, ⟨51, _⟩ => ⟨S_, .f32⟩
  | .hbm, ⟨52, _⟩ => ⟨S4160x1, .f32⟩
  | .hbm, ⟨53, _⟩ => ⟨S4160x1, .f32⟩
  | .hbm, ⟨54, _⟩ => ⟨S4160x1024, .f32⟩
  | .hbm, ⟨55, _⟩ => ⟨S4160x1024, .f32⟩
  | .hbm, ⟨56, _⟩ => ⟨S4160x1024, .f32⟩
  | .hbm, ⟨57, _⟩ => ⟨S4160x1024, .f32⟩
  | .hbm, ⟨58, _⟩ => ⟨S4160x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S4096, .f32⟩
  | .hbm, ⟨77, _⟩ => ⟨S_, .f32⟩
  | .hbm, ⟨78, _⟩ => ⟨S4096, .f32⟩
  | .hbm, ⟨79, _⟩ => ⟨S4096, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4160x1024, .f32⟩
  | .hbm, ⟨84, _⟩ => ⟨S4160x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S4160x1024, .f32⟩
  | .hbm, ⟨89, _⟩ => ⟨S4160x1024, .f32⟩
  | .hbm, ⟨90, _⟩ => ⟨S4160x1024, .f32⟩
  | .hbm, ⟨91, _⟩ => ⟨S_, .f32⟩
  | .hbm, ⟨92, _⟩ => ⟨S4160, .f32⟩
  | .hbm, ⟨93, _⟩ => ⟨S4160x1, .f32⟩
  | .hbm, ⟨94, _⟩ => ⟨S4160x1024, .f32⟩
  | .hbm, ⟨95, _⟩ => ⟨S4160x1024, .f32⟩
  | .hbm, ⟨96, _⟩ => ⟨S4160x1, .f32⟩
  | .hbm, ⟨97, _⟩ => ⟨S_, .f32⟩
  | .hbm, ⟨98, _⟩ => ⟨S4160x1, .f32⟩
  | .hbm, ⟨99, _⟩ => ⟨S4160x1, .f32⟩
  | .hbm, ⟨100, _⟩ => ⟨S_, .f32⟩
  | .hbm, ⟨101, _⟩ => ⟨S4160, .f32⟩
  | .hbm, ⟨102, _⟩ => ⟨S4160x1024, .f32⟩
  | .hbm, ⟨103, _⟩ => ⟨S4160x1024, .f32⟩
  | .hbm, ⟨104, _⟩ => ⟨S4160x1024, .f32⟩
  | .hbm, ⟨105, _⟩ => ⟨S4160x1024, .f32⟩
  | .hbm, ⟨106, _⟩ => ⟨S4160x1024, .f32⟩
  | .hbm, ⟨107, _⟩ => ⟨S_, .f32⟩
  | .hbm, ⟨108, _⟩ => ⟨S1x1024, .f32⟩
  | .hbm, ⟨109, _⟩ => ⟨S1x1024, .f32⟩
  | .hbm, ⟨110, _⟩ => ⟨S_, .f32⟩
  | .hbm, ⟨111, _⟩ => ⟨S5x1024, .f32⟩
  | .hbm, ⟨112, _⟩ => ⟨S8x1024, .f32⟩
  | .hbm, ⟨113, _⟩ => ⟨S1x4160x2816, .f32⟩
  | .hbm, ⟨114, _⟩ => ⟨S1x4160x2816, .f32⟩
  | .hbm, ⟨115, _⟩ => ⟨S2x4160x2816, .f32⟩
  | .hbm, ⟨116, _⟩ => ⟨S2x4160x2816, .bf16⟩
  | .hbm, ⟨117, _⟩ => ⟨S4160x1024, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_cst_14 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_17 : Ref sig .tc := ⟨.hbm, 82, rfl⟩
abbrev main_v58 : Ref sig .tc := ⟨.hbm, 83, rfl⟩
abbrev main_v59 : Ref sig .tc := ⟨.hbm, 84, rfl⟩
abbrev main_cst_18 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_19 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_20 : Ref sig .tc := ⟨.hbm, 97, rfl⟩
abbrev main_v70 : Ref sig .tc := ⟨.hbm, 98, rfl⟩
abbrev main_v71 : Ref sig .tc := ⟨.hbm, 99, rfl⟩
abbrev main_cst_21 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_22 : Ref sig .tc := ⟨.hbm, 107, rfl⟩
abbrev main_v78 : Ref sig .tc := ⟨.hbm, 108, rfl⟩
abbrev main_v79 : Ref sig .tc := ⟨.hbm, 109, rfl⟩
abbrev main_cst_23 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩

abbrev nD : Nat := 1
abbrev τ : Topo := Topo.v7x

variable {F : FTy → Type} [FloatOps F]
-- ==== WGuA.lean ====
abbrev S2x4160x2816 : Shape := ⟨3, ![2, 4160, 2816]⟩
abbrev S4160x1024 : Shape := ⟨2, ![4160, 1024]⟩
abbrev S1x1024 : Shape := ⟨2, ![1, 1024]⟩
abbrev S8x128 : Shape := ⟨2, ![8, 128]⟩
abbrev S_ : Shape := ⟨0, ![]⟩
abbrev S4160 : Shape := ⟨1, ![4160]⟩
abbrev S4160x1 : Shape := ⟨2, ![4160, 1]⟩
abbrev S4x1408x1024 : Shape := ⟨3, ![4, 1408, 1024]⟩
abbrev S1x4160x1408 : Shape := ⟨3, ![1, 4160, 1408]⟩
abbrev S1x1408x1024 : Shape := ⟨3, ![1, 1408, 1024]⟩
abbrev S1408x1024 : Shape := ⟨2, ![1408, 1024]⟩
abbrev S4160x1408 : Shape := ⟨2, ![4160, 1408]⟩

abbrev nBuf : Space → Nat
  | .hbm => 22
  | .vmem => 6
  | .smem => 0
  | _ => 0

abbrev bufTy : (tb : Table) → Fin (tcTables nBuf tb) → BufTy
  | .hbm, ⟨0, _⟩ => ⟨S2x4160x2816, .f32⟩
  | .hbm, ⟨1, _⟩ => ⟨S4160x1024, .f32⟩
  | .hbm, ⟨2, _⟩ => ⟨S1x1024, .f32⟩
  | .hbm, ⟨3, _⟩ => ⟨S8x128, .f32⟩
  | .hbm, ⟨4, _⟩ => ⟨S2x4160x2816, .bf16⟩
  | .hbm, ⟨5, _⟩ => ⟨S4160x1024, .f32⟩
  | .hbm, ⟨6, _⟩ => ⟨S_, .f32⟩
  | .hbm, ⟨7, _⟩ => ⟨S4160, .f32⟩
  | .hbm, ⟨8, _⟩ => ⟨S4160x1, .f32⟩
  | .hbm, ⟨9, _⟩ => ⟨S_, .f32⟩
  | .hbm, ⟨10, _⟩ => ⟨S4160x1, .f32⟩
  | .hbm, ⟨11, _⟩ => ⟨S4160x1, .f32⟩
  | .hbm, ⟨12, _⟩ => ⟨S_, .f32⟩
  | .hbm, ⟨13, _⟩ => ⟨S4160x1, .f32⟩
  | .hbm, ⟨14, _⟩ => ⟨S4160x1, .f32⟩
  | .hbm, ⟨15, _⟩ => ⟨S4160x1, .f32⟩
  | .hbm, ⟨16, _⟩ => ⟨S4160x1024, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x1024, .bf16⟩
  | .hbm, ⟨21, _⟩ => ⟨S4x1408x1024, .bf16⟩
  | .local _ .vmem, ⟨0, _⟩ => ⟨S1x4160x1408, .bf16⟩
  | .local _ .vmem, ⟨1, _⟩ => ⟨S1x4160x1408, .bf16⟩
  | .local _ .vmem, ⟨2, _⟩ => ⟨S4160x1024, .bf16⟩
  | .local _ .vmem, ⟨3, _⟩ => ⟨S1x1408x1024, .bf16⟩
  | .local _ .vmem, ⟨4, _⟩ => ⟨S1x1408x1024, .bf16⟩
  | .local _ .vmem, ⟨5, _⟩ => ⟨S1408x1024, .f32⟩
  | _, _ => ⟨S2x4160x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_9 : BitVec 32 := 0#32
  let v13 : BitVec 1 := Scalar.cmpi .eq arg1 c0_i32_9
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4160x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4160x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WGuARefIdeal.lean ====
abbrev S2x4160x2816 : Shape := ⟨3, ![2, 4160, 2816]⟩
abbrev S4160x1024 : Shape := ⟨2, ![4160, 1024]⟩
abbrev S1x1024 : Shape := ⟨2, ![1, 1024]⟩
abbrev S8x128 : Shape := ⟨2, ![8, 128]⟩
abbrev S_ : Shape := ⟨0, ![]⟩
abbrev S1024x5632 : Shape := ⟨2, ![1024, 5632]⟩
abbrev S4160 : Shape := ⟨1, ![4160]⟩
abbrev S4160x1 : Shape := ⟨2, ![4160, 1]⟩
abbrev S4160x5632 : Shape := ⟨2, ![4160, 5632]⟩
abbrev S1x4160x2816 : Shape := ⟨3, ![1, 4160, 2816]⟩
abbrev S4160x2816 : Shape := ⟨2, ![4160, 2816]⟩
abbrev S5632x1024 : Shape := ⟨2, ![5632, 1024]⟩
abbrev S4x1408x1024 : Shape := ⟨3, ![4, 1408, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2x4160x2816, .f32⟩
  | .hbm, ⟨1, _⟩ => ⟨S4160x1024, .f32⟩
  | .hbm, ⟨2, _⟩ => ⟨S1x1024, .f32⟩
  | .hbm, ⟨3, _⟩ => ⟨S8x128, .f32⟩
  | .hbm, ⟨4, _⟩ => ⟨S_, .f32⟩
  | .hbm, ⟨5, _⟩ => ⟨S1024x5632, .f32⟩
  | .hbm, ⟨6, _⟩ => ⟨S4160x1024, .f32⟩
  | .hbm, ⟨7, _⟩ => ⟨S_, .f32⟩
  | .hbm, ⟨8, _⟩ => ⟨S4160, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S_, .f32⟩
  | .hbm, ⟨14, _⟩ => ⟨S4160x1, .f32⟩
  | .hbm, ⟨15, _⟩ => ⟨S4160x1, .f32⟩
  | .hbm, ⟨16, _⟩ => ⟨S4160x1, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S4160x5632, .f32⟩
  | .hbm, ⟨22, _⟩ => ⟨S1x4160x2816, .f32⟩
  | .hbm, ⟨23, _⟩ => ⟨S4160x2816, .f32⟩
  | .hbm, ⟨24, _⟩ => ⟨S1x4160x2816, .f32⟩
  | .hbm, ⟨25, _⟩ => ⟨S4160x2816, .f32⟩
  | .hbm, ⟨26, _⟩ => ⟨S4160x5632, .f32⟩
  | .hbm, ⟨27, _⟩ => ⟨S5632x1024, .f32⟩
  | .hbm, ⟨28, _⟩ => ⟨S1024x5632, .f32⟩
  | .hbm, ⟨29, _⟩ => ⟨S5632x1024, .f32⟩
  | .hbm, ⟨30, _⟩ => ⟨S4x1408x1024, .f32⟩
  | .hbm, ⟨31, _⟩ => ⟨S4x1408x1024, .bf16⟩
  | _, _ => ⟨S2x4160x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== WGuB.lean ====
abbrev S2x4160x2816 : Shape := ⟨3, ![2, 4160, 2816]⟩
abbrev S4160x1024 : Shape := ⟨2, ![4160, 1024]⟩
abbrev S1x1024 : Shape := ⟨2, ![1, 1024]⟩
abbrev S_ : Shape := ⟨0, ![]⟩
abbrev S4160 : Shape := ⟨1, ![4160]⟩
abbrev S4160x1 : Shape := ⟨2, ![4160, 1]⟩
abbrev S4x1408x1024 : Shape := ⟨3, ![4, 1408, 1024]⟩
abbrev S1x4160x1408 : Shape := ⟨3, ![1, 4160, 1408]⟩
abbrev S1x1408x1024 : Shape := ⟨3, ![1, 1408, 1024]⟩
abbrev S1408x1024 : Shape := ⟨2, ![1408, 1024]⟩
abbrev S4160x1408 : Shape := ⟨2, ![4160, 1408]⟩

abbrev nBuf : Space → Nat
  | .hbm => 21
  | .vmem => 6
  | .smem => 0
  | _ => 0

abbrev bufTy : (tb : Table) → Fin (tcTables nBuf tb) → BufTy
  | .hbm, ⟨0, _⟩ => ⟨S2x4160x2816, .f32⟩
  | .hbm, ⟨1, _⟩ => ⟨S4160x1024, .f32⟩
  | .hbm, ⟨2, _⟩ => ⟨S1x1024, .f32⟩
  | .hbm, ⟨3, _⟩ => ⟨S2x4160x2816, .bf16⟩
  | .hbm, ⟨4, _⟩ => ⟨S4160x1024, .f32⟩
  | .hbm, ⟨5, _⟩ => ⟨S_, .f32⟩
  | .hbm, ⟨6, _⟩ => ⟨S4160, .f32⟩
  | .hbm, ⟨7, _⟩ => ⟨S4160x1, .f32⟩
  | .hbm, ⟨8, _⟩ => ⟨S_, .f32⟩
  | .hbm, ⟨9, _⟩ => ⟨S4160x1, .f32⟩
  | .hbm, ⟨10, _⟩ => ⟨S4160x1, .f32⟩
  | .hbm, ⟨11, _⟩ => ⟨S_, .f32⟩
  | .hbm, ⟨12, _⟩ => ⟨S4160x1, .f32⟩
  | .hbm, ⟨13, _⟩ => ⟨S4160x1, .f32⟩
  | .hbm, ⟨14, _⟩ => ⟨S4160x1, .f32⟩
  | .hbm, ⟨15, _⟩ => ⟨S4160x1024, .f32⟩
  | .hbm, ⟨16, _⟩ => ⟨S4160x1024, .f32⟩
  | .hbm, ⟨17, _⟩ => ⟨S4160x1024, .f32⟩
  | .hbm, ⟨18, _⟩ => ⟨S4160x1024, .f32⟩
  | .hbm, ⟨19, _⟩ => ⟨S4160x1024, .bf16⟩
  | .hbm, ⟨20, _⟩ => ⟨S4x1408x1024, .bf16⟩
  | .local _ .vmem, ⟨0, _⟩ => ⟨S1x4160x1408, .bf16⟩
  | .local _ .vmem, ⟨1, _⟩ => ⟨S1x4160x1408, .bf16⟩
  | .local _ .vmem, ⟨2, _⟩ => ⟨S4160x1024, .bf16⟩
  | .local _ .vmem, ⟨3, _⟩ => ⟨S1x1408x1024, .bf16⟩
  | .local _ .vmem, ⟨4, _⟩ => ⟨S1x1408x1024, .bf16⟩
  | .local _ .vmem, ⟨5, _⟩ => ⟨S1408x1024, .f32⟩
  | _, _ => ⟨S2x4160x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_9 : BitVec 32 := 0#32
  let v13 : BitVec 1 := Scalar.cmpi .eq arg1 c0_i32_9
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4160x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4160x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WGuBRefIdeal.lean ====
abbrev S2x4160x2816 : Shape := ⟨3, ![2, 4160, 2816]⟩
abbrev S4160x1024 : Shape := ⟨2, ![4160, 1024]⟩
abbrev S1x1024 : Shape := ⟨2, ![1, 1024]⟩
abbrev S_ : Shape := ⟨0, ![]⟩
abbrev S1024x5632 : Shape := ⟨2, ![1024, 5632]⟩
abbrev S4160 : Shape := ⟨1, ![4160]⟩
abbrev S4160x1 : Shape := ⟨2, ![4160, 1]⟩
abbrev S4160x5632 : Shape := ⟨2, ![4160, 5632]⟩
abbrev S1x4160x2816 : Shape := ⟨3, ![1, 4160, 2816]⟩
abbrev S4160x2816 : Shape := ⟨2, ![4160, 2816]⟩
abbrev S5632x1024 : Shape := ⟨2, ![5632, 1024]⟩
abbrev S4x1408x1024 : Shape := ⟨3, ![4, 1408, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2x4160x2816, .f32⟩
  | .hbm, ⟨1, _⟩ => ⟨S4160x1024, .f32⟩
  | .hbm, ⟨2, _⟩ => ⟨S1x1024, .f32⟩
  | .hbm, ⟨3, _⟩ => ⟨S_, .f32⟩
  | .hbm, ⟨4, _⟩ => ⟨S1024x5632, .f32⟩
  | .hbm, ⟨5, _⟩ => ⟨S4160x1024, .f32⟩
  | .hbm, ⟨6, _⟩ => ⟨S_, .f32⟩
  | .hbm, ⟨7, _⟩ => ⟨S4160, .f32⟩
  | .hbm, ⟨8, _⟩ => ⟨S4160x1, .f32⟩
  | .hbm, ⟨9, _⟩ => ⟨S_, .f32⟩
  | .hbm, ⟨10, _⟩ => ⟨S4160x1, .f32⟩
  | .hbm, ⟨11, _⟩ => ⟨S4160x1, .f32⟩
  | .hbm, ⟨12, _⟩ => ⟨S_, .f32⟩
  | .hbm, ⟨13, _⟩ => ⟨S4160x1, .f32⟩
  | .hbm, ⟨14, _⟩ => ⟨S4160x1, .f32⟩
  | .hbm, ⟨15, _⟩ => ⟨S4160x1, .f32⟩
  | .hbm, ⟨16, _⟩ => ⟨S4160x1024, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x5632, .f32⟩
  | .hbm, ⟨21, _⟩ => ⟨S1x4160x2816, .f32⟩
  | .hbm, ⟨22, _⟩ => ⟨S4160x2816, .f32⟩
  | .hbm, ⟨23, _⟩ => ⟨S1x4160x2816, .f32⟩
  | .hbm, ⟨24, _⟩ => ⟨S4160x2816, .f32⟩
  | .hbm, ⟨25, _⟩ => ⟨S4160x5632, .f32⟩
  | .hbm, ⟨26, _⟩ => ⟨S5632x1024, .f32⟩
  | .hbm, ⟨27, _⟩ => ⟨S1024x5632, .f32⟩
  | .hbm, ⟨28, _⟩ => ⟨S5632x1024, .f32⟩
  | .hbm, ⟨29, _⟩ => ⟨S4x1408x1024, .f32⟩
  | .hbm, ⟨30, _⟩ => ⟨S4x1408x1024, .bf16⟩
  | _, _ => ⟨S2x4160x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== WDown.lean ====
abbrev S4160x2816 : Shape := ⟨2, ![4160, 2816]⟩
abbrev S4160x1024 : Shape := ⟨2, ![4160, 1024]⟩
abbrev S2x1408x1024 : Shape := ⟨3, ![2, 1408, 1024]⟩
abbrev S4160x1408 : Shape := ⟨2, ![4160, 1408]⟩
abbrev S1x1408x1024 : Shape := ⟨3, ![1, 1408, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4160x2816, .f32⟩
  | .hbm, ⟨1, _⟩ => ⟨S4160x1024, .f32⟩
  | .hbm, ⟨2, _⟩ => ⟨S4160x2816, .bf16⟩
  | .hbm, ⟨3, _⟩ => ⟨S4160x1024, .bf16⟩
  | .hbm, ⟨4, _⟩ => ⟨S2x1408x1024, .bf16⟩
  | .local _ .vmem, ⟨0, _⟩ => ⟨S4160x1408, .bf16⟩
  | .local _ .vmem, ⟨1, _⟩ => ⟨S4160x1408, .bf16⟩
  | .local _ .vmem, ⟨2, _⟩ => ⟨S4160x1024, .bf16⟩
  | .local _ .vmem, ⟨3, _⟩ => ⟨S1x1408x1024, .bf16⟩
  | .local _ .vmem, ⟨4, _⟩ => ⟨S1x1408x1024, .bf16⟩
  | .local _ .vmem, ⟨5, _⟩ => ⟨S1408x1024, .f32⟩
  | _, _ => ⟨S4160x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4160x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4160x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WDownRefIdeal.lean ====
abbrev S4160x2816 : Shape := ⟨2, ![4160, 2816]⟩
abbrev S4160x1024 : Shape := ⟨2, ![4160, 1024]⟩
abbrev S_ : Shape := ⟨0, ![]⟩
abbrev S2816x1024 : Shape := ⟨2, ![2816, 1024]⟩
abbrev S1024x2816 : Shape := ⟨2, ![1024, 2816]⟩
abbrev S2x1408x1024 : Shape := ⟨3, ![2, 1408, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4160x2816, .f32⟩
  | .hbm, ⟨1, _⟩ => ⟨S4160x1024, .f32⟩
  | .hbm, ⟨2, _⟩ => ⟨S_, .f32⟩
  | .hbm, ⟨3, _⟩ => ⟨S2816x1024, .f32⟩
  | .hbm, ⟨4, _⟩ => ⟨S4160x1024, .f32⟩
  | .hbm, ⟨5, _⟩ => ⟨S1024x2816, .f32⟩
  | .hbm, ⟨6, _⟩ => ⟨S2816x1024, .f32⟩
  | .hbm, ⟨7, _⟩ => ⟨S2x1408x1024, .f32⟩
  | .hbm, ⟨8, _⟩ => ⟨S2x1408x1024, .bf16⟩
  | _, _ => ⟨S4160x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WIn.lean ====
abbrev S4160x6144 : Shape := ⟨2, ![4160, 6144]⟩
abbrev S4160x1024 : Shape := ⟨2, ![4160, 1024]⟩
abbrev S1x1024 : Shape := ⟨2, ![1, 1024]⟩
abbrev S8x128 : Shape := ⟨2, ![8, 128]⟩
abbrev S_ : Shape := ⟨0, ![]⟩
abbrev S4160 : Shape := ⟨1, ![4160]⟩
abbrev S4160x1 : Shape := ⟨2, ![4160, 1]⟩
abbrev S8x1024x768 : Shape := ⟨3, ![8, 1024, 768]⟩
abbrev S4160x768 : Shape := ⟨2, ![4160, 768]⟩
abbrev S1x1024x768 : Shape := ⟨3, ![1, 1024, 768]⟩
abbrev S1024x768 : Shape := ⟨2, ![1024, 768]⟩

abbrev nBuf : Space → Nat
  | .hbm => 22
  | .vmem => 6
  | .smem => 0
  | _ => 0

abbrev bufTy : (tb : Table) → Fin (tcTables nBuf tb) → BufTy
  | .hbm, ⟨0, _⟩ => ⟨S4160x6144, .f32⟩
  | .hbm, ⟨1, _⟩ => ⟨S4160x1024, .f32⟩
  | .hbm, ⟨2, _⟩ => ⟨S1x1024, .f32⟩
  | .hbm, ⟨3, _⟩ => ⟨S8x128, .f32⟩
  | .hbm, ⟨4, _⟩ => ⟨S4160x6144, .bf16⟩
  | .hbm, ⟨5, _⟩ => ⟨S4160x1024, .f32⟩
  | .hbm, ⟨6, _⟩ => ⟨S_, .f32⟩
  | .hbm, ⟨7, _⟩ => ⟨S4160, .f32⟩
  | .hbm, ⟨8, _⟩ => ⟨S4160x1, .f32⟩
  | .hbm, ⟨9, _⟩ => ⟨S_, .f32⟩
  | .hbm, ⟨10, _⟩ => ⟨S4160x1, .f32⟩
  | .hbm, ⟨11, _⟩ => ⟨S4160x1, .f32⟩
  | .hbm, ⟨12, _⟩ => ⟨S_, .f32⟩
  | .hbm, ⟨13, _⟩ => ⟨S4160x1, .f32⟩
  | .hbm, ⟨14, _⟩ => ⟨S4160x1, .f32⟩
  | .hbm, ⟨15, _⟩ => ⟨S4160x1, .f32⟩
  | .hbm, ⟨16, _⟩ => ⟨S4160x1024, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x1024, .bf16⟩
  | .hbm, ⟨21, _⟩ => ⟨S8x1024x768, .bf16⟩
  | .local _ .vmem, ⟨0, _⟩ => ⟨S4160x1024, .bf16⟩
  | .local _ .vmem, ⟨1, _⟩ => ⟨S4160x768, .bf16⟩
  | .local _ .vmem, ⟨2, _⟩ => ⟨S4160x768, .bf16⟩
  | .local _ .vmem, ⟨3, _⟩ => ⟨S1x1024x768, .bf16⟩
  | .local _ .vmem, ⟨4, _⟩ => ⟨S1x1024x768, .bf16⟩
  | .local _ .vmem, ⟨5, _⟩ => ⟨S1024x768, .f32⟩
  | _, _ => ⟨S4160x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4160x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4160x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WInRefIdeal.lean ====
abbrev S4160x6144 : Shape := ⟨2, ![4160, 6144]⟩
abbrev S4160x1024 : Shape := ⟨2, ![4160, 1024]⟩
abbrev S1x1024 : Shape := ⟨2, ![1, 1024]⟩
abbrev S8x128 : Shape := ⟨2, ![8, 128]⟩
abbrev S_ : Shape := ⟨0, ![]⟩
abbrev S1024x6144 : Shape := ⟨2, ![1024, 6144]⟩
abbrev S4160 : Shape := ⟨1, ![4160]⟩
abbrev S4160x1 : Shape := ⟨2, ![4160, 1]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 27
  | .vmem => 0
  | .smem => 0
  | _ => 0

abbrev bufTy : (tb : Table) → Fin (tcTables nBuf tb) → BufTy
  | .hbm, ⟨0, _⟩ => ⟨S4160x6144, .f32⟩
  | .hbm, ⟨1, _⟩ => ⟨S4160x1024, .f32⟩
  | .hbm, ⟨2, _⟩ => ⟨S1x1024, .f32⟩
  | .hbm, ⟨3, _⟩ => ⟨S8x128, .f32⟩
  | .hbm, ⟨4, _⟩ => ⟨S_, .f32⟩
  | .hbm, ⟨5, _⟩ => ⟨S1024x6144, .f32⟩
  | .hbm, ⟨6, _⟩ => ⟨S4160x1024, .f32⟩
  | .hbm, ⟨7, _⟩ => ⟨S_, .f32⟩
  | .hbm, ⟨8, _⟩ => ⟨S4160, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S_, .f32⟩
  | .hbm, ⟨14, _⟩ => ⟨S4160x1, .f32⟩
  | .hbm, ⟨15, _⟩ => ⟨S4160x1, .f32⟩
  | .hbm, ⟨16, _⟩ => ⟨S4160x1, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S4160x6144, .f32⟩
  | .hbm, ⟨22, _⟩ => ⟨S6144x1024, .f32⟩
  | .hbm, ⟨23, _⟩ => ⟨S1024x6144, .f32⟩
  | .hbm, ⟨24, _⟩ => ⟨S1024x8x768, .f32⟩
  | .hbm, ⟨25, _⟩ => ⟨S8x1024x768, .f32⟩
  | .hbm, ⟨26, _⟩ => ⟨S8x1024x768, .bf16⟩
  | _, _ => ⟨S4160x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== WProj.lean ====
abbrev S4160x3072 : Shape := ⟨2, ![4160, 3072]⟩
abbrev S8x3x128x1024 : Shape := ⟨4, ![8, 3, 128, 1024]⟩
abbrev S4160x1024 : Shape := ⟨2, ![4160, 1024]⟩
abbrev S8x1x128x1024 : Shape := ⟨4, ![8, 1, 128, 1024]⟩
abbrev S1024x1024 : Shape := ⟨2, ![1024, 1024]⟩
abbrev S8x128x1024 : Shape := ⟨3, ![8, 128, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4160x3072, .f32⟩
  | .hbm, ⟨1, _⟩ => ⟨S4160x3072, .f32⟩
  | .hbm, ⟨2, _⟩ => ⟨S4160x3072, .bf16⟩
  | .hbm, ⟨3, _⟩ => ⟨S4160x3072, .bf16⟩
  | .hbm, ⟨4, _⟩ => ⟨S8x3x128x1024, .bf16⟩
  | .local _ .vmem, ⟨0, _⟩ => ⟨S4160x1024, .bf16⟩
  | .local _ .vmem, ⟨1, _⟩ => ⟨S4160x1024, .bf16⟩
  | .local _ .vmem, ⟨2, _⟩ => ⟨S4160x1024, .bf16⟩
  | .local _ .vmem, ⟨3, _⟩ => ⟨S4160x1024, .bf16⟩
  | .local _ .vmem, ⟨4, _⟩ => ⟨S8x1x128x1024, .bf16⟩
  | .local _ .vmem, ⟨5, _⟩ => ⟨S8x1x128x1024, .bf16⟩
  | .local _ .vmem, ⟨6, _⟩ => ⟨S1024x1024, .f32⟩
  | _, _ => ⟨S4160x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4160x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4160x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WProjRefIdeal.lean ====
abbrev S4160x3072 : Shape := ⟨2, ![4160, 3072]⟩
abbrev S_ : Shape := ⟨0, ![]⟩
abbrev S1024x1024 : Shape := ⟨2, ![1024, 1024]⟩
abbrev S4160x1024 : Shape := ⟨2, ![4160, 1024]⟩
abbrev S8x128x1024 : Shape := ⟨3, ![8, 128, 1024]⟩
abbrev S8x1x128x1024 : Shape := ⟨4, ![8, 1, 128, 1024]⟩
abbrev S8x3x128x1024 : Shape := ⟨4, ![8, 3, 128, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4160x3072, .f32⟩
  | .hbm, ⟨1, _⟩ => ⟨S4160x3072, .f32⟩
  | .hbm, ⟨2, _⟩ => ⟨S_, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S4160x1024, .f32⟩
  | .hbm, ⟨9, _⟩ => ⟨S4160x1024, .f32⟩
  | .hbm, ⟨10, _⟩ => ⟨S4160x1024, .f32⟩
  | .hbm, ⟨11, _⟩ => ⟨S4160x1024, .f32⟩
  | .hbm, ⟨12, _⟩ => ⟨S4160x1024, .f32⟩
  | .hbm, ⟨13, _⟩ => ⟨S4160x1024, .f32⟩
  | .hbm, ⟨14, _⟩ => ⟨S4160x1024, .f32⟩
  | .hbm, ⟨15, _⟩ => ⟨S4160x1024, .f32⟩
  | .hbm, ⟨16, _⟩ => ⟨S4160x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S8x128x1024, .f32⟩
  | .hbm, ⟨24, _⟩ => ⟨S8x128x1024, .f32⟩
  | .hbm, ⟨25, _⟩ => ⟨S8x128x1024, .f32⟩
  | .hbm, ⟨26, _⟩ => ⟨S8x1x128x1024, .f32⟩
  | .hbm, ⟨27, _⟩ => ⟨S8x1x128x1024, .f32⟩
  | .hbm, ⟨28, _⟩ => ⟨S8x1x128x1024, .f32⟩
  | .hbm, ⟨29, _⟩ => ⟨S8x3x128x1024, .f32⟩
  | .hbm, ⟨30, _⟩ => ⟨S8x3x128x1024, .bf16⟩
  | _, _ => ⟨S4160x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== WGates.lean ====
abbrev S4160x1024 : Shape := ⟨2, ![4160, 1024]⟩
abbrev S4160x2048 : Shape := ⟨2, ![4160, 2048]⟩
abbrev S8x8x32x256 : Shape := ⟨4, ![8, 8, 32, 256]⟩
abbrev S4160x256 : Shape := ⟨2, ![4160, 256]⟩
abbrev S8x1x32x256 : Shape := ⟨4, ![8, 1, 32, 256]⟩
abbrev S256x256 : Shape := ⟨2, ![256, 256]⟩
abbrev S8x32x256 : Shape := ⟨3, ![8, 32, 256]⟩

abbrev nBuf : Space → Nat
  | .hbm => 5
  | .vmem => 7
  | .smem => 0
  | _ => 0

abbrev bufTy : (tb : Table) → Fin (tcTables nBuf tb) → BufTy
  | .hbm, ⟨0, _⟩ => ⟨S4160x1024, .f32⟩
  | .hbm, ⟨1, _⟩ => ⟨S4160x2048, .f32⟩
  | .hbm, ⟨2, _⟩ => ⟨S4160x1024, .bf16⟩
  | .hbm, ⟨3, _⟩ => ⟨S4160x2048, .bf16⟩
  | .hbm, ⟨4, _⟩ => ⟨S8x8x32x256, .bf16⟩
  | .local _ .vmem, ⟨0, _⟩ => ⟨S4160x256, .bf16⟩
  | .local _ .vmem, ⟨1, _⟩ => ⟨S4160x256, .bf16⟩
  | .local _ .vmem, ⟨2, _⟩ => ⟨S4160x256, .bf16⟩
  | .local _ .vmem, ⟨3, _⟩ => ⟨S4160x256, .bf16⟩
  | .local _ .vmem, ⟨4, _⟩ => ⟨S8x1x32x256, .bf16⟩
  | .local _ .vmem, ⟨5, _⟩ => ⟨S8x1x32x256, .bf16⟩
  | .local _ .vmem, ⟨6, _⟩ => ⟨S256x256, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4160x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4160x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x32x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WGatesRefIdeal.lean ====
abbrev S4160x1024 : Shape := ⟨2, ![4160, 1024]⟩
abbrev S4160x2048 : Shape := ⟨2, ![4160, 2048]⟩
abbrev S4160x4x256 : Shape := ⟨3, ![4160, 4, 256]⟩
abbrev S_ : Shape := ⟨0, ![]⟩
abbrev S4x256x256 : Shape := ⟨3, ![4, 256, 256]⟩
abbrev S4x256x4160 : Shape := ⟨3, ![4, 256, 4160]⟩
abbrev S8x256x256 : Shape := ⟨3, ![8, 256, 256]⟩
abbrev S8x8x32x256 : Shape := ⟨4, ![8, 8, 32, 256]⟩

abbrev nBuf : Space → Nat
  | .hbm => 23
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x2048, .f32⟩
  | .hbm, ⟨2, _⟩ => ⟨S4160x4x256, .f32⟩
  | .hbm, ⟨3, _⟩ => ⟨S_, .f32⟩
  | .hbm, ⟨4, _⟩ => ⟨S4x256x256, .f32⟩
  | .hbm, ⟨5, _⟩ => ⟨S4x256x4160, .f32⟩
  | .hbm, ⟨6, _⟩ => ⟨S4160x4x256, .f32⟩
  | .hbm, ⟨7, _⟩ => ⟨S4x256x4160, .f32⟩
  | .hbm, ⟨8, _⟩ => ⟨S4160x4x256, .f32⟩
  | .hbm, ⟨9, _⟩ => ⟨S4160x1024, .f32⟩
  | .hbm, ⟨10, _⟩ => ⟨S4160x4x256, .f32⟩
  | .hbm, ⟨11, _⟩ => ⟨S4160x1024, .f32⟩
  | .hbm, ⟨12, _⟩ => ⟨S4160x4x256, .f32⟩
  | .hbm, ⟨13, _⟩ => ⟨S4x256x4160, .f32⟩
  | .hbm, ⟨14, _⟩ => ⟨S4x256x256, .f32⟩
  | .hbm, ⟨15, _⟩ => ⟨S4x256x256, .f32⟩
  | .hbm, ⟨16, _⟩ => ⟨S4x256x4160, .f32⟩
  | .hbm, ⟨17, _⟩ => ⟨S4x256x256, .f32⟩
  | .hbm, ⟨18, _⟩ => ⟨S4x256x256, .f32⟩
  | .hbm, ⟨19, _⟩ => ⟨S8x256x256, .f32⟩
  | .hbm, ⟨20, _⟩ => ⟨S8x8x32x256, .f32⟩
  | .hbm, ⟨21, _⟩ => ⟨S8x8x32x256, .f32⟩
  | .hbm, ⟨22, _⟩ => ⟨S8x8x32x256, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== UDown.lean ====
abbrev S8x352x1024 : Shape := ⟨3, ![8, 352, 1024]⟩
abbrev S7x352x1024 : Shape := ⟨3, ![7, 352, 1024]⟩
abbrev S1 : Shape := ⟨1, ![1]⟩
abbrev S1x352x1024 : Shape := ⟨3, ![1, 352, 1024]⟩
abbrev S1x176x1024 : Shape := ⟨3, ![1, 176, 1024]⟩
abbrev S7x176x1024 : Shape := ⟨3, ![7, 176, 1024]⟩
abbrev S176x1024 : Shape := ⟨2, ![176, 1024]⟩

abbrev nBuf : Space → Nat
  | .hbm => 12
  | .vmem => 18
  | .smem => 1
  | _ => 0

abbrev bufTy : (tb : Table) → Fin (tcTables nBuf tb) → BufTy
  | .hbm, ⟨0, _⟩ => ⟨S8x352x1024, .f32⟩
  | .hbm, ⟨1, _⟩ => ⟨S7x352x1024, .f32⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S8x352x1024, .bf16⟩
  | .hbm, ⟨7, _⟩ => ⟨S7x352x1024, .bf16⟩
  | .hbm, ⟨8, _⟩ => ⟨S1x352x1024, .f32⟩
  | .hbm, ⟨9, _⟩ => ⟨S1x352x1024, .f32⟩
  | .hbm, ⟨10, _⟩ => ⟨S1x352x1024, .f32⟩
  | .hbm, ⟨11, _⟩ => ⟨S1x352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S7x176x1024, .bf16⟩
  | .local _ .vmem, ⟨3, _⟩ => ⟨S7x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .smem, ⟨0, _⟩ => ⟨S1, .i32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UDownIdeal.lean ====
abbrev S8x352x1024 : Shape := ⟨3, ![8, 352, 1024]⟩
abbrev S7x352x1024 : Shape := ⟨3, ![7, 352, 1024]⟩
abbrev S1 : Shape := ⟨1, ![1]⟩
abbrev S1x352x1024 : Shape := ⟨3, ![1, 352, 1024]⟩
abbrev S1x176x1024 : Shape := ⟨3, ![1, 176, 1024]⟩
abbrev S7x176x1024 : Shape := ⟨3, ![7, 176, 1024]⟩
abbrev S176x1024 : Shape := ⟨2, ![176, 1024]⟩

abbrev nBuf : Space → Nat
  | .hbm => 12
  | .vmem => 18
  | .smem => 1
  | _ => 0

abbrev bufTy : (tb : Table) → Fin (tcTables nBuf tb) → BufTy
  | .hbm, ⟨0, _⟩ => ⟨S8x352x1024, .f32⟩
  | .hbm, ⟨1, _⟩ => ⟨S7x352x1024, .f32⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S8x352x1024, .bf16⟩
  | .hbm, ⟨7, _⟩ => ⟨S7x352x1024, .bf16⟩
  | .hbm, ⟨8, _⟩ => ⟨S1x352x1024, .f32⟩
  | .hbm, ⟨9, _⟩ => ⟨S1x352x1024, .f32⟩
  | .hbm, ⟨10, _⟩ => ⟨S1x352x1024, .f32⟩
  | .hbm, ⟨11, _⟩ => ⟨S1x352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S7x176x1024, .bf16⟩
  | .local _ .vmem, ⟨3, _⟩ => ⟨S7x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .smem, ⟨0, _⟩ => ⟨S1, .i32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UDownRefIdeal.lean ====
abbrev S8x352x1024 : Shape := ⟨3, ![8, 352, 1024]⟩
abbrev S7x352x1024 : Shape := ⟨3, ![7, 352, 1024]⟩
abbrev S1 : Shape := ⟨1, ![1]⟩
abbrev S1x352x1024 : Shape := ⟨3, ![1, 352, 1024]⟩
abbrev S8 : Shape := ⟨1, ![8]⟩
abbrev S8x1x1 : Shape := ⟨3, ![8, 1, 1]⟩
abbrev S_ : Shape := ⟨0, ![]⟩
abbrev S352x1024 : Shape := ⟨2, ![352, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S7x352x1024, .f32⟩
  | .hbm, ⟨2, _⟩ => ⟨S1, .i32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S8, .i32⟩
  | .hbm, ⟨8, _⟩ => ⟨S8x1x1, .i32⟩
  | .hbm, ⟨9, _⟩ => ⟨S_, .i32⟩
  | .hbm, ⟨10, _⟩ => ⟨S8x1x1, .i32⟩
  | .hbm, ⟨11, _⟩ => ⟨S8x1x1, .i1⟩
  | .hbm, ⟨12, _⟩ => ⟨S_, .f32⟩
  | .hbm, ⟨13, _⟩ => ⟨S_, .f32⟩
  | .hbm, ⟨14, _⟩ => ⟨S8x352x1024, .i1⟩
  | .hbm, ⟨15, _⟩ => ⟨S8x352x1024, .f32⟩
  | .hbm, ⟨16, _⟩ => ⟨S8x352x1024, .f32⟩
  | .hbm, ⟨17, _⟩ => ⟨S_, .f32⟩
  | .hbm, ⟨18, _⟩ => ⟨S352x1024, .f32⟩
  | .hbm, ⟨19, _⟩ => ⟨S1x352x1024, .f32⟩
  | .hbm, ⟨20, _⟩ => ⟨S_, .f32⟩
  | .hbm, ⟨21, _⟩ => ⟨S352x1024, .f32⟩
  | .hbm, ⟨22, _⟩ => ⟨S1x352x1024, .f32⟩
  | .hbm, ⟨23, _⟩ => ⟨S1x352x1024, .f32⟩
  | .hbm, ⟨24, _⟩ => ⟨S_, .f32⟩
  | .hbm, ⟨25, _⟩ => ⟨S1x352x1024, .f32⟩
  | .hbm, ⟨26, _⟩ => ⟨S1x352x1024, .f32⟩
  | .hbm, ⟨27, _⟩ => ⟨S_, .f32⟩
  | .hbm, ⟨28, _⟩ => ⟨S1x352x1024, .f32⟩
  | .hbm, ⟨29, _⟩ => ⟨S1x352x1024, .f32⟩
  | .hbm, ⟨30, _⟩ => ⟨S1x352x1024, .f32⟩
  | .hbm, ⟨31, _⟩ => ⟨S_, .f32⟩
  | .hbm, ⟨32, _⟩ => ⟨S1x352x1024, .f32⟩
  | .hbm, ⟨33, _⟩ => ⟨S1x352x1024, .f32⟩
  | .hbm, ⟨34, _⟩ => ⟨S1x352x1024, .f32⟩
  | .hbm, ⟨35, _⟩ => ⟨S_, .f32⟩
  | .hbm, ⟨36, _⟩ => ⟨S1x352x1024, .f32⟩
  | .hbm, ⟨37, _⟩ => ⟨S1x352x1024, .f32⟩
  | .hbm, ⟨38, _⟩ => ⟨S1x352x1024, .f32⟩
  | .hbm, ⟨39, _⟩ => ⟨S_, .f32⟩
  | .hbm, ⟨40, _⟩ => ⟨S1x352x1024, .f32⟩
  | .hbm, ⟨41, _⟩ => ⟨S1x352x1024, .f32⟩
  | .hbm, ⟨42, _⟩ => ⟨S_, .f32⟩
  | .hbm, ⟨43, _⟩ => ⟨S1x352x1024, .f32⟩
  | .hbm, ⟨44, _⟩ => ⟨S1x352x1024, .f32⟩
  | .hbm, ⟨45, _⟩ => ⟨S1x352x1024, .f32⟩
  | .hbm, ⟨46, _⟩ => ⟨S_, .f32⟩
  | .hbm, ⟨47, _⟩ => ⟨S1x352x1024, .f32⟩
  | .hbm, ⟨48, _⟩ => ⟨S1x352x1024, .f32⟩
  | .hbm, ⟨49, _⟩ => ⟨S1x352x1024, .f32⟩
  | .hbm, ⟨50, _⟩ => ⟨S_, .f32⟩
  | .hbm, ⟨51, _⟩ => ⟨S1x352x1024, .f32⟩
  | .hbm, ⟨52, _⟩ => ⟨S1x352x1024, .f32⟩
  | .hbm, ⟨53, _⟩ => ⟨S1x352x1024, .f32⟩
  | .hbm, ⟨54, _⟩ => ⟨S_, .f32⟩
  | .hbm, ⟨55, _⟩ => ⟨S1x352x1024, .f32⟩
  | .hbm, ⟨56, _⟩ => ⟨S1x352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_8 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_9 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_10 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== UGu.lean ====
abbrev S8x704x1024 : Shape := ⟨3, ![8, 704, 1024]⟩
abbrev S7x704x1024 : Shape := ⟨3, ![7, 704, 1024]⟩
abbrev S1 : Shape := ⟨1, ![1]⟩
abbrev S1x704x1024 : Shape := ⟨3, ![1, 704, 1024]⟩
abbrev S1x352x1024 : Shape := ⟨3, ![1, 352, 1024]⟩
abbrev S1x176x1024 : Shape := ⟨3, ![1, 176, 1024]⟩
abbrev S7x176x1024 : Shape := ⟨3, ![7, 176, 1024]⟩
abbrev S176x1024 : Shape := ⟨2, ![176, 1024]⟩

abbrev nBuf : Space → Nat
  | .hbm => 12
  | .vmem => 18
  | .smem => 1
  | _ => 0

abbrev bufTy : (tb : Table) → Fin (tcTables nBuf tb) → BufTy
  | .hbm, ⟨0, _⟩ => ⟨S8x704x1024, .f32⟩
  | .hbm, ⟨1, _⟩ => ⟨S7x704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x352x1024, .f32⟩
  | .hbm, ⟨6, _⟩ => ⟨S8x704x1024, .bf16⟩
  | .hbm, ⟨7, _⟩ => ⟨S7x704x1024, .bf16⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S1x704x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S7x176x1024, .bf16⟩
  | .local _ .vmem, ⟨3, _⟩ => ⟨S7x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .smem, ⟨0, _⟩ => ⟨S1, .i32⟩
  | _, _ => ⟨S8x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UGuIdeal.lean ====
abbrev S8x704x1024 : Shape := ⟨3, ![8, 704, 1024]⟩
abbrev S7x704x1024 : Shape := ⟨3, ![7, 704, 1024]⟩
abbrev S1 : Shape := ⟨1, ![1]⟩
abbrev S1x704x1024 : Shape := ⟨3, ![1, 704, 1024]⟩
abbrev S1x352x1024 : Shape := ⟨3, ![1, 352, 1024]⟩
abbrev S1x176x1024 : Shape := ⟨3, ![1, 176, 1024]⟩
abbrev S7x176x1024 : Shape := ⟨3, ![7, 176, 1024]⟩
abbrev S176x1024 : Shape := ⟨2, ![176, 1024]⟩

abbrev nBuf : Space → Nat
  | .hbm => 12
  | .vmem => 18
  | .smem => 1
  | _ => 0

abbrev bufTy : (tb : Table) → Fin (tcTables nBuf tb) → BufTy
  | .hbm, ⟨0, _⟩ => ⟨S8x704x1024, .f32⟩
  | .hbm, ⟨1, _⟩ => ⟨S7x704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x352x1024, .f32⟩
  | .hbm, ⟨6, _⟩ => ⟨S8x704x1024, .bf16⟩
  | .hbm, ⟨7, _⟩ => ⟨S7x704x1024, .bf16⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S1x704x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S7x176x1024, .bf16⟩
  | .local _ .vmem, ⟨3, _⟩ => ⟨S7x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .smem, ⟨0, _⟩ => ⟨S1, .i32⟩
  | _, _ => ⟨S8x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UGuRefIdeal.lean ====
abbrev S8x704x1024 : Shape := ⟨3, ![8, 704, 1024]⟩
abbrev S7x704x1024 : Shape := ⟨3, ![7, 704, 1024]⟩
abbrev S1 : Shape := ⟨1, ![1]⟩
abbrev S1x704x1024 : Shape := ⟨3, ![1, 704, 1024]⟩
abbrev S1x352x1024 : Shape := ⟨3, ![1, 352, 1024]⟩
abbrev S8 : Shape := ⟨1, ![8]⟩
abbrev S8x1x1 : Shape := ⟨3, ![8, 1, 1]⟩
abbrev S_ : Shape := ⟨0, ![]⟩
abbrev S704x1024 : Shape := ⟨2, ![704, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x704x1024, .f32⟩
  | .hbm, ⟨1, _⟩ => ⟨S7x704x1024, .f32⟩
  | .hbm, ⟨2, _⟩ => ⟨S1, .i32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x352x1024, .f32⟩
  | .hbm, ⟨7, _⟩ => ⟨S8, .i32⟩
  | .hbm, ⟨8, _⟩ => ⟨S8x1x1, .i32⟩
  | .hbm, ⟨9, _⟩ => ⟨S_, .i32⟩
  | .hbm, ⟨10, _⟩ => ⟨S8x1x1, .i32⟩
  | .hbm, ⟨11, _⟩ => ⟨S8x1x1, .i1⟩
  | .hbm, ⟨12, _⟩ => ⟨S_, .f32⟩
  | .hbm, ⟨13, _⟩ => ⟨S_, .f32⟩
  | .hbm, ⟨14, _⟩ => ⟨S8x704x1024, .i1⟩
  | .hbm, ⟨15, _⟩ => ⟨S8x704x1024, .f32⟩
  | .hbm, ⟨16, _⟩ => ⟨S8x704x1024, .f32⟩
  | .hbm, ⟨17, _⟩ => ⟨S_, .f32⟩
  | .hbm, ⟨18, _⟩ => ⟨S704x1024, .f32⟩
  | .hbm, ⟨19, _⟩ => ⟨S1x704x1024, .f32⟩
  | .hbm, ⟨20, _⟩ => ⟨S_, .f32⟩
  | .hbm, ⟨21, _⟩ => ⟨S704x1024, .f32⟩
  | .hbm, ⟨22, _⟩ => ⟨S1x704x1024, .f32⟩
  | .hbm, ⟨23, _⟩ => ⟨S1x704x1024, .f32⟩
  | .hbm, ⟨24, _⟩ => ⟨S_, .f32⟩
  | .hbm, ⟨25, _⟩ => ⟨S1x704x1024, .f32⟩
  | .hbm, ⟨26, _⟩ => ⟨S1x704x1024, .f32⟩
  | .hbm, ⟨27, _⟩ => ⟨S_, .f32⟩
  | .hbm, ⟨28, _⟩ => ⟨S1x704x1024, .f32⟩
  | .hbm, ⟨29, _⟩ => ⟨S1x704x1024, .f32⟩
  | .hbm, ⟨30, _⟩ => ⟨S1x704x1024, .f32⟩
  | .hbm, ⟨31, _⟩ => ⟨S_, .f32⟩
  | .hbm, ⟨32, _⟩ => ⟨S1x704x1024, .f32⟩
  | .hbm, ⟨33, _⟩ => ⟨S1x704x1024, .f32⟩
  | .hbm, ⟨34, _⟩ => ⟨S1x704x1024, .f32⟩
  | .hbm, ⟨35, _⟩ => ⟨S_, .f32⟩
  | .hbm, ⟨36, _⟩ => ⟨S1x704x1024, .f32⟩
  | .hbm, ⟨37, _⟩ => ⟨S1x704x1024, .f32⟩
  | .hbm, ⟨38, _⟩ => ⟨S1x704x1024, .f32⟩
  | .hbm, ⟨39, _⟩ => ⟨S_, .f32⟩
  | .hbm, ⟨40, _⟩ => ⟨S1x704x1024, .f32⟩
  | .hbm, ⟨41, _⟩ => ⟨S1x704x1024, .f32⟩
  | .hbm, ⟨42, _⟩ => ⟨S_, .f32⟩
  | .hbm, ⟨43, _⟩ => ⟨S1x704x1024, .f32⟩
  | .hbm, ⟨44, _⟩ => ⟨S1x704x1024, .f32⟩
  | .hbm, ⟨45, _⟩ => ⟨S1x704x1024, .f32⟩
  | .hbm, ⟨46, _⟩ => ⟨S_, .f32⟩
  | .hbm, ⟨47, _⟩ => ⟨S1x704x1024, .f32⟩
  | .hbm, ⟨48, _⟩ => ⟨S1x704x1024, .f32⟩
  | .hbm, ⟨49, _⟩ => ⟨S1x704x1024, .f32⟩
  | .hbm, ⟨50, _⟩ => ⟨S_, .f32⟩
  | .hbm, ⟨51, _⟩ => ⟨S1x704x1024, .f32⟩
  | .hbm, ⟨52, _⟩ => ⟨S1x704x1024, .f32⟩
  | .hbm, ⟨53, _⟩ => ⟨S1x704x1024, .f32⟩
  | .hbm, ⟨54, _⟩ => ⟨S_, .f32⟩
  | .hbm, ⟨55, _⟩ => ⟨S1x704x1024, .f32⟩
  | .hbm, ⟨56, _⟩ => ⟨S1x704x1024, .f32⟩
  | _, _ => ⟨S8x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_8 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_9 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_10 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== UIn.lean ====
abbrev S8x1024x768 : Shape := ⟨3, ![8, 1024, 768]⟩
abbrev S7x1024x768 : Shape := ⟨3, ![7, 1024, 768]⟩
abbrev S1 : Shape := ⟨1, ![1]⟩
abbrev S1x1024x768 : Shape := ⟨3, ![1, 1024, 768]⟩
abbrev S1x704x1024 : Shape := ⟨3, ![1, 704, 1024]⟩
abbrev S1x256x768 : Shape := ⟨3, ![1, 256, 768]⟩
abbrev S7x256x768 : Shape := ⟨3, ![7, 256, 768]⟩
abbrev S256x768 : Shape := ⟨2, ![256, 768]⟩

abbrev nBuf : Space → Nat
  | .hbm => 12
  | .vmem => 18
  | .smem => 1
  | _ => 0

abbrev bufTy : (tb : Table) → Fin (tcTables nBuf tb) → BufTy
  | .hbm, ⟨0, _⟩ => ⟨S8x1024x768, .f32⟩
  | .hbm, ⟨1, _⟩ => ⟨S7x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x704x1024, .f32⟩
  | .hbm, ⟨6, _⟩ => ⟨S8x1024x768, .bf16⟩
  | .hbm, ⟨7, _⟩ => ⟨S7x1024x768, .bf16⟩
  | .hbm, ⟨8, _⟩ => ⟨S1x1024x768, .f32⟩
  | .hbm, ⟨9, _⟩ => ⟨S1x1024x768, .f32⟩
  | .hbm, ⟨10, _⟩ => ⟨S1x1024x768, .f32⟩
  | .hbm, ⟨11, _⟩ => ⟨S1x1024x768, .f32⟩
  | .local _ .vmem, ⟨0, _⟩ => ⟨S1x256x768, .bf16⟩
  | .local _ .vmem, ⟨1, _⟩ => ⟨S1x256x768, .bf16⟩
  | .local _ .vmem, ⟨2, _⟩ => ⟨S7x256x768, .bf16⟩
  | .local _ .vmem, ⟨3, _⟩ => ⟨S7x256x768, .bf16⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | .local _ .smem, ⟨0, _⟩ => ⟨S1, .i32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UInRefIdeal.lean ====
abbrev S8x1024x768 : Shape := ⟨3, ![8, 1024, 768]⟩
abbrev S7x1024x768 : Shape := ⟨3, ![7, 1024, 768]⟩
abbrev S1 : Shape := ⟨1, ![1]⟩
abbrev S1x1024x768 : Shape := ⟨3, ![1, 1024, 768]⟩
abbrev S1x704x1024 : Shape := ⟨3, ![1, 704, 1024]⟩
abbrev S8 : Shape := ⟨1, ![8]⟩
abbrev S8x1x1 : Shape := ⟨3, ![8, 1, 1]⟩
abbrev S_ : Shape := ⟨0, ![]⟩
abbrev S1024x768 : Shape := ⟨2, ![1024, 768]⟩

abbrev nBuf : Space → Nat
  | .hbm => 57
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S7x1024x768, .f32⟩
  | .hbm, ⟨2, _⟩ => ⟨S1, .i32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x704x1024, .f32⟩
  | .hbm, ⟨7, _⟩ => ⟨S8, .i32⟩
  | .hbm, ⟨8, _⟩ => ⟨S8x1x1, .i32⟩
  | .hbm, ⟨9, _⟩ => ⟨S_, .i32⟩
  | .hbm, ⟨10, _⟩ => ⟨S8x1x1, .i32⟩
  | .hbm, ⟨11, _⟩ => ⟨S8x1x1, .i1⟩
  | .hbm, ⟨12, _⟩ => ⟨S_, .f32⟩
  | .hbm, ⟨13, _⟩ => ⟨S_, .f32⟩
  | .hbm, ⟨14, _⟩ => ⟨S8x1024x768, .i1⟩
  | .hbm, ⟨15, _⟩ => ⟨S8x1024x768, .f32⟩
  | .hbm, ⟨16, _⟩ => ⟨S8x1024x768, .f32⟩
  | .hbm, ⟨17, _⟩ => ⟨S_, .f32⟩
  | .hbm, ⟨18, _⟩ => ⟨S1024x768, .f32⟩
  | .hbm, ⟨19, _⟩ => ⟨S1x1024x768, .f32⟩
  | .hbm, ⟨20, _⟩ => ⟨S_, .f32⟩
  | .hbm, ⟨21, _⟩ => ⟨S1024x768, .f32⟩
  | .hbm, ⟨22, _⟩ => ⟨S1x1024x768, .f32⟩
  | .hbm, ⟨23, _⟩ => ⟨S1x1024x768, .f32⟩
  | .hbm, ⟨24, _⟩ => ⟨S_, .f32⟩
  | .hbm, ⟨25, _⟩ => ⟨S1x1024x768, .f32⟩
  | .hbm, ⟨26, _⟩ => ⟨S1x1024x768, .f32⟩
  | .hbm, ⟨27, _⟩ => ⟨S_, .f32⟩
  | .hbm, ⟨28, _⟩ => ⟨S1x1024x768, .f32⟩
  | .hbm, ⟨29, _⟩ => ⟨S1x1024x768, .f32⟩
  | .hbm, ⟨30, _⟩ => ⟨S1x1024x768, .f32⟩
  | .hbm, ⟨31, _⟩ => ⟨S_, .f32⟩
  | .hbm, ⟨32, _⟩ => ⟨S1x1024x768, .f32⟩
  | .hbm, ⟨33, _⟩ => ⟨S1x1024x768, .f32⟩
  | .hbm, ⟨34, _⟩ => ⟨S1x1024x768, .f32⟩
  | .hbm, ⟨35, _⟩ => ⟨S_, .f32⟩
  | .hbm, ⟨36, _⟩ => ⟨S1x1024x768, .f32⟩
  | .hbm, ⟨37, _⟩ => ⟨S1x1024x768, .f32⟩
  | .hbm, ⟨38, _⟩ => ⟨S1x1024x768, .f32⟩
  | .hbm, ⟨39, _⟩ => ⟨S_, .f32⟩
  | .hbm, ⟨40, _⟩ => ⟨S1x1024x768, .f32⟩
  | .hbm, ⟨41, _⟩ => ⟨S1x1024x768, .f32⟩
  | .hbm, ⟨42, _⟩ => ⟨S_, .f32⟩
  | .hbm, ⟨43, _⟩ => ⟨S1x1024x768, .f32⟩
  | .hbm, ⟨44, _⟩ => ⟨S1x1024x768, .f32⟩
  | .hbm, ⟨45, _⟩ => ⟨S1x1024x768, .f32⟩
  | .hbm, ⟨46, _⟩ => ⟨S_, .f32⟩
  | .hbm, ⟨47, _⟩ => ⟨S1x1024x768, .f32⟩
  | .hbm, ⟨48, _⟩ => ⟨S1x1024x768, .f32⟩
  | .hbm, ⟨49, _⟩ => ⟨S1x1024x768, .f32⟩
  | .hbm, ⟨50, _⟩ => ⟨S_, .f32⟩
  | .hbm, ⟨51, _⟩ => ⟨S1x1024x768, .f32⟩
  | .hbm, ⟨52, _⟩ => ⟨S1x1024x768, .f32⟩
  | .hbm, ⟨53, _⟩ => ⟨S1x1024x768, .f32⟩
  | .hbm, ⟨54, _⟩ => ⟨S_, .f32⟩
  | .hbm, ⟨55, _⟩ => ⟨S1x1024x768, .f32⟩
  | .hbm, ⟨56, _⟩ => ⟨S1x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_8 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_9 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_10 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.FfnRun.lean ====
/- The feed-forward backward kernel's body at one grid point: what each of its three cases stores. -/
module

public import proofs.«01_k».proof.Proof.Gen.Kernel.Frame
public import proofs.«01_k».proof.Proof.Gen.Kernel.Skeleton
public import Idealize.ShloMosaic.Lib.Pipeline.TableIdle
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit
public import Idealize.ShloMosaic.Lib.VecWindow

@[expose] public section

set_option maxRecDepth 16384

noncomputable section

namespace Cert.Kernel.Ffn

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The row, of those kept from call to call, that this call's gains' row is added to. -/
class Row where
  row : Fin 8

variable [hr : Row]

/-- That row within the eight. -/
abbrev rowRect : Rect S8x1024 := Rect.unit (s := S8x1024) ![hr.row.val, 0] S1x1024.size (by
  intro a
  have := hr.row.isLt
  fin_cases a <;> simp <;> omega)

/-- The second part of the kernel function, over the row. -/
def part2 (i : grid0.Coords) (arg2 : Memref sig .tc .vmem S416x1024 .f32) (harg2 : arg2.IsWhole) (arg3 : Memref sig .tc .vmem S416x1024 .f32) (harg3 : arg3.IsWhole) (arg4 : Memref sig .tc .vmem S2x416x1408 .bf16) (harg4 : arg4.IsWhole) (arg5 : Memref sig .tc .vmem S1x1024 .f32) (harg5 : arg5.IsWhole) (arg6 : Memref sig .tc .vmem S8x1024 .f32) (harg6 : arg6.IsWhole) (arg7 : Memref sig .tc .hbm S5632x1024 .bf16) (harg7 : arg7.IsWhole) (arg8 : Memref sig .tc .hbm S2816x1024 .bf16) (harg8 : arg8.IsWhole) (arg9 : Memref sig .tc .hbm S8x128 .f32) (harg9 : arg9.IsWhole) (arg10 : Memref sig .tc .vmem S416x1024 .f32) (harg10 : arg10.IsWhole) (arg11 : Memref sig .tc .vmem S2x416x1408 .bf16) (harg11 : arg11.IsWhole) (arg12 : Memref sig .tc .vmem S416x1408 .bf16) (harg12 : arg12.IsWhole) (arg13 : Memref sig .tc .vmem S416x1024 .bf16) (harg13 : arg13.IsWhole) (arg14 : Memref sig .tc .vmem S8x1024 .f32) (harg14 : arg14.IsWhole) (arg15 : Memref sig .tc .vmem S5632x1024 .bf16) (harg15 : arg15.IsWhole) (arg16 : Memref sig .tc .vmem S2816x1024 .bf16) (harg16 : arg16.IsWhole) (arg17 : Memref sig .tc .vmem S416x1024 .f32) (harg17 : arg17.IsWhole) (arg18 : DmaSems sig S2) (arg1 : BitVec 32) (v13 : BitVec 32) (v16 : FVec F S416x1408 .f32) (v19 : FVec F S416x1408 .f32) (v22 : FVec F S416x1408 .f32) (v29 : FVec F S416x1408 .f32) (v30 : FVec F S416x1408 .f32) (v32 : FVec F S416x1408 .bf16) :
    Prog (TpuEff nD τ sig (Elt F) Λ₀ .tc) (PUnit) := do
  Prog.lift (.store arg12 (Rect.unit (s := S416x1408) ![0, 0] S416x1408.size inb_S416x1408_S416x1408_0_0) v32 Finset.univ (View.stores_vmem h_S416x1408 (harg12.storeExact_slice rfl _ packedbf16_S416x1408_S416x1408_0_0) (fun _ => rfl)) (.inl rfl))
  let v45 : Vec F S1x416x1408 .bf16 ← Prog.lift (.load arg11 (Rect.unit (s := S2x416x1408) ![0, 0, 0] S1x416x1408.size inb_S2x416x1408_S1x416x1408_0_0_0).toLoadRect (View.loadsAt_vmem h_S1x416x1408))
  Prog.lift (.store arg11 (Rect.unit (s := S2x416x1408) ![0, 0, 0] S1x416x1408.size inb_S2x416x1408_S1x416x1408_0_0_0) (k0_pay11 v16 v19 v22 v29) Finset.univ (View.stores_vmem h_S1x416x1408 (harg11.storeExact_slice rfl _ packedbf16_S2x416x1408_S1x416x1408_0_0_0) (fun _ => rfl)) (.inl rfl))
  let v48 : Vec F S1x416x1408 .bf16 ← Prog.lift (.load arg11 (Rect.unit (s := S2x416x1408) ![1, 0, 0] S1x416x1408.size inb_S2x416x1408_S1x416x1408_1_0_0).toLoadRect (View.loadsAt_vmem h_S1x416x1408))
  Prog.lift (.store arg11 (Rect.unit (s := S2x416x1408) ![1, 0, 0] S1x416x1408.size inb_S2x416x1408_S1x416x1408_1_0_0) (k0_pay12 v16 v30) Finset.univ (View.stores_vmem h_S1x416x1408 (harg11.storeExact_slice rfl _ packedbf16_S2x416x1408_S1x416x1408_1_0_0) (fun _ => rfl)) (.inl rfl))
  let v51 : Vec F S416x1024 .f32 ← Prog.lift (.load arg17 (Rect.unit (s := S416x1024) ![0, 0] S416x1024.size inb_S416x1024_S416x1024_0_0).toLoadRect (View.loadsAt_vmem h_S416x1024))
  let v53 : Vec F S1408x1024 .bf16 ← Prog.lift (.load arg15 (Rect.unit (s := S5632x1024) (k0_off2 i) S1408x1024.size (k0_off2_inb i)).toLoadRect (View.loadsAt_vmem h_S1408x1024))
  let v59 : Vec F S1408x1024 .bf16 ← Prog.lift (.load arg15 (Rect.unit (s := S5632x1024) (k0_off3 i) S1408x1024.size (k0_off3_inb i)).toLoadRect (View.loadsAt_vmem h_S1408x1024))
  let v63 : Vec F S416x1024 .f32 ← Prog.lift (.load arg17 (Rect.unit (s := S416x1024) ![0, 0] S416x1024.size inb_S416x1024_S416x1024_0_0).toLoadRect (View.loadsAt_vmem h_S416x1024))
  Prog.lift (.store arg17 (Rect.unit (s := S416x1024) ![0, 0] S416x1024.size inb_S416x1024_S416x1024_0_0) (k0_pay13 v16 v19 v22 v29 v30 v51 v53 v59) Finset.univ (View.stores_vmem_bits_univ h_S416x1024 rfl) (.inl rfl))
  if k0_h3 : k0_cond3 i = 1#1 then do
    let v69 : Vec F S416x1024 .f32 ← Prog.lift (.load arg3 (Rect.unit (s := S416x1024) ![0, 0] S416x1024.size inb_S416x1024_S416x1024_0_0).toLoadRect (View.loadsAt_vmem h_S416x1024))
    let v78 : Vec F S416x1024 .f32 ← Prog.lift (.load arg17 (Rect.unit (s := S416x1024) ![0, 0] S416x1024.size inb_S416x1024_S416x1024_0_0).toLoadRect (View.loadsAt_vmem h_S416x1024))
    let v79 : Vec F S1x1024 .f32 ← Prog.lift (.load arg5 (Rect.unit (s := S1x1024) ![0, 0] S1x1024.size inb_S1x1024_S1x1024_0_0).toLoadRect (View.loadsAt_vmem h_S1x1024))
    let v97 : Vec F S416x1024 .f32 ← Prog.lift (.load arg2 (Rect.unit (s := S416x1024) ![0, 0] S416x1024.size inb_S416x1024_S416x1024_0_0).toLoadRect (View.loadsAt_vmem h_S416x1024))
    let v99 : Vec F S416x1024 .f32 ← Prog.lift (.load arg10 (Rect.unit (s := S416x1024) ![0, 0] S416x1024.size inb_S416x1024_S416x1024_0_0).toLoadRect (View.loadsAt_vmem h_S416x1024))
    Prog.lift (.store arg10 (Rect.unit (s := S416x1024) ![0, 0] S416x1024.size inb_S416x1024_S416x1024_0_0) (k0_pay16 v69 v78 v79 v97) Finset.univ (View.stores_vmem_bits_univ h_S416x1024 rfl) (.inl rfl))
    let v100 : Vec F S1x1024 .f32 ← Prog.lift (.load arg14 rowRect.toLoadRect (View.loadsAt_vmem h_S1x1024))
    let v103 : Vec F S1x1024 .f32 ← Prog.lift (.load arg14 rowRect.toLoadRect (View.loadsAt_vmem h_S1x1024))
    Prog.lift (.store arg14 rowRect (k0_pay17 v69 v78 v100) Finset.univ (View.stores_vmem_bits_univ h_S1x1024 rfl) (.inl rfl))
    pure ⟨⟩
  else do
    pure ⟨⟩
  pure ⟨⟩

/-- The kernel function, over the row. -/
def body (i : grid0.Coords) (arg2 : Memref sig .tc .vmem S416x1024 .f32) (harg2 : arg2.IsWhole) (arg3 : Memref sig .tc .vmem S416x1024 .f32) (harg3 : arg3.IsWhole) (arg4 : Memref sig .tc .vmem S2x416x1408 .bf16) (harg4 : arg4.IsWhole) (arg5 : Memref sig .tc .vmem S1x1024 .f32) (harg5 : arg5.IsWhole) (arg6 : Memref sig .tc .vmem S8x1024 .f32) (harg6 : arg6.IsWhole) (arg7 : Memref sig .tc .hbm S5632x1024 .bf16) (harg7 : arg7.IsWhole) (arg8 : Memref sig .tc .hbm S2816x1024 .bf16) (harg8 : arg8.IsWhole) (arg9 : Memref sig .tc .hbm S8x128 .f32) (harg9 : arg9.IsWhole) (arg10 : Memref sig .tc .vmem S416x1024 .f32) (harg10 : arg10.IsWhole) (arg11 : Memref sig .tc .vmem S2x416x1408 .bf16) (harg11 : arg11.IsWhole) (arg12 : Memref sig .tc .vmem S416x1408 .bf16) (harg12 : arg12.IsWhole) (arg13 : Memref sig .tc .vmem S416x1024 .bf16) (harg13 : arg13.IsWhole) (arg14 : Memref sig .tc .vmem S8x1024 .f32) (harg14 : arg14.IsWhole) (arg15 : Memref sig .tc .vmem S5632x1024 .bf16) (harg15 : arg15.IsWhole) (arg16 : Memref sig .tc .vmem S2816x1024 .bf16) (harg16 : arg16.IsWhole) (arg17 : Memref sig .tc .vmem S416x1024 .f32) (harg17 : arg17.IsWhole) (arg18 : DmaSems sig S2) :
    Prog (TpuEff nD τ sig (Elt F) Λ₀ .tc) PUnit := do
  let ⟨arg1, v13, v16, v19, v22, v29, v30, v32⟩ : Σ' (arg1 : BitVec 32) (v13 : BitVec 32) (v16 : FVec F S416x1408 .f32) (v19 : FVec F S416x1408 .f32) (v22 : FVec F S416x1408 .f32) (v29 : FVec F S416x1408 .f32) (v30 : FVec F S416x1408 .f32), FVec F S416x1408 .bf16 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18
  part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 v13 v16 v19 v22 v29 v30 v32
  pure ⟨⟩

/-- The kernel functions by label. -/
def bodies : Defs nD τ sig (Elt F) Λ₀ := Defs.onTc fun
  | 0, (t, s) => body (grid0.coords t) (win0_0.stage (s 0)) (hstage0_0 ((s 0).cast nbuf0_0)) (win0_1.stage (s 1)) (hstage0_1 ((s 1).cast nbuf0_1)) (win0_2.stage (s 2)) (hstage0_2 ((s 2).cast nbuf0_2)) (win0_3.stage (s 3)) (hstage0_3 ((s 3).cast nbuf0_3)) (win0_4.stage (s 4)) (hstage0_4 ((s 4).cast nbuf0_4)) (Memref.whole main_v20) (Memref.isWhole_whole _) (Memref.whole main_v21) (Memref.isWhole_whole _) (Memref.whole main_arg6) (Memref.isWhole_whole _) (win0_5.stage (s 5)) (hstage0_5 ((s 5).cast nbuf0_5)) (win0_6.stage (s 6)) (hstage0_6 ((s 6).cast nbuf0_6)) (win0_7.stage (s 7)) (hstage0_7 ((s 7).cast nbuf0_7)) (win0_8.stage (s 8)) (hstage0_8 ((s 8).cast nbuf0_8)) (win0_9.stage (s 9)) (hstage0_9 ((s 9).cast nbuf0_9)) (Memref.whole cc0_scratch0) (Memref.isWhole_whole _) (Memref.whole cc0_scratch1) (Memref.isWhole_whole _) (Memref.whole cc0_scratch2) (Memref.isWhole_whole _) cc0_scratch3
  | ⟨_ + 1, h⟩, _ => absurd h (Nat.not_lt.2 (Nat.le_add_left _ _))

/-- The three conditions of the body, from the grid coordinates. -/
abbrev cond0_0 (i : grid0.Coords) : Prop := k0_cond1 i = 1#1
abbrev cond0_1 (i : grid0.Coords) : Prop := k0_cond2 i = 1#1
abbrev cond0_2 (i : grid0.Coords) : Prop := k0_cond3 i = 1#1
/-- The scratch the kernel carries between points. -/
abbrev scM0_0 : Memref sig .tc .vmem S5632x1024 .bf16 := Memref.whole cc0_scratch0
abbrev scM0_1 : Memref sig .tc .vmem S2816x1024 .bf16 := Memref.whole cc0_scratch1
abbrev scM0_2 : Memref sig .tc .vmem S416x1024 .f32 := Memref.whole cc0_scratch2
/-- The operands left in HBM that the body copies into scratch itself, whole. -/
abbrev hbM0_0 : Memref sig .tc .hbm S5632x1024 .bf16 := Memref.whole main_v20
abbrev hbM0_1 : Memref sig .tc .hbm S2816x1024 .bf16 := Memref.whole main_v21
abbrev hbM0_2 : Memref sig .tc .hbm S8x128 .f32 := Memref.whole main_arg6
/-- A memref's buffer on a core: its contents type, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-! ## What a point computes -/

section Values
variable (i : grid0.Coords) (x0 x1 : Vec F S416x1024 .f32) (x2 : Vec F S2x416x1408 .bf16) (x3 : Vec F S1x1024 .f32)
  (w : Vec F S5632x1024 .bf16) (wd : Vec F S2816x1024 .bf16) (dn : Vec F S416x1024 .f32)

/-- The gate half and the up half of the point's block. -/
def gateB : Vec F S1x416x1408 .bf16 := View.ld x2 (Rect.unit (s := S2x416x1408) ![0, 0, 0] S1x416x1408.size inb_S2x416x1408_S1x416x1408_0_0_0)
def upB : Vec F S1x416x1408 .bf16 := View.ld x2 (Rect.unit (s := S2x416x1408) ![1, 0, 0] S1x416x1408.size inb_S2x416x1408_S1x416x1408_1_0_0)
/-- The rows of the weights the point multiplies by. -/
def wdB : Vec F S1408x1024 .bf16 := View.ld wd (Rect.unit (s := S2816x1024) (k0_off1 i) S1408x1024.size (k0_off1_inb i))
def wgB : Vec F S1408x1024 .bf16 := View.ld w (Rect.unit (s := S5632x1024) (k0_off2 i) S1408x1024.size (k0_off2_inb i))
def wuB : Vec F S1408x1024 .bf16 := View.ld w (Rect.unit (s := S5632x1024) (k0_off3 i) S1408x1024.size (k0_off3_inb i))
/-- The activation block. -/
def actV : Vec F S416x1408 .bf16 := k0_pay8 (gateB x2) (upB x2)
/-- The gradient of the activation. -/
def dactV : Vec F S416x1408 .f32 := k0_pay3 x0 (wdB i wd)
/-- The gradients of gate and up, stacked. -/
def dguV : Vec F S2x416x1408 .bf16 :=
  View.canon [⟨Rect.unit (s := S2x416x1408) ![1, 0, 0] S1x416x1408.size inb_S2x416x1408_S1x416x1408_1_0_0, k0_pay12 (dactV i x0 wd) (k0_pay7 (gateB x2))⟩,
    ⟨Rect.unit (s := S2x416x1408) ![0, 0, 0] S1x416x1408.size inb_S2x416x1408_S1x416x1408_0_0_0, k0_pay11 (dactV i x0 wd) (k0_pay4 (gateB x2)) (k0_pay5 (upB x2)) (k0_pay6 (gateB x2))⟩]
/-- The running gradient of the normalised rows, from what it was. -/
def dnV : Vec F S416x1024 .f32 :=
  k0_pay13 (dactV i x0 wd) (k0_pay4 (gateB x2)) (k0_pay5 (upB x2)) (k0_pay6 (gateB x2)) (k0_pay7 (gateB x2)) dn (wgB i w) (wuB i w)
/-- The gradient of the rows, from the finished gradient of the normalised rows. -/
def dhinV : Vec F S416x1024 .f32 := k0_pay16 x1 dn x3 x0
/-- The gains' row added to the rows kept so far. -/
def dgV (p : Vec F S8x1024 .f32) : Vec F S8x1024 .f32 :=
  VecWindow.put p ![hr.row.val, 0] S1x1024.size (k0_pay17 x1 dn (View.ld p rowRect))
end Values

/-- A view written over whole from a buffer reads as that buffer. -/
theorem copied_whole {sp : Space} {s : Shape} {e : EltTy} (v : View sig .tc sp s e) (f : v.ty.Contents (Elt F)) (w : s.Idx → Elt F e) :
    v.read (Elt F) (v.writes (Elt F) f [⟨Rect.whole s, w⟩]) = w :=
  View.read_writes_full v f (fun a => (Nat.zero_add _).le) w []

/-- The two halves stored one after the other cover the block. -/
theorem two_rows (v : View sig .tc .vmem S2x416x1408 .bf16) (f : v.ty.Contents (Elt F)) (w₁ w₀ : Vec F S1x416x1408 .bf16) :
    v.read (Elt F) (v.writes (Elt F) f [⟨Rect.unit (s := S2x416x1408) ![1, 0, 0] S1x416x1408.size inb_S2x416x1408_S1x416x1408_1_0_0, w₁⟩,
      ⟨Rect.unit (s := S2x416x1408) ![0, 0, 0] S1x416x1408.size inb_S2x416x1408_S1x416x1408_0_0_0, w₀⟩])
      = View.canon [⟨Rect.unit (s := S2x416x1408) ![1, 0, 0] S1x416x1408.size inb_S2x416x1408_S1x416x1408_1_0_0, w₁⟩,
      ⟨Rect.unit (s := S2x416x1408) ![0, 0, 0] S1x416x1408.size inb_S2x416x1408_S1x416x1408_0_0_0, w₀⟩] :=
  View.read_writes_eq_canon v f _ (View.cover_of_tiledL (Val := Elt F) _ S1x416x1408.size (by sl_kernel_rfl))

section Body
variable (c : Dev nD) (i : grid0.Coords)
  (arg2 : Memref sig .tc .vmem S416x1024 .f32) (harg2 : arg2.IsWhole)
  (arg3 : Memref sig .tc .vmem S416x1024 .f32) (harg3 : arg3.IsWhole)
  (arg4 : Memref sig .tc .vmem S2x416x1408 .bf16) (harg4 : arg4.IsWhole)
  (arg5 : Memref sig .tc .vmem S1x1024 .f32) (harg5 : arg5.IsWhole)
  (arg6 : Memref sig .tc .vmem S8x1024 .f32) (harg6 : arg6.IsWhole)
  (arg10 : Memref sig .tc .vmem S416x1024 .f32) (harg10 : arg10.IsWhole)
  (arg11 : Memref sig .tc .vmem S2x416x1408 .bf16) (harg11 : arg11.IsWhole)
  (arg12 : Memref sig .tc .vmem S416x1408 .bf16) (harg12 : arg12.IsWhole)
  (arg13 : Memref sig .tc .vmem S416x1024 .bf16) (harg13 : arg13.IsWhole)
  (arg14 : Memref sig .tc .vmem S8x1024 .f32) (harg14 : arg14.IsWhole)
  (arg15 : Memref sig .tc .vmem S5632x1024 .bf16) (harg15 : arg15.IsWhole)
  (arg16 : Memref sig .tc .vmem S2816x1024 .bf16) (harg16 : arg16.IsWhole)
  (arg17 : Memref sig .tc .vmem S416x1024 .f32) (harg17 : arg17.IsWhole)
  (x0 x1 : Vec F S416x1024 .f32) (x2 : Vec F S2x416x1408 .bf16) (x3 : Vec F S1x1024 .f32) (x4 : Vec F S8x1024 .f32)
  (w : Vec F S5632x1024 .bf16) (wd : Vec F S2816x1024 .bf16) (dn : Vec F S416x1024 .f32)
  (fh0 : HbBuf0 (F := F) c hbM0_0) (fh1 : HbBuf0 (F := F) c hbM0_1) (fh2 : HbBuf0 (F := F) c hbM0_2)

set_option maxHeartbeats 1200000 in
/-- The second point of a row tile: the running gradient finished, the rows' gradient and the gains' row written. -/
theorem run_B (hc0 : ¬cond0_0 i) (hc1 : ¬cond0_1 i) (hc2 : cond0_2 i) (x8 : Vec F S416x1024 .bf16) (x9 : Vec F S8x1024 .f32) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x8 ∗ owns (c : Thread nD τ) arg14 fullShare x9 ∗ owns (c : Thread nD τ) arg15 fullShare w ∗ owns (c : Thread nD τ) arg16 fullShare wd ∗ owns (c : Thread nD τ) arg17 fullShare dn ∗ semVal ((c : Thread nD τ), SemLoc.dma 17) 0 ∗ semVal ((c : Thread nD τ), SemLoc.dma 18) 0 ∗ hbPt0 c hbM0_0 fh0 ∗ hbPt0 c hbM0_1 fh1 ∗ hbPt0 c hbM0_2 fh2 ∗ owes (c : Thread nD τ) 0 W
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare (dhinV x0 x1 x3 (dnV i x0 x2 w wd dn)) ∗ owns (c : Thread nD τ) arg11 fullShare (dguV i x0 x2 wd) ∗ owns (c : Thread nD τ) arg12 fullShare (actV x2) ∗ owns (c : Thread nD τ) arg13 fullShare x8 ∗ owns (c : Thread nD τ) arg14 fullShare (dgV x1 (dnV i x0 x2 w wd dn) x9) ∗ owns (c : Thread nD τ) arg15 fullShare w ∗ owns (c : Thread nD τ) arg16 fullShare wd ∗ owns (c : Thread nD τ) arg17 fullShare (dnV i x0 x2 w wd dn) ∗ semVal ((c : Thread nD τ), SemLoc.dma 17) 0 ∗ semVal ((c : Thread nD τ), SemLoc.dma 18) 0 ∗ hbPt0 c hbM0_0 fh0 ∗ hbPt0 c hbM0_1 fh1 ∗ hbPt0 c hbM0_2 fh2 ∗ (∃ W', owes (c : Thread nD τ) 0 W')) -∗ K ⟨⟩))
      ⊢ wp frame (wpE (bodies (F := F)) Variants.none c none) Set.univ (body i arg2 harg2 arg3 harg3 arg4 harg4 arg5 harg5 arg6 harg6 (Memref.whole main_v20) (Memref.isWhole_whole _) (Memref.whole main_v21) (Memref.isWhole_whole _) (Memref.whole main_arg6) (Memref.isWhole_whole _) arg10 harg10 arg11 harg11 arg12 harg12 arg13 harg13 arg14 harg14 arg15 harg15 arg16 harg16 arg17 harg17 cc0_scratch3) K := by
  unfold body part2
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, ⟨%fS0, %hfS0, HS0⟩, ⟨%fS1, %hfS1, HS1⟩, ⟨%fS2, %hfS2, HS2⟩, Hq0, Hq1, Hh0, Hh1, Hh2, HW, Hk⟩
  obtain rfl := harg2.eq_unread hf0; obtain rfl := harg3.eq_unread hf1; obtain rfl := harg4.eq_unread hf2; obtain rfl := harg5.eq_unread hf3; obtain rfl := harg6.eq_unread hf4; obtain rfl := harg13.eq_unread hf8; obtain rfl := harg14.eq_unread hf9; obtain rfl := harg15.eq_unread hfS0; obtain rfl := harg16.eq_unread hfS1; obtain rfl := harg17.eq_unread hfS2
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_unfold_run_names
    rw [View.read_writes_full]
    try simp (disch := decide) only [View.ld_unit_lit', View.readCov_unit_lit', View.readCov_cons_unit_lit', View.readAt_eq_ld, Memref.IsWhole.read_unread]
    try rfl
  isplitl [H6]
  · iexists _; isplitr; swap; · iexact H6
    ipureintro
    sl_unfold_run_names
    refine (two_rows _ _ _ _).trans ?_
    simp (disch := decide) only [View.ld_unit_lit', View.readCov_unit_lit', View.readCov_cons_unit_lit', View.readAt_eq_ld, Memref.IsWhole.read_unread]
    rfl
  isplitl [H7]
  · iexists _; isplitr; swap; · iexact H7
    ipureintro
    sl_unfold_run_names
    rw [View.read_writes_full]
    try simp (disch := decide) only [View.ld_unit_lit', View.readCov_unit_lit', View.readCov_cons_unit_lit', View.readAt_eq_ld, Memref.IsWhole.read_unread]
    try rfl
  isplitl [H8]
  · iexists _; isplitr; · ipureintro; exact harg13.read_unread _
    iexact H8
  isplitl [H9]
  · iexists _; isplitr; swap; · iexact H9
    ipureintro
    sl_unfold_run_names
    rw [View.read_writes_cons_put _ _ _ _ _ rfl, View.writes_nil]
    simp (disch := decide) only [View.ld_unit_lit', View.readCov_unit_lit', View.readCov_cons_unit_lit', View.readAt_eq_ld, Memref.IsWhole.read_unread]
    rfl
  isplitl [HS0]
  · iexists _; isplitr; · ipureintro; exact harg15.read_unread _
    iexact HS0
  isplitl [HS1]
  · iexists _; isplitr; · ipureintro; exact harg16.read_unread _
    iexact HS1
  isplitl [HS2]
  · iexists _; isplitr; swap; · iexact HS2
    ipureintro
    sl_unfold_run_names
    rw [View.read_writes_full]
    try simp (disch := decide) only [View.ld_unit_lit', View.readCov_unit_lit', View.readCov_cons_unit_lit', View.readAt_eq_ld, Memref.IsWhole.read_unread]
    try rfl
  isplitl [Hq0]; · iexact Hq0
  isplitl [Hq1]; · iexact Hq1
  isplitl [Hh0]; · iexact Hh0
  isplitl [Hh1]; · iexact Hh1
  isplitl [Hh2]; · iexact Hh2
  iexists _; iexact HW

set_option maxHeartbeats 1200000 in
/-- The first point of a row tile that is not the first: the running gradient started again. -/
theorem run_C (hc0 : ¬cond0_0 i) (hc1 : cond0_1 i) (hc2 : ¬cond0_2 i) (x5 : Vec F S416x1024 .f32) (x9 : Vec F S8x1024 .f32) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare x5 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x9 ∗ owns (c : Thread nD τ) arg15 fullShare w ∗ owns (c : Thread nD τ) arg16 fullShare wd ∗ (∃ d, owns (c : Thread nD τ) arg17 fullShare d) ∗ semVal ((c : Thread nD τ), SemLoc.dma 17) 0 ∗ semVal ((c : Thread nD τ), SemLoc.dma 18) 0 ∗ hbPt0 c hbM0_0 fh0 ∗ hbPt0 c hbM0_1 fh1 ∗ hbPt0 c hbM0_2 fh2 ∗ owes (c : Thread nD τ) 0 W
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare x5 ∗ owns (c : Thread nD τ) arg11 fullShare (dguV i x0 x2 wd) ∗ owns (c : Thread nD τ) arg12 fullShare (actV x2) ∗ owns (c : Thread nD τ) arg13 fullShare (k0_pay1 x0) ∗ owns (c : Thread nD τ) arg14 fullShare x9 ∗ owns (c : Thread nD τ) arg15 fullShare w ∗ owns (c : Thread nD τ) arg16 fullShare wd ∗ owns (c : Thread nD τ) arg17 fullShare (dnV i x0 x2 w wd k0_pay2) ∗ semVal ((c : Thread nD τ), SemLoc.dma 17) 0 ∗ semVal ((c : Thread nD τ), SemLoc.dma 18) 0 ∗ hbPt0 c hbM0_0 fh0 ∗ hbPt0 c hbM0_1 fh1 ∗ hbPt0 c hbM0_2 fh2 ∗ (∃ W', owes (c : Thread nD τ) 0 W')) -∗ K ⟨⟩))
      ⊢ wp frame (wpE (bodies (F := F)) Variants.none c none) Set.univ (body i arg2 harg2 arg3 harg3 arg4 harg4 arg5 harg5 arg6 harg6 (Memref.whole main_v20) (Memref.isWhole_whole _) (Memref.whole main_v21) (Memref.isWhole_whole _) (Memref.whole main_arg6) (Memref.isWhole_whole _) arg10 harg10 arg11 harg11 arg12 harg12 arg13 harg13 arg14 harg14 arg15 harg15 arg16 harg16 arg17 harg17 cc0_scratch3) K := by
  unfold body part2
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%fS0, %hfS0, HS0⟩, ⟨%fS1, %hfS1, HS1⟩, ⟨%dS2, %fS2, -, HS2⟩, Hq0, Hq1, Hh0, Hh1, Hh2, HW, Hk⟩
  obtain rfl := harg2.eq_unread hf0; obtain rfl := harg3.eq_unread hf1; obtain rfl := harg4.eq_unread hf2; obtain rfl := harg5.eq_unread hf3; obtain rfl := harg6.eq_unread hf4; obtain rfl := harg10.eq_unread hf5; obtain rfl := harg14.eq_unread hf9; obtain rfl := harg15.eq_unread hfS0; obtain rfl := harg16.eq_unread hfS1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg10.read_unread _
    iexact H5
  isplitl [H6]
  · iexists _; isplitr; swap; · iexact H6
    ipureintro
    sl_unfold_run_names
    refine (two_rows _ _ _ _).trans ?_
    simp (disch := decide) only [View.ld_unit_lit', View.readCov_unit_lit', View.readCov_cons_unit_lit', View.readAt_eq_ld, Memref.IsWhole.read_unread]
    rfl
  isplitl [H7]
  · iexists _; isplitr; swap; · iexact H7
    ipureintro
    sl_unfold_run_names
    rw [View.read_writes_full]
    try simp (disch := decide) only [View.ld_unit_lit', View.readCov_unit_lit', View.readCov_cons_unit_lit', View.readAt_eq_ld, Memref.IsWhole.read_unread]
    try rfl
  isplitl [H8]
  · iexists _; isplitr; swap; · iexact H8
    ipureintro
    sl_unfold_run_names
    rw [View.read_writes_full]
    try simp (disch := decide) only [View.ld_unit_lit', View.readCov_unit_lit', View.readCov_cons_unit_lit', View.readAt_eq_ld, Memref.IsWhole.read_unread]
    try rfl
  isplitl [H9]
  · iexists _; isplitr; · ipureintro; exact harg14.read_unread _
    iexact H9
  isplitl [HS0]
  · iexists _; isplitr; · ipureintro; exact harg15.read_unread _
    iexact HS0
  isplitl [HS1]
  · iexists _; isplitr; · ipureintro; exact harg16.read_unread _
    iexact HS1
  isplitl [HS2]
  · iexists _; isplitr; swap; · iexact HS2
    ipureintro
    sl_unfold_run_names
    rw [View.read_writes_full]
    try simp (disch := decide) only [View.ld_unit_lit', View.readCov_unit_lit', View.readCov_cons_unit_lit', View.readAt_eq_ld, Memref.IsWhole.read_unread]
    try rfl
  isplitl [Hq0]; · iexact Hq0
  isplitl [Hq1]; · iexact Hq1
  isplitl [Hh0]; · iexact Hh0
  isplitl [Hh1]; · iexact Hh1
  isplitl [Hh2]; · iexact Hh2
  iexists _; iexact HW

set_option maxHeartbeats 1200000 in
/-- The first point: the weights brought in, the rows of gains taken over, the running gradient started. -/
theorem run_A (hc0 : cond0_0 i) (hc1 : cond0_1 i) (hc2 : ¬cond0_2 i) (x5 : Vec F S416x1024 .f32) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare x5 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 17) 0 ∗ semVal ((c : Thread nD τ), SemLoc.dma 18) 0 ∗ hbPt0 c hbM0_0 fh0 ∗ hbPt0 c hbM0_1 fh1 ∗ hbPt0 c hbM0_2 fh2 ∗ owes (c : Thread nD τ) 0 W
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare x5 ∗ owns (c : Thread nD τ) arg11 fullShare (dguV i x0 x2 fh1) ∗ owns (c : Thread nD τ) arg12 fullShare (actV x2) ∗ owns (c : Thread nD τ) arg13 fullShare (k0_pay1 x0) ∗ owns (c : Thread nD τ) arg14 fullShare x4 ∗ owns (c : Thread nD τ) arg15 fullShare fh0 ∗ owns (c : Thread nD τ) arg16 fullShare fh1 ∗ owns (c : Thread nD τ) arg17 fullShare (dnV i x0 x2 fh0 fh1 k0_pay2) ∗ semVal ((c : Thread nD τ), SemLoc.dma 17) 0 ∗ semVal ((c : Thread nD τ), SemLoc.dma 18) 0 ∗ hbPt0 c hbM0_0 fh0 ∗ hbPt0 c hbM0_1 fh1 ∗ hbPt0 c hbM0_2 fh2 ∗ (∃ W', owes (c : Thread nD τ) 0 W')) -∗ K ⟨⟩))
      ⊢ wp frame (wpE (bodies (F := F)) Variants.none c none) Set.univ (body i arg2 harg2 arg3 harg3 arg4 harg4 arg5 harg5 arg6 harg6 (Memref.whole main_v20) (Memref.isWhole_whole _) (Memref.whole main_v21) (Memref.isWhole_whole _) (Memref.whole main_arg6) (Memref.isWhole_whole _) arg10 harg10 arg11 harg11 arg12 harg12 arg13 harg13 arg14 harg14 arg15 harg15 arg16 harg16 arg17 harg17 cc0_scratch3) K := by
  unfold body part2
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%dS0, %fS0, -, HS0⟩, ⟨%dS1, %fS1, -, HS1⟩, ⟨%dS2, %fS2, -, HS2⟩, Hq0, Hq1, Hh0, Hh1, Hh2, HW, Hk⟩
  obtain rfl := harg2.eq_unread hf0; obtain rfl := harg3.eq_unread hf1; obtain rfl := harg4.eq_unread hf2; obtain rfl := harg5.eq_unread hf3; obtain rfl := harg6.eq_unread hf4; obtain rfl := harg10.eq_unread hf5
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg10.read_unread _
    iexact H5
  isplitl [H6]
  · iexists _; isplitr; swap; · iexact H6
    ipureintro
    sl_unfold_run_names
    refine (two_rows _ _ _ _).trans ?_
    simp (disch := decide) only [View.ld_unit_lit', View.readCov_unit_lit', View.readCov_cons_unit_lit', View.readAt_eq_ld, Memref.IsWhole.read_unread]
    simp only [copied_whole]
    rfl
  isplitl [H7]
  · iexists _; isplitr; swap; · iexact H7
    ipureintro
    sl_unfold_run_names
    rw [View.read_writes_full]
    try simp (disch := decide) only [View.ld_unit_lit', View.readCov_unit_lit', View.readCov_cons_unit_lit', View.readAt_eq_ld, Memref.IsWhole.read_unread]
    try rfl
  isplitl [H8]
  · iexists _; isplitr; swap; · iexact H8
    ipureintro
    sl_unfold_run_names
    rw [View.read_writes_full]
    try simp (disch := decide) only [View.ld_unit_lit', View.readCov_unit_lit', View.readCov_cons_unit_lit', View.readAt_eq_ld, Memref.IsWhole.read_unread]
    try rfl
  isplitl [H9]
  · iexists _; isplitr; swap; · iexact H9
    ipureintro
    sl_unfold_run_names
    rw [View.read_writes_full]
    try simp (disch := decide) only [View.ld_unit_lit', View.readCov_unit_lit', View.readCov_cons_unit_lit', View.readAt_eq_ld, Memref.IsWhole.read_unread]
    try rfl
  isplitl [HS0]
  · iexists _; isplitr; swap; · iexact HS0
    ipureintro
    sl_unfold_run_names
    exact copied_whole _ _ _
  isplitl [HS1]
  · iexists _; isplitr; swap; · iexact HS1
    ipureintro
    sl_unfold_run_names
    exact copied_whole _ _ _
  isplitl [HS2]
  · iexists _; isplitr; swap; · iexact HS2
    ipureintro
    sl_unfold_run_names
    rw [View.read_writes_full]
    try simp (disch := decide) only [View.ld_unit_lit', View.readCov_unit_lit', View.readCov_cons_unit_lit', View.readAt_eq_ld, Memref.IsWhole.read_unread]
    simp only [copied_whole]
    rfl
  isplitl [Hq0]; · iexact Hq0
  isplitl [Hq1]; · iexact Hq1
  isplitl [Hh0]; · iexact Hh0
  isplitl [Hh1]; · iexact Hh1
  isplitl [Hh2]; · iexact Hh2
  iexists _; iexact HW

end Body

end Cert.Kernel.Ffn

end
-- ==== Proof.FfnFrame.lean ====
/- The feed-forward backward kernel's run: what each point leaves, the invariant between points, and the whole run. -/
module

public import proofs.«01_k».proof.Proof.FfnRun

@[expose] public section

set_option maxRecDepth 16384

noncomputable section

namespace Cert.Kernel.Ffn

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable [hr : Row]

/-- The kernel function at a grid point, on the blocks of its windows. -/
abbrev bodyAt (t : Fin cfg0.N) : Prog (TpuEff nD τ sig (Elt F) Λ₀ .tc) PUnit :=
  body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole main_v20) (Memref.isWhole_whole _) (Memref.whole main_v21) (Memref.isWhole_whole _) (Memref.whole main_arg6) (Memref.isWhole_whole _) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) cc0_scratch3

variable (m : (ℓ : Loc nD τ sig) → Buf (Elt F) ℓ) (ρ : Dev nD → PrngReg)

/-! ## Which case a point is in -/

/-- It holds at the first point only — by arithmetic of the point. -/
theorem hcond0_0 : ∀ t : Fin cfg0.N, cond0_0 (grid0.coords t) ↔ t.val % 20 = 0 :=
  (fun t => by
    have ht : t.val < 20 := Nat.lt_of_lt_of_eq t.isLt N_0
    have e0 : (grid0.coords t 0).val = t.val / 2 % 10 := Pipeline.Grid.coords_val t 0 (by decide) rfl
    have e1 : (grid0.coords t 1).val = t.val / 1 % 2 := Pipeline.Grid.coords_val t 1 (by decide) rfl
    simp only [cond0_0, k0_cond1, e0, e1]
    word_cmp
   : ∀ t : Fin grid0.N, cond0_0 (grid0.coords t) ↔ t.val % 20 = 0)

/-- It holds at the points ≡ 0 (mod 2) — by arithmetic of the point. -/
theorem hcond0_1 : ∀ t : Fin cfg0.N, cond0_1 (grid0.coords t) ↔ t.val % 2 = 0 :=
  (fun t => by
    have ht : t.val < 20 := Nat.lt_of_lt_of_eq t.isLt N_0
    have e0 : (grid0.coords t 0).val = t.val / 2 % 10 := Pipeline.Grid.coords_val t 0 (by decide) rfl
    have e1 : (grid0.coords t 1).val = t.val / 1 % 2 := Pipeline.Grid.coords_val t 1 (by decide) rfl
    simp only [cond0_1, k0_cond2, e0, e1]
    word_cmp
   : ∀ t : Fin grid0.N, cond0_1 (grid0.coords t) ↔ t.val % 2 = 0)

/-- It holds at the points ≡ 1 (mod 2) — by arithmetic of the point. -/
theorem hcond0_2 : ∀ t : Fin cfg0.N, cond0_2 (grid0.coords t) ↔ t.val % 2 = 1 :=
  (fun t => by
    have ht : t.val < 20 := Nat.lt_of_lt_of_eq t.isLt N_0
    have e0 : (grid0.coords t 0).val = t.val / 2 % 10 := Pipeline.Grid.coords_val t 0 (by decide) rfl
    have e1 : (grid0.coords t 1).val = t.val / 1 % 2 := Pipeline.Grid.coords_val t 1 (by decide) rfl
    simp only [cond0_2, k0_cond3, e0, e1]
    word_cmp
   : ∀ t : Fin grid0.N, cond0_2 (grid0.coords t) ↔ t.val % 2 = 1)

/-! ## Where the outputs are idle, and where they are written back -/

theorem idle5 : ∀ t : Fin cfg0.N, t.val % 2 = 0 → cfg0.idle 5 (grid0.coords t) = true := by decide +kernel
theorem live5 : ∀ t : Fin cfg0.N, t.val % 2 = 1 → cfg0.idle 5 (grid0.coords t) = false := by decide +kernel
theorem keep5 : ∀ t : Fin cfg0.N, t.val % 2 = 0 → (cfg0.win 5).flush t = false := by decide +kernel
theorem live8 : ∀ t : Fin cfg0.N, t.val % 2 = 0 → cfg0.idle 8 (grid0.coords t) = false := by decide +kernel
theorem idle8 : ∀ t : Fin cfg0.N, t.val % 2 = 1 → cfg0.idle 8 (grid0.coords t) = true := by decide +kernel
theorem out8 : ∀ t : Fin cfg0.N, t.val % 2 = 1 → (cfg0.win 8).flush t = true := by decide +kernel
theorem live9 : ∀ t : Fin cfg0.N, t.val = 0 ∨ t.val % 2 = 1 → cfg0.idle 9 (grid0.coords t) = false := by decide +kernel
theorem idle9 : ∀ t : Fin cfg0.N, t.val ≠ 0 → t.val % 2 = 0 → cfg0.idle 9 (grid0.coords t) = true := by decide +kernel
theorem keep9 : ∀ t : Fin cfg0.N, t.val % 2 = 0 → (cfg0.win 9).flush t = false := by decide +kernel

/-- Whether output 8's buffer is fresh before position `n`, and output 9's. -/
def fresh8 : ℕ → Bool
  | 0 => true
  | n + 1 => (0xaaaaa : ℕ).testBit n
theorem fresh8_step : ∀ t : Fin cfg0.N, fresh8 (t.val + 1) = ((cfg0.win 8).flush t || (cfg0.idle 8 (cfg0.grid.coords t) && fresh8 t.val)) := by decide +kernel
def fresh9 : ℕ → Bool
  | 0 => true
  | n + 1 => (0x80000 : ℕ).testBit n
theorem fresh9_step : ∀ t : Fin cfg0.N, fresh9 (t.val + 1) = ((cfg0.win 9).flush t || (cfg0.idle 9 (cfg0.grid.coords t) && fresh9 t.val)) := by decide +kernel
theorem kept8 : ∀ t : Fin cfg0.N, t.val % 2 = 1 → cfg0.fresh 8 t.val = false := by
  intro t; rw [Pipeline.Cfg.fresh_tab cfg0 8 fresh8 rfl fresh8_step t.val (Nat.le_of_lt t.isLt)]; revert t; decide +kernel
theorem kept9 : ∀ t : Fin cfg0.N, t.val % 2 = 1 → cfg0.fresh 9 t.val = false := by
  intro t; rw [Pipeline.Cfg.fresh_tab cfg0 9 fresh9 rfl fresh9_step t.val (Nat.le_of_lt t.isLt)]; revert t; decide +kernel

/-! ## The staging buffers -/

abbrev ms0_0 (t : Fin cfg0.N) : Memref sig .tc .vmem S416x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S416x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x416x1408 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S416x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x416x1408 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S416x1408 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S416x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x1024 .f32 := win0_9.stage (cfg0.slots t 9)
abbrev hs0_9 (t : Fin cfg0.N) : (ms0_9 t).IsWhole := hstage0_9 ((cfg0.slots t 9).cast nbuf0_9)

/-- The body's own DMA semaphores, cell by cell (their numbers in the pool): the kernel's own semaphores for the launch
    (`Pipeline.OwnSemFacts`: none is a window's). -/
abbrev osem0 : Fin 2 → SemLoc sig := fun j => (![SemLoc.dma 17, SemLoc.dma 18] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 17) 0 ∗ semVal ((c : Thread nD τ), SemLoc.dma 18) 0) := by
  rw [Pipeline.ownSems0_eq_of_list c osem0 [0, 1] (by decide) (by decide)]; rfl
/-- The HBM operands the body moves, as references: unscoped, no window's array (`Pipeline.restRefs`). -/
def H0 : Finset (Ref sig .tc) := {main_v20, main_v21, main_arg6}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v20) ∗ hbPt0 c hbM0_1 (V m c main_v21) ∗ hbPt0 c hbM0_2 (V m c main_arg6)) := by
  rw [BI.bigSep_eq_bigSepL_of_eq [main_v20, main_v21, main_arg6] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 17) 0 ∗ semVal ((c : Thread nD τ), SemLoc.dma 18) 0) ∗ iprop(hbPt0 c hbM0_0 (V m c main_v20) ∗ hbPt0 c hbM0_1 (V m c main_v21) ∗ hbPt0 c hbM0_2 (V m c main_arg6))) := by
  rw [Pipeline.ΦD_eq, scopedRest0_eq, ownSems00_eq, hbmPts0_eq]; simp only [scM0_0, scM0_1, scM0_2, owns_whole]; try rfl

/-! ## What the points compute -/

/-- The even point of a point's row tile. -/
def evenPt (t : Fin cfg0.N) : Fin cfg0.N := ⟨t.val - t.val % 2, Nat.lt_of_le_of_lt (Nat.sub_le _ _) t.isLt⟩
theorem evenPt_of_even (t : Fin cfg0.N) (h : t.val % 2 = 0) : evenPt t = t := Fin.ext (by simp [evenPt, h])
theorem evenPt_of_odd (t s : Fin cfg0.N) (h : t.val % 2 = 1) (hs : s.val = t.val - 1) : evenPt t = s := Fin.ext (by simp [evenPt, h, hs])

/-- The running gradient a point adds its block to. -/
def dnStep (c : Dev nD) (t : Fin cfg0.N) (dn : Vec F S416x1024 .f32) : Vec F S416x1024 .f32 :=
  dnV (grid0.coords t) (iblk m c 0 t) (iblk m c 2 t) (V m c main_v20) (V m c main_v21) dn
/-- The running gradient after a point: an even point starts it again. -/
def dnAt (c : Dev nD) (t : Fin cfg0.N) : Vec F S416x1024 .f32 :=
  if t.val % 2 = 0 then dnStep m c t k0_pay2 else dnStep m c t (dnStep m c (evenPt t) k0_pay2)
theorem dnAt_even (c : Dev nD) (t : Fin cfg0.N) (h : t.val % 2 = 0) : dnAt m c t = dnStep m c t k0_pay2 := if_pos h
theorem dnAt_odd (c : Dev nD) (t s : Fin cfg0.N) (h : t.val % 2 = 1) (hs : s.val = t.val - 1) : dnAt m c t = dnStep m c t (dnAt m c s) := by
  rw [dnAt, if_neg (by omega), dnAt_even m c s (by omega), evenPt_of_odd t s h hs]
/-- The rows of gains after a point: the rows handed in at the first, a tile's row added at every odd one. -/
def dgAt (c : Dev nD) : (n : ℕ) → n < cfg0.N → Vec F S8x1024 .f32
  | 0, h => iblk m c 4 ⟨0, h⟩
  | n + 1, h =>
    if (n + 1) % 2 = 1 then dgV (iblk m c 1 ⟨n + 1, h⟩) (dnAt m c ⟨n + 1, h⟩) (dgAt c n (Nat.lt_of_succ_lt h))
    else dgAt c n (Nat.lt_of_succ_lt h)
theorem dgAt_odd (c : Dev nD) (t s : Fin cfg0.N) (h : t.val % 2 = 1) (hs : s.val = t.val - 1) :
    dgAt m c t.val t.isLt = dgV (iblk m c 1 t) (dnAt m c t) (dgAt m c s.val s.isLt) := by
  obtain ⟨n, hn⟩ := t
  cases n with
  | zero => exact absurd (show 0 % 2 = 1 from h) (by decide)
  | succ n => obtain rfl : s = ⟨n, Nat.lt_of_succ_lt hn⟩ := Fin.ext hs; exact if_pos h
theorem dgAt_even (c : Dev nD) (t s : Fin cfg0.N) (h : t.val % 2 = 0) (h0 : t.val ≠ 0) (hs : s.val = t.val - 1) :
    dgAt m c t.val t.isLt = dgAt m c s.val s.isLt := by
  obtain ⟨n, hn⟩ := t
  cases n with
  | zero => exact absurd rfl h0
  | succ n => obtain rfl : s = ⟨n, Nat.lt_of_succ_lt hn⟩ := Fin.ext hs; change (n + 1) % 2 = 0 at h; exact if_neg (by omega)

/-! ## The invariant between points -/

/-- Before a point that is not the first: the weights in scratch, and the running gradient `d`. -/
def Mid (c : Dev nD) (d : Vec F S416x1024 .f32) : sProp 𝕄 :=
  iprop(iprop(owns (c : Thread nD τ) scM0_0 fullShare (V m c main_v20 : Vec F S5632x1024 .bf16) ∗ owns (c : Thread nD τ) scM0_1 fullShare (V m c main_v21 : Vec F S2816x1024 .bf16) ∗ owns (c : Thread nD τ) scM0_2 fullShare d) ∗ (∃ r, prngReg c r) ∗ iprop(semVal ((c : Thread nD τ), SemLoc.dma 17) 0 ∗ semVal ((c : Thread nD τ), SemLoc.dma 18) 0) ∗ iprop(hbPt0 c hbM0_0 (V m c main_v20) ∗ hbPt0 c hbM0_1 (V m c main_v21) ∗ hbPt0 c hbM0_2 (V m c main_arg6)))
def PhiS (c : Dev nD) : (n : ℕ) → n ≤ cfg0.N → sProp 𝕄
  | 0, _ => Pipeline.ΦD osem0 spec0 H0 (V m) c
  | n + 1, hn => Mid m c (dnAt m c ⟨n, hn⟩)
theorem PhiS_zero (c : Dev nD) (n : ℕ) (h : n ≤ cfg0.N) (hz : n = 0) : PhiS m c n h = Pipeline.ΦD osem0 spec0 H0 (V m) c := by
  subst hz; rfl
theorem PhiS_pos (c : Dev nD) (n : ℕ) (h : n ≤ cfg0.N) (s : Fin cfg0.N) (hz : n ≠ 0) (hs : s.val = n - 1) : PhiS m c n h = Mid m c (dnAt m c s) := by
  cases n with
  | zero => exact absurd rfl hz
  | succ n => obtain rfl : s = ⟨n, h⟩ := Fin.ext hs; rfl

/-! ## The pipeline's proof data -/

/-- Each input's buffer at its block and each output's at what the points before and this one computed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dhinV (iblk m c 0 t) (iblk m c 1 t) (iblk m c 3 t) (dnAt m c t)
    | ⟨6, _⟩ => dguV (grid0.coords t) (iblk m c 0 t) (iblk m c 2 t) (V m c main_v21)
    | ⟨7, _⟩ => actV (iblk m c 2 t)
    | ⟨8, _⟩ => k0_pay1 (iblk m c 0 (evenPt t))
    | ⟨9, _⟩ => dgAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = dhinV (iblk m c 0 t) (iblk m c 1 t) (iblk m c 3 t) (dnAt m c t) := by dsimp only [dats]
theorem after6 (c : Dev nD) (t : Fin cfg0.N) : (dats m 0 c).after 6 t = dguV (grid0.coords t) (iblk m c 0 t) (iblk m c 2 t) (V m c main_v21) := by dsimp only [dats]
theorem after7 (c : Dev nD) (t : Fin cfg0.N) : (dats m 0 c).after 7 t = actV (iblk m c 2 t) := by dsimp only [dats]
theorem after8 (c : Dev nD) (t : Fin cfg0.N) : (dats m 0 c).after 8 t = k0_pay1 (iblk m c 0 (evenPt t)) := by dsimp only [dats]
theorem after9 (c : Dev nD) (t : Fin cfg0.N) : (dats m 0 c).after 9 t = dgAt m c t.val t.isLt := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]) t d).trans
    (by unfold Dat.fetched Dat.blockOf iblk; rw [A_eq]; try rfl)

/-- An output's contents carry through the points that leave it alone. -/
theorem carry8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  rw [after8, after8]
  rcases Nat.mod_two_eq_zero_or_one t.val with h | h
  · rw [live8 t h] at hi; exact absurd hi Bool.false_ne_true
  · rw [evenPt_of_odd t ⟨t.val - 1, by omega⟩ h rfl, evenPt_of_even _ (show (t.val - 1) % 2 = 0 by omega)]
theorem carry9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t h0 hi _
  rw [after9, after9]
  rcases Nat.mod_two_eq_zero_or_one t.val with h | h
  · exact dgAt_even m c t ⟨t.val - 1, by omega⟩ h h0 rfl
  · rw [live9 t (Or.inr h)] at hi; exact absurd hi Bool.false_ne_true
theorem before8 (c : Dev nD) (t s : Fin cfg0.N) (h : t.val % 2 = 1) (hs : s.val = t.val - 1) (d) : (dats m 0 c).before 8 t d = k0_pay1 (iblk m c 0 (evenPt t)) := by
  rw [Dat.before_out_traj _ 8 rfl (fun _ _ => rfl) (carry8 m c) t.val t rfl d, if_neg (by rw [kept8 t h]; exact Bool.false_ne_true), after8,
    evenPt_of_odd t s h hs, evenPt_of_even _ (show (t.val - 1) % 2 = 0 by omega)]
  exact congrArg (fun x => k0_pay1 (iblk m c 0 x)) (Fin.ext hs.symm)
theorem before9 (c : Dev nD) (t s : Fin cfg0.N) (h : t.val % 2 = 1) (hs : s.val = t.val - 1) (d) : (dats m 0 c).before 9 t d = dgAt m c s.val s.isLt := by
  rw [Dat.before_out_traj _ 9 rfl (fun _ _ => rfl) (carry9 m c) t.val t rfl d, if_neg (by rw [kept9 t h]; exact Bool.false_ne_true), after9]
  obtain rfl : s = ⟨t.val - 1, Nat.lt_of_le_of_lt (Nat.sub_le _ _) t.isLt⟩ := Fin.ext hs
  rfl

/-! ## The body at a point -/

/-- What a point's body is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- What a window that is not idle at a point is left with. -/
theorem leaves_live (c : Dev nD) (k : Fin cfg0.W) (t : Fin cfg0.N) (h : cfg0.idle k (grid0.coords t) = false) :
    (dats m 0 c).leavesExact k t = owns (c : Thread nD τ) ((cfg0.win k).stage (cfg0.slots t k)) fullShare ((dats m 0 c).after k t) := by
  unfold Dat.leavesExact; rw [h]
/-- The same for one that is idle there but written back. -/
theorem leaves_out (c : Dev nD) (k : Fin cfg0.W) (t : Fin cfg0.N) (h : cfg0.idle k (grid0.coords t) = true) (hf : (cfg0.win k).flush t = true) :
    (dats m 0 c).leavesExact k t = owns (c : Thread nD τ) ((cfg0.win k).stage (cfg0.slots t k)) fullShare ((dats m 0 c).after k t) := by
  unfold Dat.leavesExact; rw [h, hf]

set_option maxHeartbeats 4000000 in
/-- The body at an odd point. -/
theorem body_B (c : Dev nD) (t : Fin cfg0.N) (h : t.val % 2 = 1) :
    bodyPre m c t ⊢ wp frame (wpE (bodies (F := F)) Variants.none c none) Set.univ (bodyAt t) (fun _ => bodyPost m c t) := by
  unfold bodyPre bodyPost bodyAt
  simp only [before0, before1, before2, before3, before4]
  rw [show (dats m 0 c).Φ t.succ = Mid m c (dnAt m c t) from rfl]
  unfold Dat.owesAt Pipeline.owesWithin
  rw [show (dats m 0 c).owed t.castSucc = 0 from rfl, show (dats m 0 c).owed t.succ = 0 from rfl]
  rw [leaves_live m c 0 t rfl, after0, leaves_live m c 1 t rfl, after1, leaves_live m c 2 t rfl, after2, leaves_live m c 3 t rfl, after3, leaves_live m c 4 t rfl, after4, leaves_live m c 6 t rfl, after6, leaves_live m c 7 t rfl, after7]
  obtain ⟨s, hs⟩ : ∃ s : Fin cfg0.N, s.val = t.val - 1 := ⟨⟨t.val - 1, Nat.lt_of_le_of_lt (Nat.sub_le _ _) t.isLt⟩, rfl⟩
  rw [leaves_live m c 5 t (live5 t h), after5, leaves_out m c 8 t (idle8 t h) (out8 t h), after8, leaves_live m c 9 t (live9 t (Or.inr h)), after9]
  simp only [before8 m c t s h hs, before9 m c t s h hs]
  rw [PhiS_castSucc m c t, PhiS_pos m c _ _ s (by omega) hs, dnAt_odd m c t s h hs, dgAt_odd m c t s h hs, dnAt_odd m c t s h hs]
  unfold Mid dnStep
  iintro ⟨⟨⟨HS0, HS1, HS2⟩, Hg, ⟨Hq0, Hq1⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_B c (grid0.coords t) _ _ _ _ _ _ _ _ _ _ _ _ _ _ _ _ _ _ _ _ _ _ _ _ _ _ (iblk m c 0 t) (iblk m c 1 t) (iblk m c 2 t) (iblk m c 3 t) (iblk m c 4 t) (V m c main_v20) (V m c main_v21) (dnAt m c s) (V m c main_v20) (V m c main_v21) (V m c main_arg6) (fun h' => absurd ((hcond0_0 t).mp h') (by omega)) (fun h' => absurd ((hcond0_1 t).mp h') (by omega)) ((hcond0_2 t).mpr h) (k0_pay1 (iblk m c 0 (evenPt t))) (dgAt m c s.val s.isLt) W _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexact H8
  isplitl [H9]; · iexact H9
  isplitl [HS0]; · iexact HS0
  isplitl [HS1]; · iexact HS1
  isplitl [HS2]; · iexact HS2
  isplitl [Hq0]; · iexact Hq0
  isplitl [Hq1]; · iexact Hq1
  isplitl [Hh0]; · iexact Hh0
  isplitl [Hh1]; · iexact Hh1
  isplitl [Hh2]; · iexact Hh2
  isplitl [HW]; · iexact HW
  iintro ⟨H0, H1, H2, H3, H4, H5, H6, H7, H8, H9, HS0, HS1, HS2, Hq0, Hq1, Hh0, Hh1, Hh2, ⟨%W', HW'⟩⟩
  isplitl [HS0 HS1 HS2 Hg Hq0 Hq1 Hh0 Hh1 Hh2]
  · isplitl [HS0 HS1 HS2]
    · isplitl [HS0]; · iexact HS0
      isplitl [HS1]; · iexact HS1
      iexact HS2
    isplitl [Hg]; · iexact Hg
    isplitl [Hq0 Hq1]
    · isplitl [Hq0]; · iexact Hq0
      iexact Hq1
    isplitl [Hh0]; · iexact Hh0
    isplitl [Hh1]; · iexact Hh1
    iexact Hh2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4000000 in
/-- The body at an even point that is not the first. -/
theorem body_C (c : Dev nD) (t : Fin cfg0.N) (h0 : t.val ≠ 0) (h : t.val % 2 = 0) :
    bodyPre m c t ⊢ wp frame (wpE (bodies (F := F)) Variants.none c none) Set.univ (bodyAt t) (fun _ => bodyPost m c t) := by
  unfold bodyPre bodyPost bodyAt
  simp only [before0, before1, before2, before3, before4]
  rw [show (dats m 0 c).Φ t.succ = Mid m c (dnAt m c t) from rfl]
  unfold Dat.owesAt Pipeline.owesWithin
  rw [show (dats m 0 c).owed t.castSucc = 0 from rfl, show (dats m 0 c).owed t.succ = 0 from rfl]
  rw [leaves_live m c 0 t rfl, after0, leaves_live m c 1 t rfl, after1, leaves_live m c 2 t rfl, after2, leaves_live m c 3 t rfl, after3, leaves_live m c 4 t rfl, after4, leaves_live m c 6 t rfl, after6, leaves_live m c 7 t rfl, after7]
  have hN : t.val < 20 := lt_of_lt_of_eq t.isLt (show cfg0.N = 20 from N_0)
  obtain ⟨s, hs⟩ : ∃ s : Fin cfg0.N, s.val = t.val - 1 := ⟨⟨t.val - 1, Nat.lt_of_le_of_lt (Nat.sub_le _ _) t.isLt⟩, rfl⟩
  rw [Dat.leavesExact_idle (dats m 0 c) 5 t (idle5 t h) (keep5 t h), leaves_live m c 8 t (live8 t h), after8, evenPt_of_even t h, Dat.leavesExact_idle (dats m 0 c) 9 t (idle9 t h0 h) (keep9 t h)]
  rw [PhiS_castSucc m c t, PhiS_pos m c _ _ s h0 hs, dnAt_even m c t h]
  unfold Mid dnStep
  iintro ⟨⟨⟨HS0, HS1, HS2⟩, Hg, ⟨Hq0, Hq1⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_C c (grid0.coords t) _ _ _ _ _ _ _ _ _ _ _ _ _ _ _ _ _ _ _ _ _ _ _ _ _ _ (iblk m c 0 t) (iblk m c 1 t) (iblk m c 2 t) (iblk m c 3 t) (iblk m c 4 t) (V m c main_v20) (V m c main_v21) (V m c main_v20) (V m c main_v21) (V m c main_arg6) (fun h' => absurd ((hcond0_0 t).mp h') (by omega)) ((hcond0_1 t).mpr h) (fun h' => absurd ((hcond0_2 t).mp h') (by omega)) _ _ W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexact H9
  isplitl [HS0]; · iexact HS0
  isplitl [HS1]; · iexact HS1
  isplitl [HS2]; · iexists _; iexact HS2
  isplitl [Hq0]; · iexact Hq0
  isplitl [Hq1]; · iexact Hq1
  isplitl [Hh0]; · iexact Hh0
  isplitl [Hh1]; · iexact Hh1
  isplitl [Hh2]; · iexact Hh2
  isplitl [HW]; · iexact HW
  iintro ⟨H0, H1, H2, H3, H4, H5, H6, H7, H8, H9, HS0, HS1, HS2, Hq0, Hq1, Hh0, Hh1, Hh2, ⟨%W', HW'⟩⟩
  isplitl [HS0 HS1 HS2 Hg Hq0 Hq1 Hh0 Hh1 Hh2]
  · isplitl [HS0 HS1 HS2]
    · isplitl [HS0]; · iexact HS0
      isplitl [HS1]; · iexact HS1
      iexact HS2
    isplitl [Hg]; · iexact Hg
    isplitl [Hq0 Hq1]
    · isplitl [Hq0]; · iexact Hq0
      iexact Hq1
    isplitl [Hh0]; · iexact Hh0
    isplitl [Hh1]; · iexact Hh1
    iexact Hh2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  iexists _; iexact H9

set_option maxHeartbeats 4000000 in
/-- The body at the first point. -/
theorem body_A (c : Dev nD) (t : Fin cfg0.N) (h0 : t.val = 0) :
    bodyPre m c t ⊢ wp frame (wpE (bodies (F := F)) Variants.none c none) Set.univ (bodyAt t) (fun _ => bodyPost m c t) := by
  unfold bodyPre bodyPost bodyAt
  simp only [before0, before1, before2, before3, before4]
  rw [show (dats m 0 c).Φ t.succ = Mid m c (dnAt m c t) from rfl]
  unfold Dat.owesAt Pipeline.owesWithin
  rw [show (dats m 0 c).owed t.castSucc = 0 from rfl, show (dats m 0 c).owed t.succ = 0 from rfl]
  rw [leaves_live m c 0 t rfl, after0, leaves_live m c 1 t rfl, after1, leaves_live m c 2 t rfl, after2, leaves_live m c 3 t rfl, after3, leaves_live m c 4 t rfl, after4, leaves_live m c 6 t rfl, after6, leaves_live m c 7 t rfl, after7]
  have h : t.val % 2 = 0 := by omega
  rw [Dat.leavesExact_idle (dats m 0 c) 5 t (idle5 t h) (keep5 t h), leaves_live m c 8 t (live8 t h), after8, evenPt_of_even t h, leaves_live m c 9 t (live9 t (Or.inl h0)), after9]
  rw [show dgAt m c t.val t.isLt = iblk m c 4 t from by obtain ⟨n, hn⟩ := t; obtain rfl : n = 0 := h0; rfl]
  rw [PhiS_castSucc m c t, PhiS_zero m c _ _ h0, PhiD0_eq, dnAt_even m c t h]
  unfold Mid dnStep
  iintro ⟨⟨⟨HS0, HS1, HS2⟩, Hg, ⟨Hq0, Hq1⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_A c (grid0.coords t) _ _ _ _ _ _ _ _ _ _ _ _ _ _ _ _ _ _ _ _ _ _ _ _ _ _ (iblk m c 0 t) (iblk m c 1 t) (iblk m c 2 t) (iblk m c 3 t) (iblk m c 4 t) (V m c main_v20) (V m c main_v21) (V m c main_arg6) ((hcond0_0 t).mpr (by omega)) ((hcond0_1 t).mpr h) (fun h' => absurd ((hcond0_2 t).mp h') (by omega)) _ W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [Hq0]; · iexact Hq0
  isplitl [Hq1]; · iexact Hq1
  isplitl [Hh0]; · iexact Hh0
  isplitl [Hh1]; · iexact Hh1
  isplitl [Hh2]; · iexact Hh2
  isplitl [HW]; · iexact HW
  iintro ⟨H0, H1, H2, H3, H4, H5, H6, H7, H8, H9, HS0, HS1, HS2, Hq0, Hq1, Hh0, Hh1, Hh2, ⟨%W', HW'⟩⟩
  isplitl [HS0 HS1 HS2 Hg Hq0 Hq1 Hh0 Hh1 Hh2]
  · isplitl [HS0 HS1 HS2]
    · isplitl [HS0]; · iexact HS0
      isplitl [HS1]; · iexact HS1
      iexact HS2
    isplitl [Hg]; · iexact Hg
    isplitl [Hq0 Hq1]
    · isplitl [Hq0]; · iexact Hq0
      iexact Hq1
    isplitl [Hh0]; · iexact Hh0
    isplitl [Hh1]; · iexact Hh1
    iexact Hh2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  iexact H9

theorem sound_body (c : Dev nD) (t : Fin cfg0.N) :
    bodyPre m c t ⊢ wp frame (wpE (bodies (F := F)) Variants.none c none) Set.univ (bodyAt t) (fun _ => bodyPost m c t) := by
  rcases Nat.mod_two_eq_zero_or_one t.val with h | h
  · by_cases h0 : t.val = 0
    · exact body_A m c t h0
    · exact body_C m c t h0 h
  · exact body_B m c t h

/-! ## The run -/

theorem bodies_row (t : Fin cfg0.N) : bodies (F := F) .tc cfg0.body (cfg0.bodyArgs t (cfg0.slots t)) = bodyAt t := by
  unfold bodies; rw [Defs.onTc_tc]
theorem body_obligation (c : Dev nD) : BodyObligation (dats (F := F) m 0 c) (bodies (F := F)) Variants.none () Set.univ := fun t => by
  rw [bigSep_W0, bigSep_W0, bodies_row]
  exact triple_restated (sound_body m c t) rfl .rfl fun _ => .rfl
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
theorem hout (c : Dev nD) : (dats m 0 c).Φ (Fin.last cfg0.N) ⊢ Pipeline.ΦD osem0 spec0 H0 (V m) c := by
  rw [show (dats m 0 c).Φ (Fin.last cfg0.N) = PhiS m c cfg0.N (le_refl _) from rfl, PhiS_pos m c _ _ ⟨19, lt_of_lt_of_eq (by decide) N_0.symm⟩ (ne_of_eq_of_ne (show cfg0.N = 20 from N_0) (by decide)) (congrArg (· - 1) (show 20 = cfg0.N from N_0.symm)), PhiD0_eq]
  unfold Mid
  iintro ⟨⟨HS0, HS1, HS2⟩, Hg, ⟨Hq0, Hq1⟩, ⟨Hh0, Hh1, Hh2⟩⟩
  isplitl [HS0 HS1 HS2]
  · isplitl [HS0]
    · iexists _; iexact HS0
    isplitl [HS1]
    · iexists _; iexact HS1
    iexists _; iexact HS2
  isplitl [Hg]; · iexact Hg
  isplitl [Hq0 Hq1]
  · isplitl [Hq0]; · iexact Hq0
    iexact Hq1
  isplitl [Hh0]; · iexact Hh0
  isplitl [Hh1]; · iexact Hh1
  iexact Hh2

set_option backward.isDefEq.respectTransparency.types false in
/-- The run: every array at what the points computed, every other buffer as the region found it, every counter at zero. -/
theorem run_main : θ_run (Pipeline.defs pcfgs bodies) (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 bodies Variants.none ownSemFacts0 H0 H0_sub m ρ main
    (hbody := fun c => (body_obligation m c).loose) (hshare := fun c => (dats m 0 c).share_full fun _ => rfl)
    (howed := fun _ _ => rfl) (V := V m) (hmain := Pipeline.hmain_prefix cfgs 0 bodies Variants.none m main hostOps0 hostOps0_sub hostOps0_fresh main_chain) (hA := A_eq m)
    (hin := hin m) (hout := hout m)

end Cert.Kernel.Ffn

end
-- ==== Proof.FfnMath.lean ====
/- The scalar identities of the feed-forward backward call over the extended reals. -/
module

public import Idealize.ShloMosaic.Lib.Pointwise

@[expose] public section

set_option maxRecDepth 16384

noncomputable section

namespace Cert.Ffn

open Idealize.ShloMosaic
open scoped BigOperators

/-- A finite extended real. -/
def Fin' (a : EReal) : Prop := ∃ x : ℝ, a = (x : EReal)

theorem Fin'.mul {a b : EReal} (ha : Fin' a) (hb : Fin' b) : Fin' (a * b) := by
  obtain ⟨x, rfl⟩ := ha; obtain ⟨y, rfl⟩ := hb; exact ⟨x * y, by push_cast; rfl⟩

theorem Fin'.add {a b : EReal} (ha : Fin' a) (hb : Fin' b) : Fin' (a + b) := by
  obtain ⟨x, rfl⟩ := ha; obtain ⟨y, rfl⟩ := hb; exact ⟨x + y, by push_cast; rfl⟩

theorem Fin'.sub {a b : EReal} (ha : Fin' a) (hb : Fin' b) : Fin' (a - b) := by
  obtain ⟨x, rfl⟩ := ha; obtain ⟨y, rfl⟩ := hb; exact ⟨x - y, by push_cast; rfl⟩

theorem Fin'.coe (x : ℝ) : Fin' (x : EReal) := ⟨x, rfl⟩
theorem Fin'.zero : Fin' 0 := ⟨0, by norm_cast⟩
theorem Fin'.one : Fin' 1 := ⟨1, by norm_cast⟩

/-- A sum of reals is the real sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih]; push_cast; rfl

theorem Fin'.sum {ι : Type} (s : Finset ι) (f : ι → EReal) (h : ∀ i ∈ s, Fin' (f i)) : Fin' (∑ i ∈ s, f i) := by
  classical
  induction s using Finset.induction_on with
  | empty => simpa using Fin'.zero
  | insert a s ha ih =>
    rw [Finset.sum_insert ha]
    exact (h a (Finset.mem_insert_self _ _)).add (ih fun i hi => h i (Finset.mem_insert_of_mem hi))

/-- Below infinity in size is finite. -/
theorem fin_of_abs_lt (a : EReal) (h : max a (-a) < ⊤) : Fin' a := by
  induction a with
  | bot => simp at h
  | top => simp at h
  | coe x => exact ⟨x, rfl⟩

/-! ## The constants -/

theorem half_val : Ideal.ofBits .f32 0x3F000000#32 = (((1 : ℝ) / 2 : ℝ) : EReal) := by
  simp [Ideal.ofBits, Ideal.ieee, -EReal.coe_mul]; norm_num

theorem neg_half_val : Ideal.ofBits .f32 0xBF000000#32 = ((-((1 : ℝ) / 2) : ℝ) : EReal) := by
  simp [Ideal.ofBits, Ideal.ieee, -EReal.coe_mul, -EReal.coe_neg]; norm_num

theorem k_val : Ideal.ofBits .f32 0x44800000#32 = ((1024 : ℝ) : EReal) := by
  simp [Ideal.ofBits, Ideal.ieee, -EReal.coe_mul]; norm_num

theorem eps_val : ∃ e : ℝ, 0 < e ∧ Ideal.ofBits .f32 0x358637BD#32 = (e : EReal) := by
  refine ⟨(8388608 + 407485 : ℝ) * (2 : ℝ) ^ (107 - 127 - 23 : ℤ), by positivity, ?_⟩
  simp [Ideal.ofBits, Ideal.ieee, -EReal.coe_mul, -EReal.coe_add]; norm_num

theorem inf_val : Ideal.ofBits .f32 0x7F800000#32 = ⊤ := by
  simp [Ideal.ofBits, Ideal.ieee]

/-! ## The logistic function -/

/-- The logistic function as a quotient. -/
def lgs (x : EReal) : EReal := Ideal.div 1 (1 + Ideal.exp (-x))

theorem lgs_coe (x : ℝ) : lgs x = (((1 + Real.exp (-x))⁻¹ : ℝ) : EReal) := by
  have hp : (0 : ℝ) < 1 + Real.exp (-x) := by positivity
  have h1 : (1 : EReal) + Ideal.exp (-(x : EReal)) = ((1 + Real.exp (-x) : ℝ) : EReal) := by
    rw [← EReal.coe_neg]; push_cast; rfl
  unfold lgs Ideal.div
  rw [h1, if_neg (by exact_mod_cast hp.ne'), one_mul, EReal.coe_inv]

theorem Fin'.lgs {a : EReal} (h : Fin' a) : Fin' (lgs a) := by
  obtain ⟨x, rfl⟩ := h; exact ⟨_, lgs_coe x⟩

/-- The logistic function through the hyperbolic tangent. -/
theorem lgs_tanh (x : EReal) :
    Ideal.ofBits .f32 0x3F000000#32 * Ideal.tanh (Ideal.ofBits .f32 0x3F000000#32 * x) + Ideal.ofBits .f32 0x3F000000#32 = lgs x := by
  rw [half_val]
  induction x with
  | bot =>
    rw [EReal.coe_mul_bot_of_pos (by norm_num), Ideal.tanh_bot]
    have : lgs ⊥ = 0 := by
      have h1 : (1 : EReal) + ⊤ = ⊤ := EReal.add_top_of_ne_bot (EReal.coe_ne_bot 1)
      simp [lgs, Ideal.div, h1]
    rw [this]
    have h : (((1 : ℝ) / 2 : ℝ) : EReal) * (-1) + (((1 : ℝ) / 2 : ℝ) : EReal) = (((1 / 2) * (-1) + 1 / 2 : ℝ) : EReal) := by
      push_cast; rfl
    rw [h]; norm_num
  | top =>
    rw [EReal.coe_mul_top_of_pos (by norm_num), Ideal.tanh_top]
    have : lgs ⊤ = 1 := by simp [lgs, Ideal.div]
    rw [this]
    have h : (((1 : ℝ) / 2 : ℝ) : EReal) * 1 + (((1 : ℝ) / 2 : ℝ) : EReal) = (((1 / 2) * 1 + 1 / 2 : ℝ) : EReal) := by
      push_cast; rfl
    rw [h]; norm_num
  | coe x =>
    rw [lgs_coe, ← EReal.coe_mul, Ideal.tanh_coe, ← EReal.coe_mul, ← EReal.coe_add]
    congr 1
    rw [Real.tanh_eq_sinh_div_cosh, Real.sinh_eq, Real.cosh_eq, show -(1 / 2 * x) = -x / 2 by ring, show 1 / 2 * x = x / 2 by ring]
    have e1 : Real.exp (-x) = Real.exp (-x / 2) * Real.exp (-x / 2) := by rw [← Real.exp_add]; ring_nf
    have e2 : Real.exp (x / 2) * Real.exp (-x / 2) = 1 := by rw [← Real.exp_add]; ring_nf; exact Real.exp_zero
    rw [e1]
    have p1 := Real.exp_pos (x / 2)
    have p2 := Real.exp_pos (-x / 2)
    generalize Real.exp (x / 2) = a at *
    generalize Real.exp (-x / 2) = b at *
    have hb : b = a⁻¹ := by field_simp; linarith
    subst hb
    field_simp
    ring

/-- The gate's gradient: one factored product against the product rule's two terms. -/
theorem dgate_eq (c x : EReal) (hc : Fin' c) (hx : Fin' x) :
    c * (lgs x * (1 + x * (1 - lgs x))) = c * lgs x + x * c * (lgs x * (1 - lgs x)) := by
  obtain ⟨s, hs⟩ := hx.lgs
  obtain ⟨c, rfl⟩ := hc
  obtain ⟨x, rfl⟩ := hx
  rw [hs]
  have h : ((c * (s * (1 + x * (1 - s))) : ℝ) : EReal) = ((c * s + x * c * (s * (1 - s)) : ℝ) : EReal) := by congr 1; ring
  push_cast at h
  exact h

/-! ## The norm -/

section norm
variable {n : ℕ} (H Y : Fin n → EReal) (y : EReal)

/-- The mean square of a row, with its guard. -/
def vr : EReal := Ideal.div (∑ k, H k * H k) (Ideal.ofBits .f32 0x44800000#32) + Ideal.ofBits .f32 0x358637BD#32

theorem div_k (a : ℝ) : Ideal.div (a : EReal) (Ideal.ofBits .f32 0x44800000#32) = ((a / 1024 : ℝ) : EReal) := by
  rw [k_val, Ideal.div, if_neg (by norm_num), ← EReal.coe_inv, ← EReal.coe_mul, div_eq_mul_inv]

theorem sq_nonneg' (a : EReal) : 0 ≤ a * a := by
  induction a with
  | bot => simp
  | top => simp
  | coe x => exact_mod_cast mul_self_nonneg x

/-- A row of reals has a positive real mean square; any other row has reciprocal root zero. -/
theorem row_cases : (∃ h : Fin n → ℝ, (∀ k, H k = h k) ∧ ∃ v : ℝ, 0 < v ∧ vr H = v ∧ Ideal.rsqrt (vr H) = ((Real.sqrt v)⁻¹ : ℝ)) ∨
    (vr H = ⊤ ∧ Ideal.rsqrt (vr H) = 0) := by
  obtain ⟨e, he, hE⟩ := eps_val
  by_cases hf : ∀ k, Fin' (H k)
  · left
    choose h hh using hf
    refine ⟨h, hh, (∑ k, h k * h k) / 1024 + e, ?_, ?_, ?_⟩
    · have : 0 ≤ ∑ k, h k * h k := Finset.sum_nonneg fun k _ => mul_self_nonneg _
      positivity
    all_goals
      have hv : vr H = (((∑ k, h k * h k) / 1024 + e : ℝ) : EReal) := by
        unfold vr
        rw [hE, Finset.sum_congr rfl (fun k _ => by rw [hh k, ← EReal.coe_mul]), sum_coe, div_k, ← EReal.coe_add]
      have hp : (0 : ℝ) < (∑ k, h k * h k) / 1024 + e := by
        have : 0 ≤ ∑ k, h k * h k := Finset.sum_nonneg fun k _ => mul_self_nonneg _
        positivity
    · exact hv
    · rw [hv]; show (if _ then _ else _) = _; rw [if_neg hp.le.not_gt, if_neg hp.ne']
  · right
    have hv : vr H = ⊤ := by
      push Not at hf
      obtain ⟨k, hk⟩ := hf
      have hkk : H k * H k = ⊤ := by
        generalize H k = a at hk
        induction a with
        | bot => simp
        | top => simp
        | coe x => exact absurd ⟨x, rfl⟩ hk
      have hs : ∑ k, H k * H k = ⊤ := by
        rw [eq_top_iff, ← hkk]
        exact Finset.single_le_sum (f := fun k => H k * H k) (fun i _ => sq_nonneg' _) (Finset.mem_univ k)
      unfold vr
      rw [hs, hE, k_val, Ideal.div, if_neg (by norm_num), ← EReal.coe_inv, EReal.top_mul_coe_of_pos (by norm_num), EReal.top_add_coe]
    exact ⟨hv, by rw [hv]; rfl⟩

/-- A row scaled by its reciprocal root is finite. -/
theorem fin_scaled (k : Fin n) : Fin' (H k * Ideal.rsqrt (vr H)) := by
  rcases row_cases H with ⟨h, hh, v, _, _, hr⟩ | ⟨_, hr⟩
  · rw [hr, hh k]; exact (Fin'.coe _).mul (Fin'.coe _)
  · rw [hr, mul_zero]; exact Fin'.zero

/-- A positive real moves through a sum. -/
theorem mul_sum_pos {ι : Type} (s : Finset ι) (f : ι → EReal) (r : ℝ) (hr : 0 ≤ r) : ∑ i ∈ s, (r : EReal) * f i = (r : EReal) * ∑ i ∈ s, f i := by
  classical
  induction s using Finset.induction_on with
  | empty => simp
  | insert i s hi ih =>
    rw [Finset.sum_insert hi, Finset.sum_insert hi, ih, EReal.left_distrib_of_nonneg_of_ne_top (by exact_mod_cast hr) (EReal.coe_ne_top r)]

/-- Twice a real multiple. -/
theorem mul_twice (a : ℝ) (S : EReal) : (a : EReal) * S + (a : EReal) * S = ((2 * a : ℝ) : EReal) * S := by
  induction S with
  | coe x => rw [← EReal.coe_mul, ← EReal.coe_mul, ← EReal.coe_add]; exact congrArg _ (by ring)
  | top =>
    rcases lt_trichotomy a 0 with h | rfl | h
    · rw [EReal.coe_mul_top_of_neg h, EReal.coe_mul_top_of_neg (by linarith)]; rfl
    · simp
    · rw [EReal.coe_mul_top_of_pos h, EReal.coe_mul_top_of_pos (by linarith)]; rfl
  | bot =>
    rcases lt_trichotomy a 0 with h | rfl | h
    · rw [EReal.coe_mul_bot_of_neg h, EReal.coe_mul_bot_of_neg (by linarith)]; rfl
    · simp
    · rw [EReal.coe_mul_bot_of_pos h, EReal.coe_mul_bot_of_pos (by linarith)]; rfl

theorem div_mul (a : EReal) : Ideal.div a (Ideal.ofBits .f32 0x44800000#32) = ((1 / 1024 : ℝ) : EReal) * a := by
  rw [k_val, Ideal.div, if_neg (by norm_num), ← EReal.coe_inv, mul_comm, one_div]

/-- The norm's backward row: the kernel's form, and the derivative taken through the mean square. -/
theorem norm_bwd (k : Fin n) :
    Ideal.rsqrt (vr H) * (Y k - H k * Ideal.rsqrt (vr H) *
        Ideal.div (∑ i, Y i * (H i * Ideal.rsqrt (vr H))) (Ideal.ofBits .f32 0x44800000#32))
      = Y k * Ideal.rsqrt (vr H)
          + H k * Ideal.div ((∑ i, H i * Y i) * (Ideal.ofBits .f32 0xBF000000#32 * Ideal.div (Ideal.rsqrt (vr H)) (vr H))) (Ideal.ofBits .f32 0x44800000#32)
          + Ideal.div ((∑ i, H i * Y i) * (Ideal.ofBits .f32 0xBF000000#32 * Ideal.div (Ideal.rsqrt (vr H)) (vr H))) (Ideal.ofBits .f32 0x44800000#32) * H k := by
  rcases row_cases H with ⟨h, hh, v, hv, hvr, hr⟩ | ⟨hvr, hr⟩
  · have hw : 0 < Real.sqrt v := Real.sqrt_pos.mpr hv
    have hd : Ideal.div (((Real.sqrt v)⁻¹ : ℝ) : EReal) (v : EReal) = (((Real.sqrt v)⁻¹ / v : ℝ) : EReal) := by
      rw [Ideal.div, if_neg (by exact_mod_cast hv.ne'), ← EReal.coe_inv, ← EReal.coe_mul, div_eq_mul_inv]
    have hq : v = Real.sqrt v * Real.sqrt v := (Real.mul_self_sqrt hv.le).symm
    have hs : ∑ i, Y i * (H i * (((Real.sqrt v)⁻¹ : ℝ) : EReal)) = (((Real.sqrt v)⁻¹ : ℝ) : EReal) * ∑ i, H i * Y i := by
      rw [← mul_sum_pos _ _ _ (inv_nonneg.mpr hw.le)]
      exact Finset.sum_congr rfl fun i _ => by rw [← mul_assoc, mul_comm, mul_comm (Y i)]
    rw [hr, hvr, hd, hs, neg_half_val, div_mul, div_mul, hh]
    generalize (∑ i, H i * Y i) = S
    generalize Y k = y
    generalize Real.sqrt v = w at *
    subst hq
    rw [← EReal.coe_mul, mul_comm S, mul_comm _ (h k : EReal), add_assoc]
    simp only [← mul_assoc, ← EReal.coe_mul]
    rw [mul_twice, sub_eq_add_neg, EReal.left_distrib_of_nonneg_of_ne_top (by exact_mod_cast inv_nonneg.mpr hw.le) (EReal.coe_ne_top _), mul_comm _ y,
      ← EReal.neg_mul, ← EReal.coe_neg, ← mul_assoc, ← EReal.coe_mul]
    refine congrArg (y * _ + ·) (congrArg (· * S) (congrArg _ ?_))
    field_simp
  · rw [hr, hvr]
    have hd : Ideal.div 0 (⊤ : EReal) = 0 := by simp [Ideal.div]
    have hk0 : Ideal.div 0 (Ideal.ofBits .f32 0x44800000#32) = 0 := by
      have := div_k 0; simpa using this
    rw [hd, mul_zero, mul_zero, mul_zero, mul_zero, hk0]
    simp

end norm

end Cert.Ffn
-- ==== Proof.FfnSpec.lean ====
/- What the feed-forward backward call computes, element by element, over the extended reals. -/
module

public import proofs.«01_k».proof.Proof.FfnMath

@[expose] public section

set_option maxRecDepth 16384

noncomputable section

namespace Cert.Ffn

open Idealize.ShloMosaic
open scoped BigOperators

/-- The two halves of the joined hidden axis. -/
abbrev lo (f : Fin 2816) : Fin 5632 := ⟨f.val, by omega⟩
abbrev hi (f : Fin 2816) : Fin 5632 := ⟨2816 + f.val, by omega⟩

section spec
variable (DH H : FVec Ideal ⟨2, ![4160, 1024]⟩ .f32) (G : FVec Ideal ⟨2, ![1, 1024]⟩ .f32) (W : FVec Ideal ⟨2, ![1024, 5632]⟩ .f32)
  (WD : FVec Ideal ⟨2, ![2816, 1024]⟩ .f32) (TL : FVec Ideal ⟨2, ![8, 1024]⟩ .f32)

/-- A row of the input. -/
def row (t : Fin 4160) (k : Fin 1024) : EReal := H (ix2 t k)
/-- The reciprocal root of a row. -/
def rr (t : Fin 4160) : EReal := Ideal.rsqrt (vr (row H t))
/-- The joined gate and up activations. -/
def gu (t : Fin 4160) (j : Fin 5632) : EReal := ∑ k, row H t k * rr H t * G (ix2 0 k) * W (ix2 k j)
/-- The gradient at the product of gate and up. -/
def dact (t : Fin 4160) (f : Fin 2816) : EReal := ∑ k, Ideal.ofBits .f32 0x3F000000#32 * DH (ix2 t k) * WD (ix2 f k)
/-- The gated product. -/
def act (t : Fin 4160) (f : Fin 2816) : EReal := gu H G W t (lo f) * lgs (gu H G W t (lo f)) * gu H G W t (hi f)
/-- The gradient at the gate. -/
def dgate (t : Fin 4160) (f : Fin 2816) : EReal :=
  dact DH WD t f * gu H G W t (hi f) * (lgs (gu H G W t (lo f)) * (1 + gu H G W t (lo f) * (1 - lgs (gu H G W t (lo f)))))
/-- The gradient at the up branch. -/
def dup (t : Fin 4160) (f : Fin 2816) : EReal := dact DH WD t f * (gu H G W t (lo f) * lgs (gu H G W t (lo f)))
/-- The gradient at the norm's output. -/
def dn (t : Fin 4160) (k : Fin 1024) : EReal :=
  (∑ f, dgate DH H G W WD t f * W (ix2 k (lo f))) + ∑ f, dup DH H G W WD t f * W (ix2 k (hi f))
/-- The gradient at the input. -/
def dhin (t : Fin 4160) (k : Fin 1024) : EReal :=
  DH (ix2 t k) + rr H t * (dn DH H G W WD t k * G (ix2 0 k) - row H t k * rr H t *
    Ideal.div (∑ i, dn DH H G W WD t i * G (ix2 0 i) * (row H t i * rr H t)) (Ideal.ofBits .f32 0x44800000#32))
/-- The gradient at the norm's scale. -/
def dg (k : Fin 1024) : EReal := ∑ t, dn DH H G W WD t k * (row H t k * rr H t)

/-- The gradient of the rows, as an array. -/
def oDhin : FVec Ideal ⟨2, ![4160, 1024]⟩ .f32 := fun i => dhin DH H G W WD (i 0) (i 1)
/-- The gradients of gate and up, as an array. -/
def oDgu : FVec Ideal ⟨3, ![2, 4160, 2816]⟩ .bf16 := fun i =>
  if (i 0).val = 0 then dgate DH H G W WD (i 1) (i 2) else dup DH H G W WD (i 1) (i 2)
/-- The gated product, as an array. -/
def oAct : FVec Ideal ⟨2, ![4160, 2816]⟩ .bf16 := fun i => act H G W (i 0) (i 1)
/-- The halved gradient, as an array. -/
def oHalf : FVec Ideal ⟨2, ![4160, 1024]⟩ .bf16 := fun i => Ideal.ofBits .f32 0x3F000000#32 * DH (ix2 (i 0) (i 1))
/-- Rows of sums with the scale's gradient added to one of them. -/
def oDg (r : Fin 8) (TL : FVec Ideal ⟨2, ![8, 1024]⟩ .f32) : FVec Ideal ⟨2, ![8, 1024]⟩ .f32 := fun i =>
  if (i 0).val = r.val then (TL (ix2 (i 0) (i 1)) : EReal) + dg DH H G W WD (i 1) else TL (ix2 (i 0) (i 1))

variable (hDH : ∀ t k, Fin' (DH (ix2 t k))) (hG : ∀ k, Fin' (G (ix2 0 k))) (hW : ∀ k j, Fin' (W (ix2 k j))) (hWD : ∀ f k, Fin' (WD (ix2 f k)))

include hG hW in
theorem fin_gu (t : Fin 4160) (j : Fin 5632) : Fin' (gu H G W t j) :=
  Fin'.sum _ _ fun k _ => ((fin_scaled (row H t) k).mul (hG k)).mul (hW k j)

include hDH hWD in
theorem fin_dact (t : Fin 4160) (f : Fin 2816) : Fin' (dact DH WD t f) :=
  Fin'.sum _ _ fun k _ => ((half_val ▸ Fin'.coe _ : Fin' (Ideal.ofBits .f32 0x3F000000#32)).mul (hDH t k)).mul (hWD f k)

include hDH hG hW hWD in
theorem fin_dn (t : Fin 4160) (k : Fin 1024) : Fin' (dn DH H G W WD t k) := by
  have hg := fin_gu H G W hG hW t
  have ha := fin_dact DH WD hDH hWD t
  refine (Fin'.sum _ _ fun f _ => ?_).add (Fin'.sum _ _ fun f _ => ?_)
  · exact (((ha f).mul (hg _)).mul ((hg _).lgs.mul (Fin'.one.add ((hg _).mul (Fin'.one.sub (hg _).lgs))))).mul (hW _ _)
  · exact ((ha f).mul ((hg _).mul (hg _).lgs)).mul (hW _ _)

end spec

end Cert.Ffn
-- ==== Proof.FfnHost.lean ====
/- What the feed-forward backward kernel finds in its arrays, read at an index over the extended reals. -/
module

public import proofs.«01_k».proof.Proof.FfnFrame
public import proofs.«01_k».proof.Proof.FfnSpec
public import Idealize.ShloMosaic.Lib.Pipeline.ValueKit
public import Idealize.ShloMosaic.Lib.StableHlo.Run

@[expose] public section

set_option maxRecDepth 16384

noncomputable section

namespace Cert.Kernel.Ffn

open Cert.Kernel Cert.Kernel.Gen
open Idealize.ShloMosaic Idealize.ShloMosaic.TcCoe Idealize.ShloMosaic.StableHlo
open Cert.Ffn (row rr gu lo hi vr)
open scoped BigOperators

section host
variable (H : FVec Ideal S4160x1024 .f32) (G : FVec Ideal S1x1024 .f32) (W : FVec Ideal S1024x5632 .f32)

def tV : FVec Ideal S4160x1 .f32 :=
  addf (Host.divf (broadcastInDim S4160x1 ![0] bcast_S4160_S4160x1_0 (Host.reduceAdd (mulf H H) (constant S_ .f32 0x00000000#32) reducesTo_S4160x1024_S4160_d1 h_S_)) (broadcastInDim S4160x1 ![] bcast_S_S4160x1 (constant S_ .f32 0x44800000#32))) (broadcastInDim S4160x1 ![] bcast_S_S4160x1 (constant S_ .f32 0x358637BD#32))
def tGu : FVec Ideal S4160x5632 .f32 :=
  Host.dotGeneral dot_S4160x1024_S1024x5632_S4160x5632_1_0_0_1_n_n none (mulf (mulf H (broadcastInDim S4160x1024 ![0, 1] bcast_S4160x1_S4160x1024_0_1 (Host.rsqrt (tV H))))
    (broadcastInDim S4160x1024 ![0, 1] bcast_S1x1024_S4160x1024_0_1 G)) W
def tStack : FVec Ideal S2x4160x2816 .f32 :=
  concatenate S2x4160x2816 0 [⟨S1x4160x2816, broadcastInDim S1x4160x2816 ![1, 2] bcast_S4160x2816_S1x4160x2816_1_2 (extractStridedSlice S4160x2816 ![0, 0] (tGu H G W) slices_S4160x5632_S4160x2816_0_0)⟩,
    ⟨S1x4160x2816, broadcastInDim S1x4160x2816 ![1, 2] bcast_S4160x2816_S1x4160x2816_1_2 (extractStridedSlice S4160x2816 ![0, 2816] (tGu H G W) slices_S4160x5632_S4160x2816_0_2816)⟩] concatenates_S1x4160x2816_S1x4160x2816_S2x4160x2816_d0

theorem tV_at (t : Fin 4160) (a : Fin 1) : tV H (ix2 t a) = vr (row H t) := by
  pointwise [tV, vr, row]

theorem tGu_at (t : Fin 4160) (j : Fin 5632) : tGu H G W (ix2 t j) = gu H G W t j := by
  pointwise [tGu, gu, row, rr]; simp only [tV_at, row]

theorem tStack_at (s : Fin 2) (t : Fin 4160) (f : Fin 2816) : tStack H G W (ix3 s t f) = gu H G W t (if s.val = 0 then lo f else hi f) := by
  pointwise [tStack]; simp only [tGu_at]
  split_ifs <;> first | rfl | omega

end host

variable (m : (ℓ : Loc nD τ sig) → Buf (Elt Ideal) ℓ) (c : Dev nD)
abbrev arg0 : FVec Ideal S4160x1024 .f32 := m ((c.tc : Thread nD τ).loc main_arg0)
abbrev arg1 : FVec Ideal S4160x1024 .f32 := m ((c.tc : Thread nD τ).loc main_arg1)
abbrev arg2 : FVec Ideal S1x1024 .f32 := m ((c.tc : Thread nD τ).loc main_arg2)
abbrev arg3 : FVec Ideal S1024x5632 .f32 := m ((c.tc : Thread nD τ).loc main_arg3)
abbrev arg4 : FVec Ideal S2816x1024 .f32 := m ((c.tc : Thread nD τ).loc main_arg4)
abbrev arg5 : FVec Ideal S8x1024 .f32 := m ((c.tc : Thread nD τ).loc main_arg5)

set_option maxHeartbeats 4000000 in
theorem V18_eq : V m c main_v18 = truncf (ψ := .bf16) (tStack (arg1 m c) (arg2 m c) (arg3 m c)) bitsLt_bf16_f32 := by
  unfold V
  after_results_simp
  delta tStack tGu tV
  rfl

theorem V18_at (s : Fin 2) (t : Fin 4160) (f : Fin 2816) :
    V m c main_v18 (ix3 s t f) = gu (arg1 m c) (arg2 m c) (arg3 m c) t (if s.val = 0 then lo f else hi f) := by
  rw [V18_eq, ← tStack_at]; rfl

set_option maxHeartbeats 4000000 in
theorem V20_at (j : Fin 5632) (k : Fin 1024) : V m c main_v20 (ix2 j k) = arg3 m c (ix2 k j) := by
  have h : V m c main_v20 = (truncf (F := Ideal) (φ := .f32) (s := S5632x1024) .bf16 (transpose S5632x1024 [1, 0] (arg3 m c) transposes_S1024x5632_S5632x1024_1_0) bitsLt_bf16_f32 : FVec Ideal S5632x1024 .bf16) := by
    unfold V; after_results_simp; try rfl
  rw [h]; pointwise

set_option maxHeartbeats 4000000 in
theorem V21_at (f : Fin 2816) (k : Fin 1024) : V m c main_v21 (ix2 f k) = arg4 m c (ix2 f k) := by
  have h : V m c main_v21 = (truncf (F := Ideal) (φ := .f32) (s := S2816x1024) .bf16 (arg4 m c) bitsLt_bf16_f32 : FVec Ideal S2816x1024 .bf16) := by
    unfold V; after_results_simp; try rfl
  rw [h]; rfl

/-! ## The windows' blocks -/

/-- The row and the hidden column that place `p`, `q` of a point's block stand at. -/
def rw' (t : Fin cfg0.N) (p : Fin 416) : Fin 4160 := ⟨t.val / 2 * 416 + p.val, by have h : t.val < 20 := t.isLt; omega⟩
def cl' (t : Fin cfg0.N) (q : Fin 1408) : Fin 2816 := ⟨t.val % 2 * 1408 + q.val, by omega⟩

theorem idx0 : ∀ t, win0_0.index t = ![t.val / 2, 0] := by decide +kernel
theorem idx1 : ∀ t, win0_1.index t = ![t.val / 2, 0] := by decide +kernel
theorem idx2 : ∀ t, win0_2.index t = ![0, t.val / 2, t.val % 2] := by decide +kernel
theorem idx3 : ∀ t, win0_3.index t = ![0, 0] := by decide +kernel
theorem idx4 : ∀ t, win0_4.index t = ![0, 0] := by decide +kernel

theorem blk0_at (t : Fin cfg0.N) (p : Fin 416) (k : Fin 1024) : iblk m c 0 t (ix2 p k) = arg0 m c (ix2 (rw' t p) k) := by
  refine Eq.trans ?_ (congrFun (V_main_arg0 m c) _); blk_ext [iblk, V, idx0, rw']
theorem blk1_at (t : Fin cfg0.N) (p : Fin 416) (k : Fin 1024) : iblk m c 1 t (ix2 p k) = arg1 m c (ix2 (rw' t p) k) := by
  refine Eq.trans ?_ (congrFun (V_main_arg1 m c) _); blk_ext [iblk, V, idx1, rw']
theorem blk2_at (t : Fin cfg0.N) (s : Fin 2) (p : Fin 416) (q : Fin 1408) :
    iblk m c 2 t (ix3 s p q) = gu (arg1 m c) (arg2 m c) (arg3 m c) (rw' t p) (if s.val = 0 then lo (cl' t q) else hi (cl' t q)) := by
  rw [← V18_at m c]; blk_ext [iblk, V, idx2, rw', cl']
theorem blk3_at (t : Fin cfg0.N) (a : Fin 1) (k : Fin 1024) : iblk m c 3 t (ix2 a k) = arg2 m c (ix2 a k) := by
  refine Eq.trans ?_ (congrFun (V_main_arg2 m c) _); blk_ext [iblk, V, idx3]
theorem blk4_at (t : Fin cfg0.N) (a : Fin 8) (k : Fin 1024) : iblk m c 4 t (ix2 a k) = arg5 m c (ix2 a k) := by
  refine Eq.trans ?_ (congrFun (V_main_arg5 m c) _); blk_ext [iblk, V, idx4]

theorem off1 : ∀ t : Fin cfg0.N, k0_off1 (grid0.coords t) = ![t.val % 2 * 1408, 0] := by decide +kernel
theorem off2 : ∀ t : Fin cfg0.N, k0_off2 (grid0.coords t) = ![t.val % 2 * 1408, 0] := by decide +kernel
theorem off3 : ∀ t : Fin cfg0.N, k0_off3 (grid0.coords t) = ![2816 + t.val % 2 * 1408, 0] := by decide +kernel

theorem wdB_at (t : Fin cfg0.N) (q : Fin 1408) (k : Fin 1024) : wdB (grid0.coords t) (V m c main_v21) (ix2 q k) = arg4 m c (ix2 (cl' t q) k) := by
  rw [← V21_at m c]
  unfold wdB
  have h := off1 t
  pointwise [cl', h]
theorem wgB_at (t : Fin cfg0.N) (q : Fin 1408) (k : Fin 1024) : wgB (grid0.coords t) (V m c main_v20) (ix2 q k) = arg3 m c (ix2 k (lo (cl' t q))) := by
  rw [← V20_at m c]
  unfold wgB
  have h := off2 t
  pointwise [cl', h]
theorem wuB_at (t : Fin cfg0.N) (q : Fin 1408) (k : Fin 1024) : wuB (grid0.coords t) (V m c main_v20) (ix2 q k) = arg3 m c (ix2 k (hi (cl' t q))) := by
  rw [← V20_at m c]
  unfold wuB
  have h := off3 t
  pointwise [cl', h]
  exact congrArg (fun j => V m c main_v20 (ix2 j k)) (Fin.ext (Nat.add_assoc _ _ _))

end Cert.Kernel.Ffn

end
-- ==== Proof.FfnValue.lean ====
/- What each point of the feed-forward backward kernel leaves, read at an index over the extended reals. -/
module

public import proofs.«01_k».proof.Proof.FfnHost
public import Idealize.ShloMosaic.Lib.Pointwise.Sums

@[expose] public section

set_option maxRecDepth 16384

noncomputable section

namespace Cert.Kernel.Ffn

open Cert.Kernel Cert.Kernel.Gen
open Idealize.ShloMosaic Idealize.ShloMosaic.TcCoe
open Cert.Ffn (row rr gu lo hi vr lgs lgs_tanh dact act dgate dup dn dhin dg)
open scoped BigOperators

variable [hr : Row]

variable (m : (ℓ : Loc nD τ sig) → Buf (Elt Ideal) ℓ) (c : Dev nD)

local notation "GU" => gu (arg1 m c) (arg2 m c) (arg3 m c)
local notation "DACT" => dact (arg0 m c) (arg4 m c)
local notation "ACT" => act (arg1 m c) (arg2 m c) (arg3 m c)
local notation "DGATE" => dgate (arg0 m c) (arg1 m c) (arg2 m c) (arg3 m c) (arg4 m c)
local notation "DUP" => dup (arg0 m c) (arg1 m c) (arg2 m c) (arg3 m c) (arg4 m c)
local notation "DN" => dn (arg0 m c) (arg1 m c) (arg2 m c) (arg3 m c) (arg4 m c)
local notation "DHIN" => dhin (arg0 m c) (arg1 m c) (arg2 m c) (arg3 m c) (arg4 m c)

section point
variable (t : Fin cfg0.N) (p : Fin 416) (q : Fin 1408) (k : Fin 1024)

theorem gate_at : k0_pay4 (gateB (iblk m c 2 t)) (ix2 p q) = GU (rw' t p) (lo (cl' t q)) := by
  pointwise [k0_pay4, gateB]; rw [blk2_at]; rfl
theorem up_at : k0_pay5 (upB (iblk m c 2 t)) (ix2 p q) = GU (rw' t p) (hi (cl' t q)) := by
  pointwise [k0_pay5, upB]; rw [blk2_at]; rfl
theorem sig_at : k0_pay6 (gateB (iblk m c 2 t)) (ix2 p q) = lgs (GU (rw' t p) (lo (cl' t q))) := by
  pointwise [k0_pay6]; rw [gate_at]; exact lgs_tanh _
theorem silu_at : k0_pay7 (gateB (iblk m c 2 t)) (ix2 p q) = GU (rw' t p) (lo (cl' t q)) * lgs (GU (rw' t p) (lo (cl' t q))) := by
  pointwise [k0_pay7]; rw [gate_at, sig_at]
theorem actV_at : actV (iblk m c 2 t) (ix2 p q) = ACT (rw' t p) (cl' t q) := by
  pointwise [actV, k0_pay8]; rw [silu_at, up_at]; rfl
theorem dact_at : dactV (grid0.coords t) (iblk m c 0 t) (V m c main_v21) (ix2 p q) = DACT (rw' t p) (cl' t q) := by
  pointwise [dactV, k0_pay3, k0_pay1, dact]
  exact Finset.sum_congr rfl fun k _ => by rw [blk0_at, wdB_at]
theorem dgate_at : k0_pay9 (dactV (grid0.coords t) (iblk m c 0 t) (V m c main_v21)) (k0_pay4 (gateB (iblk m c 2 t))) (k0_pay5 (upB (iblk m c 2 t)))
    (k0_pay6 (gateB (iblk m c 2 t))) (ix2 p q) = DGATE (rw' t p) (cl' t q) := by
  pointwise [k0_pay9, dgate]; rw [dact_at, gate_at, up_at, sig_at]
theorem dup_at : k0_pay10 (dactV (grid0.coords t) (iblk m c 0 t) (V m c main_v21)) (k0_pay7 (gateB (iblk m c 2 t))) (ix2 p q) = DUP (rw' t p) (cl' t q) := by
  pointwise [k0_pay10, dup]; rw [dact_at, silu_at]
theorem df_at : k0_pay1 (iblk m c 0 t) (ix2 p k) = Ideal.ofBits .f32 0x3F000000#32 * arg0 m c (ix2 (rw' t p) k) := by
  pointwise [k0_pay1]; rw [blk0_at]

/-- The stacked block: the first half is the gate's gradient, the second the up branch's. -/
theorem dguV_at (s : Fin 2) : dguV (grid0.coords t) (iblk m c 0 t) (iblk m c 2 t) (V m c main_v21) (ix3 s p q)
    = if s.val = 0 then DGATE (rw' t p) (cl' t q) else DUP (rw' t p) (cl' t q) := by
  unfold dguV
  fin_cases s
  · have h0 : (ix3 (0 : Fin 2) p q : S2x416x1408.Idx) = (Rect.unit (s := S2x416x1408) ![0, 0, 0] S1x416x1408.size inb_S2x416x1408_S1x416x1408_0_0_0).emb (ix3 (0 : Fin 1) p q) :=
      funext fun a => Fin.ext (by
        fin_cases a
        · rfl
        · show p.val = 0 + 1 * p.val; omega
        · show q.val = 0 + 1 * q.val; omega)
    refine (View.canon_cons_of_not_mem _ _ ?_).trans ?_
    · rw [Rect.mem_set_unit]; intro h; have := (h 0).1; simp [ix3] at this
    · refine (congrArg _ h0).trans ((View.canon_cons_emb _ _ _ _).trans ?_)
      pointwise [k0_pay11]; rw [dgate_at]
  · have h0 : (ix3 (1 : Fin 2) p q : S2x416x1408.Idx) = (Rect.unit (s := S2x416x1408) ![1, 0, 0] S1x416x1408.size inb_S2x416x1408_S1x416x1408_1_0_0).emb (ix3 (0 : Fin 1) p q) :=
      funext fun a => Fin.ext (by
        fin_cases a
        · rfl
        · show p.val = 0 + 1 * p.val; omega
        · show q.val = 0 + 1 * q.val; omega)
    refine (congrArg _ h0).trans ((View.canon_cons_emb _ _ _ _).trans ?_)
    pointwise [k0_pay12]; rw [dup_at]

/-- What a point adds to the running gradient of the normalised rows. -/
def part : EReal := (∑ q, DGATE (rw' t p) (cl' t q) * arg3 m c (ix2 k (lo (cl' t q)))) + ∑ q, DUP (rw' t p) (cl' t q) * arg3 m c (ix2 k (hi (cl' t q)))

theorem dnStep_at (d : Vec Ideal S416x1024 .f32) : dnStep m c t d (ix2 p k) = d (ix2 p k) + part m c t p k := by
  pointwise [dnStep, dnV, k0_pay13, part]
  refine congrArg (d (ix2 p k) + ·) (congrArg₂ (· + ·) (Finset.sum_congr rfl fun q _ => ?_) (Finset.sum_congr rfl fun q _ => ?_))
  · rw [dgate_at, wgB_at]
  · rw [dup_at, wuB_at]

/-- After a row tile's second point the running gradient is whole. -/
theorem dnAt_at (h : t.val % 2 = 1) : dnAt m c t (ix2 p k) = DN (rw' t p) k := by
  have hs : (evenPt t).val = t.val - 1 := by simp [evenPt, h]
  rw [dnAt_odd m c t (evenPt t) h hs, dnAt_even m c (evenPt t) (by omega), dnStep_at, dnStep_at]
  have hr : rw' (evenPt t) p = rw' t p := Fin.ext (by simp only [rw']; omega)
  have h0 : ∀ q, cl' (evenPt t) q = ⟨q.val, by omega⟩ := fun q => Fin.ext (by simp only [cl']; omega)
  have h1 : ∀ q, cl' t q = ⟨1408 + q.val, by omega⟩ := fun q => Fin.ext (by simp only [cl']; omega)
  unfold part dn
  simp only [hr, h0, h1]
  rw [Fin.sum_univ_two_halves 1408 1408 rfl (fun f => DGATE (rw' t p) f * _), Fin.sum_univ_two_halves 1408 1408 rfl (fun f => DUP (rw' t p) f * _)]
  have hz : k0_pay2 (F := Ideal) (ix2 p k) = 0 := by pointwise [k0_pay2]
  rw [hz, zero_add]
  exact add_add_add_comm _ _ _ _

theorem r_at (a : Fin 1) : k0_pay14 (iblk m c 1 t) (ix2 p a) = rr (arg1 m c) (rw' t p) := by
  pointwise [k0_pay14, rr, vr, row]; simp only [blk1_at]
theorem xr_at : k0_pay15 (iblk m c 1 t) (ix2 p k) = row (arg1 m c) (rw' t p) k * rr (arg1 m c) (rw' t p) := by
  pointwise [k0_pay15, row]; rw [blk1_at, r_at]
theorem dhinV_at (h : t.val % 2 = 1) : dhinV (iblk m c 0 t) (iblk m c 1 t) (iblk m c 3 t) (dnAt m c t) (ix2 p k) = DHIN (rw' t p) k := by
  pointwise [dhinV, k0_pay16, dhin]
  simp only [blk0_at, blk3_at, dnAt_at m c t _ _ h, r_at, xr_at]

end point

/-! ## The scale's row, tile by tile -/

/-- A row tile's share of the scale's gradient. -/
def tile (k : Fin 1024) (i : ℕ) : EReal :=
  if h : i < 10 then ∑ p : Fin 416, DN ⟨i * 416 + p.val, by omega⟩ k * (row (arg1 m c) ⟨i * 416 + p.val, by omega⟩ k * rr (arg1 m c) ⟨i * 416 + p.val, by omega⟩) else 0

theorem put_at (x : Vec Ideal S8x1024 .f32) (w : Vec Ideal S1x1024 .f32) (s : Fin 8) (k : Fin 1024) :
    VecWindow.put x ![hr.row.val, 0] S1x1024.size w (ix2 s k) = if s.val = hr.row.val then w (ix2 0 k) else x (ix2 s k) := by
  unfold VecWindow.put
  by_cases hs : s.val = hr.row.val
  · rw [dif_pos (fun a => by fin_cases a <;> simp [ix2, hs]), if_pos hs]
    exact congrArg w (funext fun a => Fin.ext (by fin_cases a <;> simp [Rect.unitLocal, ix2, hs]))
  · rw [dif_neg (fun h => hs (by have := h 0; simp [ix2] at this; omega)), if_neg hs]

theorem dgV_at (t : Fin cfg0.N) (h : t.val % 2 = 1) (x : Vec Ideal S8x1024 .f32) (s : Fin 8) (k : Fin 1024) :
    dgV (iblk m c 1 t) (dnAt m c t) x (ix2 s k) = if s.val = hr.row.val then x (ix2 s k) + tile m c k (t.val / 2) else x (ix2 s k) := by
  have ht : t.val / 2 < 10 := by have h : t.val < 20 := t.isLt; omega
  refine (put_at _ _ s k).trans ?_
  split_ifs with hs
  · pointwise [k0_pay17, tile]
    rw [dif_pos ht]
    obtain rfl : s = hr.row := Fin.ext hs
    exact congrArg₂ (· + ·) (congrArg x (funext fun a => Fin.ext (by fin_cases a <;> simp [ix2]))) (Finset.sum_congr rfl fun p _ => by rw [dnAt_at m c t _ _ h, xr_at]; rfl)
  · rfl

theorem dgAt_at (s : Fin 8) (k : Fin 1024) : ∀ (n : ℕ) (h : n < cfg0.N), dgAt m c n h (ix2 s k)
    = if s.val = hr.row.val then (arg5 m c (ix2 s k) : EReal) + ∑ i ∈ Finset.range ((n + 1) / 2), tile m c k i else arg5 m c (ix2 s k) := by
  intro n
  induction n with
  | zero =>
    intro h
    refine (blk4_at m c ⟨0, h⟩ s k).trans ?_
    split_ifs <;> first | rfl | exact (add_zero (arg5 m c (ix2 s k) : EReal)).symm
  | succ n ih =>
    intro h
    have ih := ih (by omega)
    by_cases ho : (n + 1) % 2 = 1
    · refine (congrFun (dgAt_odd m c ⟨n + 1, h⟩ ⟨n, by omega⟩ ho rfl) _).trans ((dgV_at m c ⟨n + 1, h⟩ ho _ s k).trans ?_)
      rw [ih]
      have h2 : (⟨n + 1, h⟩ : Fin cfg0.N).val / 2 = (n + 1) / 2 := rfl
      have h1 : (n + 1 + 1) / 2 = (n + 1) / 2 + 1 := by omega
      rw [h1, Finset.sum_range_succ]
      split_ifs
      · exact add_assoc _ _ _
      · rfl
    · refine (congrFun (dgAt_even m c ⟨n + 1, h⟩ ⟨n, by omega⟩ (show (n + 1) % 2 = 0 by omega) (Nat.succ_ne_zero n) rfl) _).trans (ih.trans ?_)
      have h1 : (n + 1 + 1) / 2 = (n + 1) / 2 := by omega
      rw [h1]

/-- The tiles' shares make the whole. -/
theorem tiles_sum (k : Fin 1024) : ∑ i ∈ Finset.range 10, tile m c k i = dg (arg0 m c) (arg1 m c) (arg2 m c) (arg3 m c) (arg4 m c) k := by
  unfold dg
  rw [Fin.sum_univ_tiles 10 416 rfl, ← Fin.sum_univ_eq_sum_range (fun i => tile m c k i)]
  exact Finset.sum_congr rfl fun i _ => dif_pos i.isLt

end Cert.Kernel.Ffn

end
-- ==== Proof.FfnFinal.lean ====
/- The feed-forward backward kernel's result arrays after its run, over the extended reals. -/
module

public import proofs.«01_k».proof.Proof.FfnValue

@[expose] public section

set_option maxRecDepth 16384

noncomputable section

namespace Cert.Kernel.Ffn

open Cert.Kernel Cert.Kernel.Gen
open Idealize.ShloMosaic Idealize.ShloMosaic.TcCoe Idealize.SL.Sem
open Cert.Ffn (row rr gu lo hi vr lgs lgs_tanh dact act dgate dup dn dhin dg oDhin oDgu oAct oHalf oDg)
open scoped BigOperators

variable [hr : Row]

variable (m : (ℓ : Loc nD τ sig) → Buf (Elt Ideal) ℓ) (c : Dev nD)

/-- The five result arrays. -/
abbrev out0 : FVec Ideal S4160x1024 .f32 := oDhin (arg0 m c) (arg1 m c) (arg2 m c) (arg3 m c) (arg4 m c)
abbrev out1 : FVec Ideal S2x4160x2816 .bf16 := oDgu (arg0 m c) (arg1 m c) (arg2 m c) (arg3 m c) (arg4 m c)
abbrev out2 : FVec Ideal S4160x2816 .bf16 := oAct (arg1 m c) (arg2 m c) (arg3 m c)
abbrev out3 : FVec Ideal S4160x1024 .bf16 := oHalf (arg0 m c)
abbrev out4 : FVec Ideal S8x1024 .f32 := oDg (arg0 m c) (arg1 m c) (arg2 m c) (arg3 m c) (arg4 m c) hr.row (arg5 m c)

theorem idx5 : ∀ t, win0_5.index t = ![t.val / 2, 0] := by decide +kernel
theorem idx6 : ∀ t, win0_6.index t = ![0, t.val / 2, t.val % 2] := by decide +kernel
theorem idx7 : ∀ t, win0_7.index t = ![t.val / 2, t.val % 2] := by decide +kernel
theorem idx8 : ∀ t, win0_8.index t = ![t.val / 2, 0] := by decide +kernel
theorem idx9 : ∀ t, win0_9.index t = ![0, 0] := by decide +kernel
theorem odd5 : ∀ t : Fin cfg0.N, (cfg0.win 5).flush t = true → t.val % 2 = 1 := by decide +kernel
theorem odd8 : ∀ t : Fin cfg0.N, (cfg0.win 8).flush t = true → t.val % 2 = 1 := by decide +kernel
theorem last9 : ∀ t : Fin cfg0.N, (cfg0.win 9).flush t = true → t.val = 19 := by decide +kernel

theorem at5 (G : FVec Ideal S4160x1024 .f32) (t : Fin cfg0.N) (p : Fin 416) (k : Fin 1024) :
    G (((View.whole main_v22_0).slice (win0_5.rect t)).emb (ix2 p k)) = G (ix2 (rw' t p) k) := by blk_ext [idx5, rw']
theorem at6 (G : FVec Ideal S2x4160x2816 .bf16) (t : Fin cfg0.N) (a : Fin 2) (p : Fin 416) (q : Fin 1408) :
    G (((View.whole main_v22_1).slice (win0_6.rect t)).emb (ix3 a p q)) = G (ix3 a (rw' t p) (cl' t q)) := by blk_ext [idx6, rw', cl']
theorem at7 (G : FVec Ideal S4160x2816 .bf16) (t : Fin cfg0.N) (p : Fin 416) (q : Fin 1408) :
    G (((View.whole main_v22_2).slice (win0_7.rect t)).emb (ix2 p q)) = G (ix2 (rw' t p) (cl' t q)) := by blk_ext [idx7, rw', cl']
theorem at8 (G : FVec Ideal S4160x1024 .bf16) (t : Fin cfg0.N) (p : Fin 416) (k : Fin 1024) :
    G (((View.whole main_v22_3).slice (win0_8.rect t)).emb (ix2 p k)) = G (ix2 (rw' t p) k) := by blk_ext [idx8, rw']
theorem at9 (G : FVec Ideal S8x1024 .f32) (t : Fin cfg0.N) (s : Fin 8) (k : Fin 1024) :
    G (((View.whole main_v22_4).slice (win0_9.rect t)).emb (ix2 s k)) = G (ix2 s k) := by blk_ext [idx9]

theorem rw'_even (t : Fin cfg0.N) (p : Fin 416) : rw' (evenPt t) p = rw' t p := by
  apply Fin.ext
  show (t.val - t.val % 2) / 2 * 416 + p.val = t.val / 2 * 416 + p.val
  omega

theorem arr5 : (dats m 0 c).arrAt 5 (cfgs 0).N = out0 m c := by
  refine (dats m 0 c).arrAt_eq_of_covers 5 _ (by decide +kernel) fun t hf y => ?_
  blk_simp
  rw [after5]
  idx_vars y
  rw [dhinV_at m c t _ _ (odd5 t hf)]
  exact (at5 (out0 m c) t _ _).symm
theorem arr6 : (dats m 0 c).arrAt 6 (cfgs 0).N = out1 m c := by
  refine (dats m 0 c).arrAt_eq_of_covers 6 _ (by decide +kernel) fun t hf y => ?_
  blk_simp
  rw [after6]
  idx_vars y
  rw [dguV_at]
  exact (at6 (out1 m c) t _ _ _).symm
theorem arr7 : (dats m 0 c).arrAt 7 (cfgs 0).N = out2 m c := by
  refine (dats m 0 c).arrAt_eq_of_covers 7 _ (by decide +kernel) fun t hf y => ?_
  blk_simp
  rw [after7]
  idx_vars y
  rw [actV_at]
  exact (at7 (out2 m c) t _ _).symm
theorem arr8 : (dats m 0 c).arrAt 8 (cfgs 0).N = out3 m c := by
  refine (dats m 0 c).arrAt_eq_of_covers 8 _ (by decide +kernel) fun t hf y => ?_
  blk_simp
  rw [after8]
  idx_vars y
  rw [df_at, rw'_even]
  exact (at8 (out3 m c) t _ _).symm
theorem arr9 : (dats m 0 c).arrAt 9 (cfgs 0).N = out4 m c := by
  refine (dats m 0 c).arrAt_eq_of_covers 9 _ (by decide +kernel) fun t hf y => ?_
  blk_simp
  rw [after9]
  idx_vars y
  rw [dgAt_at, show (t.val + 1) / 2 = 10 by rw [last9 t hf], tiles_sum]
  exact (at9 (out4 m c) t _ _).symm

/-- The arguments end as they began. -/
theorem args_kept {F : FTy → Type} [FloatOps F] (m : (ℓ : Loc nD τ sig) → Buf (Elt F) ℓ) (r : PUnit × MemSt nD τ sig (Elt F))
    (h : Pipeline.FramePost cfgs (dats m) 0 (V m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) :=
  ⟨((h c).1 0).trans (((dats m 0 c).arrAt_in 0 rfl _).trans ((A_eq m c 0).trans (V_main_arg0 m c))), ((h c).1 1).trans (((dats m 0 c).arrAt_in 1 rfl _).trans ((A_eq m c 1).trans (V_main_arg1 m c))), ((h c).1 3).trans (((dats m 0 c).arrAt_in 3 rfl _).trans ((A_eq m c 3).trans (V_main_arg2 m c))), ((h c).2 main_arg3 (Pipeline.mem_restRefs_of main_arg3 (by decide) (by decide))).trans (V_main_arg3 m c), ((h c).2 main_arg4 (Pipeline.mem_restRefs_of main_arg4 (by decide) (by decide))).trans (V_main_arg4 m c), ((h c).1 4).trans (((dats m 0 c).arrAt_in 4 rfl _).trans ((A_eq m c 4).trans (V_main_arg5 m c))), ((h c).2 main_arg6 (Pipeline.mem_restRefs_of main_arg6 (by decide) (by decide))).trans (V_main_arg6 m c)⟩

/-- The call ends, its arguments unchanged and every counter at zero. -/
theorem frame {F : FTy → Type} [FloatOps F] (m : (ℓ : Loc nD τ sig) → Buf (Elt F) ℓ) (ρ : Dev nD → PrngReg) :
    θ_run (Pipeline.defs pcfgs bodies) (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) :=
  (θ_run (Pipeline.defs pcfgs bodies) _ _).mono (fun r h => ⟨args_kept m r h.1, h.2⟩) (run_main m ρ)

/-- The call ends with the five result arrays. -/
theorem value (ρ : Dev nD → PrngReg) :
    θ_run (Pipeline.defs pcfgs bodies) (onTc (τ := τ) (main (F := Ideal))) ⟨m, fun _ => 0, ρ⟩ (fun r => ∀ c : Dev nD, r.2.mem ((c.tc : Thread nD τ).loc main_v22_0) = out0 m c ∧ r.2.mem ((c.tc : Thread nD τ).loc main_v22_1) = out1 m c ∧ r.2.mem ((c.tc : Thread nD τ).loc main_v22_2) = out2 m c ∧ r.2.mem ((c.tc : Thread nD τ).loc main_v22_3) = out3 m c ∧ r.2.mem ((c.tc : Thread nD τ).loc main_v22_4) = out4 m c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) :=
  (θ_run (Pipeline.defs pcfgs bodies) _ _).mono (fun r h c => ⟨((h.1 c).1 5).trans (arr5 m c), ((h.1 c).1 6).trans (arr6 m c), ((h.1 c).1 7).trans (arr7 m c), ((h.1 c).1 8).trans (arr8 m c),
    ((h.1 c).1 9).trans (arr9 m c), args_kept m r h.1 c⟩) (run_main m ρ)

end Cert.Kernel.Ffn

end
-- ==== Proof.Same.lean ====
/- Both feed-forward calls, printed for the bit-exact reading and for the ideal reading, are the one kernel function over
   the row of its gains, so a run of that function is a run of each. -/
module

public import proofs.«01_k».proof.Proof.Gen.KernelIdeal
public import proofs.«01_k».proof.Proof.Gen.Second
public import proofs.«01_k».proof.Proof.Gen.SecondIdeal
public import proofs.«01_k».proof.Proof.FfnFinal
public import Idealize.ShloMosaic.Adequacy
public import Idealize.ShloMosaic.Init

@[expose] public section

set_option maxRecDepth 65536

noncomputable section

namespace Cert.Same

open Idealize.ShloMosaic Idealize.SL.Sem
open Cert.Kernel.Ffn (Row bodies)

variable {F : FTy → Type} [FloatOps F]

/-- The gains' row of the first call and of the second. -/
abbrev first : Row := ⟨0⟩
abbrev second : Row := ⟨3⟩

/-- The pipelines of the kernel function over a row. -/
abbrev pipes (r : Row) := Pipeline.defs (Cert.Kernel.pcfgs (F := F)) (bodies (hr := r))

theorem bodies_Kernel : bodies (F := F) (hr := first) = Cert.Kernel.defs₀ (F := F) := by
  unfold bodies Cert.Kernel.defs₀
  refine congrArg Defs.onTc (funext fun l => funext fun x => ?_)
  match l, x with
  | 0, (t, s) => with_unfolding_all rfl

theorem run_Kernel (m : (ℓ : Loc Cert.Kernel.nD Cert.Kernel.τ Cert.Kernel.sig) → Buf (Elt F) ℓ) (ρ : Dev Cert.Kernel.nD → PrngReg)
    (Q : PUnit × MemSt Cert.Kernel.nD Cert.Kernel.τ Cert.Kernel.sig (Elt F) → Prop)
    (h : θ_run (pipes (F := F) first) (onTc (τ := Cert.Kernel.τ) (Cert.Kernel.main (F := F))) ⟨m, fun _ => 0, ρ⟩ Q) :
    θ_run Cert.Kernel.defs (onTc (τ := Cert.Kernel.τ) (Cert.Kernel.main (F := F))) ⟨m, fun _ => 0, ρ⟩ Q := by
  have h := Eq.mp (congrArg (fun d => θ_run (Pipeline.defs (Cert.Kernel.pcfgs (F := F)) d) (onTc (τ := Cert.Kernel.τ) (Cert.Kernel.main (F := F))) ⟨m, fun _ => 0, ρ⟩ Q) bodies_Kernel) h
  with_unfolding_all exact h

theorem bodies_KernelIdeal : bodies (F := Ideal) (hr := first) = Cert.KernelIdeal.defs₀ (F := Ideal) := by
  unfold bodies Cert.KernelIdeal.defs₀
  refine congrArg Defs.onTc (funext fun l => funext fun x => ?_)
  match l, x with
  | 0, (t, s) => with_unfolding_all rfl

theorem run_KernelIdeal (m : (ℓ : Loc Cert.Kernel.nD Cert.Kernel.τ Cert.Kernel.sig) → Buf (Elt Ideal) ℓ) (ρ : Dev Cert.Kernel.nD → PrngReg)
    (Q : PUnit × MemSt Cert.Kernel.nD Cert.Kernel.τ Cert.Kernel.sig (Elt Ideal) → Prop)
    (h : θ_run (pipes (F := Ideal) first) (onTc (τ := Cert.Kernel.τ) (Cert.Kernel.main (F := Ideal))) ⟨m, fun _ => 0, ρ⟩ Q) :
    θ_run Cert.KernelIdeal.defs (onTc (τ := Cert.KernelIdeal.τ) (Cert.KernelIdeal.main (F := Ideal))) ⟨m, fun _ => 0, ρ⟩ Q := by
  have h := Eq.mp (congrArg (fun d => θ_run (Pipeline.defs (Cert.Kernel.pcfgs (F := Ideal)) d) (onTc (τ := Cert.Kernel.τ) (Cert.Kernel.main (F := Ideal))) ⟨m, fun _ => 0, ρ⟩ Q) bodies_KernelIdeal) h
  with_unfolding_all exact h

theorem bodies_Second : bodies (F := F) (hr := second) = Cert.Second.defs₀ (F := F) := by
  unfold bodies Cert.Second.defs₀
  refine congrArg Defs.onTc (funext fun l => funext fun x => ?_)
  match l, x with
  | 0, (t, s) => with_unfolding_all rfl

theorem run_Second (m : (ℓ : Loc Cert.Kernel.nD Cert.Kernel.τ Cert.Kernel.sig) → Buf (Elt F) ℓ) (ρ : Dev Cert.Kernel.nD → PrngReg)
    (Q : PUnit × MemSt Cert.Kernel.nD Cert.Kernel.τ Cert.Kernel.sig (Elt F) → Prop)
    (h : θ_run (pipes (F := F) second) (onTc (τ := Cert.Kernel.τ) (Cert.Kernel.main (F := F))) ⟨m, fun _ => 0, ρ⟩ Q) :
    θ_run Cert.Second.defs (onTc (τ := Cert.Second.τ) (Cert.Second.main (F := F))) ⟨m, fun _ => 0, ρ⟩ Q := by
  have h := Eq.mp (congrArg (fun d => θ_run (Pipeline.defs (Cert.Kernel.pcfgs (F := F)) d) (onTc (τ := Cert.Kernel.τ) (Cert.Kernel.main (F := F))) ⟨m, fun _ => 0, ρ⟩ Q) bodies_Second) h
  with_unfolding_all exact h

theorem bodies_SecondIdeal : bodies (F := Ideal) (hr := second) = Cert.SecondIdeal.defs₀ (F := Ideal) := by
  unfold bodies Cert.SecondIdeal.defs₀
  refine congrArg Defs.onTc (funext fun l => funext fun x => ?_)
  match l, x with
  | 0, (t, s) => with_unfolding_all rfl

theorem run_SecondIdeal (m : (ℓ : Loc Cert.Kernel.nD Cert.Kernel.τ Cert.Kernel.sig) → Buf (Elt Ideal) ℓ) (ρ : Dev Cert.Kernel.nD → PrngReg)
    (Q : PUnit × MemSt Cert.Kernel.nD Cert.Kernel.τ Cert.Kernel.sig (Elt Ideal) → Prop)
    (h : θ_run (pipes (F := Ideal) second) (onTc (τ := Cert.Kernel.τ) (Cert.Kernel.main (F := Ideal))) ⟨m, fun _ => 0, ρ⟩ Q) :
    θ_run Cert.SecondIdeal.defs (onTc (τ := Cert.SecondIdeal.τ) (Cert.SecondIdeal.main (F := Ideal))) ⟨m, fun _ => 0, ρ⟩ Q := by
  have h := Eq.mp (congrArg (fun d => θ_run (Pipeline.defs (Cert.Kernel.pcfgs (F := Ideal)) d) (onTc (τ := Cert.Kernel.τ) (Cert.Kernel.main (F := Ideal))) ⟨m, fun _ => 0, ρ⟩ Q) bodies_SecondIdeal) h
  with_unfolding_all exact h

end Cert.Same

end
-- ==== Proof.Norm.lean ====
/- The norm as the host writes it. -/
module

public import proofs.«01_k».proof.Defs
public import proofs.«01_k».proof.Proof.Gen.WGuBRefIdeal
public import Idealize.ShloMosaic.Lib.Pipeline.ValueKit

@[expose] public section

set_option maxRecDepth 16384

noncomputable section

namespace Cert.Norm

open Cert.WGuBRefIdeal Cert.WGuBRefIdeal.Gen
open Idealize.ShloMosaic Idealize.ShloMosaic.TcCoe Idealize.ShloMosaic.StableHlo

/-- Every row over its root mean square, times the scale. -/
def nrm (H : FVec Ideal S4160x1024 .f32) (G : FVec Ideal S1x1024 .f32) : FVec Ideal S4160x1024 .f32 :=
  mulf (mulf H (broadcastInDim S4160x1024 ![0, 1] bcast_S4160x1_S4160x1024_0_1 (Host.rsqrt (addf (Host.divf (broadcastInDim S4160x1 ![0] bcast_S4160_S4160x1_0 (Host.reduceAdd (mulf H H) (constant S_ .f32 0x00000000#32) reducesTo_S4160x1024_S4160_d1 h_S_)) (broadcastInDim S4160x1 ![] bcast_S_S4160x1 (constant S_ .f32 0x44800000#32))) (broadcastInDim S4160x1 ![] bcast_S_S4160x1 (constant S_ .f32 0x358637BD#32)))))) (broadcastInDim S4160x1024 ![0, 1] bcast_S1x1024_S4160x1024_0_1 G)

end Cert.Norm

end
-- ==== Proof.WGuB.lean ====
/- The gradient at the joined gate and up weight, second layer: the call and its reference compute one array. -/
module

public import proofs.«01_k».proof.Defs
public import proofs.«01_k».proof.Proof.Gen.WGuB
public import proofs.«01_k».proof.Proof.Gen.WGuBIdeal
public import proofs.«01_k».proof.Proof.Gen.WGuB.Frame
public import proofs.«01_k».proof.Proof.Gen.WGuBIdeal.Frame
public import proofs.«01_k».proof.Proof.Gen.WGuBRefIdeal
public import proofs.«01_k».proof.Proof.Gen.WGuBRefIdeal.Run
public import proofs.«01_k».proof.Proof.Norm
public import Idealize.ShloMosaic.Lib.Pipeline.ValueKit
public import Idealize.ShloMosaic.Lib.StableHlo.Run

@[expose] public section

set_option maxRecDepth 16384

noncomputable section

namespace Cert.WGuBRefIdeal.Own

open Cert.WGuBRefIdeal Cert.WGuBRefIdeal.Gen
open Idealize.ShloMosaic Idealize.ShloMosaic.TcCoe
open scoped BigOperators

/-- The product over the rows, its own rows in four parts: two of the gate, two of the up branch. -/
def out (X : FVec Ideal ⟨3, ![2, 4160, 2816]⟩ .f32) (Y : FVec Ideal ⟨2, ![4160, 1024]⟩ .f32) : FVec Ideal ⟨3, ![4, 1408, 1024]⟩ .bf16 :=
  fun i => ∑ t : Fin 4160, X (ix3 ⟨(i 0).val / 2, by have h0 : (i 0).val < 4 := (i 0).isLt; omega⟩ t
    ⟨(i 0).val % 2 * 1408 + (i 1).val, by have h1 : (i 1).val < 1408 := (i 1).isLt; omega⟩) * Y (ix2 t (i 2))

/-- The reference's array is the same. -/
theorem ref_at (X : FVec Ideal S2x4160x2816 .f32) (N : FVec Ideal S4160x1024 .f32) :
    truncf (F := Ideal) .bf16 (shapeCast _ (transpose S5632x1024 [1, 0] (transpose S1024x5632 [1, 0] (Host.dotGeneral dot_S4160x5632_S4160x1024_S5632x1024_0_0_1_1_n_n none (concatenate S4160x5632 1 [⟨S4160x2816, (shapeCast _ (extractStridedSlice S1x4160x2816 ![0, 0, 0] X slices_S2x4160x2816_S1x4160x2816_0_0_0) shapeCasts_S1x4160x2816_S4160x2816)⟩, ⟨S4160x2816, (shapeCast _ (extractStridedSlice S1x4160x2816 ![1, 0, 0] X slices_S2x4160x2816_S1x4160x2816_1_0_0) shapeCasts_S1x4160x2816_S4160x2816)⟩] concatenates_S4160x2816_S4160x2816_S4160x5632_d1) N) transposes_S5632x1024_S1024x5632_1_0) transposes_S1024x5632_S5632x1024_1_0) shapeCasts_S5632x1024_S4x1408x1024) bitsLt_bf16_f32 = out X N := by
  funext i
  idx_vars i
  pointwise
  refine congrArg (fun f : Fin 4160 → EReal => ∑ p, f p) (funext fun p => congrArg (fun a : EReal => a * _) ?_)
  have b0 : i0.val < 4 := i0.isLt
  have b1 : i1.val < 1408 := i1.isLt
  split_ifs with h
  · exact congrArg₂ (fun a b => X (ix3 a p b)) (Fin.ext (by show 0 = i0.val / 2; omega)) (Fin.ext (by show i0.val * 1408 + i1.val = i0.val % 2 * 1408 + i1.val; omega))
  · exact congrArg₂ (fun a b => X (ix3 a p b)) (Fin.ext (by show 1 = i0.val / 2; omega)) (Fin.ext (by show i0.val * 1408 + i1.val - 2816 = i0.val % 2 * 1408 + i1.val; omega))
  · rename_i h'; exact absurd rfl h'

end Cert.WGuBRefIdeal.Own

namespace Cert.WGuBIdeal.Own

open Cert.WGuBIdeal Cert.WGuBIdeal.Gen
open Idealize.ShloMosaic Idealize.ShloMosaic.TcCoe Idealize.SL.Sem
open Cert.Norm (nrm)
open Cert.WGuBRefIdeal.Own (out ref_at)
open scoped BigOperators

theorem pay_at (x : Vec Ideal S1x4160x1408 .bf16) (y : Vec Ideal S4160x1024 .bf16) (a : Fin 1) (p : Fin 1408) (k : Fin 1024) :
    k0_pay3 (k0_pay2 k0_pay1 x y) (ix3 a p k) = ∑ t : Fin 4160, (x (ix3 0 t p) : EReal) * y (ix2 t k) := by
  pointwise [k0_pay1, k0_pay2, k0_pay3]

section
variable (m : (ℓ : Loc nD τ sig) → Buf (Elt Ideal) ℓ) (c : Dev nD)

abbrev arg0 : FVec Ideal S2x4160x2816 .f32 := m ((c.tc : Thread nD τ).loc main_arg0)
abbrev arg1 : FVec Ideal S4160x1024 .f32 := m ((c.tc : Thread nD τ).loc main_arg1)
abbrev arg2 : FVec Ideal S1x1024 .f32 := m ((c.tc : Thread nD τ).loc main_arg2)

theorem V0_eq : V m c main_v0 = truncf (F := Ideal) (φ := .f32) (s := S2x4160x2816) .bf16 (arg0 m c) bitsLt_bf16_f32 := by
  unfold V; after_results_simp; try rfl
set_option maxHeartbeats 4000000 in
theorem V1_eq : V m c main_v13 = truncf (F := Ideal) (φ := .f32) (s := S4160x1024) .bf16 (nrm (arg1 m c) (arg2 m c)) bitsLt_bf16_f32 := by
  unfold V; after_results_simp; try rfl

theorem idx0 : ∀ t, win0_0.index t = ![t.val / 2, 0, t.val % 2] := by decide +kernel
theorem idx1 : ∀ t, win0_1.index t = ![0, 0] := by decide +kernel
theorem idx2 : ∀ t, win0_2.index t = ![t.val, 0, 0] := by decide +kernel

theorem blk0_at (t : Fin cfg0.N) (a : Fin 1) (p : Fin 4160) (q : Fin 1408) :
    iblk m c 0 t (ix3 a p q) = arg0 m c (ix3 ⟨t.val / 2, by have h : t.val < 4 := t.isLt; omega⟩ p ⟨t.val % 2 * 1408 + q.val, by omega⟩) := by
  refine Eq.trans ?_ (congrFun (V0_eq m c) _); blk_ext [iblk, V, idx0]
theorem blk1_at (t : Fin cfg0.N) (p : Fin 4160) (q : Fin 1024) : iblk m c 1 t (ix2 p q) = nrm (arg1 m c) (arg2 m c) (ix2 p q) := by
  refine Eq.trans ?_ (congrFun (V1_eq m c) _); blk_ext [iblk, V, idx1]

theorem at2 (G : FVec Ideal S4x1408x1024 .bf16) (t : Fin cfg0.N) (a : Fin 1) (p : Fin 1408) (k : Fin 1024) :
    G (((View.whole main_v14).slice (win0_2.rect t)).emb (ix3 a p k)) = G (ix3 t p k) := by blk_ext [idx2]

theorem arr : (dats m 0 c).arrAt 2 (cfgs 0).N = out (arg0 m c) (nrm (arg1 m c) (arg2 m c)) := by
  refine (dats m 0 c).arrAt_eq_of_covers 2 _ (by decide +kernel) fun t hf y => ?_
  blk_simp
  rw [after0_2]
  unfold outsAt0
  frame_out
  idx_vars y
  rw [pay_at]
  refine Eq.trans ?_ (at2 (out (arg0 m c) (nrm (arg1 m c) (arg2 m c))) t _ _ _).symm
  exact congrArg (fun f : Fin 4160 → EReal => ∑ p, f p) (funext fun p => congrArg₂ (fun a b : EReal => a * b) (blk0_at m c t 0 p _) (blk1_at m c t p _))

end

/-- The call and the reference end with one array. -/
theorem algebraic : Cert.algebraic_WGuBIdeal_WGuBRefIdeal (hWGuBIdeal := Cert.WGuBIdeal.Gen.facts) (hWGuBRefIdeal := Cert.WGuBRefIdeal.Gen.facts) := by
  intro m g m' g' _ hargs
  have run := Cert.WGuBIdeal.Gen.run_main m g
  have h := θ_run_and (unchanged m g) run
  refine ⟨fun c => out (arg0 m c) (nrm (arg1 m c) (arg2 m c)), (θ_run defs _ _).mono (fun r h c => ⟨((h.2 c).1 2).trans (arr m c), h.1 c⟩) h,
    (θ_run Cert.WGuBRefIdeal.defs _ _).mono (fun r h c => ⟨(h c).1.trans ?_, (h c).2⟩) (Cert.WGuBRefIdeal.Value.run (F := Ideal) m' g')⟩
  refine (ref_at _ (nrm _ _)).trans ?_
  exact congrArg₂ out (hargs c).1 (congrArg₂ nrm (hargs c).2.1 (hargs c).2.2)

end Cert.WGuBIdeal.Own

end
-- ==== Proof.WGuA.lean ====
/- The gradient at the joined gate and up weight, first layer: as in the second, with one more operand that is never read. -/
module

public import proofs.«01_k».proof.Defs
public import proofs.«01_k».proof.Proof.Gen.WGuA
public import proofs.«01_k».proof.Proof.Gen.WGuAIdeal
public import proofs.«01_k».proof.Proof.Gen.WGuA.Frame
public import proofs.«01_k».proof.Proof.Gen.WGuAIdeal.Frame
public import proofs.«01_k».proof.Proof.Gen.WGuARefIdeal
public import proofs.«01_k».proof.Proof.Gen.WGuARefIdeal.Run
public import proofs.«01_k».proof.Proof.WGuB
public import Idealize.ShloMosaic.Lib.Pipeline.ValueKit
public import Idealize.ShloMosaic.Lib.StableHlo.Run

@[expose] public section

set_option maxRecDepth 16384

noncomputable section

namespace Cert.WGuAIdeal.Own

open Cert.WGuAIdeal Cert.WGuAIdeal.Gen
open Idealize.ShloMosaic Idealize.ShloMosaic.TcCoe Idealize.SL.Sem
open Cert.Norm (nrm)
open Cert.WGuBRefIdeal.Own (out ref_at)
open scoped BigOperators

section
variable (m : (ℓ : Loc nD τ sig) → Buf (Elt Ideal) ℓ) (c : Dev nD)

abbrev arg0 : FVec Ideal S2x4160x2816 .f32 := m ((c.tc : Thread nD τ).loc main_arg0)
abbrev arg1 : FVec Ideal S4160x1024 .f32 := m ((c.tc : Thread nD τ).loc main_arg1)
abbrev arg2 : FVec Ideal S1x1024 .f32 := m ((c.tc : Thread nD τ).loc main_arg2)

theorem V0_eq : V m c main_v0 = truncf (F := Ideal) (φ := .f32) (s := S2x4160x2816) .bf16 (arg0 m c) bitsLt_bf16_f32 := by
  unfold V; after_results_simp; try rfl
set_option maxHeartbeats 4000000 in
theorem V1_eq : V m c main_v13 = truncf (F := Ideal) (φ := .f32) (s := S4160x1024) .bf16 (nrm (arg1 m c) (arg2 m c)) bitsLt_bf16_f32 := by
  unfold V; after_results_simp; try rfl

theorem idx0 : ∀ t, win0_0.index t = ![t.val / 2, 0, t.val % 2] := by decide +kernel
theorem idx1 : ∀ t, win0_1.index t = ![0, 0] := by decide +kernel
theorem idx2 : ∀ t, win0_2.index t = ![t.val, 0, 0] := by decide +kernel

theorem blk0_at (t : Fin cfg0.N) (a : Fin 1) (p : Fin 4160) (q : Fin 1408) :
    iblk m c 0 t (ix3 a p q) = arg0 m c (ix3 ⟨t.val / 2, by have h : t.val < 4 := t.isLt; omega⟩ p ⟨t.val % 2 * 1408 + q.val, by omega⟩) := by
  refine Eq.trans ?_ (congrFun (V0_eq m c) _); blk_ext [iblk, V, idx0]
theorem blk1_at (t : Fin cfg0.N) (p : Fin 4160) (q : Fin 1024) : iblk m c 1 t (ix2 p q) = nrm (arg1 m c) (arg2 m c) (ix2 p q) := by
  refine Eq.trans ?_ (congrFun (V1_eq m c) _); blk_ext [iblk, V, idx1]

theorem at2 (G : FVec Ideal S4x1408x1024 .bf16) (t : Fin cfg0.N) (a : Fin 1) (p : Fin 1408) (k : Fin 1024) :
    G (((View.whole main_v14).slice (win0_2.rect t)).emb (ix3 a p k)) = G (ix3 t p k) := by blk_ext [idx2]

theorem arr : (dats m 0 c).arrAt 2 (cfgs 0).N = out (arg0 m c) (nrm (arg1 m c) (arg2 m c)) := by
  refine (dats m 0 c).arrAt_eq_of_covers 2 _ (by decide +kernel) fun t hf y => ?_
  blk_simp
  rw [after0_2]
  unfold outsAt0
  frame_out
  idx_vars y
  refine (Cert.WGuBIdeal.Own.pay_at _ _ _ _ _).trans ?_
  refine Eq.trans ?_ (at2 (out (arg0 m c) (nrm (arg1 m c) (arg2 m c))) t _ _ _).symm
  exact congrArg (fun f : Fin 4160 → EReal => ∑ p, f p) (funext fun p => congrArg₂ (fun a b : EReal => a * b) (blk0_at m c t 0 p _) (blk1_at m c t p _))

end

/-- The call and the reference end with one array. -/
theorem algebraic : Cert.algebraic_WGuAIdeal_WGuARefIdeal (hWGuAIdeal := Cert.WGuAIdeal.Gen.facts) (hWGuARefIdeal := Cert.WGuARefIdeal.Gen.facts) := by
  intro m g m' g' _ hargs
  have run := Cert.WGuAIdeal.Gen.run_main m g
  have h := θ_run_and (unchanged m g) run
  refine ⟨fun c => out (arg0 m c) (nrm (arg1 m c) (arg2 m c)), (θ_run defs _ _).mono (fun r h c => ⟨((h.2 c).1 2).trans (arr m c), h.1 c⟩) h,
    (θ_run Cert.WGuARefIdeal.defs _ _).mono (fun r h c => ⟨(h c).1.trans ?_, (h c).2⟩) (Cert.WGuARefIdeal.Value.run (F := Ideal) m' g')⟩
  refine (ref_at _ (nrm _ _)).trans ?_
  exact congrArg₂ out (hargs c).1 (congrArg₂ nrm (hargs c).2.1 (hargs c).2.2.1)

end Cert.WGuAIdeal.Own

end
-- ==== Proof.WDown.lean ====
/- The gradient at the down projection's weight: the call and its reference compute one array. -/
module

public import proofs.«01_k».proof.Defs
public import proofs.«01_k».proof.Proof.Gen.WDown
public import proofs.«01_k».proof.Proof.Gen.WDown.Frame
public import proofs.«01_k».proof.Proof.Gen.WDownIdeal
public import proofs.«01_k».proof.Proof.Gen.WDownIdeal.Frame
public import proofs.«01_k».proof.Proof.Gen.WDownRefIdeal
public import proofs.«01_k».proof.Proof.Gen.WDownRefIdeal.Run
public import Idealize.ShloMosaic.Lib.Pipeline.ValueKit
public import Idealize.ShloMosaic.Lib.StableHlo.Run

@[expose] public section

set_option maxRecDepth 16384

noncomputable section

namespace Cert.WDownIdeal.Own

open Cert.WDownIdeal Cert.WDownIdeal.Gen
open Idealize.ShloMosaic Idealize.ShloMosaic.TcCoe Idealize.SL.Sem
open scoped BigOperators

/-- The product over the rows, its own rows in two parts. -/
def out (X : FVec Ideal ⟨2, ![4160, 2816]⟩ .f32) (Y : FVec Ideal ⟨2, ![4160, 1024]⟩ .f32) : FVec Ideal ⟨3, ![2, 1408, 1024]⟩ .bf16 :=
  fun i => ∑ t : Fin 4160, X (ix2 t ⟨(i 0).val * 1408 + (i 1).val, by have h0 : (i 0).val < 2 := (i 0).isLt; have h1 : (i 1).val < 1408 := (i 1).isLt; omega⟩) * Y (ix2 t (i 2))

section
variable (m : (ℓ : Loc nD τ sig) → Buf (Elt Ideal) ℓ) (c : Dev nD)

abbrev arg0 : FVec Ideal S4160x2816 .f32 := m ((c.tc : Thread nD τ).loc main_arg0)
abbrev arg1 : FVec Ideal S4160x1024 .f32 := m ((c.tc : Thread nD τ).loc main_arg1)

theorem V0_eq : V m c main_v0 = truncf (F := Ideal) (φ := .f32) (s := S4160x2816) .bf16 (arg0 m c) bitsLt_bf16_f32 := by
  unfold V; after_results_simp; try rfl
theorem V1_eq : V m c main_v1 = truncf (F := Ideal) (φ := .f32) (s := S4160x1024) .bf16 (arg1 m c) bitsLt_bf16_f32 := by
  unfold V; after_results_simp; try rfl

theorem idx0 : ∀ t, win0_0.index t = ![0, t.val] := by decide +kernel
theorem idx1 : ∀ t, win0_1.index t = ![0, 0] := by decide +kernel
theorem idx2 : ∀ t, win0_2.index t = ![t.val, 0, 0] := by decide +kernel

theorem blk0_at (t : Fin cfg0.N) (p : Fin 4160) (q : Fin 1408) :
    iblk m c 0 t (ix2 p q) = arg0 m c (ix2 p ⟨t.val * 1408 + q.val, by have h : t.val < 2 := t.isLt; omega⟩) := by
  refine Eq.trans ?_ (congrFun (V0_eq m c) _); blk_ext [iblk, V, idx0]
theorem blk1_at (t : Fin cfg0.N) (p : Fin 4160) (q : Fin 1024) : iblk m c 1 t (ix2 p q) = arg1 m c (ix2 p q) := by
  refine Eq.trans ?_ (congrFun (V1_eq m c) _); blk_ext [iblk, V, idx1]

theorem at2 (G : FVec Ideal S2x1408x1024 .bf16) (t : Fin cfg0.N) (a : Fin 1) (p : Fin 1408) (k : Fin 1024) :
    G (((View.whole main_v2).slice (win0_2.rect t)).emb (ix3 a p k)) = G (ix3 t p k) := by blk_ext [idx2]

theorem pay_at (x : Vec Ideal S4160x1408 .bf16) (y : Vec Ideal S4160x1024 .bf16) (a : Fin 1) (p : Fin 1408) (k : Fin 1024) :
    k0_pay3 (k0_pay2 k0_pay1 x y) (ix3 a p k) = ∑ t : Fin 4160, (x (ix2 t p) : EReal) * y (ix2 t k) := by
  pointwise [k0_pay1, k0_pay2, k0_pay3]

theorem arr : (dats m 0 c).arrAt 2 (cfgs 0).N = out (arg0 m c) (arg1 m c) := by
  refine (dats m 0 c).arrAt_eq_of_covers 2 _ (by decide +kernel) fun t hf y => ?_
  blk_simp
  rw [after0_2]
  unfold outsAt0
  frame_out
  idx_vars y
  rw [pay_at]
  refine Eq.trans ?_ (at2 (out (arg0 m c) (arg1 m c)) t _ _ _).symm
  exact congrArg (fun f : Fin 4160 → EReal => ∑ p, f p) (funext fun p => congrArg₂ (fun a b : EReal => a * b) (blk0_at m c t p _) (blk1_at m c t p _))

end

/-- The reference's array is the same. -/
theorem ref_at (X : FVec Ideal Cert.WDownRefIdeal.S4160x2816 .f32) (Y : FVec Ideal Cert.WDownRefIdeal.S4160x1024 .f32) :
    truncf (F := Ideal) .bf16 (shapeCast _ (transpose Cert.WDownRefIdeal.S2816x1024 [1, 0] (Host.dotGeneral Cert.WDownRefIdeal.dot_S4160x1024_S4160x2816_S1024x2816_0_0_1_1_n_n none Y X)
      Cert.WDownRefIdeal.Gen.facts.transposes_S1024x2816_S2816x1024_1_0) Cert.WDownRefIdeal.Gen.facts.shapeCasts_S2816x1024_S2x1408x1024) Cert.WDownRefIdeal.Gen.facts.bitsLt_bf16_f32 = out X Y := by
  funext i
  idx_vars i
  pointwise
  exact congrArg (fun f : Fin 4160 → EReal => ∑ p, f p) (funext fun p => mul_comm _ _)

/-- The call and the reference end with one array. -/
theorem algebraic : Cert.algebraic_WDownIdeal_WDownRefIdeal (hWDownIdeal := Cert.WDownIdeal.Gen.facts) (hWDownRefIdeal := Cert.WDownRefIdeal.Gen.facts) := by
  intro m g m' g' _ hargs
  have run := Cert.WDownIdeal.Gen.run_main m g
  have h := θ_run_and (unchanged m g) run
  refine ⟨fun c => out (arg0 m c) (arg1 m c), (θ_run defs _ _).mono (fun r h c => ⟨((h.2 c).1 2).trans (arr m c), h.1 c⟩) h,
    (θ_run Cert.WDownRefIdeal.defs _ _).mono (fun r h c => ⟨(h c).1.trans ?_, (h c).2⟩) (Cert.WDownRefIdeal.Value.run (F := Ideal) m' g')⟩
  refine (ref_at _ _).trans ?_
  exact congrArg₂ out (hargs c).1 (hargs c).2

end Cert.WDownIdeal.Own

end
-- ==== Proof.WIn.lean ====
/- The gradient at the mixer's input weight: the call and its reference compute one array. -/
module

public import proofs.«01_k».proof.Defs
public import proofs.«01_k».proof.Proof.Gen.WIn
public import proofs.«01_k».proof.Proof.Gen.WInIdeal
public import proofs.«01_k».proof.Proof.Gen.WIn.Frame
public import proofs.«01_k».proof.Proof.Gen.WInIdeal.Frame
public import proofs.«01_k».proof.Proof.Gen.WInRefIdeal
public import proofs.«01_k».proof.Proof.Gen.WInRefIdeal.Run
public import proofs.«01_k».proof.Proof.Norm
public import Idealize.ShloMosaic.Lib.Pipeline.ValueKit
public import Idealize.ShloMosaic.Lib.StableHlo.Run

@[expose] public section

set_option maxRecDepth 16384

noncomputable section

namespace Cert.WInRefIdeal.Own

open Cert.WInRefIdeal Cert.WInRefIdeal.Gen
open Idealize.ShloMosaic Idealize.ShloMosaic.TcCoe
open scoped BigOperators

/-- The product over the rows, the columns in eight parts. -/
def out (X : FVec Ideal ⟨2, ![4160, 6144]⟩ .f32) (Y : FVec Ideal ⟨2, ![4160, 1024]⟩ .f32) : FVec Ideal ⟨3, ![8, 1024, 768]⟩ .bf16 :=
  fun i => ∑ t : Fin 4160, Y (ix2 t (i 1)) * X (ix2 t ⟨(i 0).val * 768 + (i 2).val, by
    have h0 : (i 0).val < 8 := (i 0).isLt; have h2 : (i 2).val < 768 := (i 2).isLt; omega⟩)

/-- The reference's array is the same. -/
theorem ref_at (X : FVec Ideal S4160x6144 .f32) (Y : FVec Ideal S4160x1024 .f32) :
    truncf (F := Ideal) .bf16 (transpose S8x1024x768 [1, 0, 2] (shapeCast _ (transpose S1024x6144 [1, 0] (Host.dotGeneral dot_S4160x6144_S4160x1024_S6144x1024_0_0_1_1_n_n none X Y) transposes_S6144x1024_S1024x6144_1_0) shapeCasts_S1024x6144_S1024x8x768) transposes_S1024x8x768_S8x1024x768_1_0_2) bitsLt_bf16_f32 = out X Y := by
  funext i
  idx_vars i
  pointwise
  exact congrArg (fun f : Fin 4160 → EReal => ∑ p, f p) (funext fun p => mul_comm _ _)

end Cert.WInRefIdeal.Own

namespace Cert.WInIdeal.Own

open Cert.WInIdeal Cert.WInIdeal.Gen
open Idealize.ShloMosaic Idealize.ShloMosaic.TcCoe Idealize.SL.Sem
open Cert.Norm (nrm)
open Cert.WInRefIdeal.Own (out ref_at)
open scoped BigOperators

theorem pay_at (x : Vec Ideal S4160x1024 .bf16) (y : Vec Ideal S4160x768 .bf16) (a : Fin 1) (p : Fin 1024) (k : Fin 768) :
    k0_pay3 (k0_pay2 k0_pay1 x y) (ix3 a p k) = ∑ t : Fin 4160, (x (ix2 t p) : EReal) * y (ix2 t k) := by
  pointwise [k0_pay1, k0_pay2, k0_pay3]

section
variable (m : (ℓ : Loc nD τ sig) → Buf (Elt Ideal) ℓ) (c : Dev nD)

abbrev arg0 : FVec Ideal S4160x6144 .f32 := m ((c.tc : Thread nD τ).loc main_arg0)
abbrev arg1 : FVec Ideal S4160x1024 .f32 := m ((c.tc : Thread nD τ).loc main_arg1)
abbrev arg2 : FVec Ideal S1x1024 .f32 := m ((c.tc : Thread nD τ).loc main_arg2)

theorem V0_eq : V m c main_v0 = truncf (F := Ideal) (φ := .f32) (s := S4160x6144) .bf16 (arg0 m c) bitsLt_bf16_f32 := by
  unfold V; after_results_simp; try rfl
set_option maxHeartbeats 4000000 in
theorem V1_eq : V m c main_v13 = truncf (F := Ideal) (φ := .f32) (s := S4160x1024) .bf16 (nrm (arg1 m c) (arg2 m c)) bitsLt_bf16_f32 := by
  unfold V; after_results_simp; try rfl

theorem idx0 : ∀ t, win0_0.index t = ![0, 0] := by decide +kernel
theorem idx1 : ∀ t, win0_1.index t = ![0, t.val] := by decide +kernel
theorem idx2 : ∀ t, win0_2.index t = ![t.val, 0, 0] := by decide +kernel

theorem blk0_at (t : Fin cfg0.N) (p : Fin 4160) (q : Fin 1024) : iblk m c 0 t (ix2 p q) = nrm (arg1 m c) (arg2 m c) (ix2 p q) := by
  refine Eq.trans ?_ (congrFun (V1_eq m c) _); blk_ext [iblk, V, idx0]
theorem blk1_at (t : Fin cfg0.N) (p : Fin 4160) (q : Fin 768) :
    iblk m c 1 t (ix2 p q) = arg0 m c (ix2 p ⟨t.val * 768 + q.val, by have h : t.val < 8 := t.isLt; omega⟩) := by
  refine Eq.trans ?_ (congrFun (V0_eq m c) _); blk_ext [iblk, V, idx1]

theorem at2 (G : FVec Ideal S8x1024x768 .bf16) (t : Fin cfg0.N) (a : Fin 1) (p : Fin 1024) (k : Fin 768) :
    G (((View.whole main_v14).slice (win0_2.rect t)).emb (ix3 a p k)) = G (ix3 t p k) := by blk_ext [idx2]

theorem arr : (dats m 0 c).arrAt 2 (cfgs 0).N = out (arg0 m c) (nrm (arg1 m c) (arg2 m c)) := by
  refine (dats m 0 c).arrAt_eq_of_covers 2 _ (by decide +kernel) fun t hf y => ?_
  blk_simp
  rw [after0_2]
  unfold outsAt0
  frame_out
  idx_vars y
  refine (pay_at _ _ _ _ _).trans ?_
  refine Eq.trans ?_ (at2 (out (arg0 m c) (nrm (arg1 m c) (arg2 m c))) t _ _ _).symm
  exact congrArg (fun f : Fin 4160 → EReal => ∑ p, f p) (funext fun p => congrArg₂ (fun a b : EReal => a * b) (blk0_at m c t p _) (blk1_at m c t p _))

end

/-- The call and the reference end with one array. -/
theorem algebraic : Cert.algebraic_WInIdeal_WInRefIdeal (hWInIdeal := Cert.WInIdeal.Gen.facts) (hWInRefIdeal := Cert.WInRefIdeal.Gen.facts) := by
  intro m g m' g' _ hargs
  have run := Cert.WInIdeal.Gen.run_main m g
  have h := θ_run_and (unchanged m g) run
  refine ⟨fun c => out (arg0 m c) (nrm (arg1 m c) (arg2 m c)), (θ_run defs _ _).mono (fun r h c => ⟨((h.2 c).1 2).trans (arr m c), h.1 c⟩) h,
    (θ_run Cert.WInRefIdeal.defs _ _).mono (fun r h c => ⟨(h c).1.trans ?_, (h c).2⟩) (Cert.WInRefIdeal.Value.run (F := Ideal) m' g')⟩
  refine (ref_at _ (nrm _ _)).trans ?_
  exact congrArg₂ out (hargs c).1 (congrArg₂ nrm (hargs c).2.1 (hargs c).2.2.1)

end Cert.WInIdeal.Own

end
-- ==== Proof.WProj.lean ====
/- The gradient at the three projections' weight: the call and its reference compute one array. -/
module

public import proofs.«01_k».proof.Defs
public import proofs.«01_k».proof.Proof.Gen.WProj
public import proofs.«01_k».proof.Proof.Gen.WProjIdeal
public import proofs.«01_k».proof.Proof.Gen.WProj.Frame
public import proofs.«01_k».proof.Proof.Gen.WProjIdeal.Frame
public import proofs.«01_k».proof.Proof.Gen.WProjRefIdeal
public import proofs.«01_k».proof.Proof.Gen.WProjRefIdeal.Run
public import Idealize.ShloMosaic.Lib.Pipeline.ValueKit
public import Idealize.ShloMosaic.Lib.StableHlo.Run

@[expose] public section

set_option maxRecDepth 16384

noncomputable section

namespace Cert.WProjRefIdeal.Own

open Cert.WProjRefIdeal Cert.WProjRefIdeal.Gen
open Idealize.ShloMosaic Idealize.ShloMosaic.TcCoe
open scoped BigOperators

/-- Three products over the rows, the rows of each in eight parts. -/
def out (X Y : FVec Ideal ⟨2, ![4160, 3072]⟩ .f32) : FVec Ideal ⟨4, ![8, 3, 128, 1024]⟩ .bf16 :=
  fun i => ∑ t : Fin 4160, X (ix2 t ⟨(i 1).val * 1024 + ((i 0).val * 128 + (i 2).val), by
      have h0 : (i 0).val < 8 := (i 0).isLt; have h1 : (i 1).val < 3 := (i 1).isLt; have h2 : (i 2).val < 128 := (i 2).isLt; omega⟩)
    * Y (ix2 t ⟨(i 1).val * 1024 + (i 3).val, by have h1 : (i 1).val < 3 := (i 1).isLt; have h3 : (i 3).val < 1024 := (i 3).isLt; omega⟩)

/-- The reference's array is the same. -/
theorem ref_at (X : FVec Ideal S4160x3072 .f32) (Y : FVec Ideal S4160x3072 .f32) :
    truncf (F := Ideal) .bf16 ((concatenate S8x3x128x1024 1 [⟨S8x1x128x1024, ((broadcastInDim S8x1x128x1024 ![0, 2, 3] bcast_S8x128x1024_S8x1x128x1024_0_2_3 (shapeCast _ (transpose S1024x1024 [1, 0] (Host.dotGeneral dot_S4160x1024_S4160x1024_S1024x1024_0_0_1_1_n_n none (extractStridedSlice S4160x1024 ![0, 0] Y slices_S4160x3072_S4160x1024_0_0) (extractStridedSlice S4160x1024 ![0, 0] X slices_S4160x3072_S4160x1024_0_0)) transposes_S1024x1024_S1024x1024_1_0) shapeCasts_S1024x1024_S8x128x1024)) : (⟨S8x1x128x1024, .f32⟩ : BufTy).Contents (Elt Ideal))⟩, ⟨S8x1x128x1024, ((broadcastInDim S8x1x128x1024 ![0, 2, 3] bcast_S8x128x1024_S8x1x128x1024_0_2_3 (shapeCast _ (transpose S1024x1024 [1, 0] (Host.dotGeneral dot_S4160x1024_S4160x1024_S1024x1024_0_0_1_1_n_n none (extractStridedSlice S4160x1024 ![0, 1024] Y slices_S4160x3072_S4160x1024_0_1024) (extractStridedSlice S4160x1024 ![0, 1024] X slices_S4160x3072_S4160x1024_0_1024)) transposes_S1024x1024_S1024x1024_1_0) shapeCasts_S1024x1024_S8x128x1024)) : (⟨S8x1x128x1024, .f32⟩ : BufTy).Contents (Elt Ideal))⟩, ⟨S8x1x128x1024, ((broadcastInDim S8x1x128x1024 ![0, 2, 3] bcast_S8x128x1024_S8x1x128x1024_0_2_3 (shapeCast _ (transpose S1024x1024 [1, 0] (Host.dotGeneral dot_S4160x1024_S4160x1024_S1024x1024_0_0_1_1_n_n none (extractStridedSlice S4160x1024 ![0, 2048] Y slices_S4160x3072_S4160x1024_0_2048) (extractStridedSlice S4160x1024 ![0, 2048] X slices_S4160x3072_S4160x1024_0_2048)) transposes_S1024x1024_S1024x1024_1_0) shapeCasts_S1024x1024_S8x128x1024)) : (⟨S8x1x128x1024, .f32⟩ : BufTy).Contents (Elt Ideal))⟩] concatenates_S8x1x128x1024_S8x1x128x1024_S8x1x128x1024_S8x3x128x1024_d1 : (⟨S8x3x128x1024, .f32⟩ : BufTy).Contents (Elt Ideal))) bitsLt_bf16_f32 = out X Y := by
  funext i
  idx_vars i
  pointwise
  have b1 : i1.val < 3 := i1.isLt
  by_cases h : i1.val < 1
  · rw [dif_pos h]
    exact congrArg (fun f : Fin 4160 → EReal => ∑ p, f p) (funext fun p => (mul_comm _ _).trans (congrArg₂ (fun a b => (X (ix2 p a) : EReal) * Y (ix2 p b))
      (Fin.ext (by show i0.val * 128 + i2.val = i1.val * 1024 + (i0.val * 128 + i2.val); omega)) (Fin.ext (by show i3.val = i1.val * 1024 + i3.val; omega))))
  rw [dif_neg h]
  by_cases h' : i1.val - 1 < 1
  · rw [dif_pos h']
    exact congrArg (fun f : Fin 4160 → EReal => ∑ p, f p) (funext fun p => (mul_comm _ _).trans (congrArg₂ (fun a b => (X (ix2 p a) : EReal) * Y (ix2 p b))
      (Fin.ext (by show 1024 + (i0.val * 128 + i2.val) = i1.val * 1024 + (i0.val * 128 + i2.val); omega)) (Fin.ext (by show 1024 + i3.val = i1.val * 1024 + i3.val; omega))))
  · rw [dif_neg h']
    exact congrArg (fun f : Fin 4160 → EReal => ∑ p, f p) (funext fun p => (mul_comm _ _).trans (congrArg₂ (fun a b => (X (ix2 p a) : EReal) * Y (ix2 p b))
      (Fin.ext (by show 2048 + (i0.val * 128 + i2.val) = i1.val * 1024 + (i0.val * 128 + i2.val); omega)) (Fin.ext (by show 2048 + i3.val = i1.val * 1024 + i3.val; omega))))

end Cert.WProjRefIdeal.Own

namespace Cert.WProjIdeal.Own

open Cert.WProjIdeal Cert.WProjIdeal.Gen
open Idealize.ShloMosaic Idealize.ShloMosaic.TcCoe Idealize.SL.Sem
open Cert.WProjRefIdeal.Own (out ref_at)
open scoped BigOperators

theorem pay_at (x y : Vec Ideal S4160x1024 .bf16) (r : Fin 8) (a : Fin 1) (p : Fin 128) (k : Fin 1024) :
    k0_pay3 (k0_pay2 k0_pay1 x y) (ix4 r a p k) = ∑ t : Fin 4160, (x (ix2 t ⟨r.val * 128 + p.val, by omega⟩) : EReal) * y (ix2 t k) := by
  pointwise [k0_pay1, k0_pay2, k0_pay3]

section
variable (m : (ℓ : Loc nD τ sig) → Buf (Elt Ideal) ℓ) (c : Dev nD)

abbrev arg0 : FVec Ideal S4160x3072 .f32 := m ((c.tc : Thread nD τ).loc main_arg0)
abbrev arg1 : FVec Ideal S4160x3072 .f32 := m ((c.tc : Thread nD τ).loc main_arg1)

theorem V0_eq : V m c main_v0 = truncf (F := Ideal) (φ := .f32) (s := S4160x3072) .bf16 (arg0 m c) bitsLt_bf16_f32 := by
  unfold V; after_results_simp; try rfl
theorem V1_eq : V m c main_v1 = truncf (F := Ideal) (φ := .f32) (s := S4160x3072) .bf16 (arg1 m c) bitsLt_bf16_f32 := by
  unfold V; after_results_simp; try rfl

theorem idx0 : ∀ t, win0_0.index t = ![0, t.val] := by decide +kernel
theorem idx1 : ∀ t, win0_1.index t = ![0, t.val] := by decide +kernel
theorem idx2 : ∀ t, win0_2.index t = ![0, t.val, 0, 0] := by decide +kernel

theorem blk0_at (t : Fin cfg0.N) (p : Fin 4160) (q : Fin 1024) :
    iblk m c 0 t (ix2 p q) = arg0 m c (ix2 p ⟨t.val * 1024 + q.val, by have h : t.val < 3 := t.isLt; omega⟩) := by
  refine Eq.trans ?_ (congrFun (V0_eq m c) _); blk_ext [iblk, V, idx0]
theorem blk1_at (t : Fin cfg0.N) (p : Fin 4160) (q : Fin 1024) :
    iblk m c 1 t (ix2 p q) = arg1 m c (ix2 p ⟨t.val * 1024 + q.val, by have h : t.val < 3 := t.isLt; omega⟩) := by
  refine Eq.trans ?_ (congrFun (V1_eq m c) _); blk_ext [iblk, V, idx1]

theorem at2 (G : FVec Ideal S8x3x128x1024 .bf16) (t : Fin cfg0.N) (r : Fin 8) (a : Fin 1) (p : Fin 128) (k : Fin 1024) :
    G (((View.whole main_v2).slice (win0_2.rect t)).emb (ix4 r a p k)) = G (ix4 r t p k) := by blk_ext [idx2]

theorem arr : (dats m 0 c).arrAt 2 (cfgs 0).N = out (arg0 m c) (arg1 m c) := by
  refine (dats m 0 c).arrAt_eq_of_covers 2 _ (by decide +kernel) fun t hf y => ?_
  blk_simp
  rw [after0_2]
  unfold outsAt0
  frame_out
  idx_vars y
  refine (pay_at _ _ _ _ _ _).trans ?_
  refine Eq.trans ?_ (at2 (out (arg0 m c) (arg1 m c)) t _ _ _ _).symm
  exact congrArg (fun f : Fin 4160 → EReal => ∑ p, f p) (funext fun p => congrArg₂ (fun a b : EReal => a * b) (blk0_at m c t p _) (blk1_at m c t p _))

end

/-- The call and the reference end with one array. -/
theorem algebraic : Cert.algebraic_WProjIdeal_WProjRefIdeal (hWProjIdeal := Cert.WProjIdeal.Gen.facts) (hWProjRefIdeal := Cert.WProjRefIdeal.Gen.facts) := by
  intro m g m' g' _ hargs
  have run := Cert.WProjIdeal.Gen.run_main m g
  have h := θ_run_and (unchanged m g) run
  refine ⟨fun c => out (arg0 m c) (arg1 m c), (θ_run defs _ _).mono (fun r h c => ⟨((h.2 c).1 2).trans (arr m c), h.1 c⟩) h,
    (θ_run Cert.WProjRefIdeal.defs _ _).mono (fun r h c => ⟨(h c).1.trans ?_, (h c).2⟩) (Cert.WProjRefIdeal.Value.run (F := Ideal) m' g')⟩
  refine (ref_at _ _).trans ?_
  exact congrArg₂ out (hargs c).1 (hargs c).2

end Cert.WProjIdeal.Own

end
-- ==== Proof.WGates.lean ====
/- The gradient at the gates' block-diagonal weight: the call and its reference compute one array. -/
module

public import proofs.«01_k».proof.Defs
public import proofs.«01_k».proof.Proof.Gen.WGates
public import proofs.«01_k».proof.Proof.Gen.WGatesIdeal
public import proofs.«01_k».proof.Proof.Gen.WGates.Frame
public import proofs.«01_k».proof.Proof.Gen.WGatesIdeal.Frame
public import proofs.«01_k».proof.Proof.Gen.WGatesRefIdeal
public import proofs.«01_k».proof.Proof.Gen.WGatesRefIdeal.Run
public import Idealize.ShloMosaic.Lib.Pipeline.ValueKit
public import Idealize.ShloMosaic.Lib.StableHlo.Run

@[expose] public section

set_option maxRecDepth 16384

noncomputable section

namespace Cert.WGatesRefIdeal.Own

open Cert.WGatesRefIdeal Cert.WGatesRefIdeal.Gen
open Idealize.ShloMosaic Idealize.ShloMosaic.TcCoe
open scoped BigOperators

/-- Eight products over the rows, one for each block of each gate, the rows of each in eight parts. -/
def out (X : FVec Ideal ⟨2, ![4160, 1024]⟩ .f32) (Y : FVec Ideal ⟨2, ![4160, 2048]⟩ .f32) : FVec Ideal ⟨4, ![8, 8, 32, 256]⟩ .bf16 :=
  fun i => ∑ t : Fin 4160, X (ix2 t ⟨(i 1).val % 4 * 256 + ((i 0).val * 32 + (i 2).val), by
      have h0 : (i 0).val < 8 := (i 0).isLt; have h2 : (i 2).val < 32 := (i 2).isLt; omega⟩)
    * Y (ix2 t ⟨(i 1).val * 256 + (i 3).val, by have h1 : (i 1).val < 8 := (i 1).isLt; have h3 : (i 3).val < 256 := (i 3).isLt; omega⟩)

/-- The reference's array is the same. -/
theorem ref_at (X : FVec Ideal S4160x1024 .f32) (Y : FVec Ideal S4160x2048 .f32) :
    truncf (F := Ideal) .bf16 (transpose S8x8x32x256 [1, 0, 2, 3] (shapeCast _ (concatenate S8x256x256 0 [⟨S4x256x256, (transpose S4x256x256 [0, 2, 1] (Host.dotGeneral dot_S4x256x4160_S4160x4x256_S4x256x256_2_0_1_2_0_1 none (transpose S4x256x4160 [1, 2, 0] (shapeCast _ (extractStridedSlice S4160x1024 ![0, 0] Y slices_S4160x2048_S4160x1024_0_0) shapeCasts_S4160x1024_S4160x4x256) transposes_S4160x4x256_S4x256x4160_1_2_0) (shapeCast _ X shapeCasts_S4160x1024_S4160x4x256)) transposes_S4x256x256_S4x256x256_0_2_1)⟩, ⟨S4x256x256, (transpose S4x256x256 [0, 2, 1] (Host.dotGeneral dot_S4x256x4160_S4160x4x256_S4x256x256_2_0_1_2_0_1 none (transpose S4x256x4160 [1, 2, 0] (shapeCast _ (extractStridedSlice S4160x1024 ![0, 1024] Y slices_S4160x2048_S4160x1024_0_1024) shapeCasts_S4160x1024_S4160x4x256) transposes_S4160x4x256_S4x256x4160_1_2_0) (shapeCast _ X shapeCasts_S4160x1024_S4160x4x256)) transposes_S4x256x256_S4x256x256_0_2_1)⟩] concatenates_S4x256x256_S4x256x256_S8x256x256_d0) shapeCasts_S8x256x256_S8x8x32x256) transposes_S8x8x32x256_S8x8x32x256_1_0_2_3) bitsLt_bf16_f32 = out X Y := by
  funext i
  idx_vars i
  pointwise
  have b1 : i1.val < 8 := i1.isLt
  by_cases h : i1.val < 4
  · rw [dif_pos h]
    exact congrArg (fun f : Fin 4160 → EReal => ∑ p, f p) (funext fun p => (mul_comm _ _).trans (congrArg₂ (fun a b => (X (ix2 p a) : EReal) * Y (ix2 p b))
      (Fin.ext (by show i1.val * 256 + (i0.val * 32 + i2.val) = i1.val % 4 * 256 + (i0.val * 32 + i2.val); omega)) (Fin.ext (by show i1.val * 256 + i3.val = i1.val * 256 + i3.val; omega))))
  · rw [dif_neg h]
    exact congrArg (fun f : Fin 4160 → EReal => ∑ p, f p) (funext fun p => (mul_comm _ _).trans (congrArg₂ (fun a b => (X (ix2 p a) : EReal) * Y (ix2 p b))
      (Fin.ext (by show (i1.val - 4) * 256 + (i0.val * 32 + i2.val) = i1.val % 4 * 256 + (i0.val * 32 + i2.val); omega)) (Fin.ext (by show 1024 + ((i1.val - 4) * 256 + i3.val) = i1.val * 256 + i3.val; omega))))

end Cert.WGatesRefIdeal.Own

namespace Cert.WGatesIdeal.Own

open Cert.WGatesIdeal Cert.WGatesIdeal.Gen
open Idealize.ShloMosaic Idealize.ShloMosaic.TcCoe Idealize.SL.Sem
open Cert.WGatesRefIdeal.Own (out ref_at)
open scoped BigOperators

theorem pay_at (x y : Vec Ideal S4160x256 .bf16) (r : Fin 8) (a : Fin 1) (p : Fin 32) (k : Fin 256) :
    k0_pay3 (k0_pay2 k0_pay1 x y) (ix4 r a p k) = ∑ t : Fin 4160, (x (ix2 t ⟨r.val * 32 + p.val, by omega⟩) : EReal) * y (ix2 t k) := by
  pointwise [k0_pay1, k0_pay2, k0_pay3]

section
variable (m : (ℓ : Loc nD τ sig) → Buf (Elt Ideal) ℓ) (c : Dev nD)

abbrev arg0 : FVec Ideal S4160x1024 .f32 := m ((c.tc : Thread nD τ).loc main_arg0)
abbrev arg1 : FVec Ideal S4160x2048 .f32 := m ((c.tc : Thread nD τ).loc main_arg1)

theorem V0_eq : V m c main_v0 = truncf (F := Ideal) (φ := .f32) (s := S4160x1024) .bf16 (arg0 m c) bitsLt_bf16_f32 := by
  unfold V; after_results_simp; try rfl
theorem V1_eq : V m c main_v1 = truncf (F := Ideal) (φ := .f32) (s := S4160x2048) .bf16 (arg1 m c) bitsLt_bf16_f32 := by
  unfold V; after_results_simp; try rfl

theorem idx0 : ∀ t, win0_0.index t = ![0, t.val % 4] := by decide +kernel
theorem idx1 : ∀ t, win0_1.index t = ![0, t.val] := by decide +kernel
theorem idx2 : ∀ t, win0_2.index t = ![0, t.val, 0, 0] := by decide +kernel

theorem blk0_at (t : Fin cfg0.N) (p : Fin 4160) (q : Fin 256) :
    iblk m c 0 t (ix2 p q) = arg0 m c (ix2 p ⟨t.val % 4 * 256 + q.val, by omega⟩) := by
  refine Eq.trans ?_ (congrFun (V0_eq m c) _); blk_ext [iblk, V, idx0]
theorem blk1_at (t : Fin cfg0.N) (p : Fin 4160) (q : Fin 256) :
    iblk m c 1 t (ix2 p q) = arg1 m c (ix2 p ⟨t.val * 256 + q.val, by have h : t.val < 8 := t.isLt; omega⟩) := by
  refine Eq.trans ?_ (congrFun (V1_eq m c) _); blk_ext [iblk, V, idx1]

theorem at2 (G : FVec Ideal S8x8x32x256 .bf16) (t : Fin cfg0.N) (r : Fin 8) (a : Fin 1) (p : Fin 32) (k : Fin 256) :
    G (((View.whole main_v2).slice (win0_2.rect t)).emb (ix4 r a p k)) = G (ix4 r t p k) := by blk_ext [idx2]

theorem arr : (dats m 0 c).arrAt 2 (cfgs 0).N = out (arg0 m c) (arg1 m c) := by
  refine (dats m 0 c).arrAt_eq_of_covers 2 _ (by decide +kernel) fun t hf y => ?_
  blk_simp
  rw [after0_2]
  unfold outsAt0
  frame_out
  idx_vars y
  refine (pay_at _ _ _ _ _ _).trans ?_
  refine Eq.trans ?_ (at2 (out (arg0 m c) (arg1 m c)) t _ _ _ _).symm
  exact congrArg (fun f : Fin 4160 → EReal => ∑ p, f p) (funext fun p => congrArg₂ (fun a b : EReal => a * b) (blk0_at m c t p _) (blk1_at m c t p _))

end

/-- The call and the reference end with one array. -/
theorem algebraic : Cert.algebraic_WGatesIdeal_WGatesRefIdeal (hWGatesIdeal := Cert.WGatesIdeal.Gen.facts) (hWGatesRefIdeal := Cert.WGatesRefIdeal.Gen.facts) := by
  intro m g m' g' _ hargs
  have run := Cert.WGatesIdeal.Gen.run_main m g
  have h := θ_run_and (unchanged m g) run
  refine ⟨fun c => out (arg0 m c) (arg1 m c), (θ_run defs _ _).mono (fun r h c => ⟨((h.2 c).1 2).trans (arr m c), h.1 c⟩) h,
    (θ_run Cert.WGatesRefIdeal.defs _ _).mono (fun r h c => ⟨(h c).1.trans ?_, (h c).2⟩) (Cert.WGatesRefIdeal.Value.run (F := Ideal) m' g')⟩
  refine (ref_at _ _).trans ?_
  exact congrArg₂ out (hargs c).1 (hargs c).2

end Cert.WGatesIdeal.Own

end
-- ==== Proof.Upd.lean ====
/- One AdamW step on one element, and the parts of a gradient added. -/
module

public import Idealize.ShloMosaic.PureOps
public import proofs.«01_k».proof.Proof.FfnSpec

@[expose] public section

noncomputable section

namespace Cert.Upd

open Idealize.ShloMosaic
open scoped BigOperators

/-- The new first moment. -/
def mom (g m : EReal) : EReal := Ideal.ofBits .f32 0x3F666666#32 * m + Ideal.ofBits .f32 0x3DCCCCCD#32 * g
/-- The new second moment. -/
def sec (g v : EReal) : EReal := Ideal.ofBits .f32 0x3F7FBE77#32 * v + Ideal.ofBits .f32 0x3A83126F#32 * (g * g)
/-- The step. -/
def step (g w m v : EReal) : EReal :=
  Ideal.ofBits .f32 0xBA83126F#32 * (Ideal.div (Ideal.div (mom g m) (Ideal.ofBits .f32 0x3F26BD02#32))
    (Ideal.sqrt (Ideal.div (sec g v) (Ideal.ofBits .f32 0x3C231ACC#32)) + Ideal.ofBits .f32 0x322BCC77#32) + Ideal.ofBits .f32 0x3C23D70A#32 * w)

/-- The part picked by an index, as a sum over all parts. -/
theorem kept {n : ℕ} (k : Fin n) (f : Fin n → EReal) (b : BitVec 32) (hb : b.toNat = k.val) (hn : n ≤ 2 ^ 31) :
    (∑ r : Fin n, if BitVec.ofNat 32 r.val = b then f r else 0) = f k := by
  rw [Finset.sum_eq_single k]
  · rw [if_pos]
    exact BitVec.eq_of_toNat_eq (by rw [hb, BitVec.toNat_ofNat, Nat.mod_eq_of_lt (by have := k.isLt; omega)])
  · intro r _ hr
    refine if_neg fun h => hr (Fin.ext ?_)
    rw [← hb, ← h, BitVec.toNat_ofNat, Nat.mod_eq_of_lt (by have := r.isLt; omega)]
  · intro h
    exact absurd (Finset.mem_univ k) h

/-- Kept where the indices agree, nothing elsewhere. -/
theorem pick (a b : BitVec 32) (x : EReal) :
    Scalar.select (IntOp.cmpi .eq a b) x (id (Ideal.ofBits .f32 0x00000000#32)) = if a = b then x else 0 := by
  by_cases h : a = b
  · simp [Scalar.select, IntOp.cmpi, h]
  · have e : (a == b) = false := beq_eq_false_iff_ne.mpr h
    simp [Scalar.select, IntOp.cmpi, h, e]

/-- A word at least zero and below eight, both read as signed. -/
theorem toNat_lt (b : BitVec 32) (h0 : IntOp.cmpi .sge b 0#32 = 1#1) (h1 : IntOp.cmpi .slt b 8#32 = 1#1) : b.toNat < 8 := by
  simp only [IntOp.cmpi] at h0 h1
  have e0 : (0#32).sle b = true := by
    cases h : (0#32).sle b
    · rw [h] at h0; exact absurd h0 (by decide)
    · rfl
  have e1 : b.slt 8#32 = true := by
    cases h : b.slt 8#32
    · rw [h] at h1; exact absurd h1 (by decide)
    · rfl
  rw [BitVec.sle_eq_decide, decide_eq_true_eq] at e0
  rw [BitVec.slt_eq_decide, decide_eq_true_eq] at e1
  have z : (0#32).toInt = 0 := by decide
  have z8 : (8#32).toInt = 8 := by decide
  rw [z] at e0; rw [z8] at e1
  rw [BitVec.toInt_eq_toNat_cond] at e0 e1
  split at e0 <;> omega

/-- An array of one element has one index. -/
theorem one (i j : (⟨1, ![1]⟩ : Shape).Idx) : i = j := by
  funext a
  fin_cases a
  have hi : (i 0).val < 1 := (i 0).isLt
  have hj : (j 0).val < 1 := (j 0).isLt
  exact Fin.ext (show (i 0).val = (j 0).val by omega)

/-- A block of `R` rows of one part of eight, of `n` blocks each, lies inside the array. -/
theorem inside (n R C : ℕ) (hn : n < 2 ^ 32) (b : BitVec 32) (h : b.toNat < 8) (x : ℕ) (hx : x < n) (a : Fin 3) :
    ((![b.toNat, (BitVec.ofNat 32 x).toNat, (0#32).toNat] : Fin 3 → ℕ) a + 1) * (![1, R, C] : Fin 3 → ℕ) a ≤ (![8, n * R, C] : Fin 3 → ℕ) a := by
  have hi : (BitVec.ofNat 32 x).toNat < n := by rw [BitVec.toNat_ofNat]; omega
  fin_cases a
  · show (b.toNat + 1) * 1 ≤ 8; omega
  · exact Nat.mul_le_mul_right R hi
  · show (0 + 1) * C ≤ C; omega

/-- A block's place along each axis, the blocks following one another along the rows. -/
theorem rows {f : Fin 3 → ℕ} {t : ℕ} (e : f = ![0, t, 0]) :
    f 0 = 0 ∧ (∀ s p, f 0 * s + p = p) ∧ (∀ s p, f 1 * s + p = t * s + p) ∧ ∀ s p, f 2 * s + p = p := by
  subst e
  exact ⟨rfl, fun s p => by show 0 * s + p = p; omega, fun s p => rfl, fun s p => by show 0 * s + p = p; omega⟩

/-- A block's cell, the array being one block deep and one block wide. -/
theorem cell {f : Fin 3 → ℕ} {t : ℕ} (e : f = ![0, t, 0]) (β : Fin 3 → ℕ) (h0 : β 0 < 1) (h1 : β 1 = t) (h2 : β 2 < 1) (x : Fin 3) : f x = β x := by
  subst e
  fin_cases x
  · show 0 = β 0; omega
  · exact h1.symm
  · show 0 = β 2; omega

section
variable {N K R C : ℕ} (O : FVec Ideal ⟨3, ![N, R, C]⟩ .f32) (P : FVec Ideal ⟨3, ![K, R, C]⟩ .f32) (W M V : FVec Ideal ⟨3, ![1, R, C]⟩ .f32) (k : Fin N)

/-- The gradient: the part kept and the parts that came. -/
def gr (p : Fin R) (q : Fin C) : EReal := O (ix3 k p q) + ∑ r : Fin K, P (ix3 r p q)
def oG : FVec Ideal ⟨3, ![1, R, C]⟩ .f32 := fun i => gr O P k (i 1) (i 2)
def oW : FVec Ideal ⟨3, ![1, R, C]⟩ .f32 := fun i => step (gr O P k (i 1) (i 2)) (W i) (M i) (V i)
def oM : FVec Ideal ⟨3, ![1, R, C]⟩ .f32 := fun i => mom (gr O P k (i 1) (i 2)) (M i)
def oV : FVec Ideal ⟨3, ![1, R, C]⟩ .f32 := fun i => sec (gr O P k (i 1) (i 2)) (V i)

end

end Cert.Upd
end
-- ==== Proof.UDown.lean ====
/- The update of a down weight: the call and its reference compute the same four arrays. -/
module

public import proofs.«01_k».proof.Defs
public import proofs.«01_k».proof.Proof.Upd
public import proofs.«01_k».proof.Proof.Gen.UDown
public import proofs.«01_k».proof.Proof.Gen.UDownIdeal
public import proofs.«01_k».proof.Proof.Gen.UDown.Frame
public import proofs.«01_k».proof.Proof.Gen.UDownIdeal.Frame
public import proofs.«01_k».proof.Proof.Gen.UDownRefIdeal
public import proofs.«01_k».proof.Proof.Gen.UDownRefIdeal.Run
public import Idealize.ShloMosaic.Lib.Pipeline.ValueKit
public import Idealize.ShloMosaic.Lib.StableHlo.Run

@[expose] public section

set_option maxRecDepth 16384

noncomputable section

namespace Cert.UDown.Own
open Cert.UDown Cert.UDown.Gen
open Idealize.ShloMosaic Idealize.ShloMosaic.TcCoe
variable {F : FTy → Type} [FloatOps F] (m : (ℓ : Loc nD τ sig) → Buf (Elt F) ℓ)

/-- The index keeps the part read inside the array. -/
theorem ok (h : (m (((0 : Dev nD).tc : Thread nD τ).loc main_arg2) (ix1 0) : BitVec 32).toNat < 8) : Gen.Ok m := by
  unfold Gen.Ok ok0
  intro i
  have e : (tbl m).at 0 (Rect.unit (s := S1) ![0] S1.size inb_S1_S1_0) numel1_S1 = m (((0 : Dev nD).tc : Thread nD τ).loc main_arg2) (ix1 0) := by
    have e0 : tbl m 0 = m (((0 : Dev nD).tc : Thread nD τ).loc main_arg2) := by rfl
    unfold Pipeline.Prefetch.Contents.at
    rw [e0]
    exact congrArg (m (((0 : Dev nD).tc : Thread nD τ).loc main_arg2)) (Cert.Upd.one _ _)
  unfold cc0_transform_0
  rw [e]
  generalize m (((0 : Dev nD).tc : Thread nD τ).loc main_arg2) (ix1 0) = b at h
  refine ⟨fun a => ?_, .inr (Affine.block_words_dvd (of_decide_eq_true rfl) (by decide))⟩
  exact Cert.Upd.inside 2 176 1024 (by decide) b h (i 0) (i 0).isLt a

end Cert.UDown.Own

namespace Cert.Pre_device.Own

open Cert.Pre_device Idealize.ShloMosaic

/-- The shape relations of the precondition. -/
theorem facts : Facts := ⟨by decide⟩

end Cert.Pre_device.Own

namespace Cert.UDownRefIdeal.Own

open Cert.UDownRefIdeal Cert.UDownRefIdeal.Gen
open Idealize.ShloMosaic Idealize.ShloMosaic.TcCoe
open Cert.Upd
open scoped BigOperators

variable (O : FVec Ideal S8x352x1024 .f32) (P : FVec Ideal S7x352x1024 .f32) (b : IVec S1 32) (G W M V : FVec Ideal S1x352x1024 .f32)

/-- The reference's gradient. -/
def grad : FVec Ideal S1x352x1024 .f32 :=
  addf (broadcastInDim S1x352x1024 ![1, 2] bcast_S352x1024_S1x352x1024_1_2 (Host.reduceAdd (select (broadcastInDim S8x352x1024 ![0, 1, 2] bcast_S8x1x1_S8x352x1024_0_1_2 (cmpi .eq (shapeCast _ (iotaInDim S8 32 0) shapeCasts_S8_S8x1x1) (broadcastInDim S8x1x1 ![] bcast_S_S8x1x1 (shapeCast _ b shapeCasts_S1_S_)))) O (broadcastInDim S8x352x1024 ![] bcast_S_S8x352x1024 (id (constant S_ .f32 0x00000000#32)))) (constant S_ .f32 0x00000000#32) reducesTo_S8x352x1024_S352x1024_d0 h_S_)) (broadcastInDim S1x352x1024 ![1, 2] bcast_S352x1024_S1x352x1024_1_2 (Host.reduceAdd P (constant S_ .f32 0x00000000#32) reducesTo_S7x352x1024_S352x1024_d0 h_S_))
theorem grad_eq (hk : (b (ix1 0) : BitVec 32).toNat < 8) : grad O P b = oG O P ⟨(b (ix1 0) : BitVec 32).toNat, hk⟩ := by
  funext i
  idx_vars i
  pointwise [grad, oG, gr]
  refine congrArg₂ (fun a b : EReal => a + b) (Eq.trans (Finset.sum_congr rfl fun r _ => ?_)
    (kept ⟨(b (ix1 0) : BitVec 32).toNat, hk⟩ (fun r => O (ix3 r i1 i2)) (b (ix1 0)) rfl (by decide))) rfl
  exact pick _ _ _
theorem mom_eq : (addf (mulf (broadcastInDim S1x352x1024 ![] bcast_S_S1x352x1024 (constant S_ .f32 0x3F666666#32)) M) (mulf (broadcastInDim S1x352x1024 ![] bcast_S_S1x352x1024 (constant S_ .f32 0x3DCCCCCD#32)) G) : FVec Ideal S1x352x1024 .f32) = fun i => mom (G i) (M i) := by
  funext i
  idx_vars i
  pointwise [mom]
theorem sec_eq : (addf (mulf (broadcastInDim S1x352x1024 ![] bcast_S_S1x352x1024 (constant S_ .f32 0x3F7FBE77#32)) V) (mulf (broadcastInDim S1x352x1024 ![] bcast_S_S1x352x1024 (constant S_ .f32 0x3A83126F#32)) (mulf G G)) : FVec Ideal S1x352x1024 .f32) = fun i => sec (G i) (V i) := by
  funext i
  idx_vars i
  pointwise [sec]
theorem step_eq : (mulf (broadcastInDim S1x352x1024 ![] bcast_S_S1x352x1024 (constant S_ .f32 0xBA83126F#32)) (addf (Host.divf (Host.divf (addf (mulf (broadcastInDim S1x352x1024 ![] bcast_S_S1x352x1024 (constant S_ .f32 0x3F666666#32)) M) (mulf (broadcastInDim S1x352x1024 ![] bcast_S_S1x352x1024 (constant S_ .f32 0x3DCCCCCD#32)) G)) (broadcastInDim S1x352x1024 ![] bcast_S_S1x352x1024 (constant S_ .f32 0x3F26BD02#32))) (addf (Host.sqrt (Host.divf (addf (mulf (broadcastInDim S1x352x1024 ![] bcast_S_S1x352x1024 (constant S_ .f32 0x3F7FBE77#32)) V) (mulf (broadcastInDim S1x352x1024 ![] bcast_S_S1x352x1024 (constant S_ .f32 0x3A83126F#32)) (mulf G G))) (broadcastInDim S1x352x1024 ![] bcast_S_S1x352x1024 (constant S_ .f32 0x3C231ACC#32)))) (broadcastInDim S1x352x1024 ![] bcast_S_S1x352x1024 (constant S_ .f32 0x322BCC77#32)))) (mulf (broadcastInDim S1x352x1024 ![] bcast_S_S1x352x1024 (constant S_ .f32 0x3C23D70A#32)) W)) : FVec Ideal S1x352x1024 .f32) = fun i => step (G i) (W i) (M i) (V i) := by
  funext i
  idx_vars i
  pointwise [step, mom, sec]

end Cert.UDownRefIdeal.Own

namespace Cert.UDownIdeal.Own

open Cert.UDownIdeal Cert.UDownIdeal.Gen
open Idealize.ShloMosaic Idealize.ShloMosaic.TcCoe Idealize.SL.Sem
open Cert.Upd
open Cert.UDownRefIdeal.Own (grad grad_eq step_eq mom_eq sec_eq)
open scoped BigOperators

section
variable (m : (ℓ : Loc nD τ sig) → Buf (Elt Ideal) ℓ) (hO : Gen.Ok m) (c : Dev nD)

abbrev arg0 : FVec Ideal S8x352x1024 .f32 := m ((c.tc : Thread nD τ).loc main_arg0)
abbrev arg1 : FVec Ideal S7x352x1024 .f32 := m ((c.tc : Thread nD τ).loc main_arg1)
abbrev arg3 : FVec Ideal S1x352x1024 .f32 := m ((c.tc : Thread nD τ).loc main_arg3)
abbrev arg4 : FVec Ideal S1x352x1024 .f32 := m ((c.tc : Thread nD τ).loc main_arg4)
abbrev arg5 : FVec Ideal S1x352x1024 .f32 := m ((c.tc : Thread nD τ).loc main_arg5)

theorem V0_eq : V m c main_v0 = truncf (F := Ideal) (φ := .f32) (s := S8x352x1024) .bf16 (arg0 m c) bitsLt_bf16_f32 := by
  unfold V; after_results_simp; try rfl
theorem V1_eq : V m c main_v1 = truncf (F := Ideal) (φ := .f32) (s := S7x352x1024) .bf16 (arg1 m c) bitsLt_bf16_f32 := by
  unfold V; after_results_simp; try rfl

theorem g_at (x0 : Vec Ideal S1x176x1024 .bf16) (x1 x2 x3 x4 x5 x6 x7 : Vec Ideal S1x176x1024 .bf16) (p : Fin 176) (k : Fin 1024) :
    k0_pay3 x0 x1 x2 x3 x4 x5 x6 x7 (ix2 p k) = (x0 (ix3 0 p k) : EReal) + x1 (ix3 0 p k) + x2 (ix3 0 p k) + x3 (ix3 0 p k) + x4 (ix3 0 p k) + x5 (ix3 0 p k) + x6 (ix3 0 p k) + x7 (ix3 0 p k) := by
  pointwise [k0_pay3]

theorem m_at (g : FVec Ideal S176x1024 .f32) (x : Vec Ideal S1x176x1024 .f32) (a : Fin 1) (p : Fin 176) (k : Fin 1024) :
    k0_pay1 (k0_pay4 g x) (ix3 a p k) = mom (g (ix2 p k)) (x (ix3 a p k)) := by
  pointwise [k0_pay1, k0_pay4, mom] <;> rw [Subsingleton.elim a 0]
theorem v_at (g : FVec Ideal S176x1024 .f32) (x : Vec Ideal S1x176x1024 .f32) (a : Fin 1) (p : Fin 176) (k : Fin 1024) :
    k0_pay2 (k0_pay5 g x) (ix3 a p k) = sec (g (ix2 p k)) (x (ix3 a p k)) := by
  pointwise [k0_pay2, k0_pay5, sec] <;> rw [Subsingleton.elim a 0]
theorem w_at (g : FVec Ideal S176x1024 .f32) (x y z : Vec Ideal S1x176x1024 .f32) (a : Fin 1) (p : Fin 176) (k : Fin 1024) :
    k0_pay7 g x y z (ix3 a p k) = step (g (ix2 p k)) (x (ix3 a p k)) (y (ix3 a p k)) (z (ix3 a p k)) := by
  pointwise [k0_pay7, k0_pay4, k0_pay5, step, mom, sec] <;> rw [Subsingleton.elim a 0]

abbrev key : ℕ := (m (((0 : Dev nD).tc : Thread nD τ).loc main_arg2) (ix1 0) : BitVec 32).toNat

theorem at_key : (tbl m).at 0 (Rect.unit (s := S1) ![0] S1.size inb_S1_S1_0) numel1_S1 = m (((0 : Dev nD).tc : Thread nD τ).loc main_arg2) (ix1 0) := by
  have e0 : tbl m 0 = m (((0 : Dev nD).tc : Thread nD τ).loc main_arg2) := by rfl
  unfold Pipeline.Prefetch.Contents.at
  rw [e0]
  exact congrArg (m (((0 : Dev nD).tc : Thread nD τ).loc main_arg2)) (one _ _)
/-- The index keeps the part read inside the array. -/
theorem ok (h : (m (((0 : Dev nD).tc : Thread nD τ).loc main_arg2) (ix1 0) : BitVec 32).toNat < 8) : Gen.Ok m := by
  unfold Gen.Ok ok0
  intro i
  unfold cc0_transform_0
  rw [at_key]
  generalize m (((0 : Dev nD).tc : Thread nD τ).loc main_arg2) (ix1 0) = b at h
  refine ⟨fun a => ?_, .inr (Affine.block_words_dvd (of_decide_eq_true rfl) (by decide))⟩
  exact inside 2 176 1024 (by decide) b h (i 0) (i 0).isLt a

theorem co0 : ∀ t : Fin grid0.N, (BitVec.ofNat 32 (grid0.coords t 0).val).toNat = t.val := by decide +kernel
theorem idx0 (t : Fin (cfgM m hO).N) : ((pcfg0 (F := Ideal)).win (adm m hO) 0).index t = ![key m, t.val, 0] := by
  show cc0_transform_0 inb_S1_S1_0 numel1_S1 (tbl m) (grid0.coords t) = _
  unfold cc0_transform_0
  rw [at_key]
  exact congrArg (fun x => ![key m, x, 0]) (co0 t)
theorem blk0_at (hk : key m < 8) (t : Fin (cfgM m hO).N) (a : Fin 1) (p : Fin 176) (q : Fin 1024) :
    iblk m hO c 0 t (ix3 a p q) = arg0 m c (ix3 ⟨key m, hk⟩ ⟨t.val * 176 + p.val, by have h : t.val < 2 := t.isLt; omega⟩ q) := by
  refine Eq.trans ?_ (congrFun (V0_eq m c) _); blk_ext [iblk, V]
  · exact congrFun (idx0 m hO t) 0
  · exact congrArg (fun x => x * 176 + p.val) (congrFun (idx0 m hO t) 1)
  · exact (congrArg (fun x => x * 1024 + q.val) (congrFun (idx0 m hO t) 2)).trans (by show 0 * 1024 + q.val = q.val; omega)
theorem co1 : ∀ t : Fin grid0.N, cc0_transform_1 (grid0.coords t) = ![0, t.val, 0] := by decide +kernel
theorem blk1_at (t : Fin (cfgM m hO).N) (a : Fin 7) (p : Fin 176) (q : Fin 1024) :
    iblk m hO c 1 t (ix3 a p q) = arg1 m c (ix3 a ⟨t.val * 176 + p.val, by have h : t.val < 2 := t.isLt; omega⟩ q) := by
  refine Eq.trans ?_ (congrFun (V1_eq m c) _); blk_ext [iblk, V]
  · exact (rows (co1 t)).2.1 _ _
  · exact (rows (co1 t)).2.2.1 _ _
  · exact (rows (co1 t)).2.2.2 _ _
theorem ld_at (r : Fin 7) (Y : Vec Ideal S7x176x1024 .bf16) (h : ∀ a, (![r.val, 0, 0] : Fin 3 → ℕ) a + (![1, 176, 1024] : Fin 3 → ℕ) a ≤ S7x176x1024.size a) (p : Fin 176) (q : Fin 1024) :
    View.ld (Val := Elt Ideal) Y (Rect.unit ![r.val, 0, 0] ![1, 176, 1024] h) (ix3 0 p q) = Y (ix3 r p q) := by
  unfold View.ld
  congr 1
  blk_ext
  · simp [LoadRect.idx, Rect.unit]
  · simp [LoadRect.idx, Rect.unit]
  · simp [LoadRect.idx, Rect.unit]
theorem sum_at (X : Vec Ideal S1x176x1024 .bf16) (Y : Vec Ideal S7x176x1024 .bf16) (p : Fin 176) (q : Fin 1024) :
    k0_pay3 X (View.ld (Val := Elt Ideal) Y (Rect.unit ![0, 0, 0] ![1, 176, 1024] inb_S7x176x1024_S1x176x1024_0_0_0))
      (View.ld (Val := Elt Ideal) Y (Rect.unit ![1, 0, 0] ![1, 176, 1024] inb_S7x176x1024_S1x176x1024_1_0_0))
      (View.ld (Val := Elt Ideal) Y (Rect.unit ![2, 0, 0] ![1, 176, 1024] inb_S7x176x1024_S1x176x1024_2_0_0))
      (View.ld (Val := Elt Ideal) Y (Rect.unit ![3, 0, 0] ![1, 176, 1024] inb_S7x176x1024_S1x176x1024_3_0_0))
      (View.ld (Val := Elt Ideal) Y (Rect.unit ![4, 0, 0] ![1, 176, 1024] inb_S7x176x1024_S1x176x1024_4_0_0))
      (View.ld (Val := Elt Ideal) Y (Rect.unit ![5, 0, 0] ![1, 176, 1024] inb_S7x176x1024_S1x176x1024_5_0_0))
      (View.ld (Val := Elt Ideal) Y (Rect.unit ![6, 0, 0] ![1, 176, 1024] inb_S7x176x1024_S1x176x1024_6_0_0)) (ix2 p q)
    = (X (ix3 0 p q) : EReal) + ∑ r : Fin 7, (Y (ix3 r p q) : EReal) := by
  refine (g_at _ _ _ _ _ _ _ _ p q).trans ?_
  rw [Fin.sum_univ_seven]
  simp only [← add_assoc]
  exact congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (congrArg (fun b : EReal => (X (ix3 0 p q) : EReal) + b)
      (ld_at 0 Y _ p q)) (ld_at 1 Y _ p q)) (ld_at 2 Y _ p q)) (ld_at 3 Y _ p q)) (ld_at 4 Y _ p q)) (ld_at 5 Y _ p q)) (ld_at 6 Y _ p q)
/-- The parts read in a block add up to the gradient there. -/
theorem parts (hk : key m < 8) (t : Fin (cfgM m hO).N) {X : Vec Ideal S1x176x1024 .bf16} {Y : Vec Ideal S7x176x1024 .bf16} (hX : X = iblk m hO c 0 t) (hY : Y = iblk m hO c 1 t)
    (p : Fin 176) (q : Fin 1024) : (X (ix3 0 p q) : EReal) + ∑ r : Fin 7, (Y (ix3 r p q) : EReal)
    = gr (arg0 m c) (arg1 m c) ⟨key m, hk⟩ ⟨t.val * 176 + p.val, by have h : t.val < 2 := t.isLt; omega⟩ q :=
  congrArg₂ (fun a b : EReal => a + b) ((congrFun hX _).trans (blk0_at m hO c hk t 0 p q))
    (Finset.sum_congr rfl fun r _ => (congrFun hY _).trans (blk1_at m hO c t r p q))
theorem co2 : ∀ t : Fin grid0.N, cc0_transform_3 (grid0.coords t) = ![0, t.val, 0] := by decide +kernel
theorem blk2_at (t : Fin (cfgM m hO).N) (a : Fin 1) (p : Fin 176) (q : Fin 1024) :
    iblk m hO c 2 t (ix3 a p q) = arg3 m c (ix3 a ⟨t.val * 176 + p.val, by have h : t.val < 2 := t.isLt; omega⟩ q) := by
  blk_ext [iblk, V]
  · exact (rows (co2 t)).1
  · exact (rows (co2 t)).2.2.1 _ _
  · exact (rows (co2 t)).2.2.2 _ _
theorem co3 : ∀ t : Fin grid0.N, cc0_transform_4 (grid0.coords t) = ![0, t.val, 0] := by decide +kernel
theorem blk3_at (t : Fin (cfgM m hO).N) (a : Fin 1) (p : Fin 176) (q : Fin 1024) :
    iblk m hO c 3 t (ix3 a p q) = arg4 m c (ix3 a ⟨t.val * 176 + p.val, by have h : t.val < 2 := t.isLt; omega⟩ q) := by
  blk_ext [iblk, V]
  · exact (rows (co3 t)).1
  · exact (rows (co3 t)).2.2.1 _ _
  · exact (rows (co3 t)).2.2.2 _ _
theorem co4 : ∀ t : Fin grid0.N, cc0_transform_5 (grid0.coords t) = ![0, t.val, 0] := by decide +kernel
theorem blk4_at (t : Fin (cfgM m hO).N) (a : Fin 1) (p : Fin 176) (q : Fin 1024) :
    iblk m hO c 4 t (ix3 a p q) = arg5 m c (ix3 a ⟨t.val * 176 + p.val, by have h : t.val < 2 := t.isLt; omega⟩ q) := by
  blk_ext [iblk, V]
  · exact (rows (co4 t)).1
  · exact (rows (co4 t)).2.2.1 _ _
  · exact (rows (co4 t)).2.2.2 _ _
theorem g5_at (g : FVec Ideal S176x1024 .f32) (a : Fin 1) (p : Fin 176) (k : Fin 1024) : k0_pay6 g (ix3 a p k) = g (ix2 p k) := by
  pointwise [k0_pay6]

theorem co5 : ∀ t : Fin grid0.N, cc0_transform_6 (grid0.coords t) = ![0, t.val, 0] := by decide +kernel
theorem cov5 (a : (pcfg0 (F := Ideal)).Adm) : (win0 a 5).Covers := by
  refine ⟨(by decide : ∀ x : Fin 3, 0 < S1x176x1024.size x), fun β => ?_⟩
  have b0 : (β 0).val < (1 + 1 - 1) / 1 := (β 0).isLt
  have b1 : (β 1).val < (352 + 176 - 1) / 176 := (β 1).isLt
  have b2 : (β 2).val < (1024 + 1024 - 1) / 1024 := (β 2).isLt
  exact ⟨(⟨(β 1).val, by omega⟩ : Fin 2), flush0_5 a _, fun x => ⟨cell (co5 _) (fun x => (β x).val) (by omega) rfl (by omega) x, .inl rfl⟩⟩

theorem at5 (G : FVec Ideal S1x352x1024 .f32) (t : Fin (cfgM m hO).N) (a : Fin 1) (p : Fin 176) (q : Fin 1024) :
    G (((((pcfg0 (F := Ideal)).win (adm m hO) 5).blk t).view).emb (ix3 a p q)) = G (ix3 a ⟨t.val * 176 + p.val, by have h : t.val < 2 := t.isLt; omega⟩ q) := by
  blk_ext
  · exact (rows (co5 t)).1
  · exact (rows (co5 t)).2.2.1 _ _
  · exact (rows (co5 t)).2.2.2 _ _

theorem arr5 (hk : key m < 8) : (dats m hO 0 c).arrAt 5 (cfgM m hO).N = oG (arg0 m c) (arg1 m c) ⟨key m, hk⟩ := by
  refine (dats m hO 0 c).arrAt_eq_of_covers 5 _ (cov5 _) fun t hf y => ?_
  blk_simp
  rw [after0_5]
  unfold outsAt0
  frame_out
  revert y
  show ∀ y : S1x176x1024.Idx, _
  intro y
  idx_vars y
  refine Eq.trans ?_ (at5 m hO (oG (arg0 m c) (arg1 m c) ⟨key m, hk⟩) t y0 y1 y2).symm
  exact (g5_at _ _ _ _).trans ((sum_at _ _ _ _).trans (parts m hO c hk t (Memref.IsWhole.read_unread _ _) (Memref.IsWhole.read_unread _ _) y1 y2))

theorem co6 : ∀ t : Fin grid0.N, cc0_transform_7 (grid0.coords t) = ![0, t.val, 0] := by decide +kernel
theorem cov6 (a : (pcfg0 (F := Ideal)).Adm) : (win0 a 6).Covers := by
  refine ⟨(by decide : ∀ x : Fin 3, 0 < S1x176x1024.size x), fun β => ?_⟩
  have b0 : (β 0).val < (1 + 1 - 1) / 1 := (β 0).isLt
  have b1 : (β 1).val < (352 + 176 - 1) / 176 := (β 1).isLt
  have b2 : (β 2).val < (1024 + 1024 - 1) / 1024 := (β 2).isLt
  exact ⟨(⟨(β 1).val, by omega⟩ : Fin 2), flush0_6 a _, fun x => ⟨cell (co6 _) (fun x => (β x).val) (by omega) rfl (by omega) x, .inl rfl⟩⟩

theorem at6 (G : FVec Ideal S1x352x1024 .f32) (t : Fin (cfgM m hO).N) (a : Fin 1) (p : Fin 176) (q : Fin 1024) :
    G (((((pcfg0 (F := Ideal)).win (adm m hO) 6).blk t).view).emb (ix3 a p q)) = G (ix3 a ⟨t.val * 176 + p.val, by have h : t.val < 2 := t.isLt; omega⟩ q) := by
  blk_ext
  · exact (rows (co6 t)).1
  · exact (rows (co6 t)).2.2.1 _ _
  · exact (rows (co6 t)).2.2.2 _ _

theorem arr6 (hk : key m < 8) : (dats m hO 0 c).arrAt 6 (cfgM m hO).N = oW (arg0 m c) (arg1 m c) (arg3 m c) (arg4 m c) (arg5 m c) ⟨key m, hk⟩ := by
  refine (dats m hO 0 c).arrAt_eq_of_covers 6 _ (cov6 _) fun t hf y => ?_
  blk_simp
  rw [after0_6]
  unfold outsAt0
  frame_out
  revert y
  show ∀ y : S1x176x1024.Idx, _
  intro y
  idx_vars y
  refine Eq.trans ?_ (at6 m hO (oW (arg0 m c) (arg1 m c) (arg3 m c) (arg4 m c) (arg5 m c) ⟨key m, hk⟩) t y0 y1 y2).symm
  refine (w_at _ _ _ _ _ _ _).trans ?_
  exact congr (congr (congrArg₂ step ((sum_at _ _ _ _).trans (parts m hO c hk t (Memref.IsWhole.read_unread _ _) (Memref.IsWhole.read_unread _ _) y1 y2)) ((congrFun (Memref.IsWhole.read_unread _ _) _).trans (blk2_at m hO c t y0 y1 y2))) ((congrFun (Memref.IsWhole.read_unread _ _) _).trans (blk3_at m hO c t y0 y1 y2))) ((congrFun (Memref.IsWhole.read_unread _ _) _).trans (blk4_at m hO c t y0 y1 y2))

theorem co7 : ∀ t : Fin grid0.N, cc0_transform_8 (grid0.coords t) = ![0, t.val, 0] := by decide +kernel
theorem cov7 (a : (pcfg0 (F := Ideal)).Adm) : (win0 a 7).Covers := by
  refine ⟨(by decide : ∀ x : Fin 3, 0 < S1x176x1024.size x), fun β => ?_⟩
  have b0 : (β 0).val < (1 + 1 - 1) / 1 := (β 0).isLt
  have b1 : (β 1).val < (352 + 176 - 1) / 176 := (β 1).isLt
  have b2 : (β 2).val < (1024 + 1024 - 1) / 1024 := (β 2).isLt
  exact ⟨(⟨(β 1).val, by omega⟩ : Fin 2), flush0_7 a _, fun x => ⟨cell (co7 _) (fun x => (β x).val) (by omega) rfl (by omega) x, .inl rfl⟩⟩

theorem at7 (G : FVec Ideal S1x352x1024 .f32) (t : Fin (cfgM m hO).N) (a : Fin 1) (p : Fin 176) (q : Fin 1024) :
    G (((((pcfg0 (F := Ideal)).win (adm m hO) 7).blk t).view).emb (ix3 a p q)) = G (ix3 a ⟨t.val * 176 + p.val, by have h : t.val < 2 := t.isLt; omega⟩ q) := by
  blk_ext
  · exact (rows (co7 t)).1
  · exact (rows (co7 t)).2.2.1 _ _
  · exact (rows (co7 t)).2.2.2 _ _

theorem arr7 (hk : key m < 8) : (dats m hO 0 c).arrAt 7 (cfgM m hO).N = oM (arg0 m c) (arg1 m c) (arg4 m c) ⟨key m, hk⟩ := by
  refine (dats m hO 0 c).arrAt_eq_of_covers 7 _ (cov7 _) fun t hf y => ?_
  blk_simp
  rw [after0_7]
  unfold outsAt0
  frame_out
  revert y
  show ∀ y : S1x176x1024.Idx, _
  intro y
  idx_vars y
  refine Eq.trans ?_ (at7 m hO (oM (arg0 m c) (arg1 m c) (arg4 m c) ⟨key m, hk⟩) t y0 y1 y2).symm
  refine (m_at _ _ _ _ _).trans ?_
  exact congrArg₂ mom ((sum_at _ _ _ _).trans (parts m hO c hk t (Memref.IsWhole.read_unread _ _) (Memref.IsWhole.read_unread _ _) y1 y2)) ((congrFun (Memref.IsWhole.read_unread _ _) _).trans (blk3_at m hO c t y0 y1 y2))

theorem co8 : ∀ t : Fin grid0.N, cc0_transform_9 (grid0.coords t) = ![0, t.val, 0] := by decide +kernel
theorem cov8 (a : (pcfg0 (F := Ideal)).Adm) : (win0 a 8).Covers := by
  refine ⟨(by decide : ∀ x : Fin 3, 0 < S1x176x1024.size x), fun β => ?_⟩
  have b0 : (β 0).val < (1 + 1 - 1) / 1 := (β 0).isLt
  have b1 : (β 1).val < (352 + 176 - 1) / 176 := (β 1).isLt
  have b2 : (β 2).val < (1024 + 1024 - 1) / 1024 := (β 2).isLt
  exact ⟨(⟨(β 1).val, by omega⟩ : Fin 2), flush0_8 a _, fun x => ⟨cell (co8 _) (fun x => (β x).val) (by omega) rfl (by omega) x, .inl rfl⟩⟩

theorem at8 (G : FVec Ideal S1x352x1024 .f32) (t : Fin (cfgM m hO).N) (a : Fin 1) (p : Fin 176) (q : Fin 1024) :
    G (((((pcfg0 (F := Ideal)).win (adm m hO) 8).blk t).view).emb (ix3 a p q)) = G (ix3 a ⟨t.val * 176 + p.val, by have h : t.val < 2 := t.isLt; omega⟩ q) := by
  blk_ext
  · exact (rows (co8 t)).1
  · exact (rows (co8 t)).2.2.1 _ _
  · exact (rows (co8 t)).2.2.2 _ _

theorem arr8 (hk : key m < 8) : (dats m hO 0 c).arrAt 8 (cfgM m hO).N = oV (arg0 m c) (arg1 m c) (arg5 m c) ⟨key m, hk⟩ := by
  refine (dats m hO 0 c).arrAt_eq_of_covers 8 _ (cov8 _) fun t hf y => ?_
  blk_simp
  rw [after0_8]
  unfold outsAt0
  frame_out
  revert y
  show ∀ y : S1x176x1024.Idx, _
  intro y
  idx_vars y
  refine Eq.trans ?_ (at8 m hO (oV (arg0 m c) (arg1 m c) (arg5 m c) ⟨key m, hk⟩) t y0 y1 y2).symm
  refine (v_at _ _ _ _ _).trans ?_
  exact congrArg₂ sec ((sum_at _ _ _ _).trans (parts m hO c hk t (Memref.IsWhole.read_unread _ _) (Memref.IsWhole.read_unread _ _) y1 y2)) ((congrFun (Memref.IsWhole.read_unread _ _) _).trans (blk4_at m hO c t y0 y1 y2))
end

/-- What the precondition says of the index. -/
theorem lt_of_pre (m : (ℓ : Loc nD τ sig) → Buf (Elt Ideal) ℓ) (h : Cert.Pre_UDownIdeal (hPre_device := Cert.Pre_device.Own.facts) m) : key m < 8 :=
  toNat_lt _ (congrFun (h 0).1 (ix1 0)) (congrFun (h 0).2 (ix1 0))

/-- The call and the reference end with the same four arrays. -/
theorem algebraic : Cert.algebraic_UDownIdeal_UDownRefIdeal (hUDownIdeal := Cert.UDownIdeal.Gen.facts) (hUDownRefIdeal := Cert.UDownRefIdeal.Gen.facts)
    (hPre_device := Cert.Pre_device.Own.facts) := by
  intro m g m' g' hpre hargs
  have hk := lt_of_pre m hpre
  have hO := ok m hk
  have h := θ_run_and (unchanged m g hO) (Cert.UDownIdeal.Gen.run_main m g hO)
  refine ⟨fun c => oG (arg0 m c) (arg1 m c) ⟨key m, hk⟩, fun c => oW (arg0 m c) (arg1 m c) (arg3 m c) (arg4 m c) (arg5 m c) ⟨key m, hk⟩,
    fun c => oM (arg0 m c) (arg1 m c) (arg4 m c) ⟨key m, hk⟩, fun c => oV (arg0 m c) (arg1 m c) (arg5 m c) ⟨key m, hk⟩,
    (θ_run defs _ _).mono (fun r h c => ⟨((h.2 c).1 5).trans (arr5 m hO c hk), ((h.2 c).1 6).trans (arr6 m hO c hk), ((h.2 c).1 7).trans (arr7 m hO c hk),
      ((h.2 c).1 8).trans (arr8 m hO c hk), h.1 c⟩) h,
    (θ_run Cert.UDownRefIdeal.defs _ _).mono (fun r h c => ?_) (Cert.UDownRefIdeal.Value.run (F := Ideal) m' g')⟩
  obtain rfl : c = 0 := Subsingleton.elim (α := Fin 1) c 0
  obtain ⟨h0, h1, h2, h3, h4, h5, h6⟩ := hargs 0
  obtain ⟨r0, r1, r2, r3, r4⟩ := h 0
  have eG := (congr (congrArg₂ grad h0 h1) h2).trans (grad_eq (arg0 m 0) (arg1 m 0) (m (((0 : Dev nD).tc : Thread nD τ).loc main_arg2)) hk)
  refine ⟨r0.trans eG, r1.trans ((step_eq _ _ _ _).trans ?_), r2.trans ((mom_eq _ _).trans ?_), r3.trans ((sec_eq _ _).trans ?_), r4⟩
  · exact congr (congr (congrArg₂ (fun (G W M V : FVec Ideal S1x352x1024 .f32) i => step (G i) (W i) (M i) (V i)) eG h3) h4) h5
  · exact congrArg₂ (fun (G M : FVec Ideal S1x352x1024 .f32) i => mom (G i) (M i)) eG h4
  · exact congrArg₂ (fun (G V : FVec Ideal S1x352x1024 .f32) i => sec (G i) (V i)) eG h5

/-- The calls run. -/
theorem frame : Cert.quiescent_UDownIdeal (hUDownIdeal := Cert.UDownIdeal.Gen.facts) (hPre_device := Cert.Pre_device.Own.facts) :=
  fun m g h => Cert.UDownIdeal.Gen.frame m g (ok m (lt_of_pre m h))
theorem frame_bits : Cert.quiescent_UDown (hUDown := Cert.UDown.Gen.facts) (hPre_device := Cert.Pre_device.Own.facts) :=
  fun m g h => Cert.UDown.Gen.frame m g (Cert.UDown.Own.ok m (toNat_lt _ (congrFun (h 0).1 (ix1 0)) (congrFun (h 0).2 (ix1 0))))
theorem frame_ref : Cert.quiescent_UDownRefIdeal (hUDownRefIdeal := Cert.UDownRefIdeal.Gen.facts) :=
  fun m ρ _ => (θ_run Cert.UDownRefIdeal.defs _ _).mono
    (fun r h => ⟨fun c => (h c).2.2.2.2, Idealize.ShloMosaic.sem_eq_zero_of_no_sems (by decide) r.2⟩)
    (Cert.UDownRefIdeal.Value.run (F := Ideal) m ρ)

end Cert.UDownIdeal.Own

end
-- ==== Proof.UGu.lean ====
/- The update of a joined gate and up weight: the call and its reference compute the same four arrays. -/
module

public import proofs.«01_k».proof.Defs
public import proofs.«01_k».proof.Proof.UDown
public import proofs.«01_k».proof.Proof.Gen.UGu
public import proofs.«01_k».proof.Proof.Gen.UGuIdeal
public import proofs.«01_k».proof.Proof.Gen.UGu.Frame
public import proofs.«01_k».proof.Proof.Gen.UGuIdeal.Frame
public import proofs.«01_k».proof.Proof.Gen.UGuRefIdeal
public import proofs.«01_k».proof.Proof.Gen.UGuRefIdeal.Run
public import Idealize.ShloMosaic.Lib.Pipeline.ValueKit
public import Idealize.ShloMosaic.Lib.StableHlo.Run

@[expose] public section

set_option maxRecDepth 16384

noncomputable section

namespace Cert.UGu.Own
open Cert.UGu Cert.UGu.Gen
open Idealize.ShloMosaic Idealize.ShloMosaic.TcCoe
variable {F : FTy → Type} [FloatOps F] (m : (ℓ : Loc nD τ sig) → Buf (Elt F) ℓ)

/-- The index keeps the part read inside the array. -/
theorem ok (h : (m (((0 : Dev nD).tc : Thread nD τ).loc main_arg2) (ix1 0) : BitVec 32).toNat < 8) : Gen.Ok m := by
  unfold Gen.Ok ok0
  intro i
  have e : (tbl m).at 0 (Rect.unit (s := S1) ![0] S1.size inb_S1_S1_0) numel1_S1 = m (((0 : Dev nD).tc : Thread nD τ).loc main_arg2) (ix1 0) := by
    have e0 : tbl m 0 = m (((0 : Dev nD).tc : Thread nD τ).loc main_arg2) := by rfl
    unfold Pipeline.Prefetch.Contents.at
    rw [e0]
    exact congrArg (m (((0 : Dev nD).tc : Thread nD τ).loc main_arg2)) (Cert.Upd.one _ _)
  unfold cc0_transform_0
  rw [e]
  generalize m (((0 : Dev nD).tc : Thread nD τ).loc main_arg2) (ix1 0) = b at h
  refine ⟨fun a => ?_, .inr (Affine.block_words_dvd (of_decide_eq_true rfl) (by decide))⟩
  exact Cert.Upd.inside 4 176 1024 (by decide) b h (i 0) (i 0).isLt a

end Cert.UGu.Own

namespace Cert.Pre_device_gu.Own

open Cert.Pre_device_gu Idealize.ShloMosaic

/-- The shape relations of the precondition. -/
theorem facts : Facts := ⟨by decide⟩

end Cert.Pre_device_gu.Own

namespace Cert.UGuRefIdeal.Own

open Cert.UGuRefIdeal Cert.UGuRefIdeal.Gen
open Idealize.ShloMosaic Idealize.ShloMosaic.TcCoe
open Cert.Upd
open scoped BigOperators

variable (O : FVec Ideal S8x704x1024 .f32) (P : FVec Ideal S7x704x1024 .f32) (b : IVec S1 32) (G W M V : FVec Ideal S1x704x1024 .f32)

/-- The reference's gradient. -/
def grad : FVec Ideal S1x704x1024 .f32 :=
  addf (broadcastInDim S1x704x1024 ![1, 2] bcast_S704x1024_S1x704x1024_1_2 (Host.reduceAdd (select (broadcastInDim S8x704x1024 ![0, 1, 2] bcast_S8x1x1_S8x704x1024_0_1_2 (cmpi .eq (shapeCast _ (iotaInDim S8 32 0) shapeCasts_S8_S8x1x1) (broadcastInDim S8x1x1 ![] bcast_S_S8x1x1 (shapeCast _ b shapeCasts_S1_S_)))) O (broadcastInDim S8x704x1024 ![] bcast_S_S8x704x1024 (id (constant S_ .f32 0x00000000#32)))) (constant S_ .f32 0x00000000#32) reducesTo_S8x704x1024_S704x1024_d0 h_S_)) (broadcastInDim S1x704x1024 ![1, 2] bcast_S704x1024_S1x704x1024_1_2 (Host.reduceAdd P (constant S_ .f32 0x00000000#32) reducesTo_S7x704x1024_S704x1024_d0 h_S_))
theorem grad_eq (hk : (b (ix1 0) : BitVec 32).toNat < 8) : grad O P b = oG O P ⟨(b (ix1 0) : BitVec 32).toNat, hk⟩ := by
  funext i
  idx_vars i
  pointwise [grad, oG, gr]
  refine congrArg₂ (fun a b : EReal => a + b) (Eq.trans (Finset.sum_congr rfl fun r _ => ?_)
    (kept ⟨(b (ix1 0) : BitVec 32).toNat, hk⟩ (fun r => O (ix3 r i1 i2)) (b (ix1 0)) rfl (by decide))) rfl
  exact pick _ _ _
theorem mom_eq : (addf (mulf (broadcastInDim S1x704x1024 ![] bcast_S_S1x704x1024 (constant S_ .f32 0x3F666666#32)) M) (mulf (broadcastInDim S1x704x1024 ![] bcast_S_S1x704x1024 (constant S_ .f32 0x3DCCCCCD#32)) G) : FVec Ideal S1x704x1024 .f32) = fun i => mom (G i) (M i) := by
  funext i
  idx_vars i
  pointwise [mom]
theorem sec_eq : (addf (mulf (broadcastInDim S1x704x1024 ![] bcast_S_S1x704x1024 (constant S_ .f32 0x3F7FBE77#32)) V) (mulf (broadcastInDim S1x704x1024 ![] bcast_S_S1x704x1024 (constant S_ .f32 0x3A83126F#32)) (mulf G G)) : FVec Ideal S1x704x1024 .f32) = fun i => sec (G i) (V i) := by
  funext i
  idx_vars i
  pointwise [sec]
theorem step_eq : (mulf (broadcastInDim S1x704x1024 ![] bcast_S_S1x704x1024 (constant S_ .f32 0xBA83126F#32)) (addf (Host.divf (Host.divf (addf (mulf (broadcastInDim S1x704x1024 ![] bcast_S_S1x704x1024 (constant S_ .f32 0x3F666666#32)) M) (mulf (broadcastInDim S1x704x1024 ![] bcast_S_S1x704x1024 (constant S_ .f32 0x3DCCCCCD#32)) G)) (broadcastInDim S1x704x1024 ![] bcast_S_S1x704x1024 (constant S_ .f32 0x3F26BD02#32))) (addf (Host.sqrt (Host.divf (addf (mulf (broadcastInDim S1x704x1024 ![] bcast_S_S1x704x1024 (constant S_ .f32 0x3F7FBE77#32)) V) (mulf (broadcastInDim S1x704x1024 ![] bcast_S_S1x704x1024 (constant S_ .f32 0x3A83126F#32)) (mulf G G))) (broadcastInDim S1x704x1024 ![] bcast_S_S1x704x1024 (constant S_ .f32 0x3C231ACC#32)))) (broadcastInDim S1x704x1024 ![] bcast_S_S1x704x1024 (constant S_ .f32 0x322BCC77#32)))) (mulf (broadcastInDim S1x704x1024 ![] bcast_S_S1x704x1024 (constant S_ .f32 0x3C23D70A#32)) W)) : FVec Ideal S1x704x1024 .f32) = fun i => step (G i) (W i) (M i) (V i) := by
  funext i
  idx_vars i
  pointwise [step, mom, sec]

end Cert.UGuRefIdeal.Own

namespace Cert.UGuIdeal.Own

open Cert.UGuIdeal Cert.UGuIdeal.Gen
open Idealize.ShloMosaic Idealize.ShloMosaic.TcCoe Idealize.SL.Sem
open Cert.Upd
open Cert.UGuRefIdeal.Own (grad grad_eq step_eq mom_eq sec_eq)
open scoped BigOperators

section
variable (m : (ℓ : Loc nD τ sig) → Buf (Elt Ideal) ℓ) (hO : Gen.Ok m) (c : Dev nD)

abbrev arg0 : FVec Ideal S8x704x1024 .f32 := m ((c.tc : Thread nD τ).loc main_arg0)
abbrev arg1 : FVec Ideal S7x704x1024 .f32 := m ((c.tc : Thread nD τ).loc main_arg1)
abbrev arg3 : FVec Ideal S1x704x1024 .f32 := m ((c.tc : Thread nD τ).loc main_arg3)
abbrev arg4 : FVec Ideal S1x704x1024 .f32 := m ((c.tc : Thread nD τ).loc main_arg4)
abbrev arg5 : FVec Ideal S1x704x1024 .f32 := m ((c.tc : Thread nD τ).loc main_arg5)

theorem V0_eq : V m c main_v0 = truncf (F := Ideal) (φ := .f32) (s := S8x704x1024) .bf16 (arg0 m c) bitsLt_bf16_f32 := by
  unfold V; after_results_simp; try rfl
theorem V1_eq : V m c main_v1 = truncf (F := Ideal) (φ := .f32) (s := S7x704x1024) .bf16 (arg1 m c) bitsLt_bf16_f32 := by
  unfold V; after_results_simp; try rfl

theorem m_at (g : FVec Ideal S176x1024 .f32) (x : Vec Ideal S1x176x1024 .f32) (a : Fin 1) (p : Fin 176) (k : Fin 1024) :
    k0_pay1 (k0_pay4 g x) (ix3 a p k) = mom (g (ix2 p k)) (x (ix3 a p k)) :=
  Cert.UDownIdeal.Own.m_at g x a p k
theorem v_at (g : FVec Ideal S176x1024 .f32) (x : Vec Ideal S1x176x1024 .f32) (a : Fin 1) (p : Fin 176) (k : Fin 1024) :
    k0_pay2 (k0_pay5 g x) (ix3 a p k) = sec (g (ix2 p k)) (x (ix3 a p k)) :=
  Cert.UDownIdeal.Own.v_at g x a p k
theorem w_at (g : FVec Ideal S176x1024 .f32) (x y z : Vec Ideal S1x176x1024 .f32) (a : Fin 1) (p : Fin 176) (k : Fin 1024) :
    k0_pay7 g x y z (ix3 a p k) = step (g (ix2 p k)) (x (ix3 a p k)) (y (ix3 a p k)) (z (ix3 a p k)) :=
  Cert.UDownIdeal.Own.w_at g x y z a p k

abbrev key : ℕ := (m (((0 : Dev nD).tc : Thread nD τ).loc main_arg2) (ix1 0) : BitVec 32).toNat

theorem at_key : (tbl m).at 0 (Rect.unit (s := S1) ![0] S1.size inb_S1_S1_0) numel1_S1 = m (((0 : Dev nD).tc : Thread nD τ).loc main_arg2) (ix1 0) := by
  have e0 : tbl m 0 = m (((0 : Dev nD).tc : Thread nD τ).loc main_arg2) := by rfl
  unfold Pipeline.Prefetch.Contents.at
  rw [e0]
  exact congrArg (m (((0 : Dev nD).tc : Thread nD τ).loc main_arg2)) (one _ _)
/-- The index keeps the part read inside the array. -/
theorem ok (h : (m (((0 : Dev nD).tc : Thread nD τ).loc main_arg2) (ix1 0) : BitVec 32).toNat < 8) : Gen.Ok m := by
  unfold Gen.Ok ok0
  intro i
  unfold cc0_transform_0
  rw [at_key]
  generalize m (((0 : Dev nD).tc : Thread nD τ).loc main_arg2) (ix1 0) = b at h
  refine ⟨fun a => ?_, .inr (Affine.block_words_dvd (of_decide_eq_true rfl) (by decide))⟩
  exact inside 4 176 1024 (by decide) b h (i 0) (i 0).isLt a

theorem co0 : ∀ t : Fin grid0.N, (BitVec.ofNat 32 (grid0.coords t 0).val).toNat = t.val := by decide +kernel
theorem idx0 (t : Fin (cfgM m hO).N) : ((pcfg0 (F := Ideal)).win (adm m hO) 0).index t = ![key m, t.val, 0] := by
  show cc0_transform_0 inb_S1_S1_0 numel1_S1 (tbl m) (grid0.coords t) = _
  unfold cc0_transform_0
  rw [at_key]
  exact congrArg (fun x => ![key m, x, 0]) (co0 t)
theorem blk0_at (hk : key m < 8) (t : Fin (cfgM m hO).N) (a : Fin 1) (p : Fin 176) (q : Fin 1024) :
    iblk m hO c 0 t (ix3 a p q) = arg0 m c (ix3 ⟨key m, hk⟩ ⟨t.val * 176 + p.val, by have h : t.val < 4 := t.isLt; omega⟩ q) := by
  refine Eq.trans ?_ (congrFun (V0_eq m c) _); blk_ext [iblk, V]
  · exact congrFun (idx0 m hO t) 0
  · exact congrArg (fun x => x * 176 + p.val) (congrFun (idx0 m hO t) 1)
  · exact (congrArg (fun x => x * 1024 + q.val) (congrFun (idx0 m hO t) 2)).trans (by show 0 * 1024 + q.val = q.val; omega)
theorem co1 : ∀ t : Fin grid0.N, cc0_transform_1 (grid0.coords t) = ![0, t.val, 0] := by decide +kernel
theorem blk1_at (t : Fin (cfgM m hO).N) (a : Fin 7) (p : Fin 176) (q : Fin 1024) :
    iblk m hO c 1 t (ix3 a p q) = arg1 m c (ix3 a ⟨t.val * 176 + p.val, by have h : t.val < 4 := t.isLt; omega⟩ q) := by
  refine Eq.trans ?_ (congrFun (V1_eq m c) _); blk_ext [iblk, V]
  · exact (rows (co1 t)).2.1 _ _
  · exact (rows (co1 t)).2.2.1 _ _
  · exact (rows (co1 t)).2.2.2 _ _
theorem sum_at (X : Vec Ideal S1x176x1024 .bf16) (Y : Vec Ideal S7x176x1024 .bf16) (p : Fin 176) (q : Fin 1024) :
    k0_pay3 X (View.ld (Val := Elt Ideal) Y (Rect.unit ![0, 0, 0] ![1, 176, 1024] inb_S7x176x1024_S1x176x1024_0_0_0))
      (View.ld (Val := Elt Ideal) Y (Rect.unit ![1, 0, 0] ![1, 176, 1024] inb_S7x176x1024_S1x176x1024_1_0_0))
      (View.ld (Val := Elt Ideal) Y (Rect.unit ![2, 0, 0] ![1, 176, 1024] inb_S7x176x1024_S1x176x1024_2_0_0))
      (View.ld (Val := Elt Ideal) Y (Rect.unit ![3, 0, 0] ![1, 176, 1024] inb_S7x176x1024_S1x176x1024_3_0_0))
      (View.ld (Val := Elt Ideal) Y (Rect.unit ![4, 0, 0] ![1, 176, 1024] inb_S7x176x1024_S1x176x1024_4_0_0))
      (View.ld (Val := Elt Ideal) Y (Rect.unit ![5, 0, 0] ![1, 176, 1024] inb_S7x176x1024_S1x176x1024_5_0_0))
      (View.ld (Val := Elt Ideal) Y (Rect.unit ![6, 0, 0] ![1, 176, 1024] inb_S7x176x1024_S1x176x1024_6_0_0)) (ix2 p q)
    = (X (ix3 0 p q) : EReal) + ∑ r : Fin 7, (Y (ix3 r p q) : EReal) :=
  Cert.UDownIdeal.Own.sum_at X Y p q
/-- The parts read in a block add up to the gradient there. -/
theorem parts (hk : key m < 8) (t : Fin (cfgM m hO).N) {X : Vec Ideal S1x176x1024 .bf16} {Y : Vec Ideal S7x176x1024 .bf16} (hX : X = iblk m hO c 0 t) (hY : Y = iblk m hO c 1 t)
    (p : Fin 176) (q : Fin 1024) : (X (ix3 0 p q) : EReal) + ∑ r : Fin 7, (Y (ix3 r p q) : EReal)
    = gr (arg0 m c) (arg1 m c) ⟨key m, hk⟩ ⟨t.val * 176 + p.val, by have h : t.val < 4 := t.isLt; omega⟩ q :=
  congrArg₂ (fun a b : EReal => a + b) ((congrFun hX _).trans (blk0_at m hO c hk t 0 p q))
    (Finset.sum_congr rfl fun r _ => (congrFun hY _).trans (blk1_at m hO c t r p q))
theorem co2 : ∀ t : Fin grid0.N, cc0_transform_3 (grid0.coords t) = ![0, t.val, 0] := by decide +kernel
theorem blk2_at (t : Fin (cfgM m hO).N) (a : Fin 1) (p : Fin 176) (q : Fin 1024) :
    iblk m hO c 2 t (ix3 a p q) = arg3 m c (ix3 a ⟨t.val * 176 + p.val, by have h : t.val < 4 := t.isLt; omega⟩ q) := by
  blk_ext [iblk, V]
  · exact (rows (co2 t)).1
  · exact (rows (co2 t)).2.2.1 _ _
  · exact (rows (co2 t)).2.2.2 _ _
theorem co3 : ∀ t : Fin grid0.N, cc0_transform_4 (grid0.coords t) = ![0, t.val, 0] := by decide +kernel
theorem blk3_at (t : Fin (cfgM m hO).N) (a : Fin 1) (p : Fin 176) (q : Fin 1024) :
    iblk m hO c 3 t (ix3 a p q) = arg4 m c (ix3 a ⟨t.val * 176 + p.val, by have h : t.val < 4 := t.isLt; omega⟩ q) := by
  blk_ext [iblk, V]
  · exact (rows (co3 t)).1
  · exact (rows (co3 t)).2.2.1 _ _
  · exact (rows (co3 t)).2.2.2 _ _
theorem co4 : ∀ t : Fin grid0.N, cc0_transform_5 (grid0.coords t) = ![0, t.val, 0] := by decide +kernel
theorem blk4_at (t : Fin (cfgM m hO).N) (a : Fin 1) (p : Fin 176) (q : Fin 1024) :
    iblk m hO c 4 t (ix3 a p q) = arg5 m c (ix3 a ⟨t.val * 176 + p.val, by have h : t.val < 4 := t.isLt; omega⟩ q) := by
  blk_ext [iblk, V]
  · exact (rows (co4 t)).1
  · exact (rows (co4 t)).2.2.1 _ _
  · exact (rows (co4 t)).2.2.2 _ _
theorem g5_at (g : FVec Ideal S176x1024 .f32) (a : Fin 1) (p : Fin 176) (k : Fin 1024) : k0_pay6 g (ix3 a p k) = g (ix2 p k) :=
  Cert.UDownIdeal.Own.g5_at g a p k
theorem co5 : ∀ t : Fin grid0.N, cc0_transform_6 (grid0.coords t) = ![0, t.val, 0] := by decide +kernel
theorem cov5 (a : (pcfg0 (F := Ideal)).Adm) : (win0 a 5).Covers := by
  refine ⟨(by decide : ∀ x : Fin 3, 0 < S1x176x1024.size x), fun β => ?_⟩
  have b0 : (β 0).val < (1 + 1 - 1) / 1 := (β 0).isLt
  have b1 : (β 1).val < (704 + 176 - 1) / 176 := (β 1).isLt
  have b2 : (β 2).val < (1024 + 1024 - 1) / 1024 := (β 2).isLt
  exact ⟨(⟨(β 1).val, by omega⟩ : Fin 4), flush0_5 a _, fun x => ⟨cell (co5 _) (fun x => (β x).val) (by omega) rfl (by omega) x, .inl rfl⟩⟩

theorem at5 (G : FVec Ideal S1x704x1024 .f32) (t : Fin (cfgM m hO).N) (a : Fin 1) (p : Fin 176) (q : Fin 1024) :
    G (((((pcfg0 (F := Ideal)).win (adm m hO) 5).blk t).view).emb (ix3 a p q)) = G (ix3 a ⟨t.val * 176 + p.val, by have h : t.val < 4 := t.isLt; omega⟩ q) := by
  blk_ext
  · exact (rows (co5 t)).1
  · exact (rows (co5 t)).2.2.1 _ _
  · exact (rows (co5 t)).2.2.2 _ _

theorem arr5 (hk : key m < 8) : (dats m hO 0 c).arrAt 5 (cfgM m hO).N = oG (arg0 m c) (arg1 m c) ⟨key m, hk⟩ := by
  refine (dats m hO 0 c).arrAt_eq_of_covers 5 _ (cov5 _) fun t hf y => ?_
  blk_simp
  rw [after0_5]
  unfold outsAt0
  frame_out
  revert y
  show ∀ y : S1x176x1024.Idx, _
  intro y
  idx_vars y
  refine Eq.trans ?_ (at5 m hO (oG (arg0 m c) (arg1 m c) ⟨key m, hk⟩) t y0 y1 y2).symm
  exact (g5_at _ _ _ _).trans ((sum_at _ _ _ _).trans (parts m hO c hk t (Memref.IsWhole.read_unread _ _) (Memref.IsWhole.read_unread _ _) y1 y2))

theorem co6 : ∀ t : Fin grid0.N, cc0_transform_7 (grid0.coords t) = ![0, t.val, 0] := by decide +kernel
theorem cov6 (a : (pcfg0 (F := Ideal)).Adm) : (win0 a 6).Covers := by
  refine ⟨(by decide : ∀ x : Fin 3, 0 < S1x176x1024.size x), fun β => ?_⟩
  have b0 : (β 0).val < (1 + 1 - 1) / 1 := (β 0).isLt
  have b1 : (β 1).val < (704 + 176 - 1) / 176 := (β 1).isLt
  have b2 : (β 2).val < (1024 + 1024 - 1) / 1024 := (β 2).isLt
  exact ⟨(⟨(β 1).val, by omega⟩ : Fin 4), flush0_6 a _, fun x => ⟨cell (co6 _) (fun x => (β x).val) (by omega) rfl (by omega) x, .inl rfl⟩⟩

theorem at6 (G : FVec Ideal S1x704x1024 .f32) (t : Fin (cfgM m hO).N) (a : Fin 1) (p : Fin 176) (q : Fin 1024) :
    G (((((pcfg0 (F := Ideal)).win (adm m hO) 6).blk t).view).emb (ix3 a p q)) = G (ix3 a ⟨t.val * 176 + p.val, by have h : t.val < 4 := t.isLt; omega⟩ q) := by
  blk_ext
  · exact (rows (co6 t)).1
  · exact (rows (co6 t)).2.2.1 _ _
  · exact (rows (co6 t)).2.2.2 _ _

theorem arr6 (hk : key m < 8) : (dats m hO 0 c).arrAt 6 (cfgM m hO).N = oW (arg0 m c) (arg1 m c) (arg3 m c) (arg4 m c) (arg5 m c) ⟨key m, hk⟩ := by
  refine (dats m hO 0 c).arrAt_eq_of_covers 6 _ (cov6 _) fun t hf y => ?_
  blk_simp
  rw [after0_6]
  unfold outsAt0
  frame_out
  revert y
  show ∀ y : S1x176x1024.Idx, _
  intro y
  idx_vars y
  refine Eq.trans ?_ (at6 m hO (oW (arg0 m c) (arg1 m c) (arg3 m c) (arg4 m c) (arg5 m c) ⟨key m, hk⟩) t y0 y1 y2).symm
  refine (w_at _ _ _ _ _ _ _).trans ?_
  exact congr (congr (congrArg₂ step ((sum_at _ _ _ _).trans (parts m hO c hk t (Memref.IsWhole.read_unread _ _) (Memref.IsWhole.read_unread _ _) y1 y2)) ((congrFun (Memref.IsWhole.read_unread _ _) _).trans (blk2_at m hO c t y0 y1 y2))) ((congrFun (Memref.IsWhole.read_unread _ _) _).trans (blk3_at m hO c t y0 y1 y2))) ((congrFun (Memref.IsWhole.read_unread _ _) _).trans (blk4_at m hO c t y0 y1 y2))

theorem co7 : ∀ t : Fin grid0.N, cc0_transform_8 (grid0.coords t) = ![0, t.val, 0] := by decide +kernel
theorem cov7 (a : (pcfg0 (F := Ideal)).Adm) : (win0 a 7).Covers := by
  refine ⟨(by decide : ∀ x : Fin 3, 0 < S1x176x1024.size x), fun β => ?_⟩
  have b0 : (β 0).val < (1 + 1 - 1) / 1 := (β 0).isLt
  have b1 : (β 1).val < (704 + 176 - 1) / 176 := (β 1).isLt
  have b2 : (β 2).val < (1024 + 1024 - 1) / 1024 := (β 2).isLt
  exact ⟨(⟨(β 1).val, by omega⟩ : Fin 4), flush0_7 a _, fun x => ⟨cell (co7 _) (fun x => (β x).val) (by omega) rfl (by omega) x, .inl rfl⟩⟩

theorem at7 (G : FVec Ideal S1x704x1024 .f32) (t : Fin (cfgM m hO).N) (a : Fin 1) (p : Fin 176) (q : Fin 1024) :
    G (((((pcfg0 (F := Ideal)).win (adm m hO) 7).blk t).view).emb (ix3 a p q)) = G (ix3 a ⟨t.val * 176 + p.val, by have h : t.val < 4 := t.isLt; omega⟩ q) := by
  blk_ext
  · exact (rows (co7 t)).1
  · exact (rows (co7 t)).2.2.1 _ _
  · exact (rows (co7 t)).2.2.2 _ _

theorem arr7 (hk : key m < 8) : (dats m hO 0 c).arrAt 7 (cfgM m hO).N = oM (arg0 m c) (arg1 m c) (arg4 m c) ⟨key m, hk⟩ := by
  refine (dats m hO 0 c).arrAt_eq_of_covers 7 _ (cov7 _) fun t hf y => ?_
  blk_simp
  rw [after0_7]
  unfold outsAt0
  frame_out
  revert y
  show ∀ y : S1x176x1024.Idx, _
  intro y
  idx_vars y
  refine Eq.trans ?_ (at7 m hO (oM (arg0 m c) (arg1 m c) (arg4 m c) ⟨key m, hk⟩) t y0 y1 y2).symm
  refine (m_at _ _ _ _ _).trans ?_
  exact congrArg₂ mom ((sum_at _ _ _ _).trans (parts m hO c hk t (Memref.IsWhole.read_unread _ _) (Memref.IsWhole.read_unread _ _) y1 y2)) ((congrFun (Memref.IsWhole.read_unread _ _) _).trans (blk3_at m hO c t y0 y1 y2))

theorem co8 : ∀ t : Fin grid0.N, cc0_transform_9 (grid0.coords t) = ![0, t.val, 0] := by decide +kernel
theorem cov8 (a : (pcfg0 (F := Ideal)).Adm) : (win0 a 8).Covers := by
  refine ⟨(by decide : ∀ x : Fin 3, 0 < S1x176x1024.size x), fun β => ?_⟩
  have b0 : (β 0).val < (1 + 1 - 1) / 1 := (β 0).isLt
  have b1 : (β 1).val < (704 + 176 - 1) / 176 := (β 1).isLt
  have b2 : (β 2).val < (1024 + 1024 - 1) / 1024 := (β 2).isLt
  exact ⟨(⟨(β 1).val, by omega⟩ : Fin 4), flush0_8 a _, fun x => ⟨cell (co8 _) (fun x => (β x).val) (by omega) rfl (by omega) x, .inl rfl⟩⟩

theorem at8 (G : FVec Ideal S1x704x1024 .f32) (t : Fin (cfgM m hO).N) (a : Fin 1) (p : Fin 176) (q : Fin 1024) :
    G (((((pcfg0 (F := Ideal)).win (adm m hO) 8).blk t).view).emb (ix3 a p q)) = G (ix3 a ⟨t.val * 176 + p.val, by have h : t.val < 4 := t.isLt; omega⟩ q) := by
  blk_ext
  · exact (rows (co8 t)).1
  · exact (rows (co8 t)).2.2.1 _ _
  · exact (rows (co8 t)).2.2.2 _ _

theorem arr8 (hk : key m < 8) : (dats m hO 0 c).arrAt 8 (cfgM m hO).N = oV (arg0 m c) (arg1 m c) (arg5 m c) ⟨key m, hk⟩ := by
  refine (dats m hO 0 c).arrAt_eq_of_covers 8 _ (cov8 _) fun t hf y => ?_
  blk_simp
  rw [after0_8]
  unfold outsAt0
  frame_out
  revert y
  show ∀ y : S1x176x1024.Idx, _
  intro y
  idx_vars y
  refine Eq.trans ?_ (at8 m hO (oV (arg0 m c) (arg1 m c) (arg5 m c) ⟨key m, hk⟩) t y0 y1 y2).symm
  refine (v_at _ _ _ _ _).trans ?_
  exact congrArg₂ sec ((sum_at _ _ _ _).trans (parts m hO c hk t (Memref.IsWhole.read_unread _ _) (Memref.IsWhole.read_unread _ _) y1 y2)) ((congrFun (Memref.IsWhole.read_unread _ _) _).trans (blk4_at m hO c t y0 y1 y2))
end

/-- What the precondition says of the index. -/
theorem lt_of_pre (m : (ℓ : Loc nD τ sig) → Buf (Elt Ideal) ℓ) (h : Cert.Pre_UGuIdeal (hPre_device_gu := Cert.Pre_device_gu.Own.facts) m) : key m < 8 :=
  toNat_lt _ (congrFun (h 0).1 (ix1 0)) (congrFun (h 0).2 (ix1 0))

/-- The call and the reference end with the same four arrays. -/
theorem algebraic : Cert.algebraic_UGuIdeal_UGuRefIdeal (hUGuIdeal := Cert.UGuIdeal.Gen.facts) (hUGuRefIdeal := Cert.UGuRefIdeal.Gen.facts)
    (hPre_device_gu := Cert.Pre_device_gu.Own.facts) := by
  intro m g m' g' hpre hargs
  have hk := lt_of_pre m hpre
  have hO := ok m hk
  have h := θ_run_and (unchanged m g hO) (Cert.UGuIdeal.Gen.run_main m g hO)
  refine ⟨fun c => oG (arg0 m c) (arg1 m c) ⟨key m, hk⟩, fun c => oW (arg0 m c) (arg1 m c) (arg3 m c) (arg4 m c) (arg5 m c) ⟨key m, hk⟩,
    fun c => oM (arg0 m c) (arg1 m c) (arg4 m c) ⟨key m, hk⟩, fun c => oV (arg0 m c) (arg1 m c) (arg5 m c) ⟨key m, hk⟩,
    (θ_run defs _ _).mono (fun r h c => ⟨((h.2 c).1 5).trans (arr5 m hO c hk), ((h.2 c).1 6).trans (arr6 m hO c hk), ((h.2 c).1 7).trans (arr7 m hO c hk),
      ((h.2 c).1 8).trans (arr8 m hO c hk), h.1 c⟩) h,
    (θ_run Cert.UGuRefIdeal.defs _ _).mono (fun r h c => ?_) (Cert.UGuRefIdeal.Value.run (F := Ideal) m' g')⟩
  obtain rfl : c = 0 := Subsingleton.elim (α := Fin 1) c 0
  obtain ⟨h0, h1, h2, h3, h4, h5, h6⟩ := hargs 0
  obtain ⟨r0, r1, r2, r3, r4⟩ := h 0
  have eG := (congr (congrArg₂ grad h0 h1) h2).trans (grad_eq (arg0 m 0) (arg1 m 0) (m (((0 : Dev nD).tc : Thread nD τ).loc main_arg2)) hk)
  refine ⟨r0.trans eG, r1.trans ((step_eq _ _ _ _).trans ?_), r2.trans ((mom_eq _ _).trans ?_), r3.trans ((sec_eq _ _).trans ?_), r4⟩
  · exact congr (congr (congrArg₂ (fun (G W M V : FVec Ideal S1x704x1024 .f32) i => step (G i) (W i) (M i) (V i)) eG h3) h4) h5
  · exact congrArg₂ (fun (G M : FVec Ideal S1x704x1024 .f32) i => mom (G i) (M i)) eG h4
  · exact congrArg₂ (fun (G V : FVec Ideal S1x704x1024 .f32) i => sec (G i) (V i)) eG h5

/-- The calls run. -/
theorem frame : Cert.quiescent_UGuIdeal (hUGuIdeal := Cert.UGuIdeal.Gen.facts) (hPre_device_gu := Cert.Pre_device_gu.Own.facts) :=
  fun m g h => Cert.UGuIdeal.Gen.frame m g (ok m (lt_of_pre m h))
theorem frame_bits : Cert.quiescent_UGu (hUGu := Cert.UGu.Gen.facts) (hPre_device_gu := Cert.Pre_device_gu.Own.facts) :=
  fun m g h => Cert.UGu.Gen.frame m g (Cert.UGu.Own.ok m (toNat_lt _ (congrFun (h 0).1 (ix1 0)) (congrFun (h 0).2 (ix1 0))))
theorem frame_ref : Cert.quiescent_UGuRefIdeal (hUGuRefIdeal := Cert.UGuRefIdeal.Gen.facts) :=
  fun m ρ _ => (θ_run Cert.UGuRefIdeal.defs _ _).mono
    (fun r h => ⟨fun c => (h c).2.2.2.2, Idealize.ShloMosaic.sem_eq_zero_of_no_sems (by decide) r.2⟩)
    (Cert.UGuRefIdeal.Value.run (F := Ideal) m ρ)

end Cert.UGuIdeal.Own

end
-- ==== Proof.UIn.lean ====
/- The update of the joined input weight: the call and its reference compute the same four arrays. -/
module

public import proofs.«01_k».proof.Defs
public import proofs.«01_k».proof.Proof.Upd
public import proofs.«01_k».proof.Proof.Gen.UIn
public import proofs.«01_k».proof.Proof.Gen.UInIdeal
public import proofs.«01_k».proof.Proof.Gen.UIn.Frame
public import proofs.«01_k».proof.Proof.Gen.UInIdeal.Frame
public import proofs.«01_k».proof.Proof.Gen.UInRefIdeal
public import proofs.«01_k».proof.Proof.Gen.UInRefIdeal.Run
public import Idealize.ShloMosaic.Lib.Pipeline.ValueKit
public import Idealize.ShloMosaic.Lib.StableHlo.Run

@[expose] public section

set_option maxRecDepth 16384

noncomputable section

namespace Cert.UIn.Own
open Cert.UIn Cert.UIn.Gen
open Idealize.ShloMosaic Idealize.ShloMosaic.TcCoe
variable {F : FTy → Type} [FloatOps F] (m : (ℓ : Loc nD τ sig) → Buf (Elt F) ℓ)

/-- The index keeps the part read inside the array. -/
theorem ok (h : (m (((0 : Dev nD).tc : Thread nD τ).loc main_arg2) (ix1 0) : BitVec 32).toNat < 8) : Gen.Ok m := by
  unfold Gen.Ok ok0
  intro i
  have e : (tbl m).at 0 (Rect.unit (s := S1) ![0] S1.size inb_S1_S1_0) numel1_S1 = m (((0 : Dev nD).tc : Thread nD τ).loc main_arg2) (ix1 0) := by
    have e0 : tbl m 0 = m (((0 : Dev nD).tc : Thread nD τ).loc main_arg2) := by rfl
    unfold Pipeline.Prefetch.Contents.at
    rw [e0]
    exact congrArg (m (((0 : Dev nD).tc : Thread nD τ).loc main_arg2)) (Cert.Upd.one _ _)
  unfold cc0_transform_0
  rw [e]
  generalize m (((0 : Dev nD).tc : Thread nD τ).loc main_arg2) (ix1 0) = b at h
  refine ⟨fun a => ?_, .inr (Affine.block_words_dvd (of_decide_eq_true rfl) (by decide))⟩
  exact Cert.Upd.inside 4 256 768 (by decide) b h (i 0) (i 0).isLt a

end Cert.UIn.Own

namespace Cert.Pre_device_in.Own

open Cert.Pre_device_in Idealize.ShloMosaic

/-- The shape relations of the precondition. -/
theorem facts : Facts := ⟨by decide⟩

end Cert.Pre_device_in.Own

namespace Cert.UInRefIdeal.Own

open Cert.UInRefIdeal Cert.UInRefIdeal.Gen
open Idealize.ShloMosaic Idealize.ShloMosaic.TcCoe
open Cert.Upd
open scoped BigOperators

variable (O : FVec Ideal S8x1024x768 .f32) (P : FVec Ideal S7x1024x768 .f32) (b : IVec S1 32) (G W M V : FVec Ideal S1x1024x768 .f32)

/-- The reference's gradient. -/
def grad : FVec Ideal S1x1024x768 .f32 :=
  addf (broadcastInDim S1x1024x768 ![1, 2] bcast_S1024x768_S1x1024x768_1_2 (Host.reduceAdd (select (broadcastInDim S8x1024x768 ![0, 1, 2] bcast_S8x1x1_S8x1024x768_0_1_2 (cmpi .eq (shapeCast _ (iotaInDim S8 32 0) shapeCasts_S8_S8x1x1) (broadcastInDim S8x1x1 ![] bcast_S_S8x1x1 (shapeCast _ b shapeCasts_S1_S_)))) O (broadcastInDim S8x1024x768 ![] bcast_S_S8x1024x768 (id (constant S_ .f32 0x00000000#32)))) (constant S_ .f32 0x00000000#32) reducesTo_S8x1024x768_S1024x768_d0 h_S_)) (broadcastInDim S1x1024x768 ![1, 2] bcast_S1024x768_S1x1024x768_1_2 (Host.reduceAdd P (constant S_ .f32 0x00000000#32) reducesTo_S7x1024x768_S1024x768_d0 h_S_))
theorem grad_eq (hk : (b (ix1 0) : BitVec 32).toNat < 8) : grad O P b = oG O P ⟨(b (ix1 0) : BitVec 32).toNat, hk⟩ := by
  funext i
  idx_vars i
  pointwise [grad, oG, gr]
  refine congrArg₂ (fun a b : EReal => a + b) (Eq.trans (Finset.sum_congr rfl fun r _ => ?_)
    (kept ⟨(b (ix1 0) : BitVec 32).toNat, hk⟩ (fun r => O (ix3 r i1 i2)) (b (ix1 0)) rfl (by decide))) rfl
  exact pick _ _ _
theorem mom_eq : (addf (mulf (broadcastInDim S1x1024x768 ![] bcast_S_S1x1024x768 (constant S_ .f32 0x3F666666#32)) M) (mulf (broadcastInDim S1x1024x768 ![] bcast_S_S1x1024x768 (constant S_ .f32 0x3DCCCCCD#32)) G) : FVec Ideal S1x1024x768 .f32) = fun i => mom (G i) (M i) := by
  funext i
  idx_vars i
  pointwise [mom]
theorem sec_eq : (addf (mulf (broadcastInDim S1x1024x768 ![] bcast_S_S1x1024x768 (constant S_ .f32 0x3F7FBE77#32)) V) (mulf (broadcastInDim S1x1024x768 ![] bcast_S_S1x1024x768 (constant S_ .f32 0x3A83126F#32)) (mulf G G)) : FVec Ideal S1x1024x768 .f32) = fun i => sec (G i) (V i) := by
  funext i
  idx_vars i
  pointwise [sec]
theorem step_eq : (mulf (broadcastInDim S1x1024x768 ![] bcast_S_S1x1024x768 (constant S_ .f32 0xBA83126F#32)) (addf (Host.divf (Host.divf (addf (mulf (broadcastInDim S1x1024x768 ![] bcast_S_S1x1024x768 (constant S_ .f32 0x3F666666#32)) M) (mulf (broadcastInDim S1x1024x768 ![] bcast_S_S1x1024x768 (constant S_ .f32 0x3DCCCCCD#32)) G)) (broadcastInDim S1x1024x768 ![] bcast_S_S1x1024x768 (constant S_ .f32 0x3F26BD02#32))) (addf (Host.sqrt (Host.divf (addf (mulf (broadcastInDim S1x1024x768 ![] bcast_S_S1x1024x768 (constant S_ .f32 0x3F7FBE77#32)) V) (mulf (broadcastInDim S1x1024x768 ![] bcast_S_S1x1024x768 (constant S_ .f32 0x3A83126F#32)) (mulf G G))) (broadcastInDim S1x1024x768 ![] bcast_S_S1x1024x768 (constant S_ .f32 0x3C231ACC#32)))) (broadcastInDim S1x1024x768 ![] bcast_S_S1x1024x768 (constant S_ .f32 0x322BCC77#32)))) (mulf (broadcastInDim S1x1024x768 ![] bcast_S_S1x1024x768 (constant S_ .f32 0x3C23D70A#32)) W)) : FVec Ideal S1x1024x768 .f32) = fun i => step (G i) (W i) (M i) (V i) := by
  funext i
  idx_vars i
  pointwise [step, mom, sec]

end Cert.UInRefIdeal.Own

namespace Cert.UInIdeal.Own

open Cert.UInIdeal Cert.UInIdeal.Gen
open Idealize.ShloMosaic Idealize.ShloMosaic.TcCoe Idealize.SL.Sem
open Cert.Upd
open Cert.UInRefIdeal.Own (grad grad_eq step_eq mom_eq sec_eq)
open scoped BigOperators

section
variable (m : (ℓ : Loc nD τ sig) → Buf (Elt Ideal) ℓ) (hO : Gen.Ok m) (c : Dev nD)

abbrev arg0 : FVec Ideal S8x1024x768 .f32 := m ((c.tc : Thread nD τ).loc main_arg0)
abbrev arg1 : FVec Ideal S7x1024x768 .f32 := m ((c.tc : Thread nD τ).loc main_arg1)
abbrev arg3 : FVec Ideal S1x1024x768 .f32 := m ((c.tc : Thread nD τ).loc main_arg3)
abbrev arg4 : FVec Ideal S1x1024x768 .f32 := m ((c.tc : Thread nD τ).loc main_arg4)
abbrev arg5 : FVec Ideal S1x1024x768 .f32 := m ((c.tc : Thread nD τ).loc main_arg5)

theorem V0_eq : V m c main_v0 = truncf (F := Ideal) (φ := .f32) (s := S8x1024x768) .bf16 (arg0 m c) bitsLt_bf16_f32 := by
  unfold V; after_results_simp; try rfl
theorem V1_eq : V m c main_v1 = truncf (F := Ideal) (φ := .f32) (s := S7x1024x768) .bf16 (arg1 m c) bitsLt_bf16_f32 := by
  unfold V; after_results_simp; try rfl

theorem g_at (x0 : Vec Ideal S1x256x768 .bf16) (x1 x2 x3 x4 x5 x6 x7 : Vec Ideal S1x256x768 .bf16) (p : Fin 256) (k : Fin 768) :
    k0_pay3 x0 x1 x2 x3 x4 x5 x6 x7 (ix2 p k) = (x0 (ix3 0 p k) : EReal) + x1 (ix3 0 p k) + x2 (ix3 0 p k) + x3 (ix3 0 p k) + x4 (ix3 0 p k) + x5 (ix3 0 p k) + x6 (ix3 0 p k) + x7 (ix3 0 p k) := by
  pointwise [k0_pay3]

theorem m_at (g : FVec Ideal S256x768 .f32) (x : Vec Ideal S1x256x768 .f32) (a : Fin 1) (p : Fin 256) (k : Fin 768) :
    k0_pay1 (k0_pay4 g x) (ix3 a p k) = mom (g (ix2 p k)) (x (ix3 a p k)) := by
  pointwise [k0_pay1, k0_pay4, mom] <;> rw [Subsingleton.elim a 0]
theorem v_at (g : FVec Ideal S256x768 .f32) (x : Vec Ideal S1x256x768 .f32) (a : Fin 1) (p : Fin 256) (k : Fin 768) :
    k0_pay2 (k0_pay5 g x) (ix3 a p k) = sec (g (ix2 p k)) (x (ix3 a p k)) := by
  pointwise [k0_pay2, k0_pay5, sec] <;> rw [Subsingleton.elim a 0]
theorem w_at (g : FVec Ideal S256x768 .f32) (x y z : Vec Ideal S1x256x768 .f32) (a : Fin 1) (p : Fin 256) (k : Fin 768) :
    k0_pay7 g x y z (ix3 a p k) = step (g (ix2 p k)) (x (ix3 a p k)) (y (ix3 a p k)) (z (ix3 a p k)) := by
  pointwise [k0_pay7, k0_pay4, k0_pay5, step, mom, sec] <;> rw [Subsingleton.elim a 0]

abbrev key : ℕ := (m (((0 : Dev nD).tc : Thread nD τ).loc main_arg2) (ix1 0) : BitVec 32).toNat

theorem at_key : (tbl m).at 0 (Rect.unit (s := S1) ![0] S1.size inb_S1_S1_0) numel1_S1 = m (((0 : Dev nD).tc : Thread nD τ).loc main_arg2) (ix1 0) := by
  have e0 : tbl m 0 = m (((0 : Dev nD).tc : Thread nD τ).loc main_arg2) := by rfl
  unfold Pipeline.Prefetch.Contents.at
  rw [e0]
  exact congrArg (m (((0 : Dev nD).tc : Thread nD τ).loc main_arg2)) (one _ _)
/-- The index keeps the part read inside the array. -/
theorem ok (h : (m (((0 : Dev nD).tc : Thread nD τ).loc main_arg2) (ix1 0) : BitVec 32).toNat < 8) : Gen.Ok m := by
  unfold Gen.Ok ok0
  intro i
  unfold cc0_transform_0
  rw [at_key]
  generalize m (((0 : Dev nD).tc : Thread nD τ).loc main_arg2) (ix1 0) = b at h
  refine ⟨fun a => ?_, .inr (Affine.block_words_dvd (of_decide_eq_true rfl) (by decide))⟩
  exact inside 4 256 768 (by decide) b h (i 0) (i 0).isLt a

theorem co0 : ∀ t : Fin grid0.N, (BitVec.ofNat 32 (grid0.coords t 0).val).toNat = t.val := by decide +kernel
theorem idx0 (t : Fin (cfgM m hO).N) : ((pcfg0 (F := Ideal)).win (adm m hO) 0).index t = ![key m, t.val, 0] := by
  show cc0_transform_0 inb_S1_S1_0 numel1_S1 (tbl m) (grid0.coords t) = _
  unfold cc0_transform_0
  rw [at_key]
  exact congrArg (fun x => ![key m, x, 0]) (co0 t)
theorem blk0_at (hk : key m < 8) (t : Fin (cfgM m hO).N) (a : Fin 1) (p : Fin 256) (q : Fin 768) :
    iblk m hO c 0 t (ix3 a p q) = arg0 m c (ix3 ⟨key m, hk⟩ ⟨t.val * 256 + p.val, by have h : t.val < 4 := t.isLt; omega⟩ q) := by
  refine Eq.trans ?_ (congrFun (V0_eq m c) _); blk_ext [iblk, V]
  · exact congrFun (idx0 m hO t) 0
  · exact congrArg (fun x => x * 256 + p.val) (congrFun (idx0 m hO t) 1)
  · exact (congrArg (fun x => x * 768 + q.val) (congrFun (idx0 m hO t) 2)).trans (by show 0 * 768 + q.val = q.val; omega)
theorem co1 : ∀ t : Fin grid0.N, cc0_transform_1 (grid0.coords t) = ![0, t.val, 0] := by decide +kernel
theorem blk1_at (t : Fin (cfgM m hO).N) (a : Fin 7) (p : Fin 256) (q : Fin 768) :
    iblk m hO c 1 t (ix3 a p q) = arg1 m c (ix3 a ⟨t.val * 256 + p.val, by have h : t.val < 4 := t.isLt; omega⟩ q) := by
  refine Eq.trans ?_ (congrFun (V1_eq m c) _); blk_ext [iblk, V]
  · exact (rows (co1 t)).2.1 _ _
  · exact (rows (co1 t)).2.2.1 _ _
  · exact (rows (co1 t)).2.2.2 _ _
theorem ld_at (r : Fin 7) (Y : Vec Ideal S7x256x768 .bf16) (h : ∀ a, (![r.val, 0, 0] : Fin 3 → ℕ) a + (![1, 256, 768] : Fin 3 → ℕ) a ≤ S7x256x768.size a) (p : Fin 256) (q : Fin 768) :
    View.ld (Val := Elt Ideal) Y (Rect.unit ![r.val, 0, 0] ![1, 256, 768] h) (ix3 0 p q) = Y (ix3 r p q) := by
  unfold View.ld
  congr 1
  blk_ext
  · simp [LoadRect.idx, Rect.unit]
  · simp [LoadRect.idx, Rect.unit]
  · simp [LoadRect.idx, Rect.unit]
theorem sum_at (X : Vec Ideal S1x256x768 .bf16) (Y : Vec Ideal S7x256x768 .bf16) (p : Fin 256) (q : Fin 768) :
    k0_pay3 X (View.ld (Val := Elt Ideal) Y (Rect.unit ![0, 0, 0] ![1, 256, 768] inb_S7x256x768_S1x256x768_0_0_0))
      (View.ld (Val := Elt Ideal) Y (Rect.unit ![1, 0, 0] ![1, 256, 768] inb_S7x256x768_S1x256x768_1_0_0))
      (View.ld (Val := Elt Ideal) Y (Rect.unit ![2, 0, 0] ![1, 256, 768] inb_S7x256x768_S1x256x768_2_0_0))
      (View.ld (Val := Elt Ideal) Y (Rect.unit ![3, 0, 0] ![1, 256, 768] inb_S7x256x768_S1x256x768_3_0_0))
      (View.ld (Val := Elt Ideal) Y (Rect.unit ![4, 0, 0] ![1, 256, 768] inb_S7x256x768_S1x256x768_4_0_0))
      (View.ld (Val := Elt Ideal) Y (Rect.unit ![5, 0, 0] ![1, 256, 768] inb_S7x256x768_S1x256x768_5_0_0))
      (View.ld (Val := Elt Ideal) Y (Rect.unit ![6, 0, 0] ![1, 256, 768] inb_S7x256x768_S1x256x768_6_0_0)) (ix2 p q)
    = (X (ix3 0 p q) : EReal) + ∑ r : Fin 7, (Y (ix3 r p q) : EReal) := by
  refine (g_at _ _ _ _ _ _ _ _ p q).trans ?_
  rw [Fin.sum_univ_seven]
  simp only [← add_assoc]
  exact congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (congrArg (fun b : EReal => (X (ix3 0 p q) : EReal) + b)
      (ld_at 0 Y _ p q)) (ld_at 1 Y _ p q)) (ld_at 2 Y _ p q)) (ld_at 3 Y _ p q)) (ld_at 4 Y _ p q)) (ld_at 5 Y _ p q)) (ld_at 6 Y _ p q)
/-- The parts read in a block add up to the gradient there. -/
theorem parts (hk : key m < 8) (t : Fin (cfgM m hO).N) {X : Vec Ideal S1x256x768 .bf16} {Y : Vec Ideal S7x256x768 .bf16} (hX : X = iblk m hO c 0 t) (hY : Y = iblk m hO c 1 t)
    (p : Fin 256) (q : Fin 768) : (X (ix3 0 p q) : EReal) + ∑ r : Fin 7, (Y (ix3 r p q) : EReal)
    = gr (arg0 m c) (arg1 m c) ⟨key m, hk⟩ ⟨t.val * 256 + p.val, by have h : t.val < 4 := t.isLt; omega⟩ q :=
  congrArg₂ (fun a b : EReal => a + b) ((congrFun hX _).trans (blk0_at m hO c hk t 0 p q))
    (Finset.sum_congr rfl fun r _ => (congrFun hY _).trans (blk1_at m hO c t r p q))
theorem co2 : ∀ t : Fin grid0.N, cc0_transform_3 (grid0.coords t) = ![0, t.val, 0] := by decide +kernel
theorem blk2_at (t : Fin (cfgM m hO).N) (a : Fin 1) (p : Fin 256) (q : Fin 768) :
    iblk m hO c 2 t (ix3 a p q) = arg3 m c (ix3 a ⟨t.val * 256 + p.val, by have h : t.val < 4 := t.isLt; omega⟩ q) := by
  blk_ext [iblk, V]
  · exact (rows (co2 t)).1
  · exact (rows (co2 t)).2.2.1 _ _
  · exact (rows (co2 t)).2.2.2 _ _
theorem co3 : ∀ t : Fin grid0.N, cc0_transform_4 (grid0.coords t) = ![0, t.val, 0] := by decide +kernel
theorem blk3_at (t : Fin (cfgM m hO).N) (a : Fin 1) (p : Fin 256) (q : Fin 768) :
    iblk m hO c 3 t (ix3 a p q) = arg4 m c (ix3 a ⟨t.val * 256 + p.val, by have h : t.val < 4 := t.isLt; omega⟩ q) := by
  blk_ext [iblk, V]
  · exact (rows (co3 t)).1
  · exact (rows (co3 t)).2.2.1 _ _
  · exact (rows (co3 t)).2.2.2 _ _
theorem co4 : ∀ t : Fin grid0.N, cc0_transform_5 (grid0.coords t) = ![0, t.val, 0] := by decide +kernel
theorem blk4_at (t : Fin (cfgM m hO).N) (a : Fin 1) (p : Fin 256) (q : Fin 768) :
    iblk m hO c 4 t (ix3 a p q) = arg5 m c (ix3 a ⟨t.val * 256 + p.val, by have h : t.val < 4 := t.isLt; omega⟩ q) := by
  blk_ext [iblk, V]
  · exact (rows (co4 t)).1
  · exact (rows (co4 t)).2.2.1 _ _
  · exact (rows (co4 t)).2.2.2 _ _
theorem g5_at (g : FVec Ideal S256x768 .f32) (a : Fin 1) (p : Fin 256) (k : Fin 768) : k0_pay6 g (ix3 a p k) = g (ix2 p k) := by
  pointwise [k0_pay6]

theorem co5 : ∀ t : Fin grid0.N, cc0_transform_6 (grid0.coords t) = ![0, t.val, 0] := by decide +kernel
theorem cov5 (a : (pcfg0 (F := Ideal)).Adm) : (win0 a 5).Covers := by
  refine ⟨(by decide : ∀ x : Fin 3, 0 < S1x256x768.size x), fun β => ?_⟩
  have b0 : (β 0).val < (1 + 1 - 1) / 1 := (β 0).isLt
  have b1 : (β 1).val < (1024 + 256 - 1) / 256 := (β 1).isLt
  have b2 : (β 2).val < (768 + 768 - 1) / 768 := (β 2).isLt
  exact ⟨(⟨(β 1).val, by omega⟩ : Fin 4), flush0_5 a _, fun x => ⟨cell (co5 _) (fun x => (β x).val) (by omega) rfl (by omega) x, .inl rfl⟩⟩

theorem at5 (G : FVec Ideal S1x1024x768 .f32) (t : Fin (cfgM m hO).N) (a : Fin 1) (p : Fin 256) (q : Fin 768) :
    G (((((pcfg0 (F := Ideal)).win (adm m hO) 5).blk t).view).emb (ix3 a p q)) = G (ix3 a ⟨t.val * 256 + p.val, by have h : t.val < 4 := t.isLt; omega⟩ q) := by
  blk_ext
  · exact (rows (co5 t)).1
  · exact (rows (co5 t)).2.2.1 _ _
  · exact (rows (co5 t)).2.2.2 _ _

theorem arr5 (hk : key m < 8) : (dats m hO 0 c).arrAt 5 (cfgM m hO).N = oG (arg0 m c) (arg1 m c) ⟨key m, hk⟩ := by
  refine (dats m hO 0 c).arrAt_eq_of_covers 5 _ (cov5 _) fun t hf y => ?_
  blk_simp
  rw [after0_5]
  unfold outsAt0
  frame_out
  revert y
  show ∀ y : S1x256x768.Idx, _
  intro y
  idx_vars y
  refine Eq.trans ?_ (at5 m hO (oG (arg0 m c) (arg1 m c) ⟨key m, hk⟩) t y0 y1 y2).symm
  exact (g5_at _ _ _ _).trans ((sum_at _ _ _ _).trans (parts m hO c hk t (Memref.IsWhole.read_unread _ _) (Memref.IsWhole.read_unread _ _) y1 y2))

theorem co6 : ∀ t : Fin grid0.N, cc0_transform_7 (grid0.coords t) = ![0, t.val, 0] := by decide +kernel
theorem cov6 (a : (pcfg0 (F := Ideal)).Adm) : (win0 a 6).Covers := by
  refine ⟨(by decide : ∀ x : Fin 3, 0 < S1x256x768.size x), fun β => ?_⟩
  have b0 : (β 0).val < (1 + 1 - 1) / 1 := (β 0).isLt
  have b1 : (β 1).val < (1024 + 256 - 1) / 256 := (β 1).isLt
  have b2 : (β 2).val < (768 + 768 - 1) / 768 := (β 2).isLt
  exact ⟨(⟨(β 1).val, by omega⟩ : Fin 4), flush0_6 a _, fun x => ⟨cell (co6 _) (fun x => (β x).val) (by omega) rfl (by omega) x, .inl rfl⟩⟩

theorem at6 (G : FVec Ideal S1x1024x768 .f32) (t : Fin (cfgM m hO).N) (a : Fin 1) (p : Fin 256) (q : Fin 768) :
    G (((((pcfg0 (F := Ideal)).win (adm m hO) 6).blk t).view).emb (ix3 a p q)) = G (ix3 a ⟨t.val * 256 + p.val, by have h : t.val < 4 := t.isLt; omega⟩ q) := by
  blk_ext
  · exact (rows (co6 t)).1
  · exact (rows (co6 t)).2.2.1 _ _
  · exact (rows (co6 t)).2.2.2 _ _

theorem arr6 (hk : key m < 8) : (dats m hO 0 c).arrAt 6 (cfgM m hO).N = oW (arg0 m c) (arg1 m c) (arg3 m c) (arg4 m c) (arg5 m c) ⟨key m, hk⟩ := by
  refine (dats m hO 0 c).arrAt_eq_of_covers 6 _ (cov6 _) fun t hf y => ?_
  blk_simp
  rw [after0_6]
  unfold outsAt0
  frame_out
  revert y
  show ∀ y : S1x256x768.Idx, _
  intro y
  idx_vars y
  refine Eq.trans ?_ (at6 m hO (oW (arg0 m c) (arg1 m c) (arg3 m c) (arg4 m c) (arg5 m c) ⟨key m, hk⟩) t y0 y1 y2).symm
  refine (w_at _ _ _ _ _ _ _).trans ?_
  exact congr (congr (congrArg₂ step ((sum_at _ _ _ _).trans (parts m hO c hk t (Memref.IsWhole.read_unread _ _) (Memref.IsWhole.read_unread _ _) y1 y2)) ((congrFun (Memref.IsWhole.read_unread _ _) _).trans (blk2_at m hO c t y0 y1 y2))) ((congrFun (Memref.IsWhole.read_unread _ _) _).trans (blk3_at m hO c t y0 y1 y2))) ((congrFun (Memref.IsWhole.read_unread _ _) _).trans (blk4_at m hO c t y0 y1 y2))

theorem co7 : ∀ t : Fin grid0.N, cc0_transform_8 (grid0.coords t) = ![0, t.val, 0] := by decide +kernel
theorem cov7 (a : (pcfg0 (F := Ideal)).Adm) : (win0 a 7).Covers := by
  refine ⟨(by decide : ∀ x : Fin 3, 0 < S1x256x768.size x), fun β => ?_⟩
  have b0 : (β 0).val < (1 + 1 - 1) / 1 := (β 0).isLt
  have b1 : (β 1).val < (1024 + 256 - 1) / 256 := (β 1).isLt
  have b2 : (β 2).val < (768 + 768 - 1) / 768 := (β 2).isLt
  exact ⟨(⟨(β 1).val, by omega⟩ : Fin 4), flush0_7 a _, fun x => ⟨cell (co7 _) (fun x => (β x).val) (by omega) rfl (by omega) x, .inl rfl⟩⟩

theorem at7 (G : FVec Ideal S1x1024x768 .f32) (t : Fin (cfgM m hO).N) (a : Fin 1) (p : Fin 256) (q : Fin 768) :
    G (((((pcfg0 (F := Ideal)).win (adm m hO) 7).blk t).view).emb (ix3 a p q)) = G (ix3 a ⟨t.val * 256 + p.val, by have h : t.val < 4 := t.isLt; omega⟩ q) := by
  blk_ext
  · exact (rows (co7 t)).1
  · exact (rows (co7 t)).2.2.1 _ _
  · exact (rows (co7 t)).2.2.2 _ _

theorem arr7 (hk : key m < 8) : (dats m hO 0 c).arrAt 7 (cfgM m hO).N = oM (arg0 m c) (arg1 m c) (arg4 m c) ⟨key m, hk⟩ := by
  refine (dats m hO 0 c).arrAt_eq_of_covers 7 _ (cov7 _) fun t hf y => ?_
  blk_simp
  rw [after0_7]
  unfold outsAt0
  frame_out
  revert y
  show ∀ y : S1x256x768.Idx, _
  intro y
  idx_vars y
  refine Eq.trans ?_ (at7 m hO (oM (arg0 m c) (arg1 m c) (arg4 m c) ⟨key m, hk⟩) t y0 y1 y2).symm
  refine (m_at _ _ _ _ _).trans ?_
  exact congrArg₂ mom ((sum_at _ _ _ _).trans (parts m hO c hk t (Memref.IsWhole.read_unread _ _) (Memref.IsWhole.read_unread _ _) y1 y2)) ((congrFun (Memref.IsWhole.read_unread _ _) _).trans (blk3_at m hO c t y0 y1 y2))

theorem co8 : ∀ t : Fin grid0.N, cc0_transform_9 (grid0.coords t) = ![0, t.val, 0] := by decide +kernel
theorem cov8 (a : (pcfg0 (F := Ideal)).Adm) : (win0 a 8).Covers := by
  refine ⟨(by decide : ∀ x : Fin 3, 0 < S1x256x768.size x), fun β => ?_⟩
  have b0 : (β 0).val < (1 + 1 - 1) / 1 := (β 0).isLt
  have b1 : (β 1).val < (1024 + 256 - 1) / 256 := (β 1).isLt
  have b2 : (β 2).val < (768 + 768 - 1) / 768 := (β 2).isLt
  exact ⟨(⟨(β 1).val, by omega⟩ : Fin 4), flush0_8 a _, fun x => ⟨cell (co8 _) (fun x => (β x).val) (by omega) rfl (by omega) x, .inl rfl⟩⟩

theorem at8 (G : FVec Ideal S1x1024x768 .f32) (t : Fin (cfgM m hO).N) (a : Fin 1) (p : Fin 256) (q : Fin 768) :
    G (((((pcfg0 (F := Ideal)).win (adm m hO) 8).blk t).view).emb (ix3 a p q)) = G (ix3 a ⟨t.val * 256 + p.val, by have h : t.val < 4 := t.isLt; omega⟩ q) := by
  blk_ext
  · exact (rows (co8 t)).1
  · exact (rows (co8 t)).2.2.1 _ _
  · exact (rows (co8 t)).2.2.2 _ _

theorem arr8 (hk : key m < 8) : (dats m hO 0 c).arrAt 8 (cfgM m hO).N = oV (arg0 m c) (arg1 m c) (arg5 m c) ⟨key m, hk⟩ := by
  refine (dats m hO 0 c).arrAt_eq_of_covers 8 _ (cov8 _) fun t hf y => ?_
  blk_simp
  rw [after0_8]
  unfold outsAt0
  frame_out
  revert y
  show ∀ y : S1x256x768.Idx, _
  intro y
  idx_vars y
  refine Eq.trans ?_ (at8 m hO (oV (arg0 m c) (arg1 m c) (arg5 m c) ⟨key m, hk⟩) t y0 y1 y2).symm
  refine (v_at _ _ _ _ _).trans ?_
  exact congrArg₂ sec ((sum_at _ _ _ _).trans (parts m hO c hk t (Memref.IsWhole.read_unread _ _) (Memref.IsWhole.read_unread _ _) y1 y2)) ((congrFun (Memref.IsWhole.read_unread _ _) _).trans (blk4_at m hO c t y0 y1 y2))
end

/-- What the precondition says of the index. -/
theorem lt_of_pre (m : (ℓ : Loc nD τ sig) → Buf (Elt Ideal) ℓ) (h : Cert.Pre_UInIdeal (hPre_device_in := Cert.Pre_device_in.Own.facts) m) : key m < 8 :=
  toNat_lt _ (congrFun (h 0).1 (ix1 0)) (congrFun (h 0).2 (ix1 0))

/-- The call and the reference end with the same four arrays. -/
theorem algebraic : Cert.algebraic_UInIdeal_UInRefIdeal (hUInIdeal := Cert.UInIdeal.Gen.facts) (hUInRefIdeal := Cert.UInRefIdeal.Gen.facts)
    (hPre_device_in := Cert.Pre_device_in.Own.facts) := by
  intro m g m' g' hpre hargs
  have hk := lt_of_pre m hpre
  have hO := ok m hk
  have h := θ_run_and (unchanged m g hO) (Cert.UInIdeal.Gen.run_main m g hO)
  refine ⟨fun c => oG (arg0 m c) (arg1 m c) ⟨key m, hk⟩, fun c => oW (arg0 m c) (arg1 m c) (arg3 m c) (arg4 m c) (arg5 m c) ⟨key m, hk⟩,
    fun c => oM (arg0 m c) (arg1 m c) (arg4 m c) ⟨key m, hk⟩, fun c => oV (arg0 m c) (arg1 m c) (arg5 m c) ⟨key m, hk⟩,
    (θ_run defs _ _).mono (fun r h c => ⟨((h.2 c).1 5).trans (arr5 m hO c hk), ((h.2 c).1 6).trans (arr6 m hO c hk), ((h.2 c).1 7).trans (arr7 m hO c hk),
      ((h.2 c).1 8).trans (arr8 m hO c hk), h.1 c⟩) h,
    (θ_run Cert.UInRefIdeal.defs _ _).mono (fun r h c => ?_) (Cert.UInRefIdeal.Value.run (F := Ideal) m' g')⟩
  obtain rfl : c = 0 := Subsingleton.elim (α := Fin 1) c 0
  obtain ⟨h0, h1, h2, h3, h4, h5, h6⟩ := hargs 0
  obtain ⟨r0, r1, r2, r3, r4⟩ := h 0
  have eG := (congr (congrArg₂ grad h0 h1) h2).trans (grad_eq (arg0 m 0) (arg1 m 0) (m (((0 : Dev nD).tc : Thread nD τ).loc main_arg2)) hk)
  refine ⟨r0.trans eG, r1.trans ((step_eq _ _ _ _).trans ?_), r2.trans ((mom_eq _ _).trans ?_), r3.trans ((sec_eq _ _).trans ?_), r4⟩
  · exact congr (congr (congrArg₂ (fun (G W M V : FVec Ideal S1x1024x768 .f32) i => step (G i) (W i) (M i) (V i)) eG h3) h4) h5
  · exact congrArg₂ (fun (G M : FVec Ideal S1x1024x768 .f32) i => mom (G i) (M i)) eG h4
  · exact congrArg₂ (fun (G V : FVec Ideal S1x1024x768 .f32) i => sec (G i) (V i)) eG h5

/-- The calls run. -/
theorem frame : Cert.quiescent_UInIdeal (hUInIdeal := Cert.UInIdeal.Gen.facts) (hPre_device_in := Cert.Pre_device_in.Own.facts) :=
  fun m g h => Cert.UInIdeal.Gen.frame m g (ok m (lt_of_pre m h))
theorem frame_bits : Cert.quiescent_UIn (hUIn := Cert.UIn.Gen.facts) (hPre_device_in := Cert.Pre_device_in.Own.facts) :=
  fun m g h => Cert.UIn.Gen.frame m g (Cert.UIn.Own.ok m (toNat_lt _ (congrFun (h 0).1 (ix1 0)) (congrFun (h 0).2 (ix1 0))))
theorem frame_ref : Cert.quiescent_UInRefIdeal (hUInRefIdeal := Cert.UInRefIdeal.Gen.facts) :=
  fun m ρ _ => (θ_run Cert.UInRefIdeal.defs _ _).mono
    (fun r h => ⟨fun c => (h c).2.2.2.2, Idealize.ShloMosaic.sem_eq_zero_of_no_sems (by decide) r.2⟩)
    (Cert.UInRefIdeal.Value.run (F := Ideal) m ρ)

end Cert.UInIdeal.Own

end
-- ==== Proof.FfnPre.lean ====
/- What the precondition says of the arguments: their elements are finite. -/
module

public import proofs.«01_k».proof.Pre_finite
public import proofs.«01_k».proof.Proof.FfnMath
public import Idealize.ShloMosaic.Lib.Pipeline.ValueKit

@[expose] public section

noncomputable section

namespace Cert.Pre_finite.Ffn

open Cert.Pre_finite Cert.Ffn Idealize.ShloMosaic

/-- The shape relations of the precondition. -/
theorem facts : Facts := ⟨by decide, by decide, by decide, by decide⟩

/-- An array whose magnitudes lie below infinity is finite at every index. -/
theorem fin_of_lt {S : Shape} (hb : S_.BroadcastsInDim S (![] : Fin 0 → Fin S.rank)) (x : FVec Ideal S .f32)
    (h : cmpf .olt (Host.absf x) (broadcastInDim S ![] hb (constant S_ .f32 0x7F800000#32)) = fun _ => 1#1) (i : S.Idx) : Fin' (x i) := by
  have e : Ideal.cmp .olt (max (x i : EReal) (-(x i : EReal))) (Ideal.ofBits .f32 0x7F800000#32) = 1#1 := congrFun h i
  rw [inf_val] at e
  have hlt : max (x i : EReal) (-(x i : EReal)) < ⊤ := by
    by_contra hn
    simp [Ideal.cmp, hn] at e
  exact fin_of_abs_lt _ hlt

end Cert.Pre_finite.Ffn

end
-- ==== Proof.FfnRef.lean ====
/- The reference's results, stage by stage, read at an index. -/
module

public import proofs.«01_k».proof.Proof.Gen.ReferenceIdeal.Run
public import proofs.«01_k».proof.Proof.FfnSpec

@[expose] public section

set_option maxRecDepth 16384

noncomputable section

namespace Cert.ReferenceIdeal.Ffn

open Cert.ReferenceIdeal Cert.ReferenceIdeal.Gen Cert.ReferenceIdeal.Value Cert.Ffn Idealize.ShloMosaic Idealize.ShloMosaic.TcCoe
open scoped BigOperators

variable (DH H : FVec Ideal S4160x1024 .f32) (G : FVec Ideal S1x1024 .f32) (W : FVec Ideal S1024x5632 .f32)
  (WD : FVec Ideal S2816x1024 .f32) (TL : FVec Ideal S8x1024 .f32)

/-- The two gradients side by side. -/
def join (a b : FVec Ideal S4160x2816 .f32) : FVec Ideal S4160x5632 .f32 :=
  concatenate S4160x5632 1 [⟨S4160x2816, a⟩, ⟨S4160x2816, b⟩] concatenates_S4160x2816_S4160x2816_S4160x5632_d1
/-- The two gradients stacked. -/
def stack (a b : FVec Ideal S1x4160x2816 .f32) : FVec Ideal S2x4160x2816 .f32 :=
  concatenate S2x4160x2816 0 [⟨S1x4160x2816, a⟩, ⟨S1x4160x2816, b⟩] concatenates_S1x4160x2816_S1x4160x2816_S2x4160x2816_d0
/-- One row among eight. -/
def rows (a : FVec Ideal S1x1024 .f32) (b : FVec Ideal S7x1024 .f32) : FVec Ideal S8x1024 .f32 :=
  concatenate S8x1024 0 [⟨S1x1024, a⟩, ⟨S7x1024, b⟩] concatenates_S1x1024_S7x1024_S8x1024_d0

def tV : FVec Ideal S4160x1 .f32 :=
  addf (Host.divf (broadcastInDim S4160x1 ![0] bcast_S4160_S4160x1_0 (Host.reduceAdd (mulf H H) (constant S_ .f32 0x00000000#32) reducesTo_S4160x1024_S4160_d1 h_S_)) (broadcastInDim S4160x1 ![] bcast_S_S4160x1 (constant S_ .f32 0x44800000#32))) (broadcastInDim S4160x1 ![] bcast_S_S4160x1 (constant S_ .f32 0x358637BD#32))
def tR : FVec Ideal S4160x1 .f32 := Host.rsqrt (tV H)
def tX : FVec Ideal S4160x1024 .f32 := mulf H (broadcastInDim S4160x1024 ![0, 1] bcast_S4160x1_S4160x1024_0_1 (tR H))
def tG : FVec Ideal S4160x1024 .f32 := broadcastInDim S4160x1024 ![0, 1] bcast_S1x1024_S4160x1024_0_1 G
def tGu : FVec Ideal S4160x5632 .f32 := Host.dotGeneral dot_S4160x1024_S1024x5632_S4160x5632_1_0_0_1_n_n none (mulf (tX H) (tG G)) W
def tGate : FVec Ideal S4160x2816 .f32 := extractStridedSlice S4160x2816 ![0, 0] (tGu H G W) slices_S4160x5632_S4160x2816_0_0
def tUp : FVec Ideal S4160x2816 .f32 := extractStridedSlice S4160x2816 ![0, 2816] (tGu H G W) slices_S4160x5632_S4160x2816_0_2816
def tOne : FVec Ideal S4160x2816 .f32 := broadcastInDim S4160x2816 ![] bcast_S_S4160x2816 (constant S_ .f32 0x3F800000#32)
def tSig : FVec Ideal S4160x2816 .f32 := Host.divf tOne (addf tOne (Host.exp (Host.negf (tGate H G W))))
def tSilu : FVec Ideal S4160x2816 .f32 := mulf (tGate H G W) (tSig H G W)
def tAct : FVec Ideal S4160x2816 .f32 := mulf (tSilu H G W) (tUp H G W)
def tHalf : FVec Ideal S4160x1024 .f32 := mulf (broadcastInDim S4160x1024 ![] bcast_S_S4160x1024 (constant S_ .f32 0x3F000000#32)) DH
def tDact : FVec Ideal S4160x2816 .f32 := Host.dotGeneral dot_S4160x1024_S2816x1024_S4160x2816_1_1_0_0_n_n none (tHalf DH) WD
def tDup : FVec Ideal S4160x2816 .f32 := mulf (tSilu H G W) (tDact DH WD)
def tC : FVec Ideal S4160x2816 .f32 := mulf (tDact DH WD) (tUp H G W)
def tDgate : FVec Ideal S4160x2816 .f32 :=
  addf (mulf (tC DH H G W WD) (tSig H G W)) (mulf (mulf (tGate H G W) (tC DH H G W WD)) (mulf (tSig H G W) (subf tOne (tSig H G W))))
def tDn : FVec Ideal S4160x1024 .f32 :=
  Host.dotGeneral dot_S4160x5632_S1024x5632_S4160x1024_1_1_0_0_n_n none (join (tDgate DH H G W WD) (tDup DH H G W WD)) W
def tGy : FVec Ideal S4160x1024 .f32 := mulf (tDn DH H G W WD) (tG G)
def tZ : FVec Ideal S4160x1024 .f32 :=
  broadcastInDim S4160x1024 ![0] bcast_S4160_S4160x1024_0 (Host.reduceAdd (Host.divf (mulf
    (shapeCast S4160x1 (Host.reduceAdd (mulf H (tGy DH H G W WD)) (constant S_ .f32 0x00000000#32) reducesTo_S4160x1024_S4160_d1 h_S_) shapeCasts_S4160_S4160x1)
    (mulf (broadcastInDim S4160x1 ![] bcast_S_S4160x1 (constant S_ .f32 0xBF000000#32)) (Host.divf (tR H) (tV H))))
    (broadcastInDim S4160x1 ![] bcast_S_S4160x1 (constant S_ .f32 0x44800000#32))) (constant S_ .f32 0x00000000#32) reducesTo_S4160x1_S4160_d1 h_S_)
def tDhin : FVec Ideal S4160x1024 .f32 :=
  addf DH (addf (addf (mulf (tGy DH H G W WD) (broadcastInDim S4160x1024 ![0, 1] bcast_S4160x1_S4160x1024_0_1 (tR H))) (mulf H (tZ DH H G W WD))) (mulf (tZ DH H G W WD) H))
def tDgu : FVec Ideal S2x4160x2816 .f32 :=
  stack (broadcastInDim S1x4160x2816 ![1, 2] bcast_S4160x2816_S1x4160x2816_1_2 (tDgate DH H G W WD)) (broadcastInDim S1x4160x2816 ![1, 2] bcast_S4160x2816_S1x4160x2816_1_2 (tDup DH H G W WD))
/-- The scale's gradient, a row. -/
def tRow : FVec Ideal S1x1024 .f32 :=
  shapeCast S1x1024 (Host.reduceAdd (mulf (tX H) (tDn DH H G W WD)) (constant S_ .f32 0x00000000#32) reducesTo_S4160x1024_S1024_d0 h_S_) shapeCasts_S1024_S1x1024
def tDg : FVec Ideal S8x1024 .f32 :=
  addf TL (rows (tRow DH H G W WD) (broadcastInDim S7x1024 ![] bcast_S_S7x1024 (constant S_ .f32 0x00000000#32)))

/-! ## The stages read at an index -/

theorem tV_at (t : Fin 4160) (a : Fin 1) : tV H (ix2 t a) = vr (row H t) := by
  pointwise [tV, vr, row]

theorem tR_at (t : Fin 4160) (a : Fin 1) : tR H (ix2 t a) = rr H t := by
  pointwise [tR, rr]; rw [tV_at]

theorem tX_at (t : Fin 4160) (k : Fin 1024) : tX H (ix2 t k) = row H t k * rr H t := by
  pointwise [tX, row]; rw [tR_at]

theorem tGu_at (t : Fin 4160) (j : Fin 5632) : tGu H G W (ix2 t j) = gu H G W t j := by
  pointwise [tGu, gu, tG]; simp only [tX_at]

theorem tGate_at (t : Fin 4160) (f : Fin 2816) : tGate H G W (ix2 t f) = gu H G W t (lo f) := by
  pointwise [tGate]; rw [tGu_at]

theorem tUp_at (t : Fin 4160) (f : Fin 2816) : tUp H G W (ix2 t f) = gu H G W t (hi f) := by
  pointwise [tUp]; rw [tGu_at]

theorem tSig_at (t : Fin 4160) (f : Fin 2816) : tSig H G W (ix2 t f) = lgs (gu H G W t (lo f)) := by
  pointwise [tSig, tOne, lgs]; rw [tGate_at]

theorem tAct_at (t : Fin 4160) (f : Fin 2816) : tAct H G W (ix2 t f) = act H G W t f := by
  pointwise [tAct, tSilu, act]; rw [tGate_at, tSig_at, tUp_at]

theorem tDact_at (t : Fin 4160) (f : Fin 2816) : tDact DH WD (ix2 t f) = dact DH WD t f := by
  pointwise [tDact, dact, tHalf]

theorem tDup_at (t : Fin 4160) (f : Fin 2816) : tDup DH H G W WD (ix2 t f) = dup DH H G W WD t f := by
  pointwise [tDup, tSilu, dup]; rw [tGate_at, tSig_at, tDact_at, mul_comm]

section fin
variable (hDH : ∀ t k, Fin' (DH (ix2 t k))) (hG : ∀ k, Fin' (G (ix2 0 k))) (hW : ∀ k j, Fin' (W (ix2 k j))) (hWD : ∀ f k, Fin' (WD (ix2 f k)))
include hDH hG hW hWD

theorem tDgate_at (t : Fin 4160) (f : Fin 2816) : tDgate DH H G W WD (ix2 t f) = dgate DH H G W WD t f := by
  pointwise [tDgate, tC, tOne, dgate]; rw [tGate_at, tSig_at, tDact_at, tUp_at]
  exact (dgate_eq _ _ ((fin_dact DH WD hDH hWD t f).mul (fin_gu H G W hG hW t _)) (fin_gu H G W hG hW t _)).symm

theorem tDn_at (t : Fin 4160) (k : Fin 1024) : tDn DH H G W WD (ix2 t k) = dn DH H G W WD t k := by
  pointwise [tDn, join, dn]
  simp only [tDgate_at DH H G W WD hDH hG hW hWD, tDup_at]

theorem tGy_at (t : Fin 4160) (k : Fin 1024) : tGy DH H G W WD (ix2 t k) = dn DH H G W WD t k * G (ix2 0 k) := by
  pointwise [tGy, tG]; rw [tDn_at DH H G W WD hDH hG hW hWD]

theorem tDhin_at (t : Fin 4160) (k : Fin 1024) : tDhin DH H G W WD (ix2 t k) = dhin DH H G W WD t k := by
  pointwise [tDhin, tZ, dhin]
  simp only [tGy_at DH H G W WD hDH hG hW hWD, tR_at, tV_at]
  have h := norm_bwd (row H t) (fun i => dn DH H G W WD t i * G (ix2 0 i)) k
  simp only [Finset.univ_unique, Finset.sum_singleton]
  exact congrArg (DH (ix2 t k) + ·) h.symm

theorem tDgu_at (s : Fin 2) (t : Fin 4160) (f : Fin 2816) :
    tDgu DH H G W WD (ix3 s t f) = if s.val = 0 then dgate DH H G W WD t f else dup DH H G W WD t f := by
  pointwise [tDgu, stack]
  simp only [tDgate_at DH H G W WD hDH hG hW hWD, tDup_at]
  split_ifs <;> first | rfl | omega

theorem tRow_at (k : Fin 1024) : tRow DH H G W WD (ix2 0 k) = dg DH H G W WD k := by
  pointwise [tRow, dg]
  simp only [tDn_at DH H G W WD hDH hG hW hWD, tX_at]
  exact Finset.sum_congr rfl fun t _ => mul_comm _ _

theorem tDg_at (s : Fin 8) (k : Fin 1024) :
    tDg DH H G W WD TL (ix2 s k) = if s.val = 0 then TL (ix2 s k) + dg DH H G W WD k else TL (ix2 s k) := by
  pointwise [tDg, rows]
  fin_vals s with hs
  all_goals simp only [hs, Nat.reduceSub, Nat.reduceLT, Nat.reduceEqDiff, ↓reduceDIte, ↓reduceIte, add_zero]
  exact congrArg (TL (ix2 s k) + ·) (tRow_at DH H G W WD hDH hG hW hWD k)

theorem tDhin_eq : tDhin DH H G W WD = oDhin DH H G W WD := by
  funext i; idx_vars i; exact tDhin_at DH H G W WD hDH hG hW hWD _ _
theorem tDgu_eq : tDgu DH H G W WD = fun i => oDgu DH H G W WD i := by
  funext i; idx_vars i; exact tDgu_at DH H G W WD hDH hG hW hWD _ _ _
theorem tDg_eq : tDg DH H G W WD TL = oDg DH H G W WD 0 TL := by
  funext i; idx_vars i; exact tDg_at DH H G W WD TL hDH hG hW hWD _ _

end fin

/-! ## The printed results are the last stages -/

section out
variable (m : (ℓ : Loc nD τ sig) → Buf (Elt Ideal) ℓ) (c : Dev nD)
abbrev ref0 := m ((c.tc : Thread nD τ).loc main_arg0)
abbrev ref1 := m ((c.tc : Thread nD τ).loc main_arg1)
abbrev ref2 := m ((c.tc : Thread nD τ).loc main_arg2)
abbrev ref3 := m ((c.tc : Thread nD τ).loc main_arg3)
abbrev ref4 := m ((c.tc : Thread nD τ).loc main_arg4)
abbrev ref5 := m ((c.tc : Thread nD τ).loc main_arg5)

set_option maxHeartbeats 4000000 in
theorem out0_eq : res_out0 m c = tDhin (ref0 m c) (ref1 m c) (ref2 m c) (ref3 m c) (ref4 m c) := by
  delta res_out0 res_main_v62 tDhin tDgu tDg tRow tZ tGy tDn tDgate tC tDup tDact tHalf tAct tSilu tSig tOne tUp tGate tGu tG tX tR tV join stack rows
  rfl
set_option maxHeartbeats 4000000 in
theorem out1_eq : res_out1 m c = truncf (ψ := .bf16) (tDgu (ref0 m c) (ref1 m c) (ref2 m c) (ref3 m c) (ref4 m c)) bitsLt_bf16_f32 := by
  delta res_out1 res_main_v66 tDhin tDgu tDg tRow tZ tGy tDn tDgate tC tDup tDact tHalf tAct tSilu tSig tOne tUp tGate tGu tG tX tR tV join stack rows
  rfl
set_option maxHeartbeats 4000000 in
theorem out4_eq : res_out4 m c = tDg (ref0 m c) (ref1 m c) (ref2 m c) (ref3 m c) (ref4 m c) (ref5 m c) := by
  delta res_out4 res_main_v73 tDhin tDgu tDg tRow tZ tGy tDn tDgate tC tDup tDact tHalf tAct tSilu tSig tOne tUp tGate tGu tG tX tR tV join stack rows
  rfl
set_option maxHeartbeats 4000000 in
/-- The reference ends with the same five arrays, where its arguments are finite. -/
theorem value (ρ : Dev nD → PrngReg) (hDH : ∀ c t k, Fin' (ref0 m c (ix2 t k))) (hG : ∀ c k, Fin' (ref2 m c (ix2 0 k)))
    (hW : ∀ c k j, Fin' (ref3 m c (ix2 k j))) (hWD : ∀ c f k, Fin' (ref4 m c (ix2 f k))) :
    θ_run defs (onTc (τ := τ) (main (F := Ideal))) ⟨m, fun _ => 0, ρ⟩ (fun r => ∀ c : Dev nD,
      r.2.mem ((c.tc : Thread nD τ).loc main_v62) = oDhin (ref0 m c) (ref1 m c) (ref2 m c) (ref3 m c) (ref4 m c)
      ∧ r.2.mem ((c.tc : Thread nD τ).loc main_v66) = oDgu (ref0 m c) (ref1 m c) (ref2 m c) (ref3 m c) (ref4 m c)
      ∧ r.2.mem ((c.tc : Thread nD τ).loc main_v67) = oAct (ref1 m c) (ref2 m c) (ref3 m c)
      ∧ r.2.mem ((c.tc : Thread nD τ).loc main_v70) = oHalf (ref0 m c)
      ∧ r.2.mem ((c.tc : Thread nD τ).loc main_v73) = oDg (ref0 m c) (ref1 m c) (ref2 m c) (ref3 m c) (ref4 m c) 0 (ref5 m c)
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) := by
  refine (θ_run defs _ _).mono (fun r h c => ?_) (Value.run (F := Ideal) m ρ)
  obtain ⟨h0, h1, h2, h3, h4, ha⟩ := h c
  refine ⟨h0.trans ((out0_eq m c).trans (tDhin_eq _ _ _ _ _ (hDH c) (hG c) (hW c) (hWD c))), h1.trans ((out1_eq m c).trans ?_), h2.trans ?_, h3.trans ?_,
    h4.trans ((out4_eq m c).trans (tDg_eq _ _ _ _ _ _ (hDH c) (hG c) (hW c) (hWD c))), ha⟩
  · exact (congrArg (fun x => truncf (ψ := .bf16) x bitsLt_bf16_f32) (tDgu_eq _ _ _ _ _ (hDH c) (hG c) (hW c) (hWD c))).trans rfl
  · funext i
    idx_vars i
    exact tAct_at (ref1 m c) (ref2 m c) (ref3 m c) _ _
  · funext i
    idx_vars i
    rfl
end out

end Cert.ReferenceIdeal.Ffn
-- ==== Proof.SecondRef.lean ====
/- The second block's reference: the same stages, the scale's gradient in another of the eight rows. -/
module

public import proofs.«01_k».proof.Proof.Gen.SecondRefIdeal.Run
public import proofs.«01_k».proof.Proof.FfnRef

@[expose] public section

set_option maxRecDepth 16384

noncomputable section

namespace Cert.SecondRefIdeal.Ffn

open Cert.SecondRefIdeal Cert.SecondRefIdeal.Gen Cert.SecondRefIdeal.Value Cert.Ffn Idealize.ShloMosaic Idealize.ShloMosaic.TcCoe
open Cert.ReferenceIdeal.Ffn hiding ref0 ref1 ref2 ref3 ref4 ref5 out0_eq out1_eq out4_eq value rows tDg tDg_at tDg_eq

variable (DH H : FVec Ideal S4160x1024 .f32) (G : FVec Ideal S1x1024 .f32) (W : FVec Ideal S1024x5632 .f32)
  (WD : FVec Ideal S2816x1024 .f32) (TL : FVec Ideal S8x1024 .f32)

/-- One row among eight, three before it. -/
def rows (a : FVec Ideal S3x1024 .f32) (b : FVec Ideal S1x1024 .f32) (c : FVec Ideal S4x1024 .f32) : FVec Ideal S8x1024 .f32 :=
  concatenate S8x1024 0 [⟨S3x1024, a⟩, ⟨S1x1024, b⟩, ⟨S4x1024, c⟩] concatenates_S3x1024_S1x1024_S4x1024_S8x1024_d0
def tDg : FVec Ideal S8x1024 .f32 :=
  addf TL (rows (broadcastInDim S3x1024 ![] bcast_S_S3x1024 (constant S_ .f32 0x00000000#32)) (tRow DH H G W WD)
    (broadcastInDim S4x1024 ![] bcast_S_S4x1024 (constant S_ .f32 0x00000000#32)))

section fin
variable (hDH : ∀ t k, Fin' (DH (ix2 t k))) (hG : ∀ k, Fin' (G (ix2 0 k))) (hW : ∀ k j, Fin' (W (ix2 k j))) (hWD : ∀ f k, Fin' (WD (ix2 f k)))
include hDH hG hW hWD

theorem tDg_at (s : Fin 8) (k : Fin 1024) :
    tDg DH H G W WD TL (ix2 s k) = if s.val = 3 then TL (ix2 s k) + dg DH H G W WD k else TL (ix2 s k) := by
  pointwise [tDg, rows]
  fin_vals s with hs
  all_goals simp only [hs, Nat.reduceSub, Nat.reduceLT, Nat.reduceEqDiff, ↓reduceDIte, ↓reduceIte, add_zero]
  exact congrArg (TL (ix2 s k) + ·) (tRow_at DH H G W WD hDH hG hW hWD k)

theorem tDg_eq : tDg DH H G W WD TL = oDg DH H G W WD 3 TL := by
  funext i; idx_vars i; exact tDg_at DH H G W WD TL hDH hG hW hWD _ _

end fin

/-! ## The printed results are the last stages -/

section out
variable (m : (ℓ : Loc nD τ sig) → Buf (Elt Ideal) ℓ) (c : Dev nD)
abbrev ref0 := m ((c.tc : Thread nD τ).loc main_arg0)
abbrev ref1 := m ((c.tc : Thread nD τ).loc main_arg1)
abbrev ref2 := m ((c.tc : Thread nD τ).loc main_arg2)
abbrev ref3 := m ((c.tc : Thread nD τ).loc main_arg3)
abbrev ref4 := m ((c.tc : Thread nD τ).loc main_arg4)
abbrev ref5 := m ((c.tc : Thread nD τ).loc main_arg5)

set_option maxHeartbeats 4000000 in
theorem out0_eq : res_out0 m c = tDhin (ref0 m c) (ref1 m c) (ref2 m c) (ref3 m c) (ref4 m c) := by
  delta res_out0 res_main_v62 tDhin tDgu tDg tRow tZ tGy tDn tDgate tC tDup tDact tHalf tAct tSilu tSig tOne tUp tGate tGu tG tX tR tV join stack rows
  rfl
set_option maxHeartbeats 4000000 in
theorem out1_eq : res_out1 m c = truncf (ψ := .bf16) (tDgu (ref0 m c) (ref1 m c) (ref2 m c) (ref3 m c) (ref4 m c)) bitsLt_bf16_f32 := by
  delta res_out1 res_main_v66 tDhin tDgu tDg tRow tZ tGy tDn tDgate tC tDup tDact tHalf tAct tSilu tSig tOne tUp tGate tGu tG tX tR tV join stack rows
  rfl
set_option maxHeartbeats 4000000 in
theorem out4_eq : res_out4 m c = tDg (ref0 m c) (ref1 m c) (ref2 m c) (ref3 m c) (ref4 m c) (ref5 m c) := by
  delta res_out4 res_main_v74 tDhin tDgu tDg tRow tZ tGy tDn tDgate tC tDup tDact tHalf tAct tSilu tSig tOne tUp tGate tGu tG tX tR tV join stack rows
  rfl
set_option maxHeartbeats 4000000 in
/-- The second block's reference ends with the same five arrays, where its arguments are finite. -/
theorem value (ρ : Dev nD → PrngReg) (hDH : ∀ c t k, Fin' (ref0 m c (ix2 t k))) (hG : ∀ c k, Fin' (ref2 m c (ix2 0 k)))
    (hW : ∀ c k j, Fin' (ref3 m c (ix2 k j))) (hWD : ∀ c f k, Fin' (ref4 m c (ix2 f k))) :
    θ_run defs (onTc (τ := τ) (main (F := Ideal))) ⟨m, fun _ => 0, ρ⟩ (fun r => ∀ c : Dev nD,
      r.2.mem ((c.tc : Thread nD τ).loc main_v62) = oDhin (ref0 m c) (ref1 m c) (ref2 m c) (ref3 m c) (ref4 m c)
      ∧ r.2.mem ((c.tc : Thread nD τ).loc main_v66) = oDgu (ref0 m c) (ref1 m c) (ref2 m c) (ref3 m c) (ref4 m c)
      ∧ r.2.mem ((c.tc : Thread nD τ).loc main_v67) = oAct (ref1 m c) (ref2 m c) (ref3 m c)
      ∧ r.2.mem ((c.tc : Thread nD τ).loc main_v70) = oHalf (ref0 m c)
      ∧ r.2.mem ((c.tc : Thread nD τ).loc main_v74) = oDg (ref0 m c) (ref1 m c) (ref2 m c) (ref3 m c) (ref4 m c) 3 (ref5 m c)
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) := by
  refine (θ_run defs _ _).mono (fun r h c => ?_) (Value.run (F := Ideal) m ρ)
  obtain ⟨h0, h1, h2, h3, h4, ha⟩ := h c
  refine ⟨h0.trans ((out0_eq m c).trans (tDhin_eq _ _ _ _ _ (hDH c) (hG c) (hW c) (hWD c))), h1.trans ((out1_eq m c).trans ?_), h2.trans ?_, h3.trans ?_,
    h4.trans ((out4_eq m c).trans (tDg_eq _ _ _ _ _ _ (hDH c) (hG c) (hW c) (hWD c))), ha⟩
  · exact (congrArg (fun x => truncf (ψ := .bf16) x bitsLt_bf16_f32) (tDgu_eq _ _ _ _ _ (hDH c) (hG c) (hW c) (hWD c))).trans rfl
  · funext i
    idx_vars i
    exact tAct_at (ref1 m c) (ref2 m c) (ref3 m c) _ _
  · funext i
    idx_vars i
    rfl
end out

end Cert.SecondRefIdeal.Ffn
-- ==== Proof.LossRun.lean ====
/- What the second forward call's points leave behind. -/
module

public import proofs.«01_k».proof.Proof.Gen.LossIdeal
public import proofs.«01_k».proof.Proof.Gen.LossIdeal.Frame
public import proofs.«01_k».proof.Proof.FfnSpec
public import Idealize.ShloMosaic.Lib.Pipeline.ValueKit
public import Idealize.ShloMosaic.Lib.Pipeline.ReadBack
public import Idealize.ShloMosaic.Lib.VecWindow

@[expose] public section

set_option maxRecDepth 16384

noncomputable section

namespace Cert.LossIdeal.Own

open Cert.LossIdeal Cert.LossIdeal.Gen
open Idealize.ShloMosaic Idealize.ShloMosaic.TcCoe Idealize.SL.Sem
open scoped BigOperators

section
variable (m : (ℓ : Loc nD τ sig) → Buf (Elt Ideal) ℓ) (c : Dev nD)

/-- The whole of a buffer once written, a part of it read back. -/
theorem readCov_whole {S : Shape} {e : EltTy} {κ : Kind} {sp : Space} (v : View sig κ sp S e) (w : S.Idx → Elt Ideal e) (r : Rect S) :
    v.readCov [⟨Rect.whole S, w⟩] r.toLoadRect = View.ld (Val := Elt Ideal) w r := by
  rw [View.readCov_eq_canon']
  funext j
  refine Eq.trans ?_ (View.canon_cons_emb (Val := Elt Ideal) (Rect.whole S) w [] (r.idx j))
  rw [Rect.emb_whole_apply]

theorem canon_whole {S : Shape} {e : EltTy} (w : S.Idx → Elt Ideal e) : View.canon (Val := Elt Ideal) [⟨Rect.whole S, w⟩] = w := by
  funext j
  refine Eq.trans ?_ (View.canon_cons_emb (Val := Elt Ideal) (Rect.whole S) w [] j)
  rw [Rect.emb_whole_apply]

/-- The two weights the points keep. -/
abbrev W0 : Vec Ideal S5632x1024 .bf16 := V m c main_v1
abbrev W1 : Vec Ideal S2816x1024 .bf16 := V m c main_v2

/-- The second weight as it is read. -/
def wD : Vec Ideal S2816x1024 .bf16 := View.ld (V m c main_v2) (Rect.unit ![0, 0] ![2816, 1024] inb_S2816x1024_S2816x1024_0_0)
theorem wD_eq : wD m c = W1 m c :=
  View.ld_unit_lit (S := S2816x1024) inb_S2816x1024_S2816x1024_0_0 (V m c main_v2) (by decide)

theorem held (n : ℕ) (hn : n < cfg0.N) : (outsAt0 m c n hn).2.2.2.2.1 = W0 m c ∧ (outsAt0 m c n hn).2.2.2.2.2 = wD m c := by
  induction n with
  | zero =>
    rw [outsAt0_A m c ⟨0, hn⟩ rfl]
    constructor
    · dsimp only; unfold sout0_A_0; frame_out; exact canon_whole _
    · dsimp only; unfold sout0_A_1; frame_out; exact (canon_whole _).trans (wD_eq m c).symm
  | succ n ih =>
    have h : n + 1 < 10 := hn
    rw [outsAt0_B m c ⟨n + 1, hn⟩ (show ¬ (n + 1) % 10 = 0 by omega)]
    exact ih (Nat.lt_of_succ_lt hn)

section point
variable (t : Fin cfg0.N)

/-- The two halves of the joined weight. -/
def wG : Vec Ideal S2816x1024 .bf16 := View.ld (W0 m c) (Rect.unit ![0, 0] ![2816, 1024] inb_S5632x1024_S2816x1024_0_0)
def wU : Vec Ideal S2816x1024 .bf16 := View.ld (W0 m c) (Rect.unit ![2816, 0] ![2816, 1024] inb_S5632x1024_S2816x1024_2816_0)
def gateV : FVec Ideal S416x2816 .f32 := k0_pay4 (iblk m c 0 t) (iblk m c 1 t) (wG m c)
def upV : FVec Ideal S416x2816 .f32 := k0_pay5 (iblk m c 0 t) (iblk m c 1 t) (wU m c)
def rV : FVec Ideal S416x1 .f32 := k0_pay9 (iblk m c 0 t) k0_pay3 (gateV m c t) (upV m c t) (wD m c)
def xrV : FVec Ideal S416x1024 .f32 := k0_pay10 (iblk m c 0 t) k0_pay3 (gateV m c t) (upV m c t) (wD m c)
def difV : FVec Ideal S416x1024 .f32 := k0_pay11 (iblk m c 0 t) k0_pay3 (gateV m c t) (upV m c t) (wD m c) (iblk m c 3 t) (iblk m c 2 t)
def mskV : IVec S416x1 1 := k0_pay12 (BitVec.ofNat 32 (grid0.coords t 0).val)
def dhV : Vec Ideal S416x1024 .f32 := k0_pay16 (iblk m c 3 t) (rV m c t) (xrV m c t) (difV m c t) (FloatOps.ofBits .f32 0#32) (mskV t)
def guV : Vec Ideal S2x416x2816 .bf16 :=
  View.canon [⟨Rect.unit ![1, 0, 0] ![1, 416, 2816] inb_S2x416x2816_S1x416x2816_1_0_0, k0_pay7 (iblk m c 0 t) (iblk m c 1 t) (wU m c)⟩,
    ⟨Rect.unit ![0, 0, 0] ![1, 416, 2816] inb_S2x416x2816_S1x416x2816_0_0_0, k0_pay6 (iblk m c 0 t) (iblk m c 1 t) (wG m c)⟩]
/-- The rows of sums after a point, from the rows before. -/
def rowsV (x : Vec Ideal S8x1024 .f32) : Vec Ideal S8x1024 .f32 :=
  VecWindow.put (VecWindow.put x ![2, 0] S1x1024.size (k0_pay14 (difV m c t) (FloatOps.ofBits .f32 0#32) (mskV t) (View.ld x (Rect.unit ![2, 0] ![1, 1024] inb_S8x1024_S1x1024_2_0))))
    ![1, 0] S1x1024.size (k0_pay17 (xrV m c t) (difV m c t) (FloatOps.ofBits .f32 0#32) (mskV t) (View.ld x (Rect.unit ![1, 0] ![1, 1024] inb_S8x1024_S1x1024_1_0)))

theorem out4 : (outsAt0 m c t.val t.isLt).1 = dhV m c t := by
  by_cases h : t.val % 10 = 0
  · rw [outsAt0_A m c t h]; dsimp only; frame_out; simp only [readCov_whole, ReadAs.apply, View.read_whole]; rfl
  · have hh := held m c (t.val - 1) (Nat.lt_of_le_of_lt (Nat.sub_le _ _) t.isLt)
    rw [outsAt0_B m c t h]; dsimp only; frame_out; simp only [read_unread_whole, hh.1, hh.2]; rfl

theorem out5 : (outsAt0 m c t.val t.isLt).2.1 = guV m c t := by
  by_cases h : t.val % 10 = 0
  · rw [outsAt0_A m c t h]; dsimp only; frame_out; simp only [readCov_whole, ReadAs.apply, View.read_whole]; rfl
  · have hh := held m c (t.val - 1) (Nat.lt_of_le_of_lt (Nat.sub_le _ _) t.isLt)
    rw [outsAt0_B m c t h]; dsimp only; frame_out; simp only [read_unread_whole, hh.1, hh.2]; rfl

theorem out6 : (outsAt0 m c t.val t.isLt).2.2.1 = k0_pay2 (iblk m c 0 t) (iblk m c 1 t) := by
  by_cases h : t.val % 10 = 0
  · rw [outsAt0_A m c t h]; dsimp only; frame_out
  · rw [outsAt0_B m c t h]; dsimp only; frame_out

/-- Two rows written over a block. -/
theorem read_two (v : View sig .tc .vmem S8x1024 .f32) (f : v.ty.Contents (Elt Ideal)) (a b : Vec Ideal S1x1024 .f32) :
    v.read (Elt Ideal) (v.writes (Elt Ideal) f [⟨Rect.unit ![1, 0] ![1, 1024] inb_S8x1024_S1x1024_1_0, a⟩, ⟨Rect.unit ![2, 0] ![1, 1024] inb_S8x1024_S1x1024_2_0, b⟩])
      = VecWindow.put (VecWindow.put (v.read (Elt Ideal) f) ![2, 0] S1x1024.size b) ![1, 0] S1x1024.size a := by
  rw [View.read_writes_cons_put _ _ _ _ _ rfl, View.read_writes_cons_put _ _ _ _ _ rfl, View.writes_nil]

theorem rows_B (h : ¬ t.val % 10 = 0) : (outsAt0 m c t.val t.isLt).2.2.2.1 = rowsV m c t (outsAt0 m c (t.val - 1) (Nat.lt_of_le_of_lt (Nat.sub_le _ _) t.isLt)).2.2.2.1 := by
  have hh := held m c (t.val - 1) (Nat.lt_of_le_of_lt (Nat.sub_le _ _) t.isLt)
  rw [outsAt0_B m c t h]; dsimp only; frame_out; simp only [read_unread_whole, hh.1, hh.2]
  rw [read_two]
  simp only [Memref.IsWhole.read_unread]
  rfl

theorem rows_A (h : t.val % 10 = 0) : (outsAt0 m c t.val t.isLt).2.2.2.1 = rowsV m c t (k0_pay1 (F := Ideal)) := by
  rw [outsAt0_A m c t h]; dsimp only;
  frame_open
  simp (disch := decide) only [↓ View.readCov_skip, ↓ View.readCov_cons_toLoadRect, ↓ View.readCov_fill]
  frame_out; simp only [readCov_whole, ReadAs.apply, View.read_whole]
  rw [← View.read_writes_junk_eq_canon (ms0_7 t).view, View.read_writes_cons_put _ _ _ _ _ rfl, View.read_writes_cons_put _ _ _ _ _ rfl]
  rw [View.read_writes_full (s := S8x1024)]
  rfl

end point
end
end Cert.LossIdeal.Own
end
-- ==== Proof.LossSpec.lean ====
/- What the second forward call computes, element by element, over the extended reals. -/
module

public import proofs.«01_k».proof.Proof.FfnSpec

@[expose] public section

set_option maxRecDepth 16384

noncomputable section

namespace Cert.Tail

open Idealize.ShloMosaic Cert.Ffn
open scoped BigOperators

section spec
variable (H : FVec Ideal ⟨2, ![4160, 1024]⟩ .f32) (G : FVec Ideal ⟨2, ![1, 1024]⟩ .f32) (W : FVec Ideal ⟨2, ![1024, 5632]⟩ .f32)
  (WD : FVec Ideal ⟨2, ![2816, 1024]⟩ .f32) (TG : FVec Ideal ⟨2, ![4160, 1024]⟩ .f32) (GF : FVec Ideal ⟨2, ![1, 1024]⟩ .f32)

/-- The block's output row. -/
def yy (t : Fin 4160) (k : Fin 1024) : EReal := H (ix2 t k) + Ideal.ofBits .f32 0x3F000000#32 * ∑ f, act H G W t f * WD (ix2 f k)
/-- The reciprocal root of an output row. -/
def ry (t : Fin 4160) : EReal := Ideal.rsqrt (vr (yy H G W WD t))
/-- The scaled output row. -/
def yr (t : Fin 4160) (k : Fin 1024) : EReal := yy H G W WD t k * ry H G W WD t
/-- The difference from the target, on the rows that count. -/
def dif (t : Fin 4160) (k : Fin 1024) : EReal :=
  if 16 ≤ t.val ∧ t.val < 4112 then yr H G W WD t k * GF (ix2 0 k) - TG (ix2 t k) else 0
/-- The gradient at the final norm's output. -/
def dy (t : Fin 4160) (k : Fin 1024) : EReal := Ideal.div (dif H G W WD TG GF t k) (Ideal.ofBits .f32 0x44800000#32)
/-- The gradient at the block's output. -/
def dh (t : Fin 4160) (k : Fin 1024) : EReal :=
  ry H G W WD t * (dy H G W WD TG GF t k * GF (ix2 0 k) - yr H G W WD t k *
    Ideal.div (∑ i, dy H G W WD TG GF t i * GF (ix2 0 i) * yr H G W WD t i) (Ideal.ofBits .f32 0x44800000#32))
/-- The gradient at the final norm's scale. -/
def dgf (k : Fin 1024) : EReal := ∑ t, dy H G W WD TG GF t k * yr H G W WD t k
/-- The loss. -/
def loss : EReal := Ideal.ofBits .f32 0x3F000000#32 * ∑ t : Fin 4096,
  Ideal.div (∑ k, dif H G W WD TG GF ⟨16 + t.val, by omega⟩ k * dif H G W WD TG GF ⟨16 + t.val, by omega⟩ k) (Ideal.ofBits .f32 0x44800000#32)

/-- The four result arrays. -/
def oDh : FVec Ideal ⟨2, ![4160, 1024]⟩ .f32 := fun i => dh H G W WD TG GF (i 0) (i 1)
def oGu : FVec Ideal ⟨3, ![2, 4160, 2816]⟩ .bf16 := fun i => if (i 0).val = 0 then gu H G W (i 1) (lo (i 2)) else gu H G W (i 1) (hi (i 2))
def oN : FVec Ideal ⟨2, ![4160, 1024]⟩ .bf16 := fun i => row H (i 0) (i 1) * rr H (i 0) * G (ix2 0 (i 1))
def oRows : FVec Ideal ⟨2, ![8, 1024]⟩ .f32 := fun i =>
  if (i 0).val = 1 then dgf H G W WD TG GF (i 1) else if (i 0).val = 2 then loss H G W WD TG GF else 0

/-- The row tiles' shares make the loss. -/
theorem loss_tiles : (∑ i : Fin 10, Ideal.div (Ideal.ofBits .f32 0x3F000000#32 * ∑ p : Fin 416, ∑ k,
      dif H G W WD TG GF ⟨i.val * 416 + p.val, by omega⟩ k * dif H G W WD TG GF ⟨i.val * 416 + p.val, by omega⟩ k) (Ideal.ofBits .f32 0x44800000#32))
    = loss H G W WD TG GF := by
  have h0 : ∀ t : Fin 4160, ¬ (16 ≤ t.val ∧ t.val < 4112) → ∀ k, dif H G W WD TG GF t k = 0 := fun t ht k => if_neg ht
  unfold loss
  simp only [div_mul, half_val]
  rw [mul_sum_pos _ _ _ (by norm_num), mul_sum_pos _ _ _ (by norm_num), mul_sum_pos _ _ _ (by norm_num), mul_left_comm]
  refine congrArg _ (congrArg _ ?_)
  have ht := Fin.sum_univ_tiles 10 416 rfl (fun t : Fin 4160 => ∑ k, dif H G W WD TG GF t k * dif H G W WD TG GF t k)
  have hs := Fin.sum_univ_two_halves 16 4144 rfl (fun t : Fin 4160 => ∑ k, dif H G W WD TG GF t k * dif H G W WD TG GF t k)
  have hs' := Fin.sum_univ_two_halves 4096 48 rfl (fun t : Fin 4144 => ∑ k, dif H G W WD TG GF ⟨16 + t.val, by omega⟩ k * dif H G W WD TG GF ⟨16 + t.val, by omega⟩ k)
  rw [Finset.sum_eq_zero (s := (Finset.univ : Finset (Fin 16))) (fun t _ => Finset.sum_eq_zero fun k _ => by
    rw [h0 ⟨t.val, _⟩ (by show ¬ (16 ≤ t.val ∧ t.val < 4112); omega) k, mul_zero]), zero_add] at hs
  rw [Finset.sum_eq_zero (s := (Finset.univ : Finset (Fin 48))) (fun t _ => Finset.sum_eq_zero fun k _ => by
    rw [h0 ⟨16 + (4096 + t.val), _⟩ (by show ¬ (16 ≤ 16 + (4096 + t.val) ∧ 16 + (4096 + t.val) < 4112); omega) k, mul_zero]), add_zero] at hs'
  rw [← ht, hs, hs']

end spec

end Cert.Tail
end
-- ==== Proof.LossValue.lean ====
/- The second forward call's blocks, element by element. -/
module

public import proofs.«01_k».proof.Proof.LossRun
public import proofs.«01_k».proof.Proof.LossSpec

@[expose] public section

set_option maxRecDepth 16384

noncomputable section

namespace Cert.LossIdeal.Own

open Cert.LossIdeal Cert.LossIdeal.Gen
open Idealize.ShloMosaic Idealize.ShloMosaic.TcCoe Idealize.SL.Sem
open Cert.Ffn (row rr gu lo hi vr lgs lgs_tanh act)
open Cert.Tail
open scoped BigOperators

variable (m : (ℓ : Loc nD τ sig) → Buf (Elt Ideal) ℓ) (c : Dev nD)
abbrev arg0 : FVec Ideal S4160x1024 .f32 := m ((c.tc : Thread nD τ).loc main_arg0)
abbrev arg1 : FVec Ideal S1x1024 .f32 := m ((c.tc : Thread nD τ).loc main_arg1)
abbrev arg2 : FVec Ideal S1024x5632 .f32 := m ((c.tc : Thread nD τ).loc main_arg2)
abbrev arg3 : FVec Ideal S2816x1024 .f32 := m ((c.tc : Thread nD τ).loc main_arg3)
abbrev arg4 : FVec Ideal S4160x1024 .f32 := m ((c.tc : Thread nD τ).loc main_arg4)
abbrev arg5 : FVec Ideal S1x1024 .f32 := m ((c.tc : Thread nD τ).loc main_arg5)

theorem W0_at (j : Fin 5632) (k : Fin 1024) : W0 m c (ix2 j k) = arg2 m c (ix2 k j) := by
  have h : V m c main_v1 = (truncf (F := Ideal) (φ := .f32) (s := S5632x1024) .bf16 (transpose S5632x1024 [1, 0] (arg2 m c) transposes_S1024x5632_S5632x1024_1_0) bitsLt_bf16_f32 : FVec Ideal S5632x1024 .bf16) := by
    unfold V; after_results_simp; try rfl
  refine (congrFun h _).trans ?_
  pointwise
theorem wD_at (f : Fin 2816) (k : Fin 1024) : wD m c (ix2 f k) = arg3 m c (ix2 f k) := by
  rw [wD_eq]
  have h : V m c main_v2 = (truncf (F := Ideal) (φ := .f32) (s := S2816x1024) .bf16 (arg3 m c) bitsLt_bf16_f32 : FVec Ideal S2816x1024 .bf16) := by
    unfold V; after_results_simp; try rfl
  exact congrFun h _
theorem wG_at (f : Fin 2816) (k : Fin 1024) : wG m c (ix2 f k) = arg2 m c (ix2 k (lo f)) := by
  rw [← W0_at m c]; unfold wG; pointwise
theorem wU_at (f : Fin 2816) (k : Fin 1024) : wU m c (ix2 f k) = arg2 m c (ix2 k (hi f)) := by
  rw [← W0_at m c]; unfold wU; pointwise

/-- The row that place `p` of a point's block stands at. -/
def rw' (t : Fin cfg0.N) (p : Fin 416) : Fin 4160 := ⟨t.val * 416 + p.val, by have h : t.val < 10 := t.isLt; omega⟩

theorem idx0 : ∀ t, win0_0.index t = ![t.val, 0] := by decide +kernel
theorem idx1 : ∀ t, win0_1.index t = ![0, 0] := by decide +kernel
theorem idx2 : ∀ t, win0_2.index t = ![t.val, 0] := by decide +kernel
theorem idx3 : ∀ t, win0_3.index t = ![0, 0] := by decide +kernel

theorem blk0_at (t : Fin cfg0.N) (p : Fin 416) (k : Fin 1024) : iblk m c 0 t (ix2 p k) = arg0 m c (ix2 (rw' t p) k) := by
  refine Eq.trans ?_ (congrFun (V_main_arg0 m c) _); blk_ext [iblk, V, idx0, rw']
theorem blk1_at (t : Fin cfg0.N) (a : Fin 1) (k : Fin 1024) : iblk m c 1 t (ix2 a k) = arg1 m c (ix2 a k) := by
  refine Eq.trans ?_ (congrFun (V_main_arg1 m c) _); blk_ext [iblk, V, idx1]
theorem blk2_at (t : Fin cfg0.N) (p : Fin 416) (k : Fin 1024) : iblk m c 2 t (ix2 p k) = arg4 m c (ix2 (rw' t p) k) := by
  refine Eq.trans ?_ (congrFun (V_main_arg4 m c) _); blk_ext [iblk, V, idx2, rw']
theorem blk3_at (t : Fin cfg0.N) (a : Fin 1) (k : Fin 1024) : iblk m c 3 t (ix2 a k) = arg5 m c (ix2 a k) := by
  refine Eq.trans ?_ (congrFun (V_main_arg5 m c) _); blk_ext [iblk, V, idx3]

local notation "GU" => gu (arg0 m c) (arg1 m c) (arg2 m c)
local notation "YY" => yy (arg0 m c) (arg1 m c) (arg2 m c) (arg3 m c)
local notation "RY" => ry (arg0 m c) (arg1 m c) (arg2 m c) (arg3 m c)
local notation "YR" => yr (arg0 m c) (arg1 m c) (arg2 m c) (arg3 m c)
local notation "DIF" => dif (arg0 m c) (arg1 m c) (arg2 m c) (arg3 m c) (arg4 m c) (arg5 m c)
local notation "DY" => dy (arg0 m c) (arg1 m c) (arg2 m c) (arg3 m c) (arg4 m c) (arg5 m c)
local notation "DHH" => dh (arg0 m c) (arg1 m c) (arg2 m c) (arg3 m c) (arg4 m c) (arg5 m c)

section point
variable (t : Fin cfg0.N) (p : Fin 416) (f : Fin 2816) (k : Fin 1024)

theorem n_at : k0_pay2 (iblk m c 0 t) (iblk m c 1 t) (ix2 p k) = row (arg0 m c) (rw' t p) k * rr (arg0 m c) (rw' t p) * arg1 m c (ix2 0 k) := by
  pointwise [k0_pay2, rr, vr, row]; simp only [blk0_at, blk1_at]
theorem gate_at : gateV m c t (ix2 p f) = GU (rw' t p) (lo f) := by
  pointwise [gateV, k0_pay4, gu]
  exact Finset.sum_congr rfl fun k _ => by rw [n_at, wG_at]
theorem up_at : upV m c t (ix2 p f) = GU (rw' t p) (hi f) := by
  pointwise [upV, k0_pay5, gu]
  exact Finset.sum_congr rfl fun k _ => by rw [n_at, wU_at]
theorem y_at : k0_pay8 (iblk m c 0 t) k0_pay3 (gateV m c t) (upV m c t) (wD m c) (ix2 p k) = YY (rw' t p) k := by
  pointwise [k0_pay8, k0_pay3, yy]
  rw [blk0_at]
  refine congrArg (_ + ·) (congrArg (_ * ·) (Finset.sum_congr rfl fun f _ => ?_))
  rw [gate_at, up_at, wD_at, lgs_tanh]; rfl
theorem r_at (a : Fin 1) : rV m c t (ix2 p a) = RY (rw' t p) := by
  pointwise [rV, k0_pay9, ry, vr]; simp only [y_at]
theorem xr_at : xrV m c t (ix2 p k) = YR (rw' t p) k := by
  have h := r_at m c t p
  unfold rV at h
  pointwise [xrV, k0_pay10, yr]; rw [y_at, h]
theorem difV_at : difV m c t (ix2 p k) = YR (rw' t p) k * arg5 m c (ix2 0 k) - arg4 m c (ix2 (rw' t p) k) := by
  have h := xr_at m c t p
  unfold xrV at h
  pointwise [difV, k0_pay11]; rw [h, blk2_at, blk3_at]

theorem crd : ∀ t : Fin cfg0.N, (grid0.coords t 0).val = t.val := by decide +kernel
theorem msk_word : ∀ (t : Fin 10) (p : Fin 416), IntOp.cmpi .sge (BitVec.ofNat 32 t.val * 416#32 + BitVec.ofNat 32 p.val) 16#32
    &&& IntOp.cmpi .slt (BitVec.ofNat 32 t.val * 416#32 + BitVec.ofNat 32 p.val) 4112#32
      = if 16 ≤ t.val * 416 + p.val ∧ t.val * 416 + p.val < 4112 then 1#1 else 0#1 := by decide +kernel
theorem msk_at (a : Fin 1) : mskV t (ix2 p a) = if 16 ≤ (rw' t p).val ∧ (rw' t p).val < 4112 then 1#1 else 0#1 := by
  refine Eq.trans ?_ (msk_word t p)
  pointwise [mskV, k0_pay12]
  rw [crd]
  rfl

theorem mdif_at : k0_pay13 (difV m c t) (0 : EReal) (mskV t) (ix2 p k) = DIF (rw' t p) k := by
  pointwise [k0_pay13, dif]
  rw [msk_at, difV_at]
  split_ifs <;> rfl
theorem dy_at : k0_pay15 (difV m c t) (0 : EReal) (mskV t) (ix2 p k) = DY (rw' t p) k := by
  pointwise [k0_pay15, dy]; rw [mdif_at]
theorem dhV_at : dhV m c t (ix2 p k) = DHH (rw' t p) k := by
  pointwise [dhV, k0_pay16, dh]
  simp only [dy_at, r_at, xr_at, blk3_at]

/-- The stacked block: the gate's half, then the up branch's. -/
theorem guV_at (s : Fin 2) : guV m c t (ix3 s p f) = if s.val = 0 then GU (rw' t p) (lo f) else GU (rw' t p) (hi f) := by
  unfold guV
  fin_cases s
  · have h0 : (ix3 (0 : Fin 2) p f : S2x416x2816.Idx) = (Rect.unit (s := S2x416x2816) ![0, 0, 0] S1x416x2816.size inb_S2x416x2816_S1x416x2816_0_0_0).emb (ix3 (0 : Fin 1) p f) :=
      funext fun a => Fin.ext (by
        fin_cases a
        · rfl
        · show p.val = 0 + 1 * p.val; omega
        · show f.val = 0 + 1 * f.val; omega)
    refine (View.canon_cons_of_not_mem _ _ ?_).trans ?_
    · rw [Rect.mem_set_unit]; intro h; have := (h 0).1; simp [ix3] at this
    · refine (congrArg _ h0).trans ((View.canon_cons_emb _ _ _ _).trans ?_)
      have h := gate_at m c t p f
      unfold gateV at h
      pointwise [k0_pay6]; rw [h]
  · have h0 : (ix3 (1 : Fin 2) p f : S2x416x2816.Idx) = (Rect.unit (s := S2x416x2816) ![1, 0, 0] S1x416x2816.size inb_S2x416x2816_S1x416x2816_1_0_0).emb (ix3 (0 : Fin 1) p f) :=
      funext fun a => Fin.ext (by
        fin_cases a
        · rfl
        · show p.val = 0 + 1 * p.val; omega
        · show f.val = 0 + 1 * f.val; omega)
    refine (congrArg _ h0).trans ((View.canon_cons_emb _ _ _ _).trans ?_)
    have h := up_at m c t p f
    unfold upV at h
    pointwise [k0_pay7]; rw [h]

end point

/-! ## The rows of sums -/

theorem put_at (r : Fin 8) (x : Vec Ideal S8x1024 .f32) (w : Vec Ideal S1x1024 .f32) (s : Fin 8) (k : Fin 1024) :
    VecWindow.put x ![r.val, 0] S1x1024.size w (ix2 s k) = if s.val = r.val then w (ix2 0 k) else x (ix2 s k) := by
  unfold VecWindow.put
  by_cases hs : s.val = r.val
  · rw [dif_pos (fun a => by fin_cases a <;> simp [ix2, hs]), if_pos hs]
    exact congrArg w (funext fun a => Fin.ext (by fin_cases a <;> simp [Rect.unitLocal, ix2, hs]))
  · rw [dif_neg (fun h => hs (by have := h 0; simp [ix2] at this; omega)), if_neg hs]

/-- A row tile's share of the scale's gradient and of the loss. -/
def tileG (k : Fin 1024) (i : ℕ) : EReal :=
  if h : i < 10 then ∑ p : Fin 416, DY ⟨i * 416 + p.val, by omega⟩ k * YR ⟨i * 416 + p.val, by omega⟩ k else 0
def tileL (i : ℕ) : EReal :=
  if h : i < 10 then Ideal.div (Ideal.ofBits .f32 0x3F000000#32 * ∑ p : Fin 416, ∑ k,
    DIF ⟨i * 416 + p.val, by omega⟩ k * DIF ⟨i * 416 + p.val, by omega⟩ k) (Ideal.ofBits .f32 0x44800000#32) else 0

theorem lossRow_at (t : Fin cfg0.N) (x : Vec Ideal S1x1024 .f32) (a : Fin 1) (k : Fin 1024) :
    k0_pay14 (difV m c t) (FloatOps.ofBits .f32 0#32) (mskV t) x (ix2 a k) = (x (ix2 a k) : EReal) + tileL m c t.val := by
  have ht : t.val < 10 := t.isLt
  rw [tileL, dif_pos ht]
  pointwise [k0_pay14]
  simp only [mdif_at]
  rfl
theorem scaleRow_at (t : Fin cfg0.N) (x : Vec Ideal S1x1024 .f32) (a : Fin 1) (k : Fin 1024) :
    k0_pay17 (xrV m c t) (difV m c t) (FloatOps.ofBits .f32 0#32) (mskV t) x (ix2 a k) = (x (ix2 a k) : EReal) + tileG m c k t.val := by
  have ht : t.val < 10 := t.isLt
  rw [tileG, dif_pos ht]
  pointwise [k0_pay17]
  simp only [dy_at, xr_at]
  rfl

theorem rowsV_at (t : Fin cfg0.N) (x : Vec Ideal S8x1024 .f32) (s : Fin 8) (k : Fin 1024) :
    rowsV m c t x (ix2 s k) = if s.val = 1 then (x (ix2 s k) : EReal) + tileG m c k t.val
      else if s.val = 2 then (x (ix2 s k) : EReal) + tileL m c t.val else x (ix2 s k) := by
  refine (put_at 1 _ _ s k).trans ?_
  by_cases h1 : s.val = 1
  · refine (if_pos h1).trans (Eq.trans ?_ (if_pos h1).symm)
    rw [scaleRow_at]
    exact congrArg (· + _) (congrArg x (funext fun a => Fin.ext (by fin_cases a <;> simp [ix2, h1])))
  refine (if_neg h1).trans (Eq.trans ?_ (if_neg h1).symm)
  refine (put_at 2 _ _ s k).trans ?_
  by_cases h2 : s.val = 2
  · refine (if_pos h2).trans (Eq.trans ?_ (if_pos h2).symm)
    rw [lossRow_at]
    exact congrArg (· + _) (congrArg x (funext fun a => Fin.ext (by fin_cases a <;> simp [ix2, h2])))
  · exact (if_neg h2).trans (if_neg h2).symm

/-- The rows after a point are the sums over the tiles so far. -/
theorem rows_at (s : Fin 8) (k : Fin 1024) : ∀ (n : ℕ) (h : n < cfg0.N), (outsAt0 m c n h).2.2.2.1 (ix2 s k)
    = if s.val = 1 then ∑ i ∈ Finset.range (n + 1), tileG m c k i else if s.val = 2 then ∑ i ∈ Finset.range (n + 1), tileL m c i else 0 := by
  intro n
  induction n with
  | zero =>
    intro h
    rw [rows_A m c ⟨0, h⟩ rfl, rowsV_at]
    have hz : k0_pay1 (F := Ideal) (ix2 s k) = (0 : EReal) := by pointwise [k0_pay1]
    simp only [hz, Finset.sum_range_one, zero_add]
  | succ n ih =>
    intro h
    have ih := ih (by omega)
    have hh : n + 1 < 10 := h
    rw [rows_B m c ⟨n + 1, h⟩ (show ¬ (n + 1) % 10 = 0 by omega), rowsV_at]
    simp only [Nat.add_sub_cancel, ih]
    rw [Finset.sum_range_succ _ (n + 1), Finset.sum_range_succ _ (n + 1)]
    split_ifs <;> rfl

theorem tilesG (k : Fin 1024) : ∑ i ∈ Finset.range 10, tileG m c k i = dgf (arg0 m c) (arg1 m c) (arg2 m c) (arg3 m c) (arg4 m c) (arg5 m c) k := by
  unfold dgf
  rw [Fin.sum_univ_tiles 10 416 rfl, ← Fin.sum_univ_eq_sum_range (fun i => tileG m c k i)]
  exact Finset.sum_congr rfl fun i _ => dif_pos i.isLt
theorem tilesL :
    ∑ i ∈ Finset.range 10, tileL m c i = loss (arg0 m c) (arg1 m c) (arg2 m c) (arg3 m c) (arg4 m c) (arg5 m c) := by
  rw [← loss_tiles, ← Fin.sum_univ_eq_sum_range (fun i => tileL m c i)]
  exact Finset.sum_congr rfl fun i _ => dif_pos i.isLt

/-! ## The result arrays -/

abbrev res0 : FVec Ideal S4160x1024 .f32 := oDh (arg0 m c) (arg1 m c) (arg2 m c) (arg3 m c) (arg4 m c) (arg5 m c)
abbrev res1 : FVec Ideal S2x4160x2816 .bf16 := oGu (arg0 m c) (arg1 m c) (arg2 m c)
abbrev res2 : FVec Ideal S4160x1024 .bf16 := oN (arg0 m c) (arg1 m c)
abbrev res3 : FVec Ideal S8x1024 .f32 := oRows (arg0 m c) (arg1 m c) (arg2 m c) (arg3 m c) (arg4 m c) (arg5 m c)

theorem idx4 : ∀ t, win0_4.index t = ![t.val, 0] := by decide +kernel
theorem idx5 : ∀ t, win0_5.index t = ![0, t.val, 0] := by decide +kernel
theorem idx6 : ∀ t, win0_6.index t = ![t.val, 0] := by decide +kernel
theorem idx7 : ∀ t, win0_7.index t = ![0, 0] := by decide +kernel
theorem last7 : ∀ t : Fin cfg0.N, (cfg0.win 7).flush t = true → t.val = 9 := by decide +kernel

theorem at4 (G : FVec Ideal S4160x1024 .f32) (t : Fin cfg0.N) (p : Fin 416) (k : Fin 1024) :
    G (((View.whole main_v3_0).slice (win0_4.rect t)).emb (ix2 p k)) = G (ix2 (rw' t p) k) := by blk_ext [idx4, rw']
theorem at5 (G : FVec Ideal S2x4160x2816 .bf16) (t : Fin cfg0.N) (a : Fin 2) (p : Fin 416) (q : Fin 2816) :
    G (((View.whole main_v3_1).slice (win0_5.rect t)).emb (ix3 a p q)) = G (ix3 a (rw' t p) q) := by blk_ext [idx5, rw']
theorem at6 (G : FVec Ideal S4160x1024 .bf16) (t : Fin cfg0.N) (p : Fin 416) (k : Fin 1024) :
    G (((View.whole main_v3_2).slice (win0_6.rect t)).emb (ix2 p k)) = G (ix2 (rw' t p) k) := by blk_ext [idx6, rw']
theorem at7 (G : FVec Ideal S8x1024 .f32) (t : Fin cfg0.N) (s : Fin 8) (k : Fin 1024) :
    G (((View.whole main_v3_3).slice (win0_7.rect t)).emb (ix2 s k)) = G (ix2 s k) := by blk_ext [idx7]

theorem arr4 : (dats m 0 c).arrAt 4 (cfgs 0).N = res0 m c := by
  refine (dats m 0 c).arrAt_eq_of_covers 4 _ (by decide +kernel) fun t hf y => ?_
  blk_simp
  rw [after0_4]
  idx_vars y
  refine (congrFun (out4 m c t) _).trans ((dhV_at m c t _ _).trans ?_)
  exact (at4 (res0 m c) t _ _).symm
theorem arr5 : (dats m 0 c).arrAt 5 (cfgs 0).N = res1 m c := by
  refine (dats m 0 c).arrAt_eq_of_covers 5 _ (by decide +kernel) fun t hf y => ?_
  blk_simp
  rw [after0_5]
  idx_vars y
  refine (congrFun (out5 m c t) _).trans ((guV_at m c t _ _ _).trans ?_)
  exact (at5 (res1 m c) t _ _ _).symm
theorem arr6 : (dats m 0 c).arrAt 6 (cfgs 0).N = res2 m c := by
  refine (dats m 0 c).arrAt_eq_of_covers 6 _ (by decide +kernel) fun t hf y => ?_
  blk_simp
  rw [after0_6]
  idx_vars y
  refine (congrFun (out6 m c t) _).trans ((n_at m c t _ _).trans ?_)
  exact (at6 (res2 m c) t _ _).symm
theorem arr7 : (dats m 0 c).arrAt 7 (cfgs 0).N = res3 m c := by
  refine (dats m 0 c).arrAt_eq_of_covers 7 _ (by decide +kernel) fun t hf y => ?_
  blk_simp
  rw [after0_7]
  idx_vars y
  refine (rows_at m c _ _ t.val t.isLt).trans ?_
  rw [show t.val + 1 = 10 by rw [last7 t hf], tilesG, tilesL m c]
  exact (at7 (res3 m c) t _ _).symm

/-- The call ends with the four result arrays, its arguments unchanged. -/
theorem value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3_0) = res0 m c ∧ r.2.mem ((c.tc : Thread nD τ).loc main_v3_1) = res1 m c
      ∧ r.2.mem ((c.tc : Thread nD τ).loc main_v3_2) = res2 m c ∧ r.2.mem ((c.tc : Thread nD τ).loc main_v3_3) = res3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.2 c).1 4).trans (arr4 m c), ((h.2 c).1 5).trans (arr5 m c), ((h.2 c).1 6).trans (arr6 m c),
    ((h.2 c).1 7).trans (arr7 m c), h.1 c⟩) (θ_run_and (unchanged m ρ) (run_main m ρ))

end Cert.LossIdeal.Own
end
-- ==== Proof.LossRef.lean ====
/- The second forward call's reference, stage by stage. -/
module

public import proofs.«01_k».proof.Proof.Gen.LossRefIdeal.Run
public import proofs.«01_k».proof.Proof.FfnRef
public import proofs.«01_k».proof.Proof.LossSpec

@[expose] public section

set_option maxRecDepth 16384

noncomputable section

namespace Cert.LossRefIdeal.Own

open Cert.LossRefIdeal Cert.LossRefIdeal.Gen Cert.LossRefIdeal.Value Cert.Ffn Cert.Tail Idealize.ShloMosaic Idealize.ShloMosaic.TcCoe
open Cert.ReferenceIdeal.Ffn (tV tR tX tG tGu tGate tUp tOne tSig tSilu tAct stack tV_at tR_at tX_at tGate_at tUp_at tAct_at)
open scoped BigOperators

variable (H : FVec Ideal S4160x1024 .f32) (G : FVec Ideal S1x1024 .f32) (W : FVec Ideal S1024x5632 .f32)
  (WD : FVec Ideal S2816x1024 .f32) (TG : FVec Ideal S4160x1024 .f32) (GF : FVec Ideal S1x1024 .f32)

/-- The eight rows of sums. -/
def rows (a b c : FVec Ideal S1x1024 .f32) (d : FVec Ideal S5x1024 .f32) : FVec Ideal S8x1024 .f32 :=
  concatenate S8x1024 0 [⟨S1x1024, a⟩, ⟨S1x1024, b⟩, ⟨S1x1024, c⟩, ⟨S5x1024, d⟩] concatenates_S1x1024_S1x1024_S1x1024_S5x1024_S8x1024_d0

def tY : FVec Ideal S4160x1024 .f32 :=
  addf H (mulf (broadcastInDim S4160x1024 ![] bcast_S_S4160x1024 (constant S_ .f32 0x3F000000#32)) (Host.dotGeneral dot_S4160x2816_S2816x1024_S4160x1024_1_0_0_1_n_n none (tAct H G W) WD))
/-- The difference from the target, on the rows that count. -/
def tDif : FVec Ideal S4096x1024 .f32 :=
  extractStridedSlice S4096x1024 ![16, 0] (subf (mulf (tX (tY H G W WD)) (tG GF)) TG) slices_S4160x1024_S4096x1024_16_0
def tLoss : FVec Ideal S_ .f32 :=
  mulf (constant S_ .f32 0x3F000000#32) (Host.reduceAdd (Host.divf (Host.reduceAdd (mulf (tDif H G W WD TG GF) (tDif H G W WD TG GF)) (constant S_ .f32 0x00000000#32) reducesTo_S4096x1024_S4096_d1 h_S_)
    (broadcastInDim S4096 ![] bcast_S_S4096 (constant S_ .f32 0x44800000#32))) (constant S_ .f32 0x00000000#32) reducesTo_S4096_S_d0 h_S_)
def tDy : FVec Ideal S4160x1024 .f32 :=
  pad S4160x1024 ![16, 0] ![48, 0] ![0, 0] (mulf (broadcastInDim S4096x1024 ![0] bcast_S4096_S4096x1024_0
      (Host.divf (broadcastInDim S4096 ![] bcast_S_S4096 (mulf (constant S_ .f32 0x3F000000#32) (constant S_ .f32 0x3F800000#32))) (broadcastInDim S4096 ![] bcast_S_S4096 (constant S_ .f32 0x44800000#32))))
    (mulf (broadcastInDim S4096x1024 ![] bcast_S_S4096x1024 (constant S_ .f32 0x40000000#32)) (tDif H G W WD TG GF))) (constant S_ .f32 0x00000000#32) pads_S4096x1024_S4160x1024_16480_000 h_S_
def tGy : FVec Ideal S4160x1024 .f32 := mulf (tDy H G W WD TG GF) (tG GF)
def tZ : FVec Ideal S4160x1024 .f32 :=
  broadcastInDim S4160x1024 ![0] bcast_S4160_S4160x1024_0 (Host.reduceAdd (Host.divf (mulf
    (shapeCast S4160x1 (Host.reduceAdd (mulf (tY H G W WD) (tGy H G W WD TG GF)) (constant S_ .f32 0x00000000#32) reducesTo_S4160x1024_S4160_d1 h_S_) shapeCasts_S4160_S4160x1)
    (mulf (broadcastInDim S4160x1 ![] bcast_S_S4160x1 (constant S_ .f32 0xBF000000#32)) (Host.divf (tR (tY H G W WD)) (tV (tY H G W WD)))))
    (broadcastInDim S4160x1 ![] bcast_S_S4160x1 (constant S_ .f32 0x44800000#32))) (constant S_ .f32 0x00000000#32) reducesTo_S4160x1_S4160_d1 h_S_)
def tDh : FVec Ideal S4160x1024 .f32 :=
  addf (addf (mulf (tGy H G W WD TG GF) (broadcastInDim S4160x1024 ![0, 1] bcast_S4160x1_S4160x1024_0_1 (tR (tY H G W WD)))) (mulf (tY H G W WD) (tZ H G W WD TG GF))) (mulf (tZ H G W WD TG GF) (tY H G W WD))
/-- The final scale's gradient, a row. -/
def tRow : FVec Ideal S1x1024 .f32 :=
  shapeCast S1x1024 (Host.reduceAdd (mulf (tX (tY H G W WD)) (tDy H G W WD TG GF)) (constant S_ .f32 0x00000000#32) reducesTo_S4160x1024_S1024_d0 h_S_) shapeCasts_S1024_S1x1024
def tRows : FVec Ideal S8x1024 .f32 :=
  rows (broadcastInDim S1x1024 ![] bcast_S_S1x1024 (constant S_ .f32 0x00000000#32)) (tRow H G W WD TG GF) (broadcastInDim S1x1024 ![] bcast_S_S1x1024 (tLoss H G W WD TG GF))
    (broadcastInDim S5x1024 ![] bcast_S_S5x1024 (constant S_ .f32 0x00000000#32))
def tStack : FVec Ideal S2x4160x2816 .f32 :=
  stack (broadcastInDim S1x4160x2816 ![1, 2] bcast_S4160x2816_S1x4160x2816_1_2 (tGate H G W)) (broadcastInDim S1x4160x2816 ![1, 2] bcast_S4160x2816_S1x4160x2816_1_2 (tUp H G W))

/-! ## The stages read at an index -/

theorem tY_at (t : Fin 4160) (k : Fin 1024) : tY H G W WD (ix2 t k) = yy H G W WD t k := by
  pointwise [tY, yy]; simp only [tAct_at]
theorem row_tY (t : Fin 4160) : row (tY H G W WD) t = yy H G W WD t := funext fun k => tY_at H G W WD t k
theorem tRY_at (t : Fin 4160) (a : Fin 1) : tR (tY H G W WD) (ix2 t a) = ry H G W WD t := by
  rw [tR_at, rr, row_tY]; rfl
theorem tVY_at (t : Fin 4160) (a : Fin 1) : tV (tY H G W WD) (ix2 t a) = vr (yy H G W WD t) := by
  rw [tV_at, row_tY]
theorem tXY_at (t : Fin 4160) (k : Fin 1024) : tX (tY H G W WD) (ix2 t k) = yr H G W WD t k := by
  rw [tX_at, rr, row_tY]; rfl
theorem tDif_at (t : Fin 4096) (k : Fin 1024) : tDif H G W WD TG GF (ix2 t k) = dif H G W WD TG GF ⟨16 + t.val, by omega⟩ k := by
  unfold dif
  rw [if_pos (show 16 ≤ 16 + t.val ∧ 16 + t.val < 4112 by omega)]
  pointwise [tDif, tG]
  rw [tXY_at]
theorem tLoss_at (i : S_.Idx) : tLoss H G W WD TG GF i = loss H G W WD TG GF := by
  pointwise [tLoss, loss]
  simp only [tDif_at]

theorem two_val : Ideal.ofBits .f32 0x40000000#32 = ((2 : ℝ) : EReal) := by
  simp [Ideal.ofBits, Ideal.ieee, -EReal.coe_mul]; norm_num

theorem tDy_at (t : Fin 4160) (k : Fin 1024) : tDy H G W WD TG GF (ix2 t k) = dy H G W WD TG GF t k := by
  pointwise [tDy]
  unfold dy
  by_cases h : 16 ≤ t.val ∧ t.val < 4112
  · rw [dif_pos (by omega), tDif_at]
    have ht : (⟨16 + (t.val - 16), by omega⟩ : Fin 4160) = t := Fin.ext (by show 16 + (t.val - 16) = t.val; omega)
    simp only [ht]
    rw [half_val, two_val, div_k, div_mul, ← mul_assoc, ← EReal.coe_mul]
    refine congrArg (· * _) (congrArg _ ?_)
    norm_num
  · rw [dif_neg (by omega), dif, if_neg h, div_mul, mul_zero]
theorem tGy_at (t : Fin 4160) (k : Fin 1024) : tGy H G W WD TG GF (ix2 t k) = dy H G W WD TG GF t k * GF (ix2 0 k) := by
  pointwise [tGy, tG]; rw [tDy_at H G W WD TG GF]
theorem tDh_at (t : Fin 4160) (k : Fin 1024) : tDh H G W WD TG GF (ix2 t k) = dh H G W WD TG GF t k := by
  pointwise [tDh, tZ, dh]
  simp only [tGy_at H G W WD TG GF, tRY_at, tVY_at, tY_at]
  have h := norm_bwd (yy H G W WD t) (fun i => dy H G W WD TG GF t i * GF (ix2 0 i)) k
  simp only [Finset.univ_unique, Finset.sum_singleton]
  exact h.symm
theorem tRow_at (k : Fin 1024) : tRow H G W WD TG GF (ix2 0 k) = dgf H G W WD TG GF k := by
  pointwise [tRow, dgf]
  simp only [tDy_at H G W WD TG GF, tXY_at]
  exact Finset.sum_congr rfl fun t _ => mul_comm _ _
theorem tRows_at (s : Fin 8) (k : Fin 1024) :
    tRows H G W WD TG GF (ix2 s k) = if s.val = 1 then dgf H G W WD TG GF k else if s.val = 2 then loss H G W WD TG GF else 0 := by
  pointwise [tRows, rows]
  fin_vals s with hs
  all_goals simp only [hs, Nat.reduceSub, Nat.reduceLT, Nat.reduceEqDiff, ↓reduceDIte, ↓reduceIte, tLoss_at]
  exact tRow_at H G W WD TG GF k

theorem tStack_at (s : Fin 2) (t : Fin 4160) (f : Fin 2816) :
    tStack H G W (ix3 s t f) = if s.val = 0 then gu H G W t (lo f) else gu H G W t (hi f) := by
  pointwise [tStack, stack]
  simp only [tGate_at, tUp_at]
  split_ifs <;> first | rfl | omega

/-! ## The printed results are the last stages -/

section out
variable (m : (ℓ : Loc nD τ sig) → Buf (Elt Ideal) ℓ) (c : Dev nD)
abbrev ref0 := m ((c.tc : Thread nD τ).loc main_arg0)
abbrev ref1 := m ((c.tc : Thread nD τ).loc main_arg1)
abbrev ref2 := m ((c.tc : Thread nD τ).loc main_arg2)
abbrev ref3 := m ((c.tc : Thread nD τ).loc main_arg3)
abbrev ref4 := m ((c.tc : Thread nD τ).loc main_arg4)
abbrev ref5 := m ((c.tc : Thread nD τ).loc main_arg5)

set_option maxHeartbeats 4000000 in
theorem out0_eq : res_out0 m c = tDh (ref0 m c) (ref1 m c) (ref2 m c) (ref3 m c) (ref4 m c) (ref5 m c) := by
  delta res_out0 res_main_v77 tDh tZ tGy tDy tDif tY tAct tSilu tSig tOne tUp tGate tGu tG tX tR tV
  rfl
set_option maxHeartbeats 4000000 in
theorem out3_eq : res_out3 m c = tRows (ref0 m c) (ref1 m c) (ref2 m c) (ref3 m c) (ref4 m c) (ref5 m c) := by
  delta res_out3 res_main_v81 tRows rows tRow tLoss tDy tDif tY tAct tSilu tSig tOne tUp tGate tGu tG tX tR tV
  rfl

set_option maxHeartbeats 4000000 in
/-- The reference ends with the four arrays. -/
theorem value (ρ : Dev nD → PrngReg) :
    θ_run defs (onTc (τ := τ) (main (F := Ideal))) ⟨m, fun _ => 0, ρ⟩ (fun r => ∀ c : Dev nD,
      r.2.mem ((c.tc : Thread nD τ).loc main_v77) = oDh (ref0 m c) (ref1 m c) (ref2 m c) (ref3 m c) (ref4 m c) (ref5 m c)
      ∧ r.2.mem ((c.tc : Thread nD τ).loc main_v85) = oGu (ref0 m c) (ref1 m c) (ref2 m c)
      ∧ r.2.mem ((c.tc : Thread nD τ).loc main_v86) = oN (ref0 m c) (ref1 m c)
      ∧ r.2.mem ((c.tc : Thread nD τ).loc main_v81) = oRows (ref0 m c) (ref1 m c) (ref2 m c) (ref3 m c) (ref4 m c) (ref5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (Value.run (F := Ideal) m ρ)
  obtain ⟨h0, h1, h2, h3, ha⟩ := h c
  refine ⟨h0.trans ((out0_eq m c).trans ?_), h1.trans ?_, h2.trans ?_, h3.trans ((out3_eq m c).trans ?_), ha⟩
  · funext i
    idx_vars i
    exact tDh_at _ _ _ _ _ _ _ _
  · funext i
    idx_vars i
    exact tStack_at (ref0 m c) (ref1 m c) (ref2 m c) _ _ _
  · funext i
    idx_vars i
    refine Eq.trans ?_ (congrArg (· * _) (tX_at (ref0 m c) _ _))
    pointwise [tX, tR, tV]
  · funext i
    idx_vars i
    exact tRows_at _ _ _ _ _ _ _ _
end out

end Cert.LossRefIdeal.Own
end
-- ==== Proof.lean ====
/- The backward calls of both feed-forward blocks and of the weights compute the gradients their references compute. -/
module

public import proofs.«01_k».proof.Defs
public import proofs.«01_k».proof.Proof.Same
public import proofs.«01_k».proof.Proof.WGuA
public import proofs.«01_k».proof.Proof.WGuB
public import proofs.«01_k».proof.Proof.WDown
public import proofs.«01_k».proof.Proof.WIn
public import proofs.«01_k».proof.Proof.WProj
public import proofs.«01_k».proof.Proof.WGates
public import proofs.«01_k».proof.Proof.UDown
public import proofs.«01_k».proof.Proof.UGu
public import proofs.«01_k».proof.Proof.UIn
public import proofs.«01_k».proof.Proof.FfnFinal
public import proofs.«01_k».proof.Proof.FfnPre
public import proofs.«01_k».proof.Proof.FfnRef
public import proofs.«01_k».proof.Proof.SecondRef
public import proofs.«01_k».proof.Proof.Gen.Loss.Frame
public import proofs.«01_k».proof.Proof.LossValue
public import proofs.«01_k».proof.Proof.LossRef

@[expose] public section

set_option maxRecDepth 16384

noncomputable section

namespace Cert.Proof

open Idealize.ShloMosaic Idealize.SL.Sem

theorem frame_ideal : Cert.quiescent_KernelIdeal (hKernelIdeal := Cert.KernelIdeal.Gen.facts) :=
  fun m ρ _ => Cert.Same.run_KernelIdeal m ρ _ (Cert.Kernel.Ffn.frame (hr := Cert.Same.first) (F := Ideal) m ρ)

theorem frame_ref : Cert.quiescent_ReferenceIdeal (hReferenceIdeal := Cert.ReferenceIdeal.Gen.facts) :=
  fun m ρ _ => (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

theorem algebraic : Cert.algebraic_KernelIdeal_ReferenceIdeal_pre_finite (hKernelIdeal := Cert.KernelIdeal.Gen.facts)
    (hReferenceIdeal := Cert.ReferenceIdeal.Gen.facts) (hPre_finite := Cert.Pre_finite.Ffn.facts) := by
  intro m g m' g' hpre hargs
  refine ⟨fun c => Cert.Kernel.Ffn.out0 m c, fun c => Cert.Kernel.Ffn.out1 m c, fun c => Cert.Kernel.Ffn.out2 m c, fun c => Cert.Kernel.Ffn.out3 m c,
    fun c => Cert.Kernel.Ffn.out4 (hr := Cert.Same.first) m c, Cert.Same.run_KernelIdeal m g _ (Cert.Kernel.Ffn.value (hr := Cert.Same.first) m g), ?_⟩
  have e0 : ∀ c, Cert.ReferenceIdeal.Ffn.ref0 m' c = Cert.Kernel.Ffn.arg0 m c := fun c => (hargs c).1
  have e1 : ∀ c, Cert.ReferenceIdeal.Ffn.ref1 m' c = Cert.Kernel.Ffn.arg1 m c := fun c => (hargs c).2.1
  have e2 : ∀ c, Cert.ReferenceIdeal.Ffn.ref2 m' c = Cert.Kernel.Ffn.arg2 m c := fun c => (hargs c).2.2.1
  have e3 : ∀ c, Cert.ReferenceIdeal.Ffn.ref3 m' c = Cert.Kernel.Ffn.arg3 m c := fun c => (hargs c).2.2.2.1
  have e4 : ∀ c, Cert.ReferenceIdeal.Ffn.ref4 m' c = Cert.Kernel.Ffn.arg4 m c := fun c => (hargs c).2.2.2.2.1
  have e5 : ∀ c, Cert.ReferenceIdeal.Ffn.ref5 m' c = Cert.Kernel.Ffn.arg5 m c := fun c => (hargs c).2.2.2.2.2.1
  refine (θ_run Cert.ReferenceIdeal.defs _ _).mono (fun r h c => ?_) (Cert.ReferenceIdeal.Ffn.value m' g'
    (fun c t k => ?_) (fun c k => ?_) (fun c k j => ?_) (fun c f k => ?_))
  · obtain ⟨h0, h1, h2, h3, h4, ha⟩ := h c
    simp only [e0, e1, e2, e3, e4, e5] at h0 h1 h2 h3 h4
    exact ⟨h0, h1, h2, h3, h4, ha⟩
  · rw [e0]
    exact Cert.Pre_finite.Ffn.fin_of_lt _ _ (hpre c).1 _
  · rw [e2]
    exact Cert.Pre_finite.Ffn.fin_of_lt _ _ (hpre c).2.1 _
  · rw [e3]
    exact Cert.Pre_finite.Ffn.fin_of_lt _ _ (hpre c).2.2.1 _
  · rw [e4]
    exact Cert.Pre_finite.Ffn.fin_of_lt _ _ (hpre c).2.2.2 _

theorem frame_ideal_second : Cert.quiescent_SecondIdeal (hSecondIdeal := Cert.SecondIdeal.Gen.facts) :=
  fun m ρ _ => Cert.Same.run_SecondIdeal m ρ _ (Cert.Kernel.Ffn.frame (hr := Cert.Same.second) (F := Ideal) m ρ)

theorem frame_ref_second : Cert.quiescent_SecondRefIdeal (hSecondRefIdeal := Cert.SecondRefIdeal.Gen.facts) :=
  fun m ρ _ => (θ_run Cert.SecondRefIdeal.defs _ _).mono
    (fun r h => ⟨fun c => (h c).2.2.2.2.2, Idealize.ShloMosaic.sem_eq_zero_of_no_sems (by decide) r.2⟩)
    (Cert.SecondRefIdeal.Value.run (F := Ideal) m ρ)

theorem algebraic_second : Cert.algebraic_SecondIdeal_SecondRefIdeal_pre_finite (hSecondIdeal := Cert.SecondIdeal.Gen.facts)
    (hSecondRefIdeal := Cert.SecondRefIdeal.Gen.facts) (hPre_finite := Cert.Pre_finite.Ffn.facts) := by
  intro m g m' g' hpre hargs
  refine ⟨fun c => Cert.Kernel.Ffn.out0 m c, fun c => Cert.Kernel.Ffn.out1 m c, fun c => Cert.Kernel.Ffn.out2 m c, fun c => Cert.Kernel.Ffn.out3 m c,
    fun c => Cert.Kernel.Ffn.out4 (hr := Cert.Same.second) m c, Cert.Same.run_SecondIdeal m g _ (Cert.Kernel.Ffn.value (hr := Cert.Same.second) m g), ?_⟩
  have e0 : ∀ c, Cert.SecondRefIdeal.Ffn.ref0 m' c = Cert.Kernel.Ffn.arg0 m c := fun c => (hargs c).1
  have e1 : ∀ c, Cert.SecondRefIdeal.Ffn.ref1 m' c = Cert.Kernel.Ffn.arg1 m c := fun c => (hargs c).2.1
  have e2 : ∀ c, Cert.SecondRefIdeal.Ffn.ref2 m' c = Cert.Kernel.Ffn.arg2 m c := fun c => (hargs c).2.2.1
  have e3 : ∀ c, Cert.SecondRefIdeal.Ffn.ref3 m' c = Cert.Kernel.Ffn.arg3 m c := fun c => (hargs c).2.2.2.1
  have e4 : ∀ c, Cert.SecondRefIdeal.Ffn.ref4 m' c = Cert.Kernel.Ffn.arg4 m c := fun c => (hargs c).2.2.2.2.1
  have e5 : ∀ c, Cert.SecondRefIdeal.Ffn.ref5 m' c = Cert.Kernel.Ffn.arg5 m c := fun c => (hargs c).2.2.2.2.2.1
  refine (θ_run Cert.SecondRefIdeal.defs _ _).mono (fun r h c => ?_) (Cert.SecondRefIdeal.Ffn.value m' g'
    (fun c t k => ?_) (fun c k => ?_) (fun c k j => ?_) (fun c f k => ?_))
  · obtain ⟨h0, h1, h2, h3, h4, ha⟩ := h c
    simp only [e0, e1, e2, e3, e4, e5] at h0 h1 h2 h3 h4
    exact ⟨h0, h1, h2, h3, h4, ha⟩
  · rw [e0]
    exact Cert.Pre_finite.Ffn.fin_of_lt _ _ (hpre c).1 _
  · rw [e2]
    exact Cert.Pre_finite.Ffn.fin_of_lt _ _ (hpre c).2.1 _
  · rw [e3]
    exact Cert.Pre_finite.Ffn.fin_of_lt _ _ (hpre c).2.2.1 _
  · rw [e4]
    exact Cert.Pre_finite.Ffn.fin_of_lt _ _ (hpre c).2.2.2 _

theorem frame_ref_loss : Cert.quiescent_LossRefIdeal (hLossRefIdeal := Cert.LossRefIdeal.Gen.facts) :=
  fun m ρ _ => (θ_run Cert.LossRefIdeal.defs _ _).mono
    (fun r h => ⟨fun c => (h c).2.2.2.2, Idealize.ShloMosaic.sem_eq_zero_of_no_sems (by decide) r.2⟩)
    (Cert.LossRefIdeal.Value.run (F := Ideal) m ρ)

theorem algebraic_loss : Cert.algebraic_LossIdeal_LossRefIdeal (hLossIdeal := Cert.LossIdeal.Gen.facts) (hLossRefIdeal := Cert.LossRefIdeal.Gen.facts) := by
  intro m g m' g' _ hargs
  refine ⟨fun c => Cert.LossIdeal.Own.res0 m c, fun c => Cert.LossIdeal.Own.res1 m c, fun c => Cert.LossIdeal.Own.res2 m c, fun c => Cert.LossIdeal.Own.res3 m c,
    Cert.LossIdeal.Own.value m g, ?_⟩
  have e0 : ∀ c, Cert.LossRefIdeal.Own.ref0 m' c = Cert.LossIdeal.Own.arg0 m c := fun c => (hargs c).1
  have e1 : ∀ c, Cert.LossRefIdeal.Own.ref1 m' c = Cert.LossIdeal.Own.arg1 m c := fun c => (hargs c).2.1
  have e2 : ∀ c, Cert.LossRefIdeal.Own.ref2 m' c = Cert.LossIdeal.Own.arg2 m c := fun c => (hargs c).2.2.1
  have e3 : ∀ c, Cert.LossRefIdeal.Own.ref3 m' c = Cert.LossIdeal.Own.arg3 m c := fun c => (hargs c).2.2.2.1
  have e4 : ∀ c, Cert.LossRefIdeal.Own.ref4 m' c = Cert.LossIdeal.Own.arg4 m c := fun c => (hargs c).2.2.2.2.1
  have e5 : ∀ c, Cert.LossRefIdeal.Own.ref5 m' c = Cert.LossIdeal.Own.arg5 m c := fun c => (hargs c).2.2.2.2.2
  refine (θ_run Cert.LossRefIdeal.defs _ _).mono (fun r h c => ?_) (Cert.LossRefIdeal.Own.value m' g')
  obtain ⟨h0, h1, h2, h3, ha⟩ := h c
  simp only [e0, e1, e2, e3, e4, e5] at h0 h1 h2 h3
  exact ⟨h0, h1, h2, h3, ha⟩

theorem frame_WGuA : Cert.quiescent_WGuARefIdeal (hWGuARefIdeal := Cert.WGuARefIdeal.Gen.facts) :=
  fun m ρ _ => (θ_run Cert.WGuARefIdeal.defs _ _).mono
    (fun r h => ⟨fun c => (h c).2, Idealize.ShloMosaic.sem_eq_zero_of_no_sems (by decide) r.2⟩)
    (Cert.WGuARefIdeal.Value.run (F := Ideal) m ρ)

theorem frame_WGuB : Cert.quiescent_WGuBRefIdeal (hWGuBRefIdeal := Cert.WGuBRefIdeal.Gen.facts) :=
  fun m ρ _ => (θ_run Cert.WGuBRefIdeal.defs _ _).mono
    (fun r h => ⟨fun c => (h c).2, Idealize.ShloMosaic.sem_eq_zero_of_no_sems (by decide) r.2⟩)
    (Cert.WGuBRefIdeal.Value.run (F := Ideal) m ρ)

theorem frame_WDown : Cert.quiescent_WDownRefIdeal (hWDownRefIdeal := Cert.WDownRefIdeal.Gen.facts) :=
  fun m ρ _ => (θ_run Cert.WDownRefIdeal.defs _ _).mono
    (fun r h => ⟨fun c => (h c).2, Idealize.ShloMosaic.sem_eq_zero_of_no_sems (by decide) r.2⟩)
    (Cert.WDownRefIdeal.Value.run (F := Ideal) m ρ)

theorem frame_WIn : Cert.quiescent_WInRefIdeal (hWInRefIdeal := Cert.WInRefIdeal.Gen.facts) :=
  fun m ρ _ => (θ_run Cert.WInRefIdeal.defs _ _).mono
    (fun r h => ⟨fun c => (h c).2, Idealize.ShloMosaic.sem_eq_zero_of_no_sems (by decide) r.2⟩)
    (Cert.WInRefIdeal.Value.run (F := Ideal) m ρ)

theorem frame_WProj : Cert.quiescent_WProjRefIdeal (hWProjRefIdeal := Cert.WProjRefIdeal.Gen.facts) :=
  fun m ρ _ => (θ_run Cert.WProjRefIdeal.defs _ _).mono
    (fun r h => ⟨fun c => (h c).2, Idealize.ShloMosaic.sem_eq_zero_of_no_sems (by decide) r.2⟩)
    (Cert.WProjRefIdeal.Value.run (F := Ideal) m ρ)

theorem frame_WGates : Cert.quiescent_WGatesRefIdeal (hWGatesRefIdeal := Cert.WGatesRefIdeal.Gen.facts) :=
  fun m ρ _ => (θ_run Cert.WGatesRefIdeal.defs _ _).mono
    (fun r h => ⟨fun c => (h c).2, Idealize.ShloMosaic.sem_eq_zero_of_no_sems (by decide) r.2⟩)
    (Cert.WGatesRefIdeal.Value.run (F := Ideal) m ρ)

theorem claim : Cert.Claim := ⟨Cert.Kernel.Gen.facts, Cert.KernelIdeal.Gen.facts, Cert.ReferenceIdeal.Gen.facts,
  Cert.Second.Gen.facts, Cert.SecondIdeal.Gen.facts, Cert.SecondRefIdeal.Gen.facts,
  Cert.Loss.Gen.facts, Cert.LossIdeal.Gen.facts, Cert.LossRefIdeal.Gen.facts,
  Cert.WGuA.Gen.facts, Cert.WGuAIdeal.Gen.facts, Cert.WGuARefIdeal.Gen.facts,
  Cert.WGuB.Gen.facts, Cert.WGuBIdeal.Gen.facts, Cert.WGuBRefIdeal.Gen.facts,
  Cert.WDown.Gen.facts, Cert.WDownIdeal.Gen.facts, Cert.WDownRefIdeal.Gen.facts,
  Cert.WIn.Gen.facts, Cert.WInIdeal.Gen.facts, Cert.WInRefIdeal.Gen.facts,
  Cert.WProj.Gen.facts, Cert.WProjIdeal.Gen.facts, Cert.WProjRefIdeal.Gen.facts,
  Cert.WGates.Gen.facts, Cert.WGatesIdeal.Gen.facts, Cert.WGatesRefIdeal.Gen.facts,
  Cert.UDown.Gen.facts, Cert.UDownIdeal.Gen.facts, Cert.UDownRefIdeal.Gen.facts,
  Cert.UGu.Gen.facts, Cert.UGuIdeal.Gen.facts, Cert.UGuRefIdeal.Gen.facts,
  Cert.UIn.Gen.facts, Cert.UInIdeal.Gen.facts, Cert.UInRefIdeal.Gen.facts,
  Cert.Pre_finite.Ffn.facts, Cert.Pre_device.Own.facts, Cert.Pre_device_gu.Own.facts, Cert.Pre_device_in.Own.facts,
  fun m ρ _ => Cert.Same.run_Kernel m ρ _ (Cert.Kernel.Ffn.frame (hr := Cert.Same.first) m ρ),
  frame_ideal,
  fun m ρ _ => frame_ideal m ρ trivial,
  frame_ref,
  fun m ρ _ => frame_ref m ρ trivial,
  fun m ρ _ => Cert.Same.run_Second m ρ _ (Cert.Kernel.Ffn.frame (hr := Cert.Same.second) m ρ),
  frame_ideal_second,
  fun m ρ _ => frame_ideal_second m ρ trivial,
  frame_ref_second,
  fun m ρ _ => frame_ref_second m ρ trivial,
  fun m ρ _ => Cert.Loss.Gen.frame m ρ, fun m ρ _ => Cert.LossIdeal.Gen.frame m ρ, frame_ref_loss,
  fun m ρ _ => Cert.WGuA.Gen.frame m ρ, fun m ρ _ => Cert.WGuAIdeal.Gen.frame m ρ, frame_WGuA,
  fun m ρ _ => Cert.WGuB.Gen.frame m ρ, fun m ρ _ => Cert.WGuBIdeal.Gen.frame m ρ, frame_WGuB,
  fun m ρ _ => Cert.WDown.Gen.frame m ρ, fun m ρ _ => Cert.WDownIdeal.Gen.frame m ρ, frame_WDown,
  fun m ρ _ => Cert.WIn.Gen.frame m ρ, fun m ρ _ => Cert.WInIdeal.Gen.frame m ρ, frame_WIn,
  fun m ρ _ => Cert.WProj.Gen.frame m ρ, fun m ρ _ => Cert.WProjIdeal.Gen.frame m ρ, frame_WProj,
  fun m ρ _ => Cert.WGates.Gen.frame m ρ, fun m ρ _ => Cert.WGatesIdeal.Gen.frame m ρ, frame_WGates,
  Cert.UDownIdeal.Own.frame_bits, Cert.UDownIdeal.Own.frame, Cert.UDownIdeal.Own.frame_ref, fun m ρ _ => Cert.UDownIdeal.Own.frame_ref m ρ trivial,
  Cert.UGuIdeal.Own.frame_bits, Cert.UGuIdeal.Own.frame, Cert.UGuIdeal.Own.frame_ref, fun m ρ _ => Cert.UGuIdeal.Own.frame_ref m ρ trivial,
  Cert.UInIdeal.Own.frame_bits, Cert.UInIdeal.Own.frame, Cert.UInIdeal.Own.frame_ref, fun m ρ _ => Cert.UInIdeal.Own.frame_ref m ρ trivial,
  trivial, algebraic,
  trivial, algebraic_second,
  trivial, algebraic_loss,
  trivial, Cert.WGuAIdeal.Own.algebraic,
  trivial, Cert.WGuBIdeal.Own.algebraic,
  trivial, Cert.WDownIdeal.Own.algebraic,
  trivial, Cert.WInIdeal.Own.algebraic,
  trivial, Cert.WProjIdeal.Own.algebraic,
  trivial, Cert.WGatesIdeal.Own.algebraic,
  trivial, Cert.UDownIdeal.Own.algebraic,
  trivial, Cert.UGuIdeal.Own.algebraic,
  trivial, Cert.UInIdeal.Own.algebraic⟩

end Cert.Proof

end
